-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v475)) (v1 : (c : Dev Cert.KernelIdeal.nD) → Buf (Elt Ideal) ((c.tc : Thread Cert.KernelIdeal.nD Cert.KernelIdeal.τ).loc Cert.KernelIdeal.main_v205)) (v2 : (c : Dev Cert.KernelIdeal.nD) → Buf (Elt Ideal) ((c.tc : Thread Cert.KernelIdeal.nD Cert.KernelIdeal.τ).loc Cert.KernelIdeal.main_v205)) (v3 : (c : Dev Cert.KernelIdeal.nD) → Buf (Elt Ideal) ((c.tc : Thread Cert.KernelIdeal.nD Cert.KernelIdeal.τ).loc Cert.KernelIdeal.main_v206)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v475) = v0 c
          ∧ r.2.mem ((c.tc : Thread Cert.KernelIdeal.nD Cert.KernelIdeal.τ).loc Cert.KernelIdeal.main_v205) = v1 c
          ∧ r.2.mem ((c.tc : Thread Cert.KernelIdeal.nD Cert.KernelIdeal.τ).loc Cert.KernelIdeal.main_v205) = v2 c
          ∧ r.2.mem ((c.tc : Thread Cert.KernelIdeal.nD Cert.KernelIdeal.τ).loc Cert.KernelIdeal.main_v206) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x3x128x128 : Shape := ⟨4, ![16, 3, 128, 128]⟩
abbrev S512x256 : Shape := ⟨2, ![512, 256]⟩
abbrev S128x3x4x4 : Shape := ⟨4, ![128, 3, 4, 4]⟩
abbrev S128 : Shape := ⟨1, ![128]⟩
abbrev S256x128x4x4 : Shape := ⟨4, ![256, 128, 4, 4]⟩
abbrev S256 : Shape := ⟨1, ![256]⟩
abbrev S256x256x3x3 : Shape := ⟨4, ![256, 256, 3, 3]⟩
abbrev S256x256x1x1 : Shape := ⟨4, ![256, 256, 1, 1]⟩
abbrev S256x256x4x4 : Shape := ⟨4, ![256, 256, 4, 4]⟩
abbrev S256x3x4x4 : Shape := ⟨4, ![256, 3, 4, 4]⟩
abbrev S3 : Shape := ⟨1, ![3]⟩
abbrev S_ : Shape := ⟨0, ![]⟩

class Facts : Prop where
  bcast_S_S16x3x128x128 : S_.BroadcastsInDim S16x3x128x128 (![] : Fin 0 → Fin S16x3x128x128.rank)
  reducesTo_S16x3x128x128_S_d0_1_2_3 : S16x3x128x128.ReducesTo [0, 1, 2, 3] S_
  h_S_ : 0 < S_.numel
  bcast_S_S128x3x4x4 : S_.BroadcastsInDim S128x3x4x4 (![] : Fin 0 → Fin S128x3x4x4.rank)
  reducesTo_S128x3x4x4_S_d0_1_2_3 : S128x3x4x4.ReducesTo [0, 1, 2, 3] S_
  bcast_S_S128 : S_.BroadcastsInDim S128 (![] : Fin 0 → Fin S128.rank)
  reducesTo_S128_S_d0 : S128.ReducesTo [0] S_
  bcast_S_S256x128x4x4 : S_.BroadcastsInDim S256x128x4x4 (![] : Fin 0 → Fin S256x128x4x4.rank)
  reducesTo_S256x128x4x4_S_d0_1_2_3 : S256x128x4x4.ReducesTo [0, 1, 2, 3] S_
  bcast_S_S256 : S_.BroadcastsInDim S256 (![] : Fin 0 → Fin S256.rank)
  reducesTo_S256_S_d0 : S256.ReducesTo [0] S_
  bcast_S_S256x256x3x3 : S_.BroadcastsInDim S256x256x3x3 (![] : Fin 0 → Fin S256x256x3x3.rank)
  reducesTo_S256x256x3x3_S_d0_1_2_3 : S256x256x3x3.ReducesTo [0, 1, 2, 3] S_

variable [Facts]

def fn_part1 {F : FTy → Type} [FloatOps F] (main_arg5 : FVec F S256 .f32) (main_arg6 : FVec F S256x256x3x3 .f32) (main_arg7 : FVec F S256 .f32) (main_v13 : IVec S_ 1) (main_v16 : IVec S256x128x4x4 1) : IVec S_ 1 :=
  let main_c_5 : IVec S_ 1 := constantI S_ 1 1#1
  let main_v17 : IVec S_ 1 := (fun x v => Host.reduce IntOp.andi x v reducesTo_S256x128x4x4_S_d0_1_2_3 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256x3x3 .f32 := Host.absf main_arg6
  let main_cst_8 : FVec F S_ .f32 := constant S_ .f32 0x7F800000#32
  let main_v25 : FVec F S256x256x3x3 .f32 := broadcastInDim S256x256x3x3 ![] bcast_S_S256x256x3x3 main_cst_8
  let main_v26 : IVec S256x256x3x3 1 := cmpf .olt main_v24 main_v25
  let main_c_9 : IVec S_ 1 := constantI S_ 1 1#1
  let main_v27 : IVec S_ 1 := (fun x v => Host.reduce IntOp.andi x v reducesTo_S256x256x3x3_S_d0_1_2_3 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S16x3x128x128 .f32) (main_arg1 : FVec F S512x256 .f32) (main_arg2 : FVec F S128x3x4x4 .f32) (main_arg3 : FVec F S128 .f32) (main_arg4 : FVec F S256x128x4x4 .f32) (main_arg5 : FVec F S256 .f32) (main_arg6 : FVec F S256x256x3x3 .f32) (main_arg7 : FVec F S256 .f32) (main_arg8 : FVec F S256x256x3x3 .f32) (main_arg9 : FVec F S256 .f32) (main_arg10 : FVec F S256x256x3x3 .f32) (main_arg11 : FVec F S256 .f32) (main_arg12 : FVec F S256x256x1x1 .f32) (main_arg13 : FVec F S256 .f32) (main_arg14 : FVec F S256x256x3x3 .f32) (main_arg15 : FVec F S256 .f32) (main_arg16 : FVec F S256x256x1x1 .f32) (main_arg17 : FVec F S256 .f32) (main_arg18 : FVec F S256x256x4x4 .f32) (main_arg19 : FVec F S256 .f32) (main_arg20 : FVec F S256x3x4x4 .f32) (main_arg21 : FVec F S3 .f32) : IVec S_ 1 :=
  let main_v0 : FVec F S16x3x128x128 .f32 := Host.absf main_arg0
  let main_cst : FVec F S_ .f32 := constant S_ .f32 0x7F800000#32
  let main_v1 : FVec F S16x3x128x128 .f32 := broadcastInDim S16x3x128x128 ![] bcast_S_S16x3x128x128 main_cst
  let main_v2 : IVec S16x3x128x128 1 := cmpf .olt main_v0 main_v1
  let main_c : IVec S_ 1 := constantI S_ 1 1#1
  let main_v3 : IVec S_ 1 := (fun x v => Host.reduce IntOp.andi x v reducesTo_S16x3x128x128_S_d0_1_2_3 h_S_) main_v2 main_c
  let main_v4 : FVec F S128x3x4x4 .f32 := Host.absf main_arg2
  let main_cst_0 : FVec F S_ .f32 := constant S_ .f32 0x7F800000#32
  let main_v5 : FVec F S128x3x4x4 .f32 := broadcastInDim S128x3x4x4 ![] bcast_S_S128x3x4x4 main_cst_0
  let main_v6 : IVec S128x3x4x4 1 := cmpf .olt main_v4 main_v5
  let main_c_1 : IVec S_ 1 := constantI S_ 1 1#1
  let main_v7 : IVec S_ 1 := (fun x v => Host.reduce IntOp.andi x v reducesTo_S128x3x4x4_S_d0_1_2_3 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128x4x4 .f32 := Host.absf main_arg4
  let main_cst_4 : FVec F S_ .f32 := constant S_ .f32 0x7F800000#32
  let main_v15 : FVec F S256x128x4x4 .f32 := broadcastInDim S256x128x4x4 ![] bcast_S_S256x128x4x4 main_cst_4
  let main_v16 : IVec S256x128x4x4 1 := cmpf .olt main_v14 main_v15
  fn_part1 (F := F) main_arg5 main_arg6 main_arg7 main_v13 main_v16
-- ==== Kernel.lean ====
abbrev S16x3x128x128 : Shape := ⟨4, ![16, 3, 128, 128]⟩
abbrev S512x256 : Shape := ⟨2, ![512, 256]⟩
abbrev S128x3x4x4 : Shape := ⟨4, ![128, 3, 4, 4]⟩
abbrev S128 : Shape := ⟨1, ![128]⟩
abbrev S256x128x4x4 : Shape := ⟨4, ![256, 128, 4, 4]⟩
abbrev S256 : Shape := ⟨1, ![256]⟩
abbrev S256x256x3x3 : Shape := ⟨4, ![256, 256, 3, 3]⟩
abbrev S256x256x1x1 : Shape := ⟨4, ![256, 256, 1, 1]⟩
abbrev S256x256x4x4 : Shape := ⟨4, ![256, 256, 4, 4]⟩
abbrev S256x3x4x4 : Shape := ⟨4, ![256, 3, 4, 4]⟩
abbrev S3 : Shape := ⟨1, ![3]⟩
abbrev S16x128x128x3 : Shape := ⟨4, ![16, 128, 128, 3]⟩
abbrev S_ : Shape := ⟨0, ![]⟩
abbrev S16x130x130x3 : Shape := ⟨4, ![16, 130, 130, 3]⟩
abbrev S16x65x2x65x2x3 : Shape := ⟨6, ![16, 65, 2, 65, 2, 3]⟩
abbrev S16x65x65x2x2x3 : Shape := ⟨6, ![16, 65, 65, 2, 2, 3]⟩
abbrev S16x65x65x12 : Shape := ⟨4, ![16, 65, 65, 12]⟩
abbrev S16x64x64x1x1x3 : Shape := ⟨6, ![16, 64, 64, 1, 1, 3]⟩
abbrev S16x64x64x3 : Shape := ⟨4, ![16, 64, 64, 3]⟩
abbrev S128x3x1x1 : Shape := ⟨4, ![128, 3, 1, 1]⟩
abbrev S128x3 : Shape := ⟨2, ![128, 3]⟩
abbrev S3x128 : Shape := ⟨2, ![3, 128]⟩
abbrev S16x64x64x48 : Shape := ⟨4, ![16, 64, 64, 48]⟩
abbrev S48x128 : Shape := ⟨2, ![48, 128]⟩
abbrev S1x128 : Shape := ⟨2, ![1, 128]⟩
abbrev S16x64x64x128 : Shape := ⟨4, ![16, 64, 64, 128]⟩
abbrev S1x64x64x48 : Shape := ⟨4, ![1, 64, 64, 48]⟩
abbrev S1x64x64x128 : Shape := ⟨4, ![1, 64, 64, 128]⟩
abbrev S64x64x48 : Shape := ⟨3, ![64, 64, 48]⟩
abbrev S4096x48 : Shape := ⟨2, ![4096, 48]⟩
abbrev S4096x128 : Shape := ⟨2, ![4096, 128]⟩
abbrev S64x64x128 : Shape := ⟨3, ![64, 64, 128]⟩
abbrev S16x66x66x128 : Shape := ⟨4, ![16, 66, 66, 128]⟩
abbrev S16x33x2x33x2x128 : Shape := ⟨6, ![16, 33, 2, 33, 2, 128]⟩
abbrev S16x33x33x2x2x128 : Shape := ⟨6, ![16, 33, 33, 2, 2, 128]⟩
abbrev S16x33x33x512 : Shape := ⟨4, ![16, 33, 33, 512]⟩
abbrev S256x128x1x1 : Shape := ⟨4, ![256, 128, 1, 1]⟩
abbrev S256x128 : Shape := ⟨2, ![256, 128]⟩
abbrev S128x256 : Shape := ⟨2, ![128, 256]⟩
abbrev S256x256 : Shape := ⟨2, ![256, 256]⟩
abbrev S1x256x256 : Shape := ⟨3, ![1, 256, 256]⟩
abbrev S8x256x256 : Shape := ⟨3, ![8, 256, 256]⟩
abbrev S1x256 : Shape := ⟨2, ![1, 256]⟩
abbrev S16x32x32x256 : Shape := ⟨4, ![16, 32, 32, 256]⟩
abbrev S1x33x33x512 : Shape := ⟨4, ![1, 33, 33, 512]⟩
abbrev S1x32x32x256 : Shape := ⟨4, ![1, 32, 32, 256]⟩
abbrev S33x33x512 : Shape := ⟨3, ![33, 33, 512]⟩
abbrev S32x32x256 : Shape := ⟨3, ![32, 32, 256]⟩
abbrev S1024x256 : Shape := ⟨2, ![1024, 256]⟩
abbrev S9x256x256 : Shape := ⟨3, ![9, 256, 256]⟩
abbrev S256x512 : Shape := ⟨2, ![256, 512]⟩
abbrev S16x1x1024 : Shape := ⟨3, ![16, 1, 1024]⟩
abbrev S16x1x256 : Shape := ⟨3, ![16, 1, 256]⟩
abbrev S1x1x1024 : Shape := ⟨3, ![1, 1, 1024]⟩
abbrev S1x1x256 : Shape := ⟨3, ![1, 1, 256]⟩
abbrev S1x32x256 : Shape := ⟨3, ![1, 32, 256]⟩
abbrev S33x32x256 : Shape := ⟨3, ![33, 32, 256]⟩
abbrev S34x32x256 : Shape := ⟨3, ![34, 32, 256]⟩
abbrev S34x1x256 : Shape := ⟨3, ![34, 1, 256]⟩
abbrev S34x33x256 : Shape := ⟨3, ![34, 33, 256]⟩
abbrev S34x34x256 : Shape := ⟨3, ![34, 34, 256]⟩
abbrev S1024 : Shape := ⟨1, ![1024]⟩
abbrev S1024x1 : Shape := ⟨2, ![1024, 1]⟩
abbrev S512 : Shape := ⟨1, ![512]⟩
abbrev S1x512 : Shape := ⟨2, ![1, 512]⟩
abbrev S1024x512 : Shape := ⟨2, ![1024, 512]⟩
abbrev S1x1024 : Shape := ⟨2, ![1, 1024]⟩
abbrev S16x32x32 : Shape := ⟨3, ![16, 32, 32]⟩
abbrev S16x256x256 : Shape := ⟨3, ![16, 256, 256]⟩
abbrev S16x4x32x32x256 : Shape := ⟨5, ![16, 4, 32, 32, 256]⟩
abbrev S1x4x32x32x256 : Shape := ⟨5, ![1, 4, 32, 32, 256]⟩
abbrev S32x31x256 : Shape := ⟨3, ![32, 31, 256]⟩
abbrev S32x1x256 : Shape := ⟨3, ![32, 1, 256]⟩
abbrev S31x32x256 : Shape := ⟨3, ![31, 32, 256]⟩
abbrev S31x31x256 : Shape := ⟨3, ![31, 31, 256]⟩
abbrev S1x31x256 : Shape := ⟨3, ![1, 31, 256]⟩
abbrev S1x1x32x32x256 : Shape := ⟨5, ![1, 1, 32, 32, 256]⟩
abbrev S16x2x2x32x32x256 : Shape := ⟨6, ![16, 2, 2, 32, 32, 256]⟩
abbrev S16x32x2x32x2x256 : Shape := ⟨6, ![16, 32, 2, 32, 2, 256]⟩
abbrev S16x64x64x256 : Shape := ⟨4, ![16, 64, 64, 256]⟩
abbrev S256x3 : Shape := ⟨2, ![256, 3]⟩
abbrev S256x3x1x1 : Shape := ⟨4, ![256, 3, 1, 1]⟩
abbrev S256x12 : Shape := ⟨2, ![256, 12]⟩
abbrev S256x16 : Shape := ⟨2, ![256, 16]⟩
abbrev S1x256x16 : Shape := ⟨3, ![1, 256, 16]⟩
abbrev S9x256x16 : Shape := ⟨3, ![9, 256, 16]⟩
abbrev S1x3 : Shape := ⟨2, ![1, 3]⟩
abbrev S4x3 : Shape := ⟨2, ![4, 3]⟩
abbrev S12 : Shape := ⟨1, ![12]⟩
abbrev S16 : Shape := ⟨1, ![16]⟩
abbrev S1x16 : Shape := ⟨2, ![1, 16]⟩
abbrev S16x64x64x16 : Shape := ⟨4, ![16, 64, 64, 16]⟩
abbrev S1x64x64x256 : Shape := ⟨4, ![1, 64, 64, 256]⟩
abbrev S1x64x64x16 : Shape := ⟨4, ![1, 64, 64, 16]⟩
abbrev S64x64x256 : Shape := ⟨3, ![64, 64, 256]⟩
abbrev S63x63x256 : Shape := ⟨3, ![63, 63, 256]⟩
abbrev S1x63x256 : Shape := ⟨3, ![1, 63, 256]⟩
abbrev S64x63x256 : Shape := ⟨3, ![64, 63, 256]⟩
abbrev S64x1x256 : Shape := ⟨3, ![64, 1, 256]⟩
abbrev S4096x256 : Shape := ⟨2, ![4096, 256]⟩
abbrev S4096x16 : Shape := ⟨2, ![4096, 16]⟩
abbrev S63x64x256 : Shape := ⟨3, ![63, 64, 256]⟩
abbrev S1x64x256 : Shape := ⟨3, ![1, 64, 256]⟩
abbrev S64x64x16 : Shape := ⟨3, ![64, 64, 16]⟩
abbrev S16x64x64x12 : Shape := ⟨4, ![16, 64, 64, 12]⟩
abbrev S16x64x64x2x2x3 : Shape := ⟨6, ![16, 64, 64, 2, 2, 3]⟩
abbrev S16x64x2x64x2x3 : Shape := ⟨6, ![16, 64, 2, 64, 2, 3]⟩

abbrev nBuf : Space → Nat
  | .hbm => 527
  | .vmem => 50
  | .smem => 0
  | _ => 0

abbrev hbmTy0_0 (i : Nat) : BufTy := match i % 128 with
  | 0 => ⟨S16x3x128x128, .f32⟩
  | 1 => ⟨S512x256, .f32⟩
  | 2 => ⟨S128x3x4x4, .f32⟩
  | 3 => ⟨S128, .f32⟩
  | 4 => ⟨S256x128x4x4, .f32⟩
  | 5 => ⟨S256, .f32⟩
  | 6 => ⟨S256x256x3x3, .f32⟩
  | 7 => ⟨S256, .f32⟩
  | 8 => ⟨S256x256x3x3, .f32⟩
  | 9 => ⟨S256, .f32⟩
  | 10 => ⟨S256x256x3x3, .f32⟩
  | 11 => ⟨S256, .f32⟩
  | 12 => ⟨S256x256x1x1, .f32⟩
  | 13 => ⟨S256, .f32⟩
  | 14 => ⟨S256x256x3x3, .f32⟩
  | 15 => ⟨S256, .f32⟩
  | 16 => ⟨S256x256x1x1, .f32⟩
  | 17 => ⟨S256, .f32⟩
  | 18 => ⟨S256x256x4x4, .f32⟩
  | 19 => ⟨S256, .f32⟩
  | 20 => ⟨S256x3x4x4, .f32⟩
  | 21 => ⟨S3, .f32⟩
  | 22 => ⟨S16x128x128x3, .f32⟩
  | 23 => ⟨S_, .i32⟩
  | 24 => ⟨S_, .f32⟩
  | 25 => ⟨S16x130x130x3, .f32⟩
  | 26 => ⟨S16x65x2x65x2x3, .f32⟩
  | 27 => ⟨S16x65x65x2x2x3, .f32⟩
  | 28 => ⟨S16x65x65x12, .f32⟩
  | 29 => ⟨S16x65x65x2x2x3, .f32⟩
  | 30 => ⟨S16x64x64x1x1x3, .f32⟩
  | 31 => ⟨S16x64x64x3, .f32⟩
  | 32 => ⟨S128x3x1x1, .f32⟩
  | 33 => ⟨S128x3, .f32⟩
  | 34 => ⟨S3x128, .f32⟩
  | 35 => ⟨S16x64x64x1x1x3, .f32⟩
  | 36 => ⟨S16x64x64x3, .f32⟩
  | 37 => ⟨S128x3x1x1, .f32⟩
  | 38 => ⟨S128x3, .f32⟩
  | 39 => ⟨S3x128, .f32⟩
  | 40 => ⟨S16x64x64x1x1x3, .f32⟩
  | 41 => ⟨S16x64x64x3, .f32⟩
  | 42 => ⟨S128x3x1x1, .f32⟩
  | 43 => ⟨S128x3, .f32⟩
  | 44 => ⟨S3x128, .f32⟩
  | 45 => ⟨S16x64x64x1x1x3, .f32⟩
  | 46 => ⟨S16x64x64x3, .f32⟩
  | 47 => ⟨S128x3x1x1, .f32⟩
  | 48 => ⟨S128x3, .f32⟩
  | 49 => ⟨S3x128, .f32⟩
  | 50 => ⟨S16x64x64x1x1x3, .f32⟩
  | 51 => ⟨S16x64x64x3, .f32⟩
  | 52 => ⟨S128x3x1x1, .f32⟩
  | 53 => ⟨S128x3, .f32⟩
  | 54 => ⟨S3x128, .f32⟩
  | 55 => ⟨S16x64x64x1x1x3, .f32⟩
  | 56 => ⟨S16x64x64x3, .f32⟩
  | 57 => ⟨S128x3x1x1, .f32⟩
  | 58 => ⟨S128x3, .f32⟩
  | 59 => ⟨S3x128, .f32⟩
  | 60 => ⟨S16x64x64x1x1x3, .f32⟩
  | 61 => ⟨S16x64x64x3, .f32⟩
  | 62 => ⟨S128x3x1x1, .f32⟩
  | 63 => ⟨S128x3, .f32⟩
  | 64 => ⟨S3x128, .f32⟩
  | 65 => ⟨S16x64x64x1x1x3, .f32⟩
  | 66 => ⟨S16x64x64x3, .f32⟩
  | 67 => ⟨S128x3x1x1, .f32⟩
  | 68 => ⟨S128x3, .f32⟩
  | 69 => ⟨S3x128, .f32⟩
  | 70 => ⟨S16x64x64x1x1x3, .f32⟩
  | 71 => ⟨S16x64x64x3, .f32⟩
  | 72 => ⟨S128x3x1x1, .f32⟩
  | 73 => ⟨S128x3, .f32⟩
  | 74 => ⟨S3x128, .f32⟩
  | 75 => ⟨S16x64x64x1x1x3, .f32⟩
  | 76 => ⟨S16x64x64x3, .f32⟩
  | 77 => ⟨S128x3x1x1, .f32⟩
  | 78 => ⟨S128x3, .f32⟩
  | 79 => ⟨S3x128, .f32⟩
  | 80 => ⟨S16x64x64x1x1x3, .f32⟩
  | 81 => ⟨S16x64x64x3, .f32⟩
  | 82 => ⟨S128x3x1x1, .f32⟩
  | 83 => ⟨S128x3, .f32⟩
  | 84 => ⟨S3x128, .f32⟩
  | 85 => ⟨S16x64x64x1x1x3, .f32⟩
  | 86 => ⟨S16x64x64x3, .f32⟩
  | 87 => ⟨S128x3x1x1, .f32⟩
  | 88 => ⟨S128x3, .f32⟩
  | 89 => ⟨S3x128, .f32⟩
  | 90 => ⟨S16x64x64x1x1x3, .f32⟩
  | 91 => ⟨S16x64x64x3, .f32⟩
  | 92 => ⟨S128x3x1x1, .f32⟩
  | 93 => ⟨S128x3, .f32⟩
  | 94 => ⟨S3x128, .f32⟩
  | 95 => ⟨S16x64x64x1x1x3, .f32⟩
  | 96 => ⟨S16x64x64x3, .f32⟩
  | 97 => ⟨S128x3x1x1, .f32⟩
  | 98 => ⟨S128x3, .f32⟩
  | 99 => ⟨S3x128, .f32⟩
  | 100 => ⟨S16x64x64x1x1x3, .f32⟩
  | 101 => ⟨S16x64x64x3, .f32⟩
  | 102 => ⟨S128x3x1x1, .f32⟩
  | 103 => ⟨S128x3, .f32⟩
  | 104 => ⟨S3x128, .f32⟩
  | 105 => ⟨S16x64x64x1x1x3, .f32⟩
  | 106 => ⟨S16x64x64x3, .f32⟩
  | 107 => ⟨S128x3x1x1, .f32⟩
  | 108 => ⟨S128x3, .f32⟩
  | 109 => ⟨S3x128, .f32⟩
  | 110 => ⟨S16x64x64x48, .f32⟩
  | 111 => ⟨S48x128, .f32⟩
  | 112 => ⟨S48x128, .bf16⟩
  | 113 => ⟨S1x128, .f32⟩
  | 114 => ⟨S16x64x64x128, .f32⟩
  | 115 => ⟨S_, .i32⟩
  | 116 => ⟨S_, .f32⟩
  | 117 => ⟨S16x66x66x128, .f32⟩
  | 118 => ⟨S16x33x2x33x2x128, .f32⟩
  | 119 => ⟨S16x33x33x2x2x128, .f32⟩
  | 120 => ⟨S16x33x33x512, .f32⟩
  | 121 => ⟨S256x128x1x1, .f32⟩
  | 122 => ⟨S256x128, .f32⟩
  | 123 => ⟨S128x256, .f32⟩
  | 124 => ⟨S256x128x1x1, .f32⟩
  | 125 => ⟨S256x128, .f32⟩
  | 126 => ⟨S128x256, .f32⟩
  | 127 => ⟨S256x256, .f32⟩
  | _ => ⟨S16x3x128x128, .f32⟩

abbrev hbmTy0_1 (i : Nat) : BufTy := match i % 128 with
  | 0 => ⟨S256x128x1x1, .f32⟩
  | 1 => ⟨S256x128, .f32⟩
  | 2 => ⟨S128x256, .f32⟩
  | 3 => ⟨S256x128x1x1, .f32⟩
  | 4 => ⟨S256x128, .f32⟩
  | 5 => ⟨S128x256, .f32⟩
  | 6 => ⟨S256x256, .f32⟩
  | 7 => ⟨S256x128x1x1, .f32⟩
  | 8 => ⟨S256x128, .f32⟩
  | 9 => ⟨S128x256, .f32⟩
  | 10 => ⟨S256x128x1x1, .f32⟩
  | 11 => ⟨S256x128, .f32⟩
  | 12 => ⟨S128x256, .f32⟩
  | 13 => ⟨S256x256, .f32⟩
  | 14 => ⟨S256x128x1x1, .f32⟩
  | 15 => ⟨S256x128, .f32⟩
  | 16 => ⟨S128x256, .f32⟩
  | 17 => ⟨S256x128x1x1, .f32⟩
  | 18 => ⟨S256x128, .f32⟩
  | 19 => ⟨S128x256, .f32⟩
  | 20 => ⟨S256x256, .f32⟩
  | 21 => ⟨S256x128x1x1, .f32⟩
  | 22 => ⟨S256x128, .f32⟩
  | 23 => ⟨S128x256, .f32⟩
  | 24 => ⟨S256x128x1x1, .f32⟩
  | 25 => ⟨S256x128, .f32⟩
  | 26 => ⟨S128x256, .f32⟩
  | 27 => ⟨S256x256, .f32⟩
  | 28 => ⟨S256x128x1x1, .f32⟩
  | 29 => ⟨S256x128, .f32⟩
  | 30 => ⟨S128x256, .f32⟩
  | 31 => ⟨S256x128x1x1, .f32⟩
  | 32 => ⟨S256x128, .f32⟩
  | 33 => ⟨S128x256, .f32⟩
  | 34 => ⟨S256x256, .f32⟩
  | 35 => ⟨S256x128x1x1, .f32⟩
  | 36 => ⟨S256x128, .f32⟩
  | 37 => ⟨S128x256, .f32⟩
  | 38 => ⟨S256x128x1x1, .f32⟩
  | 39 => ⟨S256x128, .f32⟩
  | 40 => ⟨S128x256, .f32⟩
  | 41 => ⟨S256x256, .f32⟩
  | 42 => ⟨S256x128x1x1, .f32⟩
  | 43 => ⟨S256x128, .f32⟩
  | 44 => ⟨S128x256, .f32⟩
  | 45 => ⟨S256x128x1x1, .f32⟩
  | 46 => ⟨S256x128, .f32⟩
  | 47 => ⟨S128x256, .f32⟩
  | 48 => ⟨S256x256, .f32⟩
  | 49 => ⟨S1x256x256, .f32⟩
  | 50 => ⟨S1x256x256, .f32⟩
  | 51 => ⟨S1x256x256, .f32⟩
  | 52 => ⟨S1x256x256, .f32⟩
  | 53 => ⟨S1x256x256, .f32⟩
  | 54 => ⟨S1x256x256, .f32⟩
  | 55 => ⟨S1x256x256, .f32⟩
  | 56 => ⟨S1x256x256, .f32⟩
  | 57 => ⟨S8x256x256, .f32⟩
  | 58 => ⟨S8x256x256, .bf16⟩
  | 59 => ⟨S1x256, .f32⟩
  | 60 => ⟨S16x32x32x256, .f32⟩
  | 61 => ⟨S256x256x1x1, .f32⟩
  | 62 => ⟨S256x256, .f32⟩
  | 63 => ⟨S256x256, .f32⟩
  | 64 => ⟨S256x256x1x1, .f32⟩
  | 65 => ⟨S256x256, .f32⟩
  | 66 => ⟨S256x256, .f32⟩
  | 67 => ⟨S256x256x1x1, .f32⟩
  | 68 => ⟨S256x256, .f32⟩
  | 69 => ⟨S256x256, .f32⟩
  | 70 => ⟨S256x256x1x1, .f32⟩
  | 71 => ⟨S256x256, .f32⟩
  | 72 => ⟨S256x256, .f32⟩
  | 73 => ⟨S256x256x1x1, .f32⟩
  | 74 => ⟨S256x256, .f32⟩
  | 75 => ⟨S256x256, .f32⟩
  | 76 => ⟨S256x256x1x1, .f32⟩
  | 77 => ⟨S256x256, .f32⟩
  | 78 => ⟨S256x256, .f32⟩
  | 79 => ⟨S256x256x1x1, .f32⟩
  | 80 => ⟨S256x256, .f32⟩
  | 81 => ⟨S256x256, .f32⟩
  | 82 => ⟨S256x256x1x1, .f32⟩
  | 83 => ⟨S256x256, .f32⟩
  | 84 => ⟨S256x256, .f32⟩
  | 85 => ⟨S256x256x1x1, .f32⟩
  | 86 => ⟨S256x256, .f32⟩
  | 87 => ⟨S256x256, .f32⟩
  | 88 => ⟨S1x256x256, .f32⟩
  | 89 => ⟨S1x256x256, .f32⟩
  | 90 => ⟨S1x256x256, .f32⟩
  | 91 => ⟨S1x256x256, .f32⟩
  | 92 => ⟨S1x256x256, .f32⟩
  | 93 => ⟨S1x256x256, .f32⟩
  | 94 => ⟨S1x256x256, .f32⟩
  | 95 => ⟨S1x256x256, .f32⟩
  | 96 => ⟨S1x256x256, .f32⟩
  | 97 => ⟨S9x256x256, .f32⟩
  | 98 => ⟨S9x256x256, .bf16⟩
  | 99 => ⟨S1x256, .f32⟩
  | 100 => ⟨S256x512, .f32⟩
  | 101 => ⟨S16x1x1024, .i32⟩
  | 102 => ⟨S16x32x32x256, .bf16⟩
  | 103 => ⟨S16x1x256, .f32⟩
  | 104 => ⟨S_, .f32⟩
  | 105 => ⟨S_, .f32⟩
  | 106 => ⟨S_, .f32⟩
  | 107 => ⟨S_, .f32⟩
  | 108 => ⟨S16x32x32, .i32⟩
  | 109 => ⟨S256x256x1x1, .f32⟩
  | 110 => ⟨S256x256, .f32⟩
  | 111 => ⟨S256x256, .f32⟩
  | 112 => ⟨S256x256x1x1, .f32⟩
  | 113 => ⟨S256x256, .f32⟩
  | 114 => ⟨S256x256, .f32⟩
  | 115 => ⟨S256x256x1x1, .f32⟩
  | 116 => ⟨S256x256, .f32⟩
  | 117 => ⟨S256x256, .f32⟩
  | 118 => ⟨S256x256x1x1, .f32⟩
  | 119 => ⟨S256x256, .f32⟩
  | 120 => ⟨S256x256, .f32⟩
  | 121 => ⟨S256x256x1x1, .f32⟩
  | 122 => ⟨S256x256, .f32⟩
  | 123 => ⟨S256x256, .f32⟩
  | 124 => ⟨S256x256x1x1, .f32⟩
  | 125 => ⟨S256x256, .f32⟩
  | 126 => ⟨S256x256, .f32⟩
  | 127 => ⟨S256x256x1x1, .f32⟩
  | _ => ⟨S16x3x128x128, .f32⟩

abbrev hbmTy0_2 (i : Nat) : BufTy := match i % 128 with
  | 0 => ⟨S256x256, .f32⟩
  | 1 => ⟨S256x256, .f32⟩
  | 2 => ⟨S256x256x1x1, .f32⟩
  | 3 => ⟨S256x256, .f32⟩
  | 4 => ⟨S256x256, .f32⟩
  | 5 => ⟨S256x256x1x1, .f32⟩
  | 6 => ⟨S256x256, .f32⟩
  | 7 => ⟨S256x256, .f32⟩
  | 8 => ⟨S1x256x256, .f32⟩
  | 9 => ⟨S1x256x256, .f32⟩
  | 10 => ⟨S1x256x256, .f32⟩
  | 11 => ⟨S1x256x256, .f32⟩
  | 12 => ⟨S1x256x256, .f32⟩
  | 13 => ⟨S1x256x256, .f32⟩
  | 14 => ⟨S1x256x256, .f32⟩
  | 15 => ⟨S1x256x256, .f32⟩
  | 16 => ⟨S1x256x256, .f32⟩
  | 17 => ⟨S9x256x256, .f32⟩
  | 18 => ⟨S9x256x256, .bf16⟩
  | 19 => ⟨S1x256, .f32⟩
  | 20 => ⟨S256x256x1x1, .f32⟩
  | 21 => ⟨S256x256, .f32⟩
  | 22 => ⟨S256x256, .f32⟩
  | 23 => ⟨S256x256x1x1, .f32⟩
  | 24 => ⟨S256x256, .f32⟩
  | 25 => ⟨S256x256, .f32⟩
  | 26 => ⟨S256x256x1x1, .f32⟩
  | 27 => ⟨S256x256, .f32⟩
  | 28 => ⟨S256x256, .f32⟩
  | 29 => ⟨S256x256x1x1, .f32⟩
  | 30 => ⟨S256x256, .f32⟩
  | 31 => ⟨S256x256, .f32⟩
  | 32 => ⟨S256x256x1x1, .f32⟩
  | 33 => ⟨S256x256, .f32⟩
  | 34 => ⟨S256x256, .f32⟩
  | 35 => ⟨S256x256x1x1, .f32⟩
  | 36 => ⟨S256x256, .f32⟩
  | 37 => ⟨S256x256, .f32⟩
  | 38 => ⟨S256x256x1x1, .f32⟩
  | 39 => ⟨S256x256, .f32⟩
  | 40 => ⟨S256x256, .f32⟩
  | 41 => ⟨S256x256x1x1, .f32⟩
  | 42 => ⟨S256x256, .f32⟩
  | 43 => ⟨S256x256, .f32⟩
  | 44 => ⟨S256x256x1x1, .f32⟩
  | 45 => ⟨S256x256, .f32⟩
  | 46 => ⟨S256x256, .f32⟩
  | 47 => ⟨S1x256x256, .f32⟩
  | 48 => ⟨S1x256x256, .f32⟩
  | 49 => ⟨S1x256x256, .f32⟩
  | 50 => ⟨S1x256x256, .f32⟩
  | 51 => ⟨S1x256x256, .f32⟩
  | 52 => ⟨S1x256x256, .f32⟩
  | 53 => ⟨S1x256x256, .f32⟩
  | 54 => ⟨S1x256x256, .f32⟩
  | 55 => ⟨S1x256x256, .f32⟩
  | 56 => ⟨S9x256x256, .f32⟩
  | 57 => ⟨S9x256x256, .bf16⟩
  | 58 => ⟨S1x256, .f32⟩
  | 59 => ⟨S256x256, .f32⟩
  | 60 => ⟨S256x256, .f32⟩
  | 61 => ⟨S256x256, .bf16⟩
  | 62 => ⟨S1x256, .f32⟩
  | 63 => ⟨S256x256x1x1, .f32⟩
  | 64 => ⟨S256x256, .f32⟩
  | 65 => ⟨S256x256, .f32⟩
  | 66 => ⟨S256x256x1x1, .f32⟩
  | 67 => ⟨S256x256, .f32⟩
  | 68 => ⟨S256x256, .f32⟩
  | 69 => ⟨S256x256x1x1, .f32⟩
  | 70 => ⟨S256x256, .f32⟩
  | 71 => ⟨S256x256, .f32⟩
  | 72 => ⟨S256x256x1x1, .f32⟩
  | 73 => ⟨S256x256, .f32⟩
  | 74 => ⟨S256x256, .f32⟩
  | 75 => ⟨S256x256x1x1, .f32⟩
  | 76 => ⟨S256x256, .f32⟩
  | 77 => ⟨S256x256, .f32⟩
  | 78 => ⟨S256x256x1x1, .f32⟩
  | 79 => ⟨S256x256, .f32⟩
  | 80 => ⟨S256x256, .f32⟩
  | 81 => ⟨S256x256x1x1, .f32⟩
  | 82 => ⟨S256x256, .f32⟩
  | 83 => ⟨S256x256, .f32⟩
  | 84 => ⟨S256x256x1x1, .f32⟩
  | 85 => ⟨S256x256, .f32⟩
  | 86 => ⟨S256x256, .f32⟩
  | 87 => ⟨S256x256x1x1, .f32⟩
  | 88 => ⟨S256x256, .f32⟩
  | 89 => ⟨S256x256, .f32⟩
  | 90 => ⟨S1x256x256, .f32⟩
  | 91 => ⟨S1x256x256, .f32⟩
  | 92 => ⟨S1x256x256, .f32⟩
  | 93 => ⟨S1x256x256, .f32⟩
  | 94 => ⟨S1x256x256, .f32⟩
  | 95 => ⟨S1x256x256, .f32⟩
  | 96 => ⟨S1x256x256, .f32⟩
  | 97 => ⟨S1x256x256, .f32⟩
  | 98 => ⟨S1x256x256, .f32⟩
  | 99 => ⟨S9x256x256, .f32⟩
  | 100 => ⟨S9x256x256, .bf16⟩
  | 101 => ⟨S1x256, .f32⟩
  | 102 => ⟨S256x256, .f32⟩
  | 103 => ⟨S256x256, .f32⟩
  | 104 => ⟨S256x256, .bf16⟩
  | 105 => ⟨S1x256, .f32⟩
  | 106 => ⟨S16x32x32x256, .bf16⟩
  | 107 => ⟨S256x256x1x1, .f32⟩
  | 108 => ⟨S256x256, .f32⟩
  | 109 => ⟨S256x256, .bf16⟩
  | 110 => ⟨S256x256x1x1, .f32⟩
  | 111 => ⟨S256x256, .f32⟩
  | 112 => ⟨S256x256, .bf16⟩
  | 113 => ⟨S256x256x1x1, .f32⟩
  | 114 => ⟨S256x256, .f32⟩
  | 115 => ⟨S256x256, .bf16⟩
  | 116 => ⟨S256x256x1x1, .f32⟩
  | 117 => ⟨S256x256, .f32⟩
  | 118 => ⟨S256x256, .bf16⟩
  | 119 => ⟨S256x256x1x1, .f32⟩
  | 120 => ⟨S256x256, .f32⟩
  | 121 => ⟨S256x256, .bf16⟩
  | 122 => ⟨S256x256x1x1, .f32⟩
  | 123 => ⟨S256x256, .f32⟩
  | 124 => ⟨S256x256, .bf16⟩
  | 125 => ⟨S256x256x1x1, .f32⟩
  | 126 => ⟨S256x256, .f32⟩
  | 127 => ⟨S256x256, .bf16⟩
  | _ => ⟨S16x3x128x128, .f32⟩

abbrev hbmTy0_3 (i : Nat) : BufTy := match i % 128 with
  | 0 => ⟨S256x256x1x1, .f32⟩
  | 1 => ⟨S256x256, .f32⟩
  | 2 => ⟨S256x256, .bf16⟩
  | 3 => ⟨S256x256x1x1, .f32⟩
  | 4 => ⟨S256x256, .f32⟩
  | 5 => ⟨S256x256, .bf16⟩
  | 6 => ⟨S256x256x1x1, .f32⟩
  | 7 => ⟨S256x256, .f32⟩
  | 8 => ⟨S256x256, .bf16⟩
  | 9 => ⟨S256x256x1x1, .f32⟩
  | 10 => ⟨S256x256, .f32⟩
  | 11 => ⟨S256x256, .bf16⟩
  | 12 => ⟨S256x256x1x1, .f32⟩
  | 13 => ⟨S256x256, .f32⟩
  | 14 => ⟨S256x256, .bf16⟩
  | 15 => ⟨S256x256x1x1, .f32⟩
  | 16 => ⟨S256x256, .f32⟩
  | 17 => ⟨S256x256, .bf16⟩
  | 18 => ⟨S256x256x1x1, .f32⟩
  | 19 => ⟨S256x256, .f32⟩
  | 20 => ⟨S256x256, .bf16⟩
  | 21 => ⟨S256x256x1x1, .f32⟩
  | 22 => ⟨S256x256, .f32⟩
  | 23 => ⟨S256x256, .bf16⟩
  | 24 => ⟨S256x256x1x1, .f32⟩
  | 25 => ⟨S256x256, .f32⟩
  | 26 => ⟨S256x256, .bf16⟩
  | 27 => ⟨S1x256x256, .bf16⟩
  | 28 => ⟨S1x256x256, .bf16⟩
  | 29 => ⟨S1x256x256, .bf16⟩
  | 30 => ⟨S1x256x256, .bf16⟩
  | 31 => ⟨S1x256x256, .bf16⟩
  | 32 => ⟨S1x256x256, .bf16⟩
  | 33 => ⟨S1x256x256, .bf16⟩
  | 34 => ⟨S1x256x256, .bf16⟩
  | 35 => ⟨S1x256x256, .bf16⟩
  | 36 => ⟨S1x256x256, .bf16⟩
  | 37 => ⟨S1x256x256, .bf16⟩
  | 38 => ⟨S1x256x256, .bf16⟩
  | 39 => ⟨S1x256x256, .bf16⟩
  | 40 => ⟨S1x256x256, .bf16⟩
  | 41 => ⟨S1x256x256, .bf16⟩
  | 42 => ⟨S1x256x256, .bf16⟩
  | 43 => ⟨S16x256x256, .bf16⟩
  | 44 => ⟨S1x256, .f32⟩
  | 45 => ⟨S16x4x32x32x256, .bf16⟩
  | 46 => ⟨S16x2x2x32x32x256, .bf16⟩
  | 47 => ⟨S16x32x2x32x2x256, .bf16⟩
  | 48 => ⟨S16x64x64x256, .bf16⟩
  | 49 => ⟨S_, .f32⟩
  | 50 => ⟨S256x3, .f32⟩
  | 51 => ⟨S256x3x1x1, .f32⟩
  | 52 => ⟨S256x3, .f32⟩
  | 53 => ⟨S256x12, .f32⟩
  | 54 => ⟨S_, .i32⟩
  | 55 => ⟨S_, .f32⟩
  | 56 => ⟨S256x16, .f32⟩
  | 57 => ⟨S256x3x1x1, .f32⟩
  | 58 => ⟨S256x3, .f32⟩
  | 59 => ⟨S256x3x1x1, .f32⟩
  | 60 => ⟨S256x3, .f32⟩
  | 61 => ⟨S256x12, .f32⟩
  | 62 => ⟨S_, .i32⟩
  | 63 => ⟨S_, .f32⟩
  | 64 => ⟨S256x16, .f32⟩
  | 65 => ⟨S256x3x1x1, .f32⟩
  | 66 => ⟨S256x3, .f32⟩
  | 67 => ⟨S256x12, .f32⟩
  | 68 => ⟨S_, .i32⟩
  | 69 => ⟨S_, .f32⟩
  | 70 => ⟨S256x16, .f32⟩
  | 71 => ⟨S256x3x1x1, .f32⟩
  | 72 => ⟨S256x3, .f32⟩
  | 73 => ⟨S256x3x1x1, .f32⟩
  | 74 => ⟨S256x3, .f32⟩
  | 75 => ⟨S256x12, .f32⟩
  | 76 => ⟨S_, .i32⟩
  | 77 => ⟨S_, .f32⟩
  | 78 => ⟨S256x16, .f32⟩
  | 79 => ⟨S256x3x1x1, .f32⟩
  | 80 => ⟨S256x3, .f32⟩
  | 81 => ⟨S256x3x1x1, .f32⟩
  | 82 => ⟨S256x3, .f32⟩
  | 83 => ⟨S256x3x1x1, .f32⟩
  | 84 => ⟨S256x3, .f32⟩
  | 85 => ⟨S256x3x1x1, .f32⟩
  | 86 => ⟨S256x3, .f32⟩
  | 87 => ⟨S256x12, .f32⟩
  | 88 => ⟨S_, .i32⟩
  | 89 => ⟨S_, .f32⟩
  | 90 => ⟨S256x16, .f32⟩
  | 91 => ⟨S256x3x1x1, .f32⟩
  | 92 => ⟨S256x3, .f32⟩
  | 93 => ⟨S256x3x1x1, .f32⟩
  | 94 => ⟨S256x3, .f32⟩
  | 95 => ⟨S256x12, .f32⟩
  | 96 => ⟨S_, .i32⟩
  | 97 => ⟨S_, .f32⟩
  | 98 => ⟨S256x16, .f32⟩
  | 99 => ⟨S256x3x1x1, .f32⟩
  | 100 => ⟨S256x3, .f32⟩
  | 101 => ⟨S256x12, .f32⟩
  | 102 => ⟨S_, .i32⟩
  | 103 => ⟨S_, .f32⟩
  | 104 => ⟨S256x16, .f32⟩
  | 105 => ⟨S256x3x1x1, .f32⟩
  | 106 => ⟨S256x3, .f32⟩
  | 107 => ⟨S256x3x1x1, .f32⟩
  | 108 => ⟨S256x3, .f32⟩
  | 109 => ⟨S256x12, .f32⟩
  | 110 => ⟨S_, .i32⟩
  | 111 => ⟨S_, .f32⟩
  | 112 => ⟨S256x16, .f32⟩
  | 113 => ⟨S256x3x1x1, .f32⟩
  | 114 => ⟨S256x3, .f32⟩
  | 115 => ⟨S256x12, .f32⟩
  | 116 => ⟨S_, .i32⟩
  | 117 => ⟨S_, .f32⟩
  | 118 => ⟨S256x16, .f32⟩
  | 119 => ⟨S1x256x16, .f32⟩
  | 120 => ⟨S1x256x16, .f32⟩
  | 121 => ⟨S1x256x16, .f32⟩
  | 122 => ⟨S1x256x16, .f32⟩
  | 123 => ⟨S1x256x16, .f32⟩
  | 124 => ⟨S1x256x16, .f32⟩
  | 125 => ⟨S1x256x16, .f32⟩
  | 126 => ⟨S1x256x16, .f32⟩
  | 127 => ⟨S1x256x16, .f32⟩
  | _ => ⟨S16x3x128x128, .f32⟩

abbrev hbmTy0_4 (i : Nat) : BufTy := match i % 128 with
  | 0 => ⟨S9x256x16, .f32⟩
  | 1 => ⟨S9x256x16, .bf16⟩
  | 2 => ⟨S1x3, .f32⟩
  | 3 => ⟨S4x3, .f32⟩
  | 4 => ⟨S12, .f32⟩
  | 5 => ⟨S_, .i32⟩
  | 6 => ⟨S_, .f32⟩
  | 7 => ⟨S16, .f32⟩
  | 8 => ⟨S1x16, .f32⟩
  | 9 => ⟨S16x64x64x16, .f32⟩
  | 10 => ⟨S16x64x64x12, .f32⟩
  | 11 => ⟨S16x64x64x2x2x3, .f32⟩
  | 12 => ⟨S16x64x2x64x2x3, .f32⟩
  | 13 => ⟨S16x128x128x3, .f32⟩
  | 14 => ⟨S16x3x128x128, .f32⟩
  | _ => ⟨S16x3x128x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x3x128x128, .f32⟩

abbrev bufTy : (tb : Table) → Fin (tcTables nBuf tb) → BufTy
  | .hbm, ⟨i, _⟩ => hbmTy i
  | .local _ .vmem, ⟨0, _⟩ => ⟨S1x64x64x48, .f32⟩
  | .local _ .vmem, ⟨1, _⟩ => ⟨S1x64x64x48, .f32⟩
  | .local _ .vmem, ⟨2, _⟩ => ⟨S48x128, .bf16⟩
  | .local _ .vmem, ⟨3, _⟩ => ⟨S1x128, .f32⟩
  | .local _ .vmem, ⟨4, _⟩ => ⟨S1x64x64x128, .f32⟩
  | .local _ .vmem, ⟨5, _⟩ => ⟨S1x64x64x128, .f32⟩
  | .local _ .vmem, ⟨6, _⟩ => ⟨S1x33x33x512, .f32⟩
  | .local _ .vmem, ⟨7, _⟩ => ⟨S1x33x33x512, .f32⟩
  | .local _ .vmem, ⟨8, _⟩ => ⟨S8x256x256, .bf16⟩
  | .local _ .vmem, ⟨9, _⟩ => ⟨S1x256, .f32⟩
  | .local _ .vmem, ⟨10, _⟩ => ⟨S1x32x32x256, .f32⟩
  | .local _ .vmem, ⟨11, _⟩ => ⟨S1x32x32x256, .f32⟩
  | .local _ .vmem, ⟨12, _⟩ => ⟨S1x32x32x256, .f32⟩
  | .local _ .vmem, ⟨13, _⟩ => ⟨S1x32x32x256, .f32⟩
  | .local _ .vmem, ⟨14, _⟩ => ⟨S9x256x256, .bf16⟩
  | .local _ .vmem, ⟨15, _⟩ => ⟨S1x256, .f32⟩
  | .local _ .vmem, ⟨16, _⟩ => ⟨S256x512, .f32⟩
  | .local _ .vmem, ⟨17, _⟩ => ⟨S512x256, .f32⟩
  | .local _ .vmem, ⟨18, _⟩ => ⟨S1x1x1024, .i32⟩
  | .local _ .vmem, ⟨19, _⟩ => ⟨S1x1x1024, .i32⟩
  | .local _ .vmem, ⟨20, _⟩ => ⟨S1x32x32x256, .bf16⟩
  | .local _ .vmem, ⟨21, _⟩ => ⟨S1x32x32x256, .bf16⟩
  | .local _ .vmem, ⟨22, _⟩ => ⟨S1x1x256, .f32⟩
  | .local _ .vmem, ⟨23, _⟩ => ⟨S1x1x256, .f32⟩
  | .local _ .vmem, ⟨24, _⟩ => ⟨S1x32x32x256, .bf16⟩
  | .local _ .vmem, ⟨25, _⟩ => ⟨S1x32x32x256, .bf16⟩
  | .local _ .vmem, ⟨26, _⟩ => ⟨S9x256x256, .bf16⟩
  | .local _ .vmem, ⟨27, _⟩ => ⟨S1x256, .f32⟩
  | .local _ .vmem, ⟨28, _⟩ => ⟨S9x256x256, .bf16⟩
  | .local _ .vmem, ⟨29, _⟩ => ⟨S1x256, .f32⟩
  | .local _ .vmem, ⟨30, _⟩ => ⟨S256x256, .bf16⟩
  | .local _ .vmem, ⟨31, _⟩ => ⟨S1x256, .f32⟩
  | .local _ .vmem, ⟨32, _⟩ => ⟨S9x256x256, .bf16⟩
  | .local _ .vmem, ⟨33, _⟩ => ⟨S1x256, .f32⟩
  | .local _ .vmem, ⟨34, _⟩ => ⟨S256x256, .bf16⟩
  | .local _ .vmem, ⟨35, _⟩ => ⟨S1x256, .f32⟩
  | .local _ .vmem, ⟨36, _⟩ => ⟨S1x32x32x256, .bf16⟩
  | .local _ .vmem, ⟨37, _⟩ => ⟨S1x32x32x256, .bf16⟩
  | .local _ .vmem, ⟨38, _⟩ => ⟨S1x32x32x256, .bf16⟩
  | .local _ .vmem, ⟨39, _⟩ => ⟨S1x32x32x256, .bf16⟩
  | .local _ .vmem, ⟨40, _⟩ => ⟨S16x256x256, .bf16⟩
  | .local _ .vmem, ⟨41, _⟩ => ⟨S1x256, .f32⟩
  | .local _ .vmem, ⟨42, _⟩ => ⟨S1x4x32x32x256, .bf16⟩
  | .local _ .vmem, ⟨43, _⟩ => ⟨S1x4x32x32x256, .bf16⟩
  | .local _ .vmem, ⟨44, _⟩ => ⟨S1x64x64x256, .bf16⟩
  | .local _ .vmem, ⟨45, _⟩ => ⟨S1x64x64x256, .bf16⟩
  | .local _ .vmem, ⟨46, _⟩ => ⟨S9x256x16, .bf16⟩
  | .local _ .vmem, ⟨47, _⟩ => ⟨S1x16, .f32⟩
  | .local _ .vmem, ⟨48, _⟩ => ⟨S1x64x64x16, .f32⟩
  | .local _ .vmem, ⟨49, _⟩ => ⟨S1x64x64x16, .f32⟩
  | _, _ => ⟨S16x3x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_c : Ref sig .tc := ⟨.hbm, 23, rfl⟩
abbrev main_call0_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_c_0 : Ref sig .tc := ⟨.hbm, 115, rfl⟩
abbrev main_call1_v0 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203_0 : Ref sig .tc := ⟨.hbm, 229, rfl⟩
abbrev main_v203_1 : Ref sig .tc := ⟨.hbm, 230, rfl⟩
abbrev main_v203_2 : Ref sig .tc := ⟨.hbm, 231, rfl⟩
abbrev main_cst : Ref sig .tc := ⟨.hbm, 232, rfl⟩
abbrev main_v204 : Ref sig .tc := ⟨.hbm, 233, rfl⟩
abbrev main_cst_1 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_v237 : Ref sig .tc := ⟨.hbm, 267, rfl⟩
abbrev main_v238 : Ref sig .tc := ⟨.hbm, 268, rfl⟩
abbrev main_v239 : Ref sig .tc := ⟨.hbm, 269, rfl⟩
abbrev main_v240 : Ref sig .tc := ⟨.hbm, 270, rfl⟩
abbrev main_v241 : Ref sig .tc := ⟨.hbm, 271, rfl⟩
abbrev main_v242 : Ref sig .tc := ⟨.hbm, 272, rfl⟩
abbrev main_v243 : Ref sig .tc := ⟨.hbm, 273, rfl⟩
abbrev main_v244 : Ref sig .tc := ⟨.hbm, 274, rfl⟩
abbrev main_v245 : Ref sig .tc := ⟨.hbm, 275, rfl⟩
abbrev main_v246 : Ref sig .tc := ⟨.hbm, 276, rfl⟩
abbrev main_v247 : Ref sig .tc := ⟨.hbm, 277, rfl⟩
abbrev main_v248 : Ref sig .tc := ⟨.hbm, 278, rfl⟩
abbrev main_v249 : Ref sig .tc := ⟨.hbm, 279, rfl⟩
abbrev main_v250 : Ref sig .tc := ⟨.hbm, 280, rfl⟩
abbrev main_v251 : Ref sig .tc := ⟨.hbm, 281, rfl⟩
abbrev main_v252 : Ref sig .tc := ⟨.hbm, 282, rfl⟩
abbrev main_v253 : Ref sig .tc := ⟨.hbm, 283, rfl⟩
abbrev main_v254 : Ref sig .tc := ⟨.hbm, 284, rfl⟩
abbrev main_v255 : Ref sig .tc := ⟨.hbm, 285, rfl⟩
abbrev main_v256 : Ref sig .tc := ⟨.hbm, 286, rfl⟩
abbrev main_v257 : Ref sig .tc := ⟨.hbm, 287, rfl⟩
abbrev main_v258 : Ref sig .tc := ⟨.hbm, 288, rfl⟩
abbrev main_v259 : Ref sig .tc := ⟨.hbm, 289, rfl⟩
abbrev main_v260 : Ref sig .tc := ⟨.hbm, 290, rfl⟩
abbrev main_v261 : Ref sig .tc := ⟨.hbm, 291, rfl⟩
abbrev main_v262 : Ref sig .tc := ⟨.hbm, 292, rfl⟩
abbrev main_v263 : Ref sig .tc := ⟨.hbm, 293, rfl⟩
abbrev main_v264 : Ref sig .tc := ⟨.hbm, 294, rfl⟩
abbrev main_v265 : Ref sig .tc := ⟨.hbm, 295, rfl⟩
abbrev main_v266 : Ref sig .tc := ⟨.hbm, 296, rfl⟩
abbrev main_v267 : Ref sig .tc := ⟨.hbm, 297, rfl⟩
abbrev main_v268 : Ref sig .tc := ⟨.hbm, 298, rfl⟩
abbrev main_v269 : Ref sig .tc := ⟨.hbm, 299, rfl⟩
abbrev main_v270 : Ref sig .tc := ⟨.hbm, 300, rfl⟩
abbrev main_v271 : Ref sig .tc := ⟨.hbm, 301, rfl⟩
abbrev main_v272 : Ref sig .tc := ⟨.hbm, 302, rfl⟩
abbrev main_v273 : Ref sig .tc := ⟨.hbm, 303, rfl⟩
abbrev main_v274 : Ref sig .tc := ⟨.hbm, 304, rfl⟩
abbrev main_v275 : Ref sig .tc := ⟨.hbm, 305, rfl⟩
abbrev main_v276 : Ref sig .tc := ⟨.hbm, 306, rfl⟩
abbrev main_v277 : Ref sig .tc := ⟨.hbm, 307, rfl⟩
abbrev main_v278 : Ref sig .tc := ⟨.hbm, 308, rfl⟩
abbrev main_v279 : Ref sig .tc := ⟨.hbm, 309, rfl⟩
abbrev main_v280 : Ref sig .tc := ⟨.hbm, 310, rfl⟩
abbrev main_v281 : Ref sig .tc := ⟨.hbm, 311, rfl⟩
abbrev main_v282 : Ref sig .tc := ⟨.hbm, 312, rfl⟩
abbrev main_v283 : Ref sig .tc := ⟨.hbm, 313, rfl⟩
abbrev main_v284 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_v288 : Ref sig .tc := ⟨.hbm, 318, rfl⟩
abbrev main_v289 : Ref sig .tc := ⟨.hbm, 319, rfl⟩
abbrev main_v290 : Ref sig .tc := ⟨.hbm, 320, rfl⟩
abbrev main_v291 : Ref sig .tc := ⟨.hbm, 321, rfl⟩
abbrev main_v292 : Ref sig .tc := ⟨.hbm, 322, rfl⟩
abbrev main_v293 : Ref sig .tc := ⟨.hbm, 323, rfl⟩
abbrev main_v294 : Ref sig .tc := ⟨.hbm, 324, rfl⟩
abbrev main_v295 : Ref sig .tc := ⟨.hbm, 325, rfl⟩
abbrev main_v296 : Ref sig .tc := ⟨.hbm, 326, rfl⟩
abbrev main_v297 : Ref sig .tc := ⟨.hbm, 327, rfl⟩
abbrev main_v298 : Ref sig .tc := ⟨.hbm, 328, rfl⟩
abbrev main_v299 : Ref sig .tc := ⟨.hbm, 329, rfl⟩
abbrev main_v300 : Ref sig .tc := ⟨.hbm, 330, rfl⟩
abbrev main_v301 : Ref sig .tc := ⟨.hbm, 331, rfl⟩
abbrev main_v302 : Ref sig .tc := ⟨.hbm, 332, rfl⟩
abbrev main_v303 : Ref sig .tc := ⟨.hbm, 333, rfl⟩
abbrev main_v304 : Ref sig .tc := ⟨.hbm, 334, rfl⟩
abbrev main_v305 : Ref sig .tc := ⟨.hbm, 335, rfl⟩
abbrev main_v306 : Ref sig .tc := ⟨.hbm, 336, rfl⟩
abbrev main_v307 : Ref sig .tc := ⟨.hbm, 337, rfl⟩
abbrev main_v308 : Ref sig .tc := ⟨.hbm, 338, rfl⟩
abbrev main_v309 : Ref sig .tc := ⟨.hbm, 339, rfl⟩
abbrev main_v310 : Ref sig .tc := ⟨.hbm, 340, rfl⟩
abbrev main_v311 : Ref sig .tc := ⟨.hbm, 341, rfl⟩
abbrev main_v312 : Ref sig .tc := ⟨.hbm, 342, rfl⟩
abbrev main_v313 : Ref sig .tc := ⟨.hbm, 343, rfl⟩
abbrev main_v314 : Ref sig .tc := ⟨.hbm, 344, rfl⟩
abbrev main_v315 : Ref sig .tc := ⟨.hbm, 345, rfl⟩
abbrev main_v316 : Ref sig .tc := ⟨.hbm, 346, rfl⟩
abbrev main_v317 : Ref sig .tc := ⟨.hbm, 347, rfl⟩
abbrev main_v318 : Ref sig .tc := ⟨.hbm, 348, rfl⟩
abbrev main_v319 : Ref sig .tc := ⟨.hbm, 349, rfl⟩
abbrev main_v320 : Ref sig .tc := ⟨.hbm, 350, rfl⟩
abbrev main_v321 : Ref sig .tc := ⟨.hbm, 351, rfl⟩
abbrev main_v322 : Ref sig .tc := ⟨.hbm, 352, rfl⟩
abbrev main_v323 : Ref sig .tc := ⟨.hbm, 353, rfl⟩
abbrev main_v324 : Ref sig .tc := ⟨.hbm, 354, rfl⟩
abbrev main_v325 : Ref sig .tc := ⟨.hbm, 355, rfl⟩
abbrev main_v326 : Ref sig .tc := ⟨.hbm, 356, rfl⟩
abbrev main_v327 : Ref sig .tc := ⟨.hbm, 357, rfl⟩
abbrev main_v328 : Ref sig .tc := ⟨.hbm, 358, rfl⟩
abbrev main_v329 : Ref sig .tc := ⟨.hbm, 359, rfl⟩
abbrev main_v330 : Ref sig .tc := ⟨.hbm, 360, rfl⟩
abbrev main_v331 : Ref sig .tc := ⟨.hbm, 361, rfl⟩
abbrev main_v332 : Ref sig .tc := ⟨.hbm, 362, rfl⟩
abbrev main_v333 : Ref sig .tc := ⟨.hbm, 363, rfl⟩
abbrev main_v334 : Ref sig .tc := ⟨.hbm, 364, rfl⟩
abbrev main_v335 : Ref sig .tc := ⟨.hbm, 365, rfl⟩
abbrev main_v336 : Ref sig .tc := ⟨.hbm, 366, rfl⟩
abbrev main_v337 : Ref sig .tc := ⟨.hbm, 367, rfl⟩
abbrev main_v338 : Ref sig .tc := ⟨.hbm, 368, rfl⟩
abbrev main_v339 : Ref sig .tc := ⟨.hbm, 369, rfl⟩
abbrev main_v340 : Ref sig .tc := ⟨.hbm, 370, rfl⟩
abbrev main_v341 : Ref sig .tc := ⟨.hbm, 371, rfl⟩
abbrev main_v342 : Ref sig .tc := ⟨.hbm, 372, rfl⟩
abbrev main_v343 : Ref sig .tc := ⟨.hbm, 373, rfl⟩
abbrev main_v344 : Ref sig .tc := ⟨.hbm, 374, rfl⟩
abbrev main_v345 : Ref sig .tc := ⟨.hbm, 375, rfl⟩
abbrev main_v346 : Ref sig .tc := ⟨.hbm, 376, rfl⟩
abbrev main_v347 : Ref sig .tc := ⟨.hbm, 377, rfl⟩
abbrev main_v348 : Ref sig .tc := ⟨.hbm, 378, rfl⟩
abbrev main_v349 : Ref sig .tc := ⟨.hbm, 379, rfl⟩
abbrev main_v350 : Ref sig .tc := ⟨.hbm, 380, rfl⟩
abbrev main_v351 : Ref sig .tc := ⟨.hbm, 381, rfl⟩
abbrev main_v352 : Ref sig .tc := ⟨.hbm, 382, rfl⟩
abbrev main_v353 : Ref sig .tc := ⟨.hbm, 383, rfl⟩
abbrev main_v354 : Ref sig .tc := ⟨.hbm, 384, rfl⟩
abbrev main_v355 : Ref sig .tc := ⟨.hbm, 385, rfl⟩
abbrev main_v356 : Ref sig .tc := ⟨.hbm, 386, rfl⟩
abbrev main_v357 : Ref sig .tc := ⟨.hbm, 387, rfl⟩
abbrev main_v358 : Ref sig .tc := ⟨.hbm, 388, rfl⟩
abbrev main_v359 : Ref sig .tc := ⟨.hbm, 389, rfl⟩
abbrev main_v360 : Ref sig .tc := ⟨.hbm, 390, rfl⟩
abbrev main_v361 : Ref sig .tc := ⟨.hbm, 391, rfl⟩
abbrev main_v362 : Ref sig .tc := ⟨.hbm, 392, rfl⟩
abbrev main_v363 : Ref sig .tc := ⟨.hbm, 393, rfl⟩
abbrev main_v364 : Ref sig .tc := ⟨.hbm, 394, rfl⟩
abbrev main_v365 : Ref sig .tc := ⟨.hbm, 395, rfl⟩
abbrev main_v366 : Ref sig .tc := ⟨.hbm, 396, rfl⟩
abbrev main_v367 : Ref sig .tc := ⟨.hbm, 397, rfl⟩
abbrev main_v368 : Ref sig .tc := ⟨.hbm, 398, rfl⟩
abbrev main_v369 : Ref sig .tc := ⟨.hbm, 399, rfl⟩
abbrev main_v370 : Ref sig .tc := ⟨.hbm, 400, rfl⟩
abbrev main_v371 : Ref sig .tc := ⟨.hbm, 401, rfl⟩
abbrev main_v372 : Ref sig .tc := ⟨.hbm, 402, rfl⟩
abbrev main_v373 : Ref sig .tc := ⟨.hbm, 403, rfl⟩
abbrev main_v374 : Ref sig .tc := ⟨.hbm, 404, rfl⟩
abbrev main_v375 : Ref sig .tc := ⟨.hbm, 405, rfl⟩
abbrev main_v376 : Ref sig .tc := ⟨.hbm, 406, rfl⟩
abbrev main_v377 : Ref sig .tc := ⟨.hbm, 407, rfl⟩
abbrev main_v378 : Ref sig .tc := ⟨.hbm, 408, rfl⟩
abbrev main_v379 : Ref sig .tc := ⟨.hbm, 409, rfl⟩
abbrev main_v380 : Ref sig .tc := ⟨.hbm, 410, rfl⟩
abbrev main_v381 : Ref sig .tc := ⟨.hbm, 411, rfl⟩
abbrev main_v382 : Ref sig .tc := ⟨.hbm, 412, rfl⟩
abbrev main_v383 : Ref sig .tc := ⟨.hbm, 413, rfl⟩
abbrev main_v384 : Ref sig .tc := ⟨.hbm, 414, rfl⟩
abbrev main_v385 : Ref sig .tc := ⟨.hbm, 415, rfl⟩
abbrev main_v386 : Ref sig .tc := ⟨.hbm, 416, rfl⟩
abbrev main_v387 : Ref sig .tc := ⟨.hbm, 417, rfl⟩
abbrev main_v388 : Ref sig .tc := ⟨.hbm, 418, rfl⟩
abbrev main_v389 : Ref sig .tc := ⟨.hbm, 419, rfl⟩
abbrev main_v390 : Ref sig .tc := ⟨.hbm, 420, rfl⟩
abbrev main_v391 : Ref sig .tc := ⟨.hbm, 421, rfl⟩
abbrev main_v392 : Ref sig .tc := ⟨.hbm, 422, rfl⟩
abbrev main_v393 : Ref sig .tc := ⟨.hbm, 423, rfl⟩
abbrev main_v394 : Ref sig .tc := ⟨.hbm, 424, rfl⟩
abbrev main_v395 : Ref sig .tc := ⟨.hbm, 425, rfl⟩
abbrev main_v396 : Ref sig .tc := ⟨.hbm, 426, rfl⟩
abbrev main_v397 : Ref sig .tc := ⟨.hbm, 427, rfl⟩
abbrev main_v398 : Ref sig .tc := ⟨.hbm, 428, rfl⟩
abbrev main_v399 : Ref sig .tc := ⟨.hbm, 429, rfl⟩
abbrev main_v400 : Ref sig .tc := ⟨.hbm, 430, rfl⟩
abbrev main_v401 : Ref sig .tc := ⟨.hbm, 431, rfl⟩
abbrev main_v402 : Ref sig .tc := ⟨.hbm, 432, rfl⟩
abbrev main_cst_2 : Ref sig .tc := ⟨.hbm, 433, rfl⟩
abbrev main_v403 : Ref sig .tc := ⟨.hbm, 434, rfl⟩
abbrev main_v404 : Ref sig .tc := ⟨.hbm, 435, rfl⟩
abbrev main_v405 : Ref sig .tc := ⟨.hbm, 436, rfl⟩
abbrev main_v406 : Ref sig .tc := ⟨.hbm, 437, rfl⟩
abbrev main_c_3 : Ref sig .tc := ⟨.hbm, 438, rfl⟩
abbrev main_call2_v0 : Ref sig .tc := ⟨.hbm, 439, rfl⟩
abbrev main_v407 : Ref sig .tc := ⟨.hbm, 440, rfl⟩
abbrev main_v408 : Ref sig .tc := ⟨.hbm, 441, rfl⟩
abbrev main_v409 : Ref sig .tc := ⟨.hbm, 442, rfl⟩
abbrev main_v410 : Ref sig .tc := ⟨.hbm, 443, rfl⟩
abbrev main_v411 : Ref sig .tc := ⟨.hbm, 444, rfl⟩
abbrev main_v412 : Ref sig .tc := ⟨.hbm, 445, rfl⟩
abbrev main_c_4 : Ref sig .tc := ⟨.hbm, 446, rfl⟩
abbrev main_call3_v0 : Ref sig .tc := ⟨.hbm, 447, rfl⟩
abbrev main_v413 : Ref sig .tc := ⟨.hbm, 448, rfl⟩
abbrev main_v414 : Ref sig .tc := ⟨.hbm, 449, rfl⟩
abbrev main_v415 : Ref sig .tc := ⟨.hbm, 450, rfl⟩
abbrev main_v416 : Ref sig .tc := ⟨.hbm, 451, rfl⟩
abbrev main_c_5 : Ref sig .tc := ⟨.hbm, 452, rfl⟩
abbrev main_call4_v0 : Ref sig .tc := ⟨.hbm, 453, rfl⟩
abbrev main_v417 : Ref sig .tc := ⟨.hbm, 454, rfl⟩
abbrev main_v418 : Ref sig .tc := ⟨.hbm, 455, rfl⟩
abbrev main_v419 : Ref sig .tc := ⟨.hbm, 456, rfl⟩
abbrev main_v420 : Ref sig .tc := ⟨.hbm, 457, rfl⟩
abbrev main_v421 : Ref sig .tc := ⟨.hbm, 458, rfl⟩
abbrev main_v422 : Ref sig .tc := ⟨.hbm, 459, rfl⟩
abbrev main_c_6 : Ref sig .tc := ⟨.hbm, 460, rfl⟩
abbrev main_call5_v0 : Ref sig .tc := ⟨.hbm, 461, rfl⟩
abbrev main_v423 : Ref sig .tc := ⟨.hbm, 462, rfl⟩
abbrev main_v424 : Ref sig .tc := ⟨.hbm, 463, rfl⟩
abbrev main_v425 : Ref sig .tc := ⟨.hbm, 464, rfl⟩
abbrev main_v426 : Ref sig .tc := ⟨.hbm, 465, rfl⟩
abbrev main_v427 : Ref sig .tc := ⟨.hbm, 466, rfl⟩
abbrev main_v428 : Ref sig .tc := ⟨.hbm, 467, rfl⟩
abbrev main_v429 : Ref sig .tc := ⟨.hbm, 468, rfl⟩
abbrev main_v430 : Ref sig .tc := ⟨.hbm, 469, rfl⟩
abbrev main_v431 : Ref sig .tc := ⟨.hbm, 470, rfl⟩
abbrev main_v432 : Ref sig .tc := ⟨.hbm, 471, rfl⟩
abbrev main_c_7 : Ref sig .tc := ⟨.hbm, 472, rfl⟩
abbrev main_call6_v0 : Ref sig .tc := ⟨.hbm, 473, rfl⟩
abbrev main_v433 : Ref sig .tc := ⟨.hbm, 474, rfl⟩
abbrev main_v434 : Ref sig .tc := ⟨.hbm, 475, rfl⟩
abbrev main_v435 : Ref sig .tc := ⟨.hbm, 476, rfl⟩
abbrev main_v436 : Ref sig .tc := ⟨.hbm, 477, rfl⟩
abbrev main_v437 : Ref sig .tc := ⟨.hbm, 478, rfl⟩
abbrev main_v438 : Ref sig .tc := ⟨.hbm, 479, rfl⟩
abbrev main_c_8 : Ref sig .tc := ⟨.hbm, 480, rfl⟩
abbrev main_call7_v0 : Ref sig .tc := ⟨.hbm, 481, rfl⟩
abbrev main_v439 : Ref sig .tc := ⟨.hbm, 482, rfl⟩
abbrev main_v440 : Ref sig .tc := ⟨.hbm, 483, rfl⟩
abbrev main_v441 : Ref sig .tc := ⟨.hbm, 484, rfl⟩
abbrev main_v442 : Ref sig .tc := ⟨.hbm, 485, rfl⟩
abbrev main_c_9 : Ref sig .tc := ⟨.hbm, 486, rfl⟩
abbrev main_call8_v0 : Ref sig .tc := ⟨.hbm, 487, rfl⟩
abbrev main_v443 : Ref sig .tc := ⟨.hbm, 488, rfl⟩
abbrev main_v444 : Ref sig .tc := ⟨.hbm, 489, rfl⟩
abbrev main_v445 : Ref sig .tc := ⟨.hbm, 490, rfl⟩
abbrev main_v446 : Ref sig .tc := ⟨.hbm, 491, rfl⟩
abbrev main_v447 : Ref sig .tc := ⟨.hbm, 492, rfl⟩
abbrev main_v448 : Ref sig .tc := ⟨.hbm, 493, rfl⟩
abbrev main_c_10 : Ref sig .tc := ⟨.hbm, 494, rfl⟩
abbrev main_call9_v0 : Ref sig .tc := ⟨.hbm, 495, rfl⟩
abbrev main_v449 : Ref sig .tc := ⟨.hbm, 496, rfl⟩
abbrev main_v450 : Ref sig .tc := ⟨.hbm, 497, rfl⟩
abbrev main_v451 : Ref sig .tc := ⟨.hbm, 498, rfl⟩
abbrev main_v452 : Ref sig .tc := ⟨.hbm, 499, rfl⟩
abbrev main_c_11 : Ref sig .tc := ⟨.hbm, 500, rfl⟩
abbrev main_call10_v0 : Ref sig .tc := ⟨.hbm, 501, rfl⟩
abbrev main_v453 : Ref sig .tc := ⟨.hbm, 502, rfl⟩
abbrev main_v454 : Ref sig .tc := ⟨.hbm, 503, rfl⟩
abbrev main_v455 : Ref sig .tc := ⟨.hbm, 504, rfl⟩
abbrev main_v456 : Ref sig .tc := ⟨.hbm, 505, rfl⟩
abbrev main_v457 : Ref sig .tc := ⟨.hbm, 506, rfl⟩
abbrev main_v458 : Ref sig .tc := ⟨.hbm, 507, rfl⟩
abbrev main_v459 : Ref sig .tc := ⟨.hbm, 508, rfl⟩
abbrev main_v460 : Ref sig .tc := ⟨.hbm, 509, rfl⟩
abbrev main_v461 : Ref sig .tc := ⟨.hbm, 510, rfl⟩
abbrev main_v462 : Ref sig .tc := ⟨.hbm, 511, rfl⟩
abbrev main_v463 : Ref sig .tc := ⟨.hbm, 512, rfl⟩
abbrev main_v464 : Ref sig .tc := ⟨.hbm, 513, rfl⟩
abbrev main_v465 : Ref sig .tc := ⟨.hbm, 514, rfl⟩
abbrev main_v466 : Ref sig .tc := ⟨.hbm, 515, rfl⟩
abbrev main_v467 : Ref sig .tc := ⟨.hbm, 516, rfl⟩
abbrev main_c_12 : Ref sig .tc := ⟨.hbm, 517, rfl⟩
abbrev main_call11_v0 : Ref sig .tc := ⟨.hbm, 518, rfl⟩
abbrev main_v468 : Ref sig .tc := ⟨.hbm, 519, rfl⟩
abbrev main_v469 : Ref sig .tc := ⟨.hbm, 520, rfl⟩
abbrev main_v470 : Ref sig .tc := ⟨.hbm, 521, rfl⟩
abbrev main_v471 : Ref sig .tc := ⟨.hbm, 522, rfl⟩
abbrev main_v472 : Ref sig .tc := ⟨.hbm, 523, rfl⟩
abbrev main_v473 : Ref sig .tc := ⟨.hbm, 524, rfl⟩
abbrev main_v474 : Ref sig .tc := ⟨.hbm, 525, rfl⟩
abbrev main_v475 : Ref sig .tc := ⟨.hbm, 526, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc2_stg6_1 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg8_0 : Ref sig .tc := ⟨.vmem, 33, rfl⟩
abbrev cc3_stg9_0 : Ref sig .tc := ⟨.vmem, 34, rfl⟩
abbrev cc3_stg10_0 : Ref sig .tc := ⟨.vmem, 35, rfl⟩
abbrev cc3_stg11_0 : Ref sig .tc := ⟨.vmem, 36, rfl⟩
abbrev cc3_stg11_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg3_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc2_sem6_0 : DmaSem sig := 20
abbrev cc2_sem6_1 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem8_0 : DmaSem sig := 33
abbrev cc3_sem9_0 : DmaSem sig := 34
abbrev cc3_sem10_0 : DmaSem sig := 35
abbrev cc3_sem11_0 : DmaSem sig := 36
abbrev cc3_sem11_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem3_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem3_1 : DmaSem sig := 49

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x33x33x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x32x32x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x32x32x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S9x256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x1x1024 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x32x32x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![16], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x32x32x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S9x256x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S9x256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S9x256x256 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S256x256 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S1x32x32x256 .bf16 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![16], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage4_0 : Fin 2 → Memref sig .tc .vmem S1x32x32x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x256x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x4x32x32x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![16], ![false]⟩

def cc5_transform_0 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage5_0 : Fin 2 → Memref sig .tc .vmem S1x64x64x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S9x256x16 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1x64x64x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]
-- ==== ReferenceIdeal.lean ====
abbrev S16x3x128x128 : Shape := ⟨4, ![16, 3, 128, 128]⟩
abbrev S512x256 : Shape := ⟨2, ![512, 256]⟩
abbrev S128x3x4x4 : Shape := ⟨4, ![128, 3, 4, 4]⟩
abbrev S128 : Shape := ⟨1, ![128]⟩
abbrev S256x128x4x4 : Shape := ⟨4, ![256, 128, 4, 4]⟩
abbrev S256 : Shape := ⟨1, ![256]⟩
abbrev S256x256x3x3 : Shape := ⟨4, ![256, 256, 3, 3]⟩
abbrev S256x256x1x1 : Shape := ⟨4, ![256, 256, 1, 1]⟩
abbrev S256x256x4x4 : Shape := ⟨4, ![256, 256, 4, 4]⟩
abbrev S256x3x4x4 : Shape := ⟨4, ![256, 3, 4, 4]⟩
abbrev S3 : Shape := ⟨1, ![3]⟩
abbrev S16x128x4096 : Shape := ⟨3, ![16, 128, 4096]⟩
abbrev S16x3x1x128x128 : Shape := ⟨5, ![16, 3, 1, 128, 128]⟩
abbrev S_ : Shape := ⟨0, ![]⟩
abbrev S16x3x1x130x130 : Shape := ⟨5, ![16, 3, 1, 130, 130]⟩
abbrev S16x3x1x130x64 : Shape := ⟨5, ![16, 3, 1, 130, 64]⟩
abbrev S16x3x4x130x64 : Shape := ⟨5, ![16, 3, 4, 130, 64]⟩
abbrev S16x3x4x64x64 : Shape := ⟨5, ![16, 3, 4, 64, 64]⟩
abbrev S16x3x16x64x64 : Shape := ⟨5, ![16, 3, 16, 64, 64]⟩
abbrev S16x3x4x4x4096 : Shape := ⟨5, ![16, 3, 4, 4, 4096]⟩
abbrev S128x16x4096 : Shape := ⟨3, ![128, 16, 4096]⟩
abbrev S16x128x64x64 : Shape := ⟨4, ![16, 128, 64, 64]⟩
abbrev S16x256x1024 : Shape := ⟨3, ![16, 256, 1024]⟩
abbrev S16x128x1x64x64 : Shape := ⟨5, ![16, 128, 1, 64, 64]⟩
abbrev S16x128x1x66x66 : Shape := ⟨5, ![16, 128, 1, 66, 66]⟩
abbrev S16x128x1x66x32 : Shape := ⟨5, ![16, 128, 1, 66, 32]⟩
abbrev S16x128x4x66x32 : Shape := ⟨5, ![16, 128, 4, 66, 32]⟩
abbrev S16x128x4x32x32 : Shape := ⟨5, ![16, 128, 4, 32, 32]⟩
abbrev S16x128x16x32x32 : Shape := ⟨5, ![16, 128, 16, 32, 32]⟩
abbrev S16x128x4x4x1024 : Shape := ⟨5, ![16, 128, 4, 4, 1024]⟩
abbrev S256x16x1024 : Shape := ⟨3, ![256, 16, 1024]⟩
abbrev S16x256x32x32 : Shape := ⟨4, ![16, 256, 32, 32]⟩
abbrev S16x256x1x32x32 : Shape := ⟨5, ![16, 256, 1, 32, 32]⟩
abbrev S16x256x1x34x34 : Shape := ⟨5, ![16, 256, 1, 34, 34]⟩
abbrev S16x256x1x34x32 : Shape := ⟨5, ![16, 256, 1, 34, 32]⟩
abbrev S16x256x3x34x32 : Shape := ⟨5, ![16, 256, 3, 34, 32]⟩
abbrev S16x256x3x32x32 : Shape := ⟨5, ![16, 256, 3, 32, 32]⟩
abbrev S16x256x9x32x32 : Shape := ⟨5, ![16, 256, 9, 32, 32]⟩
abbrev S16x256x3x3x1024 : Shape := ⟨5, ![16, 256, 3, 3, 1024]⟩
abbrev S16x32x32x256 : Shape := ⟨4, ![16, 32, 32, 256]⟩
abbrev S16384x256 : Shape := ⟨2, ![16384, 256]⟩
abbrev S16384 : Shape := ⟨1, ![16384]⟩
abbrev S16384x1 : Shape := ⟨2, ![16384, 1]⟩
abbrev S512 : Shape := ⟨1, ![512]⟩
abbrev S1x512 : Shape := ⟨2, ![1, 512]⟩
abbrev S16384x512 : Shape := ⟨2, ![16384, 512]⟩
abbrev S256x512 : Shape := ⟨2, ![256, 512]⟩
abbrev S16x256x1x1x1024 : Shape := ⟨5, ![16, 256, 1, 1, 1024]⟩
abbrev S16x256x4096 : Shape := ⟨3, ![16, 256, 4096]⟩
abbrev S16x256x1x67x67 : Shape := ⟨5, ![16, 256, 1, 67, 67]⟩
abbrev S16x256x1x67x64 : Shape := ⟨5, ![16, 256, 1, 67, 64]⟩
abbrev S16x256x4x67x64 : Shape := ⟨5, ![16, 256, 4, 67, 64]⟩
abbrev S16x256x4x64x64 : Shape := ⟨5, ![16, 256, 4, 64, 64]⟩
abbrev S16x256x16x64x64 : Shape := ⟨5, ![16, 256, 16, 64, 64]⟩
abbrev S16x256x4x4x4096 : Shape := ⟨5, ![16, 256, 4, 4, 4096]⟩
abbrev S256x16x4096 : Shape := ⟨3, ![256, 16, 4096]⟩
abbrev S16x256x64x64 : Shape := ⟨4, ![16, 256, 64, 64]⟩
abbrev S3x256x4x4 : Shape := ⟨4, ![3, 256, 4, 4]⟩
abbrev S16x3x16384 : Shape := ⟨3, ![16, 3, 16384]⟩
abbrev S16x256x1x64x64 : Shape := ⟨5, ![16, 256, 1, 64, 64]⟩
abbrev S16x256x1x131x131 : Shape := ⟨5, ![16, 256, 1, 131, 131]⟩
abbrev S16x256x1x131x128 : Shape := ⟨5, ![16, 256, 1, 131, 128]⟩
abbrev S16x256x4x131x128 : Shape := ⟨5, ![16, 256, 4, 131, 128]⟩
abbrev S16x256x4x128x128 : Shape := ⟨5, ![16, 256, 4, 128, 128]⟩
abbrev S16x256x16x128x128 : Shape := ⟨5, ![16, 256, 16, 128, 128]⟩
abbrev S16x256x4x4x16384 : Shape := ⟨5, ![16, 256, 4, 4, 16384]⟩
abbrev S3x16x16384 : Shape := ⟨3, ![3, 16, 16384]⟩
abbrev S16x32x32 : Shape := ⟨3, ![16, 32, 32]⟩

abbrev nBuf : Space → Nat
  | .hbm => 267
  | .vmem => 0
  | .smem => 0
  | _ => 0

abbrev hbmTy0_0 (i : Nat) : BufTy := match i % 128 with
  | 0 => ⟨S16x3x128x128, .f32⟩
  | 1 => ⟨S512x256, .f32⟩
  | 2 => ⟨S128x3x4x4, .f32⟩
  | 3 => ⟨S128, .f32⟩
  | 4 => ⟨S256x128x4x4, .f32⟩
  | 5 => ⟨S256, .f32⟩
  | 6 => ⟨S256x256x3x3, .f32⟩
  | 7 => ⟨S256, .f32⟩
  | 8 => ⟨S256x256x3x3, .f32⟩
  | 9 => ⟨S256, .f32⟩
  | 10 => ⟨S256x256x3x3, .f32⟩
  | 11 => ⟨S256, .f32⟩
  | 12 => ⟨S256x256x1x1, .f32⟩
  | 13 => ⟨S256, .f32⟩
  | 14 => ⟨S256x256x3x3, .f32⟩
  | 15 => ⟨S256, .f32⟩
  | 16 => ⟨S256x256x1x1, .f32⟩
  | 17 => ⟨S256, .f32⟩
  | 18 => ⟨S256x256x4x4, .f32⟩
  | 19 => ⟨S256, .f32⟩
  | 20 => ⟨S256x3x4x4, .f32⟩
  | 21 => ⟨S3, .f32⟩
  | 22 => ⟨S16x128x4096, .f32⟩
  | 23 => ⟨S16x3x1x128x128, .f32⟩
  | 24 => ⟨S_, .f32⟩
  | 25 => ⟨S16x3x1x130x130, .f32⟩
  | 26 => ⟨S16x3x1x130x64, .f32⟩
  | 27 => ⟨S16x3x1x130x64, .f32⟩
  | 28 => ⟨S16x3x1x130x64, .f32⟩
  | 29 => ⟨S16x3x1x130x64, .f32⟩
  | 30 => ⟨S16x3x4x130x64, .f32⟩
  | 31 => ⟨S16x3x4x64x64, .f32⟩
  | 32 => ⟨S16x3x4x64x64, .f32⟩
  | 33 => ⟨S16x3x4x64x64, .f32⟩
  | 34 => ⟨S16x3x4x64x64, .f32⟩
  | 35 => ⟨S16x3x16x64x64, .f32⟩
  | 36 => ⟨S16x3x4x4x4096, .f32⟩
  | 37 => ⟨S128x16x4096, .f32⟩
  | 38 => ⟨S16x128x4096, .f32⟩
  | 39 => ⟨S16x128x4096, .f32⟩
  | 40 => ⟨S16x128x64x64, .f32⟩
  | 41 => ⟨S_, .f32⟩
  | 42 => ⟨S16x128x64x64, .f32⟩
  | 43 => ⟨S16x128x64x64, .f32⟩
  | 44 => ⟨S16x256x1024, .f32⟩
  | 45 => ⟨S16x128x1x64x64, .f32⟩
  | 46 => ⟨S_, .f32⟩
  | 47 => ⟨S16x128x1x66x66, .f32⟩
  | 48 => ⟨S16x128x1x66x32, .f32⟩
  | 49 => ⟨S16x128x1x66x32, .f32⟩
  | 50 => ⟨S16x128x1x66x32, .f32⟩
  | 51 => ⟨S16x128x1x66x32, .f32⟩
  | 52 => ⟨S16x128x4x66x32, .f32⟩
  | 53 => ⟨S16x128x4x32x32, .f32⟩
  | 54 => ⟨S16x128x4x32x32, .f32⟩
  | 55 => ⟨S16x128x4x32x32, .f32⟩
  | 56 => ⟨S16x128x4x32x32, .f32⟩
  | 57 => ⟨S16x128x16x32x32, .f32⟩
  | 58 => ⟨S16x128x4x4x1024, .f32⟩
  | 59 => ⟨S256x16x1024, .f32⟩
  | 60 => ⟨S16x256x1024, .f32⟩
  | 61 => ⟨S16x256x1024, .f32⟩
  | 62 => ⟨S16x256x32x32, .f32⟩
  | 63 => ⟨S_, .f32⟩
  | 64 => ⟨S16x256x32x32, .f32⟩
  | 65 => ⟨S16x256x32x32, .f32⟩
  | 66 => ⟨S16x256x1024, .f32⟩
  | 67 => ⟨S16x256x1x32x32, .f32⟩
  | 68 => ⟨S_, .f32⟩
  | 69 => ⟨S16x256x1x34x34, .f32⟩
  | 70 => ⟨S16x256x1x34x32, .f32⟩
  | 71 => ⟨S16x256x1x34x32, .f32⟩
  | 72 => ⟨S16x256x1x34x32, .f32⟩
  | 73 => ⟨S16x256x3x34x32, .f32⟩
  | 74 => ⟨S16x256x3x32x32, .f32⟩
  | 75 => ⟨S16x256x3x32x32, .f32⟩
  | 76 => ⟨S16x256x3x32x32, .f32⟩
  | 77 => ⟨S16x256x9x32x32, .f32⟩
  | 78 => ⟨S16x256x3x3x1024, .f32⟩
  | 79 => ⟨S256x16x1024, .f32⟩
  | 80 => ⟨S16x256x1024, .f32⟩
  | 81 => ⟨S16x256x1024, .f32⟩
  | 82 => ⟨S16x256x32x32, .f32⟩
  | 83 => ⟨S16x32x32x256, .f32⟩
  | 84 => ⟨S16384x256, .f32⟩
  | 85 => ⟨S16384x256, .f32⟩
  | 86 => ⟨S_, .f32⟩
  | 87 => ⟨S16384, .f32⟩
  | 88 => ⟨S16384x1, .f32⟩
  | 89 => ⟨S512x256, .f32⟩
  | 90 => ⟨S_, .f32⟩
  | 91 => ⟨S512, .f32⟩
  | 92 => ⟨S1x512, .f32⟩
  | 93 => ⟨S16384x512, .f32⟩
  | 94 => ⟨S16384x512, .f32⟩
  | 95 => ⟨S16384x512, .f32⟩
  | 96 => ⟨S_, .f32⟩
  | 97 => ⟨S16384x256, .f32⟩
  | 98 => ⟨S16384x256, .f32⟩
  | 99 => ⟨S256x512, .f32⟩
  | 100 => ⟨S16384x512, .f32⟩
  | 101 => ⟨S16384x512, .f32⟩
  | 102 => ⟨S16384x512, .i32⟩
  | 103 => ⟨S_, .f32⟩
  | 104 => ⟨S_, .i32⟩
  | 105 => ⟨S16384, .f32⟩
  | 106 => ⟨S16384, .i32⟩
  | 107 => ⟨S_, .i32⟩
  | 108 => ⟨S16384, .i32⟩
  | 109 => ⟨S16384, .i1⟩
  | 110 => ⟨S_, .i32⟩
  | 111 => ⟨S16384, .i32⟩
  | 112 => ⟨S16384, .i32⟩
  | 113 => ⟨S16384, .i32⟩
  | 114 => ⟨S16384x1, .i32⟩
  | 115 => ⟨S16384x256, .f32⟩
  | 116 => ⟨S16x32x32x256, .f32⟩
  | 117 => ⟨S16x32x32x256, .f32⟩
  | 118 => ⟨S16x32x32x256, .f32⟩
  | 119 => ⟨S_, .f32⟩
  | 120 => ⟨S_, .f32⟩
  | 121 => ⟨S_, .f32⟩
  | 122 => ⟨S_, .f32⟩
  | 123 => ⟨S16x256x32x32, .f32⟩
  | 124 => ⟨S16x256x32x32, .f32⟩
  | 125 => ⟨S16x256x32x32, .f32⟩
  | 126 => ⟨S16x256x1024, .f32⟩
  | 127 => ⟨S16x256x1x32x32, .f32⟩
  | _ => ⟨S16x3x128x128, .f32⟩

abbrev hbmTy0_1 (i : Nat) : BufTy := match i % 128 with
  | 0 => ⟨S_, .f32⟩
  | 1 => ⟨S16x256x1x34x34, .f32⟩
  | 2 => ⟨S16x256x1x34x32, .f32⟩
  | 3 => ⟨S16x256x1x34x32, .f32⟩
  | 4 => ⟨S16x256x1x34x32, .f32⟩
  | 5 => ⟨S16x256x3x34x32, .f32⟩
  | 6 => ⟨S16x256x3x32x32, .f32⟩
  | 7 => ⟨S16x256x3x32x32, .f32⟩
  | 8 => ⟨S16x256x3x32x32, .f32⟩
  | 9 => ⟨S16x256x9x32x32, .f32⟩
  | 10 => ⟨S16x256x3x3x1024, .f32⟩
  | 11 => ⟨S256x16x1024, .f32⟩
  | 12 => ⟨S16x256x1024, .f32⟩
  | 13 => ⟨S16x256x1024, .f32⟩
  | 14 => ⟨S16x256x32x32, .f32⟩
  | 15 => ⟨S_, .f32⟩
  | 16 => ⟨S16x256x32x32, .f32⟩
  | 17 => ⟨S16x256x32x32, .f32⟩
  | 18 => ⟨S16x256x1024, .f32⟩
  | 19 => ⟨S16x256x1x32x32, .f32⟩
  | 20 => ⟨S_, .f32⟩
  | 21 => ⟨S16x256x1x34x34, .f32⟩
  | 22 => ⟨S16x256x1x34x32, .f32⟩
  | 23 => ⟨S16x256x1x34x32, .f32⟩
  | 24 => ⟨S16x256x1x34x32, .f32⟩
  | 25 => ⟨S16x256x3x34x32, .f32⟩
  | 26 => ⟨S16x256x3x32x32, .f32⟩
  | 27 => ⟨S16x256x3x32x32, .f32⟩
  | 28 => ⟨S16x256x3x32x32, .f32⟩
  | 29 => ⟨S16x256x9x32x32, .f32⟩
  | 30 => ⟨S16x256x3x3x1024, .f32⟩
  | 31 => ⟨S256x16x1024, .f32⟩
  | 32 => ⟨S16x256x1024, .f32⟩
  | 33 => ⟨S16x256x1024, .f32⟩
  | 34 => ⟨S16x256x32x32, .f32⟩
  | 35 => ⟨S_, .f32⟩
  | 36 => ⟨S16x256x32x32, .f32⟩
  | 37 => ⟨S16x256x32x32, .f32⟩
  | 38 => ⟨S16x256x1024, .f32⟩
  | 39 => ⟨S16x256x1x32x32, .f32⟩
  | 40 => ⟨S_, .f32⟩
  | 41 => ⟨S16x256x1x32x32, .f32⟩
  | 42 => ⟨S16x256x1x32x32, .f32⟩
  | 43 => ⟨S16x256x1x32x32, .f32⟩
  | 44 => ⟨S16x256x1x1x1024, .f32⟩
  | 45 => ⟨S256x16x1024, .f32⟩
  | 46 => ⟨S16x256x1024, .f32⟩
  | 47 => ⟨S16x256x1024, .f32⟩
  | 48 => ⟨S16x256x32x32, .f32⟩
  | 49 => ⟨S16x256x32x32, .f32⟩
  | 50 => ⟨S_, .f32⟩
  | 51 => ⟨S16x256x32x32, .f32⟩
  | 52 => ⟨S16x256x32x32, .f32⟩
  | 53 => ⟨S16x256x1024, .f32⟩
  | 54 => ⟨S16x256x1x32x32, .f32⟩
  | 55 => ⟨S_, .f32⟩
  | 56 => ⟨S16x256x1x34x34, .f32⟩
  | 57 => ⟨S16x256x1x34x32, .f32⟩
  | 58 => ⟨S16x256x1x34x32, .f32⟩
  | 59 => ⟨S16x256x1x34x32, .f32⟩
  | 60 => ⟨S16x256x3x34x32, .f32⟩
  | 61 => ⟨S16x256x3x32x32, .f32⟩
  | 62 => ⟨S16x256x3x32x32, .f32⟩
  | 63 => ⟨S16x256x3x32x32, .f32⟩
  | 64 => ⟨S16x256x9x32x32, .f32⟩
  | 65 => ⟨S16x256x3x3x1024, .f32⟩
  | 66 => ⟨S256x16x1024, .f32⟩
  | 67 => ⟨S16x256x1024, .f32⟩
  | 68 => ⟨S16x256x1024, .f32⟩
  | 69 => ⟨S16x256x32x32, .f32⟩
  | 70 => ⟨S_, .f32⟩
  | 71 => ⟨S16x256x32x32, .f32⟩
  | 72 => ⟨S16x256x32x32, .f32⟩
  | 73 => ⟨S16x256x1024, .f32⟩
  | 74 => ⟨S16x256x1x32x32, .f32⟩
  | 75 => ⟨S_, .f32⟩
  | 76 => ⟨S16x256x1x32x32, .f32⟩
  | 77 => ⟨S16x256x1x32x32, .f32⟩
  | 78 => ⟨S16x256x1x32x32, .f32⟩
  | 79 => ⟨S16x256x1x1x1024, .f32⟩
  | 80 => ⟨S256x16x1024, .f32⟩
  | 81 => ⟨S16x256x1024, .f32⟩
  | 82 => ⟨S16x256x1024, .f32⟩
  | 83 => ⟨S16x256x32x32, .f32⟩
  | 84 => ⟨S16x256x32x32, .f32⟩
  | 85 => ⟨S256x256x4x4, .f32⟩
  | 86 => ⟨S256x256x4x4, .f32⟩
  | 87 => ⟨S16x256x4096, .f32⟩
  | 88 => ⟨S16x256x1x32x32, .f32⟩
  | 89 => ⟨S_, .f32⟩
  | 90 => ⟨S16x256x1x67x67, .f32⟩
  | 91 => ⟨S16x256x1x67x64, .f32⟩
  | 92 => ⟨S16x256x1x67x64, .f32⟩
  | 93 => ⟨S16x256x1x67x64, .f32⟩
  | 94 => ⟨S16x256x1x67x64, .f32⟩
  | 95 => ⟨S16x256x4x67x64, .f32⟩
  | 96 => ⟨S16x256x4x64x64, .f32⟩
  | 97 => ⟨S16x256x4x64x64, .f32⟩
  | 98 => ⟨S16x256x4x64x64, .f32⟩
  | 99 => ⟨S16x256x4x64x64, .f32⟩
  | 100 => ⟨S16x256x16x64x64, .f32⟩
  | 101 => ⟨S16x256x4x4x4096, .f32⟩
  | 102 => ⟨S256x16x4096, .f32⟩
  | 103 => ⟨S16x256x4096, .f32⟩
  | 104 => ⟨S16x256x4096, .f32⟩
  | 105 => ⟨S16x256x64x64, .f32⟩
  | 106 => ⟨S_, .f32⟩
  | 107 => ⟨S16x256x64x64, .f32⟩
  | 108 => ⟨S16x256x64x64, .f32⟩
  | 109 => ⟨S256x3x4x4, .f32⟩
  | 110 => ⟨S3x256x4x4, .f32⟩
  | 111 => ⟨S16x3x16384, .f32⟩
  | 112 => ⟨S16x256x1x64x64, .f32⟩
  | 113 => ⟨S_, .f32⟩
  | 114 => ⟨S16x256x1x131x131, .f32⟩
  | 115 => ⟨S16x256x1x131x128, .f32⟩
  | 116 => ⟨S16x256x1x131x128, .f32⟩
  | 117 => ⟨S16x256x1x131x128, .f32⟩
  | 118 => ⟨S16x256x1x131x128, .f32⟩
  | 119 => ⟨S16x256x4x131x128, .f32⟩
  | 120 => ⟨S16x256x4x128x128, .f32⟩
  | 121 => ⟨S16x256x4x128x128, .f32⟩
  | 122 => ⟨S16x256x4x128x128, .f32⟩
  | 123 => ⟨S16x256x4x128x128, .f32⟩
  | 124 => ⟨S16x256x16x128x128, .f32⟩
  | 125 => ⟨S16x256x4x4x16384, .f32⟩
  | 126 => ⟨S3x16x16384, .f32⟩
  | 127 => ⟨S16x3x16384, .f32⟩
  | _ => ⟨S16x3x128x128, .f32⟩

abbrev hbmTy0_2 (i : Nat) : BufTy := match i % 128 with
  | 0 => ⟨S16x3x16384, .f32⟩
  | 1 => ⟨S16x3x128x128, .f32⟩
  | 2 => ⟨S16x3x128x128, .f32⟩
  | 3 => ⟨S16x3x128x128, .f32⟩
  | 4 => ⟨S_, .f32⟩
  | 5 => ⟨S16x3x128x128, .f32⟩
  | 6 => ⟨S16x3x128x128, .f32⟩
  | 7 => ⟨S_, .f32⟩
  | 8 => ⟨S16x3x128x128, .f32⟩
  | 9 => ⟨S16x3x128x128, .f32⟩
  | 10 => ⟨S16x32x32, .i32⟩
  | _ => ⟨S16x3x128x128, .f32⟩

abbrev hbmTy (i : Nat) : BufTy := match i / 128 with
  | 0 => hbmTy0_0 i
  | 1 => hbmTy0_1 i
  | 2 => hbmTy0_2 i
  | _ => ⟨S16x3x128x128, .f32⟩

abbrev bufTy : (tb : Table) → Fin (tcTables nBuf tb) → BufTy
  | .hbm, ⟨i, _⟩ => hbmTy i
  | _, _ => ⟨S16x3x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_v15 : Ref sig .tc := ⟨.hbm, 38, rfl⟩
abbrev main_call0_v16 : Ref sig .tc := ⟨.hbm, 39, rfl⟩
abbrev main_v0 : Ref sig .tc := ⟨.hbm, 40, rfl⟩
abbrev main_call1_cst : Ref sig .tc := ⟨.hbm, 41, rfl⟩
abbrev main_call1_v0 : Ref sig .tc := ⟨.hbm, 42, rfl⟩
abbrev main_v1 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_v12 : Ref sig .tc := ⟨.hbm, 57, rfl⟩
abbrev main_call2_v13 : Ref sig .tc := ⟨.hbm, 58, rfl⟩
abbrev main_call2_v14 : Ref sig .tc := ⟨.hbm, 59, rfl⟩
abbrev main_call2_v15 : Ref sig .tc := ⟨.hbm, 60, rfl⟩
abbrev main_call2_v16 : Ref sig .tc := ⟨.hbm, 61, rfl⟩
abbrev main_v2 : Ref sig .tc := ⟨.hbm, 62, rfl⟩
abbrev main_call3_cst : Ref sig .tc := ⟨.hbm, 63, rfl⟩
abbrev main_call3_v0 : Ref sig .tc := ⟨.hbm, 64, rfl⟩
abbrev main_v3 : Ref sig .tc := ⟨.hbm, 65, rfl⟩
abbrev main_call4_v0 : Ref sig .tc := ⟨.hbm, 66, rfl⟩
abbrev main_call4_v1 : Ref sig .tc := ⟨.hbm, 67, rfl⟩
abbrev main_call4_cst : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_call4_v5 : Ref sig .tc := ⟨.hbm, 72, rfl⟩
abbrev main_call4_v6 : Ref sig .tc := ⟨.hbm, 73, rfl⟩
abbrev main_call4_v7 : Ref sig .tc := ⟨.hbm, 74, rfl⟩
abbrev main_call4_v8 : Ref sig .tc := ⟨.hbm, 75, rfl⟩
abbrev main_call4_v9 : Ref sig .tc := ⟨.hbm, 76, rfl⟩
abbrev main_call4_v10 : Ref sig .tc := ⟨.hbm, 77, rfl⟩
abbrev main_call4_v11 : Ref sig .tc := ⟨.hbm, 78, rfl⟩
abbrev main_call4_v12 : Ref sig .tc := ⟨.hbm, 79, rfl⟩
abbrev main_call4_v13 : Ref sig .tc := ⟨.hbm, 80, rfl⟩
abbrev main_call4_v14 : Ref sig .tc := ⟨.hbm, 81, rfl⟩
abbrev main_v4 : Ref sig .tc := ⟨.hbm, 82, rfl⟩
abbrev main_v5 : Ref sig .tc := ⟨.hbm, 83, rfl⟩
abbrev main_v6 : Ref sig .tc := ⟨.hbm, 84, rfl⟩
abbrev main_v7 : Ref sig .tc := ⟨.hbm, 85, rfl⟩
abbrev main_cst : Ref sig .tc := ⟨.hbm, 86, rfl⟩
abbrev main_v8 : Ref sig .tc := ⟨.hbm, 87, rfl⟩
abbrev main_v9 : Ref sig .tc := ⟨.hbm, 88, rfl⟩
abbrev main_v10 : Ref sig .tc := ⟨.hbm, 89, rfl⟩
abbrev main_cst_0 : Ref sig .tc := ⟨.hbm, 90, rfl⟩
abbrev main_v11 : Ref sig .tc := ⟨.hbm, 91, rfl⟩
abbrev main_v12 : Ref sig .tc := ⟨.hbm, 92, rfl⟩
abbrev main_v13 : Ref sig .tc := ⟨.hbm, 93, rfl⟩
abbrev main_v14 : Ref sig .tc := ⟨.hbm, 94, rfl⟩
abbrev main_v15 : Ref sig .tc := ⟨.hbm, 95, rfl⟩
abbrev main_cst_1 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_call5_v0 : Ref sig .tc := ⟨.hbm, 102, rfl⟩
abbrev main_call5_cst : Ref sig .tc := ⟨.hbm, 103, rfl⟩
abbrev main_call5_c : Ref sig .tc := ⟨.hbm, 104, rfl⟩
abbrev main_call5_v1_0 : Ref sig .tc := ⟨.hbm, 105, rfl⟩
abbrev main_v21 : Ref sig .tc := ⟨.hbm, 106, rfl⟩
abbrev main_c : Ref sig .tc := ⟨.hbm, 107, rfl⟩
abbrev main_v22 : Ref sig .tc := ⟨.hbm, 108, rfl⟩
abbrev main_v23 : Ref sig .tc := ⟨.hbm, 109, rfl⟩
abbrev main_c_2 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_cst_3 : Ref sig .tc := ⟨.hbm, 119, rfl⟩
abbrev main_v32 : Ref sig .tc := ⟨.hbm, 120, rfl⟩
abbrev main_cst_4 : Ref sig .tc := ⟨.hbm, 121, rfl⟩
abbrev main_v33 : Ref sig .tc := ⟨.hbm, 122, rfl⟩
abbrev main_v34 : Ref sig .tc := ⟨.hbm, 123, rfl⟩
abbrev main_v35 : Ref sig .tc := ⟨.hbm, 124, rfl⟩
abbrev main_v36 : Ref sig .tc := ⟨.hbm, 125, rfl⟩
abbrev main_call6_v0 : Ref sig .tc := ⟨.hbm, 126, rfl⟩
abbrev main_call6_v1 : Ref sig .tc := ⟨.hbm, 127, rfl⟩
abbrev main_call6_cst : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_call6_v5 : Ref sig .tc := ⟨.hbm, 132, rfl⟩
abbrev main_call6_v6 : Ref sig .tc := ⟨.hbm, 133, rfl⟩
abbrev main_call6_v7 : Ref sig .tc := ⟨.hbm, 134, rfl⟩
abbrev main_call6_v8 : Ref sig .tc := ⟨.hbm, 135, rfl⟩
abbrev main_call6_v9 : Ref sig .tc := ⟨.hbm, 136, rfl⟩
abbrev main_call6_v10 : Ref sig .tc := ⟨.hbm, 137, rfl⟩
abbrev main_call6_v11 : Ref sig .tc := ⟨.hbm, 138, rfl⟩
abbrev main_call6_v12 : Ref sig .tc := ⟨.hbm, 139, rfl⟩
abbrev main_call6_v13 : Ref sig .tc := ⟨.hbm, 140, rfl⟩
abbrev main_call6_v14 : Ref sig .tc := ⟨.hbm, 141, rfl⟩
abbrev main_v37 : Ref sig .tc := ⟨.hbm, 142, rfl⟩
abbrev main_call7_cst : Ref sig .tc := ⟨.hbm, 143, rfl⟩
abbrev main_call7_v0 : Ref sig .tc := ⟨.hbm, 144, rfl⟩
abbrev main_v38 : Ref sig .tc := ⟨.hbm, 145, rfl⟩
abbrev main_call8_v0 : Ref sig .tc := ⟨.hbm, 146, rfl⟩
abbrev main_call8_v1 : Ref sig .tc := ⟨.hbm, 147, rfl⟩
abbrev main_call8_cst : Ref sig .tc := ⟨.hbm, 148, rfl⟩
abbrev main_call8_v2 : Ref sig .tc := ⟨.hbm, 149, rfl⟩
abbrev main_call8_v3 : Ref sig .tc := ⟨.hbm, 150, rfl⟩
abbrev main_call8_v4 : Ref sig .tc := ⟨.hbm, 151, rfl⟩
abbrev main_call8_v5 : Ref sig .tc := ⟨.hbm, 152, rfl⟩
abbrev main_call8_v6 : Ref sig .tc := ⟨.hbm, 153, rfl⟩
abbrev main_call8_v7 : Ref sig .tc := ⟨.hbm, 154, rfl⟩
abbrev main_call8_v8 : Ref sig .tc := ⟨.hbm, 155, rfl⟩
abbrev main_call8_v9 : Ref sig .tc := ⟨.hbm, 156, rfl⟩
abbrev main_call8_v10 : Ref sig .tc := ⟨.hbm, 157, rfl⟩
abbrev main_call8_v11 : Ref sig .tc := ⟨.hbm, 158, rfl⟩
abbrev main_call8_v12 : Ref sig .tc := ⟨.hbm, 159, rfl⟩
abbrev main_call8_v13 : Ref sig .tc := ⟨.hbm, 160, rfl⟩
abbrev main_call8_v14 : Ref sig .tc := ⟨.hbm, 161, rfl⟩
abbrev main_v39 : Ref sig .tc := ⟨.hbm, 162, rfl⟩
abbrev main_call9_cst : Ref sig .tc := ⟨.hbm, 163, rfl⟩
abbrev main_call9_v0 : Ref sig .tc := ⟨.hbm, 164, rfl⟩
abbrev main_v40 : Ref sig .tc := ⟨.hbm, 165, rfl⟩
abbrev main_call10_v0 : Ref sig .tc := ⟨.hbm, 166, rfl⟩
abbrev main_call10_v1 : Ref sig .tc := ⟨.hbm, 167, rfl⟩
abbrev main_call10_cst : Ref sig .tc := ⟨.hbm, 168, rfl⟩
abbrev main_call10_v2 : Ref sig .tc := ⟨.hbm, 169, rfl⟩
abbrev main_call10_v3 : Ref sig .tc := ⟨.hbm, 170, rfl⟩
abbrev main_call10_v4 : Ref sig .tc := ⟨.hbm, 171, rfl⟩
abbrev main_call10_v5 : Ref sig .tc := ⟨.hbm, 172, rfl⟩
abbrev main_call10_v6 : Ref sig .tc := ⟨.hbm, 173, rfl⟩
abbrev main_call10_v7 : Ref sig .tc := ⟨.hbm, 174, rfl⟩
abbrev main_call10_v8 : Ref sig .tc := ⟨.hbm, 175, rfl⟩
abbrev main_v41 : Ref sig .tc := ⟨.hbm, 176, rfl⟩
abbrev main_v42 : Ref sig .tc := ⟨.hbm, 177, rfl⟩
abbrev main_call11_cst : Ref sig .tc := ⟨.hbm, 178, rfl⟩
abbrev main_call11_v0 : Ref sig .tc := ⟨.hbm, 179, rfl⟩
abbrev main_v43 : Ref sig .tc := ⟨.hbm, 180, rfl⟩
abbrev main_call12_v0 : Ref sig .tc := ⟨.hbm, 181, rfl⟩
abbrev main_call12_v1 : Ref sig .tc := ⟨.hbm, 182, rfl⟩
abbrev main_call12_cst : Ref sig .tc := ⟨.hbm, 183, rfl⟩
abbrev main_call12_v2 : Ref sig .tc := ⟨.hbm, 184, rfl⟩
abbrev main_call12_v3 : Ref sig .tc := ⟨.hbm, 185, rfl⟩
abbrev main_call12_v4 : Ref sig .tc := ⟨.hbm, 186, rfl⟩
abbrev main_call12_v5 : Ref sig .tc := ⟨.hbm, 187, rfl⟩
abbrev main_call12_v6 : Ref sig .tc := ⟨.hbm, 188, rfl⟩
abbrev main_call12_v7 : Ref sig .tc := ⟨.hbm, 189, rfl⟩
abbrev main_call12_v8 : Ref sig .tc := ⟨.hbm, 190, rfl⟩
abbrev main_call12_v9 : Ref sig .tc := ⟨.hbm, 191, rfl⟩
abbrev main_call12_v10 : Ref sig .tc := ⟨.hbm, 192, rfl⟩
abbrev main_call12_v11 : Ref sig .tc := ⟨.hbm, 193, rfl⟩
abbrev main_call12_v12 : Ref sig .tc := ⟨.hbm, 194, rfl⟩
abbrev main_call12_v13 : Ref sig .tc := ⟨.hbm, 195, rfl⟩
abbrev main_call12_v14 : Ref sig .tc := ⟨.hbm, 196, rfl⟩
abbrev main_v44 : Ref sig .tc := ⟨.hbm, 197, rfl⟩
abbrev main_call13_cst : Ref sig .tc := ⟨.hbm, 198, rfl⟩
abbrev main_call13_v0 : Ref sig .tc := ⟨.hbm, 199, rfl⟩
abbrev main_v45 : Ref sig .tc := ⟨.hbm, 200, rfl⟩
abbrev main_call14_v0 : Ref sig .tc := ⟨.hbm, 201, rfl⟩
abbrev main_call14_v1 : Ref sig .tc := ⟨.hbm, 202, rfl⟩
abbrev main_call14_cst : Ref sig .tc := ⟨.hbm, 203, rfl⟩
abbrev main_call14_v2 : Ref sig .tc := ⟨.hbm, 204, rfl⟩
abbrev main_call14_v3 : Ref sig .tc := ⟨.hbm, 205, rfl⟩
abbrev main_call14_v4 : Ref sig .tc := ⟨.hbm, 206, rfl⟩
abbrev main_call14_v5 : Ref sig .tc := ⟨.hbm, 207, rfl⟩
abbrev main_call14_v6 : Ref sig .tc := ⟨.hbm, 208, rfl⟩
abbrev main_call14_v7 : Ref sig .tc := ⟨.hbm, 209, rfl⟩
abbrev main_call14_v8 : Ref sig .tc := ⟨.hbm, 210, rfl⟩
abbrev main_v46 : Ref sig .tc := ⟨.hbm, 211, rfl⟩
abbrev main_v47 : Ref sig .tc := ⟨.hbm, 212, rfl⟩
abbrev main_v48 : Ref sig .tc := ⟨.hbm, 213, rfl⟩
abbrev main_v49 : Ref sig .tc := ⟨.hbm, 214, rfl⟩
abbrev main_call16_v0 : Ref sig .tc := ⟨.hbm, 215, rfl⟩
abbrev main_call16_v1 : Ref sig .tc := ⟨.hbm, 216, rfl⟩
abbrev main_call16_cst : Ref sig .tc := ⟨.hbm, 217, rfl⟩
abbrev main_call16_v2 : Ref sig .tc := ⟨.hbm, 218, rfl⟩
abbrev main_call16_v3 : Ref sig .tc := ⟨.hbm, 219, rfl⟩
abbrev main_call16_v4 : Ref sig .tc := ⟨.hbm, 220, rfl⟩
abbrev main_call16_v5 : Ref sig .tc := ⟨.hbm, 221, rfl⟩
abbrev main_call16_v6 : Ref sig .tc := ⟨.hbm, 222, rfl⟩
abbrev main_call16_v7 : Ref sig .tc := ⟨.hbm, 223, rfl⟩
abbrev main_call16_v8 : Ref sig .tc := ⟨.hbm, 224, rfl⟩
abbrev main_call16_v9 : Ref sig .tc := ⟨.hbm, 225, rfl⟩
abbrev main_call16_v10 : Ref sig .tc := ⟨.hbm, 226, rfl⟩
abbrev main_call16_v11 : Ref sig .tc := ⟨.hbm, 227, rfl⟩
abbrev main_call16_v12 : Ref sig .tc := ⟨.hbm, 228, rfl⟩
abbrev main_call16_v13 : Ref sig .tc := ⟨.hbm, 229, rfl⟩
abbrev main_call16_v14 : Ref sig .tc := ⟨.hbm, 230, rfl⟩
abbrev main_call16_v15 : Ref sig .tc := ⟨.hbm, 231, rfl⟩
abbrev main_call16_v16 : Ref sig .tc := ⟨.hbm, 232, rfl⟩
abbrev main_v50 : Ref sig .tc := ⟨.hbm, 233, rfl⟩
abbrev main_call17_cst : Ref sig .tc := ⟨.hbm, 234, rfl⟩
abbrev main_call17_v0 : Ref sig .tc := ⟨.hbm, 235, rfl⟩
abbrev main_v51 : Ref sig .tc := ⟨.hbm, 236, rfl⟩
abbrev main_v52 : Ref sig .tc := ⟨.hbm, 237, rfl⟩
abbrev main_v53 : Ref sig .tc := ⟨.hbm, 238, rfl⟩
abbrev main_call19_v0 : Ref sig .tc := ⟨.hbm, 239, rfl⟩
abbrev main_call19_v1 : Ref sig .tc := ⟨.hbm, 240, rfl⟩
abbrev main_call19_cst : Ref sig .tc := ⟨.hbm, 241, rfl⟩
abbrev main_call19_v2 : Ref sig .tc := ⟨.hbm, 242, rfl⟩
abbrev main_call19_v3 : Ref sig .tc := ⟨.hbm, 243, rfl⟩
abbrev main_call19_v4 : Ref sig .tc := ⟨.hbm, 244, rfl⟩
abbrev main_call19_v5 : Ref sig .tc := ⟨.hbm, 245, rfl⟩
abbrev main_call19_v6 : Ref sig .tc := ⟨.hbm, 246, rfl⟩
abbrev main_call19_v7 : Ref sig .tc := ⟨.hbm, 247, rfl⟩
abbrev main_call19_v8 : Ref sig .tc := ⟨.hbm, 248, rfl⟩
abbrev main_call19_v9 : Ref sig .tc := ⟨.hbm, 249, rfl⟩
abbrev main_call19_v10 : Ref sig .tc := ⟨.hbm, 250, rfl⟩
abbrev main_call19_v11 : Ref sig .tc := ⟨.hbm, 251, rfl⟩
abbrev main_call19_v12 : Ref sig .tc := ⟨.hbm, 252, rfl⟩
abbrev main_call19_v13 : Ref sig .tc := ⟨.hbm, 253, rfl⟩
abbrev main_call19_v14 : Ref sig .tc := ⟨.hbm, 254, rfl⟩
abbrev main_call19_v15 : Ref sig .tc := ⟨.hbm, 255, rfl⟩
abbrev main_call19_v16 : Ref sig .tc := ⟨.hbm, 256, rfl⟩
abbrev main_v54 : Ref sig .tc := ⟨.hbm, 257, rfl⟩
abbrev main_v55 : Ref sig .tc := ⟨.hbm, 258, rfl⟩
abbrev main_v56 : Ref sig .tc := ⟨.hbm, 259, rfl⟩
abbrev main_cst_5 : Ref sig .tc := ⟨.hbm, 260, rfl⟩
abbrev main_v57 : Ref sig .tc := ⟨.hbm, 261, rfl⟩
abbrev main_v58 : Ref sig .tc := ⟨.hbm, 262, rfl⟩
abbrev main_cst_6 : Ref sig .tc := ⟨.hbm, 263, rfl⟩
abbrev main_v59 : Ref sig .tc := ⟨.hbm, 264, rfl⟩
abbrev main_v60 : Ref sig .tc := ⟨.hbm, 265, rfl⟩
abbrev main_v61 : Ref sig .tc := ⟨.hbm, 266, rfl⟩

abbrev nD : Nat := 1
abbrev τ : Topo := Topo.v7x

variable {F : FTy → Type} [FloatOps F]
-- ==== Proof.RefOps.lean ====
module

public import proofs.«01_k».proof.Proof.Gen.ReferenceIdeal
public import Idealize.ShloMosaic.Lib.StableHlo.Run

@[expose] public section

set_option maxRecDepth 16384

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-! Operands put side by side along one axis, as functions of the operands and as host operations. -/

/-- Three operands put side by side along one axis. -/
def cat3 {s : Shape} (t : Shape) (d : Fin t.rank) (h : Shape.Concatenates [s, s, s] t d) (x y z : Vec F s .f32) : Vec F t .f32 :=
  concatenate t d [⟨s, x⟩, ⟨s, y⟩, ⟨s, z⟩] h

/-- Four operands put side by side along one axis. -/
def cat4 {s : Shape} (t : Shape) (d : Fin t.rank) (h : Shape.Concatenates [s, s, s, s] t d) (x y z w : Vec F s .f32) : Vec F t .f32 :=
  concatenate t d [⟨s, x⟩, ⟨s, y⟩, ⟨s, z⟩, ⟨s, w⟩] h

/-- The host operation putting three operands side by side. -/
def catOp3 {s : Shape} (t : Shape) (d : Fin t.rank) (h : Shape.Concatenates [s, s, s] t d) (a b c : TRef sig ⟨s, .f32⟩) (y : TRef sig ⟨t, .f32⟩) :
    HloOp τ sig (Elt F) :=
  TRef.nary ![a, b, c] y (fun u => concatenate t d
    [⟨s, (u 0 : (⟨s, .f32⟩ : BufTy).Contents (Elt F))⟩, ⟨s, (u 1 : (⟨s, .f32⟩ : BufTy).Contents (Elt F))⟩,
      ⟨s, (u 2 : (⟨s, .f32⟩ : BufTy).Contents (Elt F))⟩] h)

/-- The host operation putting four operands side by side. -/
def catOp4 {s : Shape} (t : Shape) (d : Fin t.rank) (h : Shape.Concatenates [s, s, s, s] t d) (a b c e : TRef sig ⟨s, .f32⟩) (y : TRef sig ⟨t, .f32⟩) :
    HloOp τ sig (Elt F) :=
  TRef.nary ![a, b, c, e] y (fun u => concatenate t d
    [⟨s, (u 0 : (⟨s, .f32⟩ : BufTy).Contents (Elt F))⟩, ⟨s, (u 1 : (⟨s, .f32⟩ : BufTy).Contents (Elt F))⟩,
      ⟨s, (u 2 : (⟨s, .f32⟩ : BufTy).Contents (Elt F))⟩, ⟨s, (u 3 : (⟨s, .f32⟩ : BufTy).Contents (Elt F))⟩] h)

theorem catOp3_result {s t : Shape} (d : Fin t.rank) (h : Shape.Concatenates [s, s, s] t d) (a b c : TRef sig ⟨s, .f32⟩) (y : TRef sig ⟨t, .f32⟩)
    (V : Valuation τ sig (Elt F)) :
    (catOp3 t d h a b c y).result V (no_index (Proc.devRef .tc y.ref))
      = y.toBuf (cat3 t d h (a.ofBuf (V (Proc.devRef .tc a.ref))) (b.ofBuf (V (Proc.devRef .tc b.ref))) (c.ofBuf (V (Proc.devRef .tc c.ref)))) :=
  nary_result _ _ _ _ _ _

theorem catOp4_result {s t : Shape} (d : Fin t.rank) (h : Shape.Concatenates [s, s, s, s] t d) (a b c e : TRef sig ⟨s, .f32⟩) (y : TRef sig ⟨t, .f32⟩)
    (V : Valuation τ sig (Elt F)) :
    (catOp4 t d h a b c e y).result V (no_index (Proc.devRef .tc y.ref))
      = y.toBuf (cat4 t d h (a.ofBuf (V (Proc.devRef .tc a.ref))) (b.ofBuf (V (Proc.devRef .tc b.ref))) (c.ofBuf (V (Proc.devRef .tc c.ref)))
          (e.ofBuf (V (Proc.devRef .tc e.ref)))) :=
  nary_result _ _ _ _ _ _

theorem reshapeT_result {Tx Ty : BufTy} (x : TRef sig Tx) (y : TRef sig Ty) (he : Tx.elt = Ty.elt) (hn : Tx.shape.ShapeCasts Ty.shape)
    (V : Valuation τ sig (Elt F)) :
    (TRef.reshape (Val := Elt F) x y he hn).result V (Proc.devRef .tc y.ref)
      = y.toBuf (fun i => he ▸ shapeCast Ty.shape (x.ofBuf (V (Proc.devRef .tc x.ref))) hn i) := by
  obtain ⟨x, hx, dx, ux⟩ := x
  obtain ⟨y, hy, dy, uy⟩ := y
  subst hx hy
  exact reshape_result' _ _ _ _ _

/-- The host operation giving a value another shape. -/
def castOp {s t : Shape} (h : s.ShapeCasts t) (a : TRef sig ⟨s, .f32⟩) (y : TRef sig ⟨t, .f32⟩) : HloOp τ sig (Elt F) :=
  TRef.reshape a y rfl h

theorem castOp_result {s t : Shape} (h : s.ShapeCasts t) (a : TRef sig ⟨s, .f32⟩) (y : TRef sig ⟨t, .f32⟩) (V : Valuation τ sig (Elt F)) :
    (castOp h a y).result V (no_index (Proc.devRef .tc y.ref)) = y.toBuf (shapeCast t (a.ofBuf (V (Proc.devRef .tc a.ref))) h) :=
  (reshapeT_result a y rfl h V).trans rfl

theorem castOp_bufs_sub {s t : Shape} (h : s.ShapeCasts t) (a : TRef sig ⟨s, .f32⟩) (y : TRef sig ⟨t, .f32⟩) :
    (castOp (F := F) h a y).bufs ⊆ tcRefs τ sig :=
  reshape_bufs_sub _ _ _ _ a.dev y.dev

/-! # The reference as lists of host operations

Each function of the printed reference is the straight line of its operations. -/

/-- The operations of one call of `fn_conv`. -/
def fn_conv.ops (arg0 : TRef sig ⟨S16x3x128x128, .f32⟩) (arg1 : TRef sig ⟨S128x3x4x4, .f32⟩) (arg2 : TRef sig ⟨S128, .f32⟩) (φ : fn_conv.Bufs) : List (HloOp τ sig (Elt F)) :=
  [ TRef.unary arg2 φ.v0 (broadcastInDim S16x128x4096 ![1] bcast_S128_S16x128x4096_1),
    TRef.unary arg0 φ.v1 (broadcastInDim S16x3x1x128x128 ![0, 1, 3, 4] bcast_S16x3x128x128_S16x3x1x128x128_0_1_3_4),
    TRef.nullary φ.cst (constant S_ .f32 0x00000000#32),
    TRef.binary φ.v1 φ.cst φ.v2 (fun x v => pad S16x3x1x130x130 ![0, 0, 0, 1, 1] ![0, 0, 0, 1, 1] ![0, 0, 0, 0, 0] x v pads_S16x3x1x128x128_S16x3x1x130x130_000_000_000_110_110 h_S_),
    TRef.unary φ.v2 φ.v3 (Host.slice S16x3x1x130x64 ![0, 0, 0, 0, 0] ![1, 1, 1, 1, 2] · slicesBy_S16x3x1x130x130_S16x3x1x130x64_0s1_0s1_0s1_0s1_0s2),
    TRef.unary φ.v2 φ.v4 (Host.slice S16x3x1x130x64 ![0, 0, 0, 0, 1] ![1, 1, 1, 1, 2] · slicesBy_S16x3x1x130x130_S16x3x1x130x64_0s1_0s1_0s1_0s1_1s2),
    TRef.unary φ.v2 φ.v5 (Host.slice S16x3x1x130x64 ![0, 0, 0, 0, 2] ![1, 1, 1, 1, 2] · slicesBy_S16x3x1x130x130_S16x3x1x130x64_0s1_0s1_0s1_0s1_2s2),
    TRef.unary φ.v2 φ.v6 (Host.slice S16x3x1x130x64 ![0, 0, 0, 0, 3] ![1, 1, 1, 1, 2] · slicesBy_S16x3x1x130x130_S16x3x1x130x64_0s1_0s1_0s1_0s1_3s2),
    catOp4 S16x3x4x130x64 2 concatenates_S16x3x1x130x64_S16x3x1x130x64_S16x3x1x130x64_S16x3x1x130x64_S16x3x4x130x64_d2 φ.v3 φ.v4 φ.v5 φ.v6 φ.v7,
    TRef.unary φ.v7 φ.v8 (Host.slice S16x3x4x64x64 ![0, 0, 0, 0, 0] ![1, 1, 1, 2, 1] · slicesBy_S16x3x4x130x64_S16x3x4x64x64_0s1_0s1_0s1_0s2_0s1),
    TRef.unary φ.v7 φ.v9 (Host.slice S16x3x4x64x64 ![0, 0, 0, 1, 0] ![1, 1, 1, 2, 1] · slicesBy_S16x3x4x130x64_S16x3x4x64x64_0s1_0s1_0s1_1s2_0s1),
    TRef.unary φ.v7 φ.v10 (Host.slice S16x3x4x64x64 ![0, 0, 0, 2, 0] ![1, 1, 1, 2, 1] · slicesBy_S16x3x4x130x64_S16x3x4x64x64_0s1_0s1_0s1_2s2_0s1),
    TRef.unary φ.v7 φ.v11 (Host.slice S16x3x4x64x64 ![0, 0, 0, 3, 0] ![1, 1, 1, 2, 1] · slicesBy_S16x3x4x130x64_S16x3x4x64x64_0s1_0s1_0s1_3s2_0s1),
    catOp4 S16x3x16x64x64 2 concatenates_S16x3x4x64x64_S16x3x4x64x64_S16x3x4x64x64_S16x3x4x64x64_S16x3x16x64x64_d2 φ.v8 φ.v9 φ.v10 φ.v11 φ.v12,
    castOp shapeCasts_S16x3x16x64x64_S16x3x4x4x4096 φ.v12 φ.v13,
    TRef.binary arg1 φ.v13 φ.v14 (fun l r => Host.dotGeneral dot_S128x3x4x4_S16x3x4x4x4096_S128x16x4096_123_123_0_04_n_n none l r),
    TRef.unary φ.v14 φ.v15 (transpose S16x128x4096 [1, 0, 2] · transposes_S128x16x4096_S16x128x4096_1_0_2),
    TRef.binary φ.v15 φ.v0 φ.v16 addf,
    castOp shapeCasts_S16x128x4096_S16x128x64x64 φ.v16 φ.v17 ]

theorem fn_conv.body_eq (arg0 : TRef sig ⟨S16x3x128x128, .f32⟩) (arg1 : TRef sig ⟨S128x3x4x4, .f32⟩) (arg2 : TRef sig ⟨S128, .f32⟩) (φ : fn_conv.Bufs) : fn_conv.body (F := F) arg0 arg1 arg2 φ = seq (fn_conv.ops arg0 arg1 arg2 φ) := rfl

/-- The operations of one call of `fn_relu`. -/
def fn_relu.ops (arg0 : TRef sig ⟨S16x128x64x64, .f32⟩) (φ : fn_relu.Bufs) : List (HloOp τ sig (Elt F)) :=
  [ TRef.nullary φ.cst (constant S_ .f32 0x00000000#32),
    TRef.unary φ.cst φ.v0 (broadcastInDim S16x128x64x64 ![] bcast_S_S16x128x64x64),
    TRef.binary arg0 φ.v0 φ.v1 maximumf ]

theorem fn_relu.body_eq (arg0 : TRef sig ⟨S16x128x64x64, .f32⟩) (φ : fn_relu.Bufs) : fn_relu.body (F := F) arg0 φ = seq (fn_relu.ops arg0 φ) := rfl

/-- The operations of one call of `fn_conv_0`. -/
def fn_conv_0.ops (arg0 : TRef sig ⟨S16x128x64x64, .f32⟩) (arg1 : TRef sig ⟨S256x128x4x4, .f32⟩) (arg2 : TRef sig ⟨S256, .f32⟩) (φ : fn_conv_0.Bufs) : List (HloOp τ sig (Elt F)) :=
  [ TRef.unary arg2 φ.v0 (broadcastInDim S16x256x1024 ![1] bcast_S256_S16x256x1024_1),
    TRef.unary arg0 φ.v1 (broadcastInDim S16x128x1x64x64 ![0, 1, 3, 4] bcast_S16x128x64x64_S16x128x1x64x64_0_1_3_4),
    TRef.nullary φ.cst (constant S_ .f32 0x00000000#32),
    TRef.binary φ.v1 φ.cst φ.v2 (fun x v => pad S16x128x1x66x66 ![0, 0, 0, 1, 1] ![0, 0, 0, 1, 1] ![0, 0, 0, 0, 0] x v pads_S16x128x1x64x64_S16x128x1x66x66_000_000_000_110_110 h_S_),
    TRef.unary φ.v2 φ.v3 (Host.slice S16x128x1x66x32 ![0, 0, 0, 0, 0] ![1, 1, 1, 1, 2] · slicesBy_S16x128x1x66x66_S16x128x1x66x32_0s1_0s1_0s1_0s1_0s2),
    TRef.unary φ.v2 φ.v4 (Host.slice S16x128x1x66x32 ![0, 0, 0, 0, 1] ![1, 1, 1, 1, 2] · slicesBy_S16x128x1x66x66_S16x128x1x66x32_0s1_0s1_0s1_0s1_1s2),
    TRef.unary φ.v2 φ.v5 (Host.slice S16x128x1x66x32 ![0, 0, 0, 0, 2] ![1, 1, 1, 1, 2] · slicesBy_S16x128x1x66x66_S16x128x1x66x32_0s1_0s1_0s1_0s1_2s2),
    TRef.unary φ.v2 φ.v6 (Host.slice S16x128x1x66x32 ![0, 0, 0, 0, 3] ![1, 1, 1, 1, 2] · slicesBy_S16x128x1x66x66_S16x128x1x66x32_0s1_0s1_0s1_0s1_3s2),
    catOp4 S16x128x4x66x32 2 concatenates_S16x128x1x66x32_S16x128x1x66x32_S16x128x1x66x32_S16x128x1x66x32_S16x128x4x66x32_d2 φ.v3 φ.v4 φ.v5 φ.v6 φ.v7,
    TRef.unary φ.v7 φ.v8 (Host.slice S16x128x4x32x32 ![0, 0, 0, 0, 0] ![1, 1, 1, 2, 1] · slicesBy_S16x128x4x66x32_S16x128x4x32x32_0s1_0s1_0s1_0s2_0s1),
    TRef.unary φ.v7 φ.v9 (Host.slice S16x128x4x32x32 ![0, 0, 0, 1, 0] ![1, 1, 1, 2, 1] · slicesBy_S16x128x4x66x32_S16x128x4x32x32_0s1_0s1_0s1_1s2_0s1),
    TRef.unary φ.v7 φ.v10 (Host.slice S16x128x4x32x32 ![0, 0, 0, 2, 0] ![1, 1, 1, 2, 1] · slicesBy_S16x128x4x66x32_S16x128x4x32x32_0s1_0s1_0s1_2s2_0s1),
    TRef.unary φ.v7 φ.v11 (Host.slice S16x128x4x32x32 ![0, 0, 0, 3, 0] ![1, 1, 1, 2, 1] · slicesBy_S16x128x4x66x32_S16x128x4x32x32_0s1_0s1_0s1_3s2_0s1),
    catOp4 S16x128x16x32x32 2 concatenates_S16x128x4x32x32_S16x128x4x32x32_S16x128x4x32x32_S16x128x4x32x32_S16x128x16x32x32_d2 φ.v8 φ.v9 φ.v10 φ.v11 φ.v12,
    castOp shapeCasts_S16x128x16x32x32_S16x128x4x4x1024 φ.v12 φ.v13,
    TRef.binary arg1 φ.v13 φ.v14 (fun l r => Host.dotGeneral dot_S256x128x4x4_S16x128x4x4x1024_S256x16x1024_123_123_0_04_n_n none l r),
    TRef.unary φ.v14 φ.v15 (transpose S16x256x1024 [1, 0, 2] · transposes_S256x16x1024_S16x256x1024_1_0_2),
    TRef.binary φ.v15 φ.v0 φ.v16 addf,
    castOp shapeCasts_S16x256x1024_S16x256x32x32 φ.v16 φ.v17 ]

theorem fn_conv_0.body_eq (arg0 : TRef sig ⟨S16x128x64x64, .f32⟩) (arg1 : TRef sig ⟨S256x128x4x4, .f32⟩) (arg2 : TRef sig ⟨S256, .f32⟩) (φ : fn_conv_0.Bufs) : fn_conv_0.body (F := F) arg0 arg1 arg2 φ = seq (fn_conv_0.ops arg0 arg1 arg2 φ) := rfl

/-- The operations of one call of `fn_relu_1`. -/
def fn_relu_1.ops (arg0 : TRef sig ⟨S16x256x32x32, .f32⟩) (φ : fn_relu_1.Bufs) : List (HloOp τ sig (Elt F)) :=
  [ TRef.nullary φ.cst (constant S_ .f32 0x00000000#32),
    TRef.unary φ.cst φ.v0 (broadcastInDim S16x256x32x32 ![] bcast_S_S16x256x32x32),
    TRef.binary arg0 φ.v0 φ.v1 maximumf ]

theorem fn_relu_1.body_eq (arg0 : TRef sig ⟨S16x256x32x32, .f32⟩) (φ : fn_relu_1.Bufs) : fn_relu_1.body (F := F) arg0 φ = seq (fn_relu_1.ops arg0 φ) := rfl

/-- The operations of one call of `fn_conv_2`. -/
def fn_conv_2.ops (arg0 : TRef sig ⟨S16x256x32x32, .f32⟩) (arg1 : TRef sig ⟨S256x256x3x3, .f32⟩) (arg2 : TRef sig ⟨S256, .f32⟩) (φ : fn_conv_2.Bufs) : List (HloOp τ sig (Elt F)) :=
  [ TRef.unary arg2 φ.v0 (broadcastInDim S16x256x1024 ![1] bcast_S256_S16x256x1024_1),
    TRef.unary arg0 φ.v1 (broadcastInDim S16x256x1x32x32 ![0, 1, 3, 4] bcast_S16x256x32x32_S16x256x1x32x32_0_1_3_4),
    TRef.nullary φ.cst (constant S_ .f32 0x00000000#32),
    TRef.binary φ.v1 φ.cst φ.v2 (fun x v => pad S16x256x1x34x34 ![0, 0, 0, 1, 1] ![0, 0, 0, 1, 1] ![0, 0, 0, 0, 0] x v pads_S16x256x1x32x32_S16x256x1x34x34_000_000_000_110_110 h_S_),
    TRef.unary φ.v2 φ.v3 (extractStridedSlice S16x256x1x34x32 ![0, 0, 0, 0, 0] · slices_S16x256x1x34x34_S16x256x1x34x32_0_0_0_0_0),
    TRef.unary φ.v2 φ.v4 (extractStridedSlice S16x256x1x34x32 ![0, 0, 0, 0, 1] · slices_S16x256x1x34x34_S16x256x1x34x32_0_0_0_0_1),
    TRef.unary φ.v2 φ.v5 (extractStridedSlice S16x256x1x34x32 ![0, 0, 0, 0, 2] · slices_S16x256x1x34x34_S16x256x1x34x32_0_0_0_0_2),
    catOp3 S16x256x3x34x32 2 concatenates_S16x256x1x34x32_S16x256x1x34x32_S16x256x1x34x32_S16x256x3x34x32_d2 φ.v3 φ.v4 φ.v5 φ.v6,
    TRef.unary φ.v6 φ.v7 (extractStridedSlice S16x256x3x32x32 ![0, 0, 0, 0, 0] · slices_S16x256x3x34x32_S16x256x3x32x32_0_0_0_0_0),
    TRef.unary φ.v6 φ.v8 (extractStridedSlice S16x256x3x32x32 ![0, 0, 0, 1, 0] · slices_S16x256x3x34x32_S16x256x3x32x32_0_0_0_1_0),
    TRef.unary φ.v6 φ.v9 (extractStridedSlice S16x256x3x32x32 ![0, 0, 0, 2, 0] · slices_S16x256x3x34x32_S16x256x3x32x32_0_0_0_2_0),
    catOp3 S16x256x9x32x32 2 concatenates_S16x256x3x32x32_S16x256x3x32x32_S16x256x3x32x32_S16x256x9x32x32_d2 φ.v7 φ.v8 φ.v9 φ.v10,
    castOp shapeCasts_S16x256x9x32x32_S16x256x3x3x1024 φ.v10 φ.v11,
    TRef.binary arg1 φ.v11 φ.v12 (fun l r => Host.dotGeneral dot_S256x256x3x3_S16x256x3x3x1024_S256x16x1024_123_123_0_04_n_n none l r),
    TRef.unary φ.v12 φ.v13 (transpose S16x256x1024 [1, 0, 2] · transposes_S256x16x1024_S16x256x1024_1_0_2),
    TRef.binary φ.v13 φ.v0 φ.v14 addf,
    castOp shapeCasts_S16x256x1024_S16x256x32x32 φ.v14 φ.v15 ]

theorem fn_conv_2.body_eq (arg0 : TRef sig ⟨S16x256x32x32, .f32⟩) (arg1 : TRef sig ⟨S256x256x3x3, .f32⟩) (arg2 : TRef sig ⟨S256, .f32⟩) (φ : fn_conv_2.Bufs) : fn_conv_2.body (F := F) arg0 arg1 arg2 φ = seq (fn_conv_2.ops arg0 arg1 arg2 φ) := rfl

/-- The operations of one call of `fn_argmin`. -/
def fn_argmin.ops (arg0 : TRef sig ⟨S16384x512, .f32⟩) (φ : fn_argmin.Bufs) : List (HloOp τ sig (Elt F)) :=
  [ TRef.nullary φ.v0 (iotaInDim S16384x512 32 1),
    TRef.nullary φ.cst (constant S_ .f32 0x7F800000#32),
    TRef.nullary φ.c (constantI S_ 32 0#32),
    TRef.quaternary arg0 φ.v0 φ.cst φ.c φ.v1_0 (fun x y u v j => (Host.argReduce reducer_argmin_f32_i32 x y u v reducesTo_S16384x512_S16384_d1 h_S_ j).1),
    TRef.quaternary arg0 φ.v0 φ.cst φ.c φ.v1_1 (fun x y u v j => (Host.argReduce reducer_argmin_f32_i32 x y u v reducesTo_S16384x512_S16384_d1 h_S_ j).2) ]

theorem fn_argmin.body_eq (arg0 : TRef sig ⟨S16384x512, .f32⟩) (φ : fn_argmin.Bufs) : fn_argmin.body (F := F) arg0 φ = seq (fn_argmin.ops arg0 φ) := rfl

/-- The operations of one call of `fn_conv_3`. -/
def fn_conv_3.ops (arg0 : TRef sig ⟨S16x256x32x32, .f32⟩) (arg1 : TRef sig ⟨S256x256x1x1, .f32⟩) (arg2 : TRef sig ⟨S256, .f32⟩) (φ : fn_conv_3.Bufs) : List (HloOp τ sig (Elt F)) :=
  [ TRef.unary arg2 φ.v0 (broadcastInDim S16x256x1024 ![1] bcast_S256_S16x256x1024_1),
    TRef.unary arg0 φ.v1 (broadcastInDim S16x256x1x32x32 ![0, 1, 3, 4] bcast_S16x256x32x32_S16x256x1x32x32_0_1_3_4),
    TRef.nullary φ.cst (constant S_ .f32 0x00000000#32),
    TRef.binary φ.v1 φ.cst φ.v2 (fun x v => pad S16x256x1x32x32 ![0, 0, 0, 0, 0] ![0, 0, 0, 0, 0] ![0, 0, 0, 0, 0] x v pads_S16x256x1x32x32_S16x256x1x32x32_000_000_000_000_000 h_S_),
    TRef.unary φ.v2 φ.v3 (extractStridedSlice S16x256x1x32x32 ![0, 0, 0, 0, 0] · slices_S16x256x1x32x32_S16x256x1x32x32_0_0_0_0_0),
    TRef.unary φ.v3 φ.v4 (extractStridedSlice S16x256x1x32x32 ![0, 0, 0, 0, 0] · slices_S16x256x1x32x32_S16x256x1x32x32_0_0_0_0_0),
    castOp shapeCasts_S16x256x1x32x32_S16x256x1x1x1024 φ.v4 φ.v5,
    TRef.binary arg1 φ.v5 φ.v6 (fun l r => Host.dotGeneral dot_S256x256x1x1_S16x256x1x1x1024_S256x16x1024_123_123_0_04_n_n none l r),
    TRef.unary φ.v6 φ.v7 (transpose S16x256x1024 [1, 0, 2] · transposes_S256x16x1024_S16x256x1024_1_0_2),
    TRef.binary φ.v7 φ.v0 φ.v8 addf,
    castOp shapeCasts_S16x256x1024_S16x256x32x32 φ.v8 φ.v9 ]

theorem fn_conv_3.body_eq (arg0 : TRef sig ⟨S16x256x32x32, .f32⟩) (arg1 : TRef sig ⟨S256x256x1x1, .f32⟩) (arg2 : TRef sig ⟨S256, .f32⟩) (φ : fn_conv_3.Bufs) : fn_conv_3.body (F := F) arg0 arg1 arg2 φ = seq (fn_conv_3.ops arg0 arg1 arg2 φ) := rfl

/-- The operations of one call of `fn_flip`. -/
def fn_flip.ops (arg0 : TRef sig ⟨S256x256x4x4, .f32⟩) (φ : fn_flip.Bufs) : List (HloOp τ sig (Elt F)) :=
  [ TRef.unary arg0 φ.v0 (Host.reverse [2, 3]) ]

theorem fn_flip.body_eq (arg0 : TRef sig ⟨S256x256x4x4, .f32⟩) (φ : fn_flip.Bufs) : fn_flip.body (F := F) arg0 φ = seq (fn_flip.ops arg0 φ) := rfl

/-- The operations of one call of `fn_conv_4`. -/
def fn_conv_4.ops (arg0 : TRef sig ⟨S16x256x32x32, .f32⟩) (arg1 : TRef sig ⟨S256x256x4x4, .f32⟩) (arg2 : TRef sig ⟨S256, .f32⟩) (φ : fn_conv_4.Bufs) : List (HloOp τ sig (Elt F)) :=
  [ TRef.unary arg2 φ.v0 (broadcastInDim S16x256x4096 ![1] bcast_S256_S16x256x4096_1),
    TRef.unary arg0 φ.v1 (broadcastInDim S16x256x1x32x32 ![0, 1, 3, 4] bcast_S16x256x32x32_S16x256x1x32x32_0_1_3_4),
    TRef.nullary φ.cst (constant S_ .f32 0x00000000#32),
    TRef.binary φ.v1 φ.cst φ.v2 (fun x v => pad S16x256x1x67x67 ![0, 0, 0, 2, 2] ![0, 0, 0, 2, 2] ![0, 0, 0, 1, 1] x v pads_S16x256x1x32x32_S16x256x1x67x67_000_000_000_221_221 h_S_),
    TRef.unary φ.v2 φ.v3 (extractStridedSlice S16x256x1x67x64 ![0, 0, 0, 0, 0] · slices_S16x256x1x67x67_S16x256x1x67x64_0_0_0_0_0),
    TRef.unary φ.v2 φ.v4 (extractStridedSlice S16x256x1x67x64 ![0, 0, 0, 0, 1] · slices_S16x256x1x67x67_S16x256x1x67x64_0_0_0_0_1),
    TRef.unary φ.v2 φ.v5 (extractStridedSlice S16x256x1x67x64 ![0, 0, 0, 0, 2] · slices_S16x256x1x67x67_S16x256x1x67x64_0_0_0_0_2),
    TRef.unary φ.v2 φ.v6 (extractStridedSlice S16x256x1x67x64 ![0, 0, 0, 0, 3] · slices_S16x256x1x67x67_S16x256x1x67x64_0_0_0_0_3),
    catOp4 S16x256x4x67x64 2 concatenates_S16x256x1x67x64_S16x256x1x67x64_S16x256x1x67x64_S16x256x1x67x64_S16x256x4x67x64_d2 φ.v3 φ.v4 φ.v5 φ.v6 φ.v7,
    TRef.unary φ.v7 φ.v8 (extractStridedSlice S16x256x4x64x64 ![0, 0, 0, 0, 0] · slices_S16x256x4x67x64_S16x256x4x64x64_0_0_0_0_0),
    TRef.unary φ.v7 φ.v9 (extractStridedSlice S16x256x4x64x64 ![0, 0, 0, 1, 0] · slices_S16x256x4x67x64_S16x256x4x64x64_0_0_0_1_0),
    TRef.unary φ.v7 φ.v10 (extractStridedSlice S16x256x4x64x64 ![0, 0, 0, 2, 0] · slices_S16x256x4x67x64_S16x256x4x64x64_0_0_0_2_0),
    TRef.unary φ.v7 φ.v11 (extractStridedSlice S16x256x4x64x64 ![0, 0, 0, 3, 0] · slices_S16x256x4x67x64_S16x256x4x64x64_0_0_0_3_0),
    catOp4 S16x256x16x64x64 2 concatenates_S16x256x4x64x64_S16x256x4x64x64_S16x256x4x64x64_S16x256x4x64x64_S16x256x16x64x64_d2 φ.v8 φ.v9 φ.v10 φ.v11 φ.v12,
    castOp shapeCasts_S16x256x16x64x64_S16x256x4x4x4096 φ.v12 φ.v13,
    TRef.binary arg1 φ.v13 φ.v14 (fun l r => Host.dotGeneral dot_S256x256x4x4_S16x256x4x4x4096_S256x16x4096_123_123_0_04_n_n none l r),
    TRef.unary φ.v14 φ.v15 (transpose S16x256x4096 [1, 0, 2] · transposes_S256x16x4096_S16x256x4096_1_0_2),
    TRef.binary φ.v15 φ.v0 φ.v16 addf,
    castOp shapeCasts_S16x256x4096_S16x256x64x64 φ.v16 φ.v17 ]

theorem fn_conv_4.body_eq (arg0 : TRef sig ⟨S16x256x32x32, .f32⟩) (arg1 : TRef sig ⟨S256x256x4x4, .f32⟩) (arg2 : TRef sig ⟨S256, .f32⟩) (φ : fn_conv_4.Bufs) : fn_conv_4.body (F := F) arg0 arg1 arg2 φ = seq (fn_conv_4.ops arg0 arg1 arg2 φ) := rfl

/-- The operations of one call of `fn_relu_5`. -/
def fn_relu_5.ops (arg0 : TRef sig ⟨S16x256x64x64, .f32⟩) (φ : fn_relu_5.Bufs) : List (HloOp τ sig (Elt F)) :=
  [ TRef.nullary φ.cst (constant S_ .f32 0x00000000#32),
    TRef.unary φ.cst φ.v0 (broadcastInDim S16x256x64x64 ![] bcast_S_S16x256x64x64),
    TRef.binary arg0 φ.v0 φ.v1 maximumf ]

theorem fn_relu_5.body_eq (arg0 : TRef sig ⟨S16x256x64x64, .f32⟩) (φ : fn_relu_5.Bufs) : fn_relu_5.body (F := F) arg0 φ = seq (fn_relu_5.ops arg0 φ) := rfl

/-- The operations of one call of `fn_flip_6`. -/
def fn_flip_6.ops (arg0 : TRef sig ⟨S256x3x4x4, .f32⟩) (φ : fn_flip_6.Bufs) : List (HloOp τ sig (Elt F)) :=
  [ TRef.unary arg0 φ.v0 (Host.reverse [2, 3]) ]

theorem fn_flip_6.body_eq (arg0 : TRef sig ⟨S256x3x4x4, .f32⟩) (φ : fn_flip_6.Bufs) : fn_flip_6.body (F := F) arg0 φ = seq (fn_flip_6.ops arg0 φ) := rfl

/-- The operations of one call of `fn_conv_7`. -/
def fn_conv_7.ops (arg0 : TRef sig ⟨S16x256x64x64, .f32⟩) (arg1 : TRef sig ⟨S3x256x4x4, .f32⟩) (arg2 : TRef sig ⟨S3, .f32⟩) (φ : fn_conv_7.Bufs) : List (HloOp τ sig (Elt F)) :=
  [ TRef.unary arg2 φ.v0 (broadcastInDim S16x3x16384 ![1] bcast_S3_S16x3x16384_1),
    TRef.unary arg0 φ.v1 (broadcastInDim S16x256x1x64x64 ![0, 1, 3, 4] bcast_S16x256x64x64_S16x256x1x64x64_0_1_3_4),
    TRef.nullary φ.cst (constant S_ .f32 0x00000000#32),
    TRef.binary φ.v1 φ.cst φ.v2 (fun x v => pad S16x256x1x131x131 ![0, 0, 0, 2, 2] ![0, 0, 0, 2, 2] ![0, 0, 0, 1, 1] x v pads_S16x256x1x64x64_S16x256x1x131x131_000_000_000_221_221 h_S_),
    TRef.unary φ.v2 φ.v3 (extractStridedSlice S16x256x1x131x128 ![0, 0, 0, 0, 0] · slices_S16x256x1x131x131_S16x256x1x131x128_0_0_0_0_0),
    TRef.unary φ.v2 φ.v4 (extractStridedSlice S16x256x1x131x128 ![0, 0, 0, 0, 1] · slices_S16x256x1x131x131_S16x256x1x131x128_0_0_0_0_1),
    TRef.unary φ.v2 φ.v5 (extractStridedSlice S16x256x1x131x128 ![0, 0, 0, 0, 2] · slices_S16x256x1x131x131_S16x256x1x131x128_0_0_0_0_2),
    TRef.unary φ.v2 φ.v6 (extractStridedSlice S16x256x1x131x128 ![0, 0, 0, 0, 3] · slices_S16x256x1x131x131_S16x256x1x131x128_0_0_0_0_3),
    catOp4 S16x256x4x131x128 2 concatenates_S16x256x1x131x128_S16x256x1x131x128_S16x256x1x131x128_S16x256x1x131x128_S16x256x4x131x128_d2 φ.v3 φ.v4 φ.v5 φ.v6 φ.v7,
    TRef.unary φ.v7 φ.v8 (extractStridedSlice S16x256x4x128x128 ![0, 0, 0, 0, 0] · slices_S16x256x4x131x128_S16x256x4x128x128_0_0_0_0_0),
    TRef.unary φ.v7 φ.v9 (extractStridedSlice S16x256x4x128x128 ![0, 0, 0, 1, 0] · slices_S16x256x4x131x128_S16x256x4x128x128_0_0_0_1_0),
    TRef.unary φ.v7 φ.v10 (extractStridedSlice S16x256x4x128x128 ![0, 0, 0, 2, 0] · slices_S16x256x4x131x128_S16x256x4x128x128_0_0_0_2_0),
    TRef.unary φ.v7 φ.v11 (extractStridedSlice S16x256x4x128x128 ![0, 0, 0, 3, 0] · slices_S16x256x4x131x128_S16x256x4x128x128_0_0_0_3_0),
    catOp4 S16x256x16x128x128 2 concatenates_S16x256x4x128x128_S16x256x4x128x128_S16x256x4x128x128_S16x256x4x128x128_S16x256x16x128x128_d2 φ.v8 φ.v9 φ.v10 φ.v11 φ.v12,
    castOp shapeCasts_S16x256x16x128x128_S16x256x4x4x16384 φ.v12 φ.v13,
    TRef.binary arg1 φ.v13 φ.v14 (fun l r => Host.dotGeneral dot_S3x256x4x4_S16x256x4x4x16384_S3x16x16384_123_123_0_04_n_n none l r),
    TRef.unary φ.v14 φ.v15 (transpose S16x3x16384 [1, 0, 2] · transposes_S3x16x16384_S16x3x16384_1_0_2),
    TRef.binary φ.v15 φ.v0 φ.v16 addf,
    castOp shapeCasts_S16x3x16384_S16x3x128x128 φ.v16 φ.v17 ]

theorem fn_conv_7.body_eq (arg0 : TRef sig ⟨S16x256x64x64, .f32⟩) (arg1 : TRef sig ⟨S3x256x4x4, .f32⟩) (arg2 : TRef sig ⟨S3, .f32⟩) (φ : fn_conv_7.Bufs) : fn_conv_7.body (F := F) arg0 arg1 arg2 φ = seq (fn_conv_7.ops arg0 arg1 arg2 φ) := rfl

/-- A stretch of the main function's own operations. -/
def segDist : List (HloOp τ sig (Elt F)) :=
  [ unary main_v4 main_v5 ((transpose S16x32x32x256 [0, 2, 3, 1] · transposes_S16x256x32x32_S16x32x32x256_0_2_3_1) : (⟨S16x256x32x32, .f32⟩ : BufTy).Contents (Elt F) → (⟨S16x32x32x256, .f32⟩ : BufTy).Contents (Elt F)),
    reshape main_v5 main_v6 (rfl : (.f32 : EltTy) = .f32) shapeCasts_S16x32x32x256_S16384x256,
    binary main_v6 main_v6 main_v7 (mulf : (⟨S16384x256, .f32⟩ : BufTy).Contents (Elt F) → (⟨S16384x256, .f32⟩ : BufTy).Contents (Elt F) → (⟨S16384x256, .f32⟩ : BufTy).Contents (Elt F)),
    nullary main_cst (constant S_ .f32 0x00000000#32),
    binary main_v7 main_cst main_v8 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v8 main_v9 (broadcastInDim S16384x1 ![0] bcast_S16384_S16384x1_0 : (⟨S16384, .f32⟩ : BufTy).Contents (Elt F) → (⟨S16384x1, .f32⟩ : BufTy).Contents (Elt F)),
    binary main_arg1 main_arg1 main_v10 (mulf : (⟨S512x256, .f32⟩ : BufTy).Contents (Elt F) → (⟨S512x256, .f32⟩ : BufTy).Contents (Elt F) → (⟨S512x256, .f32⟩ : BufTy).Contents (Elt F)),
    nullary main_cst_0 (constant S_ .f32 0x00000000#32),
    binary main_v10 main_cst_0 main_v11 ((fun x v => Host.reduceAdd x v reducesTo_S512x256_S512_d1 h_S_) : (⟨S512x256, .f32⟩ : BufTy).Contents (Elt F) → (⟨S_, .f32⟩ : BufTy).Contents (Elt F) → (⟨S512, .f32⟩ : BufTy).Contents (Elt F)),
    unary main_v11 main_v12 (broadcastInDim S1x512 ![1] bcast_S512_S1x512_1 : (⟨S512, .f32⟩ : BufTy).Contents (Elt F) → (⟨S1x512, .f32⟩ : BufTy).Contents (Elt F)),
    unary main_v9 main_v13 (broadcastInDim S16384x512 ![0, 1] bcast_S16384x1_S16384x512_0_1 : (⟨S16384x1, .f32⟩ : BufTy).Contents (Elt F) → (⟨S16384x512, .f32⟩ : BufTy).Contents (Elt F)),
    unary main_v12 main_v14 (broadcastInDim S16384x512 ![0, 1] bcast_S1x512_S16384x512_0_1 : (⟨S1x512, .f32⟩ : BufTy).Contents (Elt F) → (⟨S16384x512, .f32⟩ : BufTy).Contents (Elt F)),
    binary main_v13 main_v14 main_v15 (addf : (⟨S16384x512, .f32⟩ : BufTy).Contents (Elt F) → (⟨S16384x512, .f32⟩ : BufTy).Contents (Elt F) → (⟨S16384x512, .f32⟩ : BufTy).Contents (Elt F)),
    nullary main_cst_1 (constant S_ .f32 0x40000000#32),
    unary main_cst_1 main_v16 (broadcastInDim S16384x256 ![] bcast_S_S16384x256 : (⟨S_, .f32⟩ : BufTy).Contents (Elt F) → (⟨S16384x256, .f32⟩ : BufTy).Contents (Elt F)),
    binary main_v16 main_v6 main_v17 (mulf : (⟨S16384x256, .f32⟩ : BufTy).Contents (Elt F) → (⟨S16384x256, .f32⟩ : BufTy).Contents (Elt F) → (⟨S16384x256, .f32⟩ : BufTy).Contents (Elt F)),
    unary main_arg1 main_v18 ((transpose S256x512 [1, 0] · transposes_S512x256_S256x512_1_0) : (⟨S512x256, .f32⟩ : BufTy).Contents (Elt F) → (⟨S256x512, .f32⟩ : BufTy).Contents (Elt F)),
    binary main_v17 main_v18 main_v19 ((fun l r => Host.dotGeneral dot_S16384x256_S256x512_S16384x512_1_0_0_1_n_n none l r) : (⟨S16384x256, .f32⟩ : BufTy).Contents (Elt F) → (⟨S256x512, .f32⟩ : BufTy).Contents (Elt F) → (⟨S16384x512, .f32⟩ : BufTy).Contents (Elt F)),
    binary main_v15 main_v19 main_v20 (subf : (⟨S16384x512, .f32⟩ : BufTy).Contents (Elt F) → (⟨S16384x512, .f32⟩ : BufTy).Contents (Elt F) → (⟨S16384x512, .f32⟩ : BufTy).Contents (Elt F)) ]

/-- A stretch of the main function's own operations. -/
def segQuant : List (HloOp τ sig (Elt F)) :=
  [ nullary main_c (constantI S_ 32 0#32),
    unary main_c main_v22 (broadcastInDim S16384 ![] bcast_S_S16384 : (⟨S_, .i32⟩ : BufTy).Contents (Elt F) → (⟨S16384, .i32⟩ : BufTy).Contents (Elt F)),
    binary main_v21 main_v22 main_v23 (cmpi .slt : (⟨S16384, .i32⟩ : BufTy).Contents (Elt F) → (⟨S16384, .i32⟩ : BufTy).Contents (Elt F) → (⟨S16384, .i1⟩ : BufTy).Contents (Elt F)),
    nullary main_c_2 (constantI S_ 32 512#32),
    unary main_c_2 main_v24 (broadcastInDim S16384 ![] bcast_S_S16384 : (⟨S_, .i32⟩ : BufTy).Contents (Elt F) → (⟨S16384, .i32⟩ : BufTy).Contents (Elt F)),
    binary main_v21 main_v24 main_v25 (addi : (⟨S16384, .i32⟩ : BufTy).Contents (Elt F) → (⟨S16384, .i32⟩ : BufTy).Contents (Elt F) → (⟨S16384, .i32⟩ : BufTy).Contents (Elt F)),
    ternary main_v23 main_v25 main_v21 main_v26 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v26 main_v27 (broadcastInDim S16384x1 ![0] bcast_S16384_S16384x1_0 : (⟨S16384, .i32⟩ : BufTy).Contents (Elt F) → (⟨S16384x1, .i32⟩ : BufTy).Contents (Elt F)),
    binary main_arg1 main_v27 main_v28 ((fun x i => Host.gather gather_S512x256_S16384x1_S16384x256_1_0_n_n_0_1_1256 x i) : (⟨S512x256, .f32⟩ : BufTy).Contents (Elt F) → (⟨S16384x1, .i32⟩ : BufTy).Contents (Elt F) → (⟨S16384x256, .f32⟩ : BufTy).Contents (Elt F)),
    reshape main_v28 main_v29 (rfl : (.f32 : EltTy) = .f32) shapeCasts_S16384x256_S16x32x32x256,
    binary main_v29 main_v5 main_v30 (subf : (⟨S16x32x32x256, .f32⟩ : BufTy).Contents (Elt F) → (⟨S16x32x32x256, .f32⟩ : BufTy).Contents (Elt F) → (⟨S16x32x32x256, .f32⟩ : BufTy).Contents (Elt F)),
    binary main_v30 main_v30 main_v31 (mulf : (⟨S16x32x32x256, .f32⟩ : BufTy).Contents (Elt F) → (⟨S16x32x32x256, .f32⟩ : BufTy).Contents (Elt F) → (⟨S16x32x32x256, .f32⟩ : BufTy).Contents (Elt F)),
    nullary main_cst_3 (constant S_ .f32 0x00000000#32),
    binary main_v31 main_cst_3 main_v32 ((fun x v => Host.reduceAdd x v reducesTo_S16x32x32x256_S_d0_1_2_3 h_S_) : (⟨S16x32x32x256, .f32⟩ : BufTy).Contents (Elt F) → (⟨S_, .f32⟩ : BufTy).Contents (Elt F) → (⟨S_, .f32⟩ : BufTy).Contents (Elt F)),
    nullary main_cst_4 (constant S_ .f32 0x4A800000#32),
    binary main_v32 main_cst_4 main_v33 (Host.divf : (⟨S_, .f32⟩ : BufTy).Contents (Elt F) → (⟨S_, .f32⟩ : BufTy).Contents (Elt F) → (⟨S_, .f32⟩ : BufTy).Contents (Elt F)),
    unary main_v29 main_v34 ((transpose S16x256x32x32 [0, 3, 1, 2] · transposes_S16x32x32x256_S16x256x32x32_0_3_1_2) : (⟨S16x32x32x256, .f32⟩ : BufTy).Contents (Elt F) → (⟨S16x256x32x32, .f32⟩ : BufTy).Contents (Elt F)),
    binary main_v34 main_v4 main_v35 (subf : (⟨S16x256x32x32, .f32⟩ : BufTy).Contents (Elt F) → (⟨S16x256x32x32, .f32⟩ : BufTy).Contents (Elt F) → (⟨S16x256x32x32, .f32⟩ : BufTy).Contents (Elt F)),
    binary main_v4 main_v35 main_v36 (addf : (⟨S16x256x32x32, .f32⟩ : BufTy).Contents (Elt F) → (⟨S16x256x32x32, .f32⟩ : BufTy).Contents (Elt F) → (⟨S16x256x32x32, .f32⟩ : BufTy).Contents (Elt F)) ]

/-- A stretch of the main function's own operations. -/
def segAdd1 : List (HloOp τ sig (Elt F)) :=
  [ binary main_v37 main_v41 main_v42 (addf : (⟨S16x256x32x32, .f32⟩ : BufTy).Contents (Elt F) → (⟨S16x256x32x32, .f32⟩ : BufTy).Contents (Elt F) → (⟨S16x256x32x32, .f32⟩ : BufTy).Contents (Elt F)) ]

/-- A stretch of the main function's own operations. -/
def segAdd2 : List (HloOp τ sig (Elt F)) :=
  [ binary main_v42 main_v46 main_v47 (addf : (⟨S16x256x32x32, .f32⟩ : BufTy).Contents (Elt F) → (⟨S16x256x32x32, .f32⟩ : BufTy).Contents (Elt F) → (⟨S16x256x32x32, .f32⟩ : BufTy).Contents (Elt F)) ]

/-- A stretch of the main function's own operations. -/
def segTr1 : List (HloOp τ sig (Elt F)) :=
  [ unary main_v48 main_v49 ((transpose S256x256x4x4 [1, 0, 2, 3] · transposes_S256x256x4x4_S256x256x4x4_1_0_2_3) : (⟨S256x256x4x4, .f32⟩ : BufTy).Contents (Elt F) → (⟨S256x256x4x4, .f32⟩ : BufTy).Contents (Elt F)) ]

/-- A stretch of the main function's own operations. -/
def segTr2 : List (HloOp τ sig (Elt F)) :=
  [ unary main_v52 main_v53 ((transpose S3x256x4x4 [1, 0, 2, 3] · transposes_S256x3x4x4_S3x256x4x4_1_0_2_3) : (⟨S256x3x4x4, .f32⟩ : BufTy).Contents (Elt F) → (⟨S3x256x4x4, .f32⟩ : BufTy).Contents (Elt F)) ]

/-- A stretch of the main function's own operations. -/
def segOut : List (HloOp τ sig (Elt F)) :=
  [ unary main_v54 main_v55 (Host.negf : (⟨S16x3x128x128, .f32⟩ : BufTy).Contents (Elt F) → (⟨S16x3x128x128, .f32⟩ : BufTy).Contents (Elt F)),
    unary main_v55 main_v56 (Host.exp : (⟨S16x3x128x128, .f32⟩ : BufTy).Contents (Elt F) → (⟨S16x3x128x128, .f32⟩ : BufTy).Contents (Elt F)),
    nullary main_cst_5 (constant S_ .f32 0x3F800000#32),
    unary main_cst_5 main_v57 (broadcastInDim S16x3x128x128 ![] bcast_S_S16x3x128x128 : (⟨S_, .f32⟩ : BufTy).Contents (Elt F) → (⟨S16x3x128x128, .f32⟩ : BufTy).Contents (Elt F)),
    binary main_v57 main_v56 main_v58 (addf : (⟨S16x3x128x128, .f32⟩ : BufTy).Contents (Elt F) → (⟨S16x3x128x128, .f32⟩ : BufTy).Contents (Elt F) → (⟨S16x3x128x128, .f32⟩ : BufTy).Contents (Elt F)),
    nullary main_cst_6 (constant S_ .f32 0x3F800000#32),
    unary main_cst_6 main_v59 (broadcastInDim S16x3x128x128 ![] bcast_S_S16x3x128x128 : (⟨S_, .f32⟩ : BufTy).Contents (Elt F) → (⟨S16x3x128x128, .f32⟩ : BufTy).Contents (Elt F)),
    binary main_v59 main_v58 main_v60 (Host.divf : (⟨S16x3x128x128, .f32⟩ : BufTy).Contents (Elt F) → (⟨S16x3x128x128, .f32⟩ : BufTy).Contents (Elt F) → (⟨S16x3x128x128, .f32⟩ : BufTy).Contents (Elt F)),
    reshape main_v21 main_v61 (rfl : (.i32 : EltTy) = .i32) shapeCasts_S16384_S16x32x32 ]

/-- The reference's operations, in the lines the values are read at. -/
def lines : List (List (HloOp τ sig (Elt F))) :=
  [ fn_conv.ops (.of main_arg0) (.of main_arg2) (.of main_arg3) main_call0,
    fn_relu.ops (.of main_v0) main_call1,
    fn_conv_0.ops (.of main_v1) (.of main_arg4) (.of main_arg5) main_call2,
    fn_relu_1.ops (.of main_v2) main_call3,
    fn_conv_2.ops (.of main_v3) (.of main_arg6) (.of main_arg7) main_call4,
    segDist,
    fn_argmin.ops (.of main_v20) main_call5,
    segQuant,
    fn_conv_2.ops (.of main_v36) (.of main_arg8) (.of main_arg9) main_call6,
    fn_relu_1.ops (.of main_v37) main_call7,
    fn_conv_2.ops (.of main_v38) (.of main_arg10) (.of main_arg11) main_call8,
    fn_relu_1.ops (.of main_v39) main_call9,
    fn_conv_3.ops (.of main_v40) (.of main_arg12) (.of main_arg13) main_call10,
    segAdd1,
    fn_relu_1.ops (.of main_v42) main_call11,
    fn_conv_2.ops (.of main_v43) (.of main_arg14) (.of main_arg15) main_call12,
    fn_relu_1.ops (.of main_v44) main_call13,
    fn_conv_3.ops (.of main_v45) (.of main_arg16) (.of main_arg17) main_call14,
    segAdd2,
    fn_flip.ops (.of main_arg18) main_call15,
    segTr1,
    fn_conv_4.ops (.of main_v47) (.of main_v49) (.of main_arg19) main_call16,
    fn_relu_5.ops (.of main_v50) main_call17,
    fn_flip_6.ops (.of main_arg20) main_call18,
    segTr2,
    fn_conv_7.ops (.of main_v51) (.of main_v53) (.of main_arg21) main_call19,
    segOut ]

end Cert.ReferenceIdeal.Val

end
-- ==== Proof.RefSub.lean ====
module

public import proofs.«01_k».proof.Proof.RefOps
public import Idealize.ShloMosaic.Lib.Pipeline.Frame

@[expose] public section

set_option maxRecDepth 16384

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-! # Which buffers the reference's lines touch and write -/

theorem fn_conv.ops_sub (arg0 : TRef sig ⟨S16x3x128x128, .f32⟩) (arg1 : TRef sig ⟨S128x3x4x4, .f32⟩) (arg2 : TRef sig ⟨S128, .f32⟩) (φ : fn_conv.Bufs) : (fn_conv.ops (F := F) arg0 arg1 arg2 φ).Forall fun op => op.bufs ⊆ tcRefs τ sig := by
  unfold fn_conv.ops
  simp only [List.Forall]
  exact ⟨unary_bufs_sub .., unary_bufs_sub .., nullary_bufs_sub .., binary_bufs_sub .., unary_bufs_sub .., unary_bufs_sub .., unary_bufs_sub .., unary_bufs_sub .., nary_bufs_sub .., unary_bufs_sub .., unary_bufs_sub .., unary_bufs_sub .., unary_bufs_sub .., nary_bufs_sub .., castOp_bufs_sub .., binary_bufs_sub .., unary_bufs_sub .., binary_bufs_sub .., castOp_bufs_sub ..⟩

/-- The buffers a call of `fn_conv` writes. -/
def fn_conv.refs (φ : fn_conv.Bufs) : List (Ref sig .tc) := [φ.v0.ref, φ.v1.ref, φ.cst.ref, φ.v2.ref, φ.v3.ref, φ.v4.ref, φ.v5.ref, φ.v6.ref, φ.v7.ref, φ.v8.ref, φ.v9.ref, φ.v10.ref, φ.v11.ref, φ.v12.ref, φ.v13.ref, φ.v14.ref, φ.v15.ref, φ.v16.ref, φ.v17.ref]

theorem fn_conv.ops_writes (arg0 : TRef sig ⟨S16x3x128x128, .f32⟩) (arg1 : TRef sig ⟨S128x3x4x4, .f32⟩) (arg2 : TRef sig ⟨S128, .f32⟩) (φ : fn_conv.Bufs) : (fn_conv.ops (F := F) arg0 arg1 arg2 φ).Forall fun op => op.writes ⊆ ((fn_conv.refs φ).map (Proc.devRef (τ := τ) .tc)).toFinset :=
  forall_writes_sub_of_map rfl

theorem fn_relu.ops_sub (arg0 : TRef sig ⟨S16x128x64x64, .f32⟩) (φ : fn_relu.Bufs) : (fn_relu.ops (F := F) arg0 φ).Forall fun op => op.bufs ⊆ tcRefs τ sig := by
  unfold fn_relu.ops
  simp only [List.Forall]
  exact ⟨nullary_bufs_sub .., unary_bufs_sub .., binary_bufs_sub ..⟩

/-- The buffers a call of `fn_relu` writes. -/
def fn_relu.refs (φ : fn_relu.Bufs) : List (Ref sig .tc) := [φ.cst.ref, φ.v0.ref, φ.v1.ref]

theorem fn_relu.ops_writes (arg0 : TRef sig ⟨S16x128x64x64, .f32⟩) (φ : fn_relu.Bufs) : (fn_relu.ops (F := F) arg0 φ).Forall fun op => op.writes ⊆ ((fn_relu.refs φ).map (Proc.devRef (τ := τ) .tc)).toFinset :=
  forall_writes_sub_of_map rfl

theorem fn_conv_0.ops_sub (arg0 : TRef sig ⟨S16x128x64x64, .f32⟩) (arg1 : TRef sig ⟨S256x128x4x4, .f32⟩) (arg2 : TRef sig ⟨S256, .f32⟩) (φ : fn_conv_0.Bufs) : (fn_conv_0.ops (F := F) arg0 arg1 arg2 φ).Forall fun op => op.bufs ⊆ tcRefs τ sig := by
  unfold fn_conv_0.ops
  simp only [List.Forall]
  exact ⟨unary_bufs_sub .., unary_bufs_sub .., nullary_bufs_sub .., binary_bufs_sub .., unary_bufs_sub .., unary_bufs_sub .., unary_bufs_sub .., unary_bufs_sub .., nary_bufs_sub .., unary_bufs_sub .., unary_bufs_sub .., unary_bufs_sub .., unary_bufs_sub .., nary_bufs_sub .., castOp_bufs_sub .., binary_bufs_sub .., unary_bufs_sub .., binary_bufs_sub .., castOp_bufs_sub ..⟩

/-- The buffers a call of `fn_conv_0` writes. -/
def fn_conv_0.refs (φ : fn_conv_0.Bufs) : List (Ref sig .tc) := [φ.v0.ref, φ.v1.ref, φ.cst.ref, φ.v2.ref, φ.v3.ref, φ.v4.ref, φ.v5.ref, φ.v6.ref, φ.v7.ref, φ.v8.ref, φ.v9.ref, φ.v10.ref, φ.v11.ref, φ.v12.ref, φ.v13.ref, φ.v14.ref, φ.v15.ref, φ.v16.ref, φ.v17.ref]

theorem fn_conv_0.ops_writes (arg0 : TRef sig ⟨S16x128x64x64, .f32⟩) (arg1 : TRef sig ⟨S256x128x4x4, .f32⟩) (arg2 : TRef sig ⟨S256, .f32⟩) (φ : fn_conv_0.Bufs) : (fn_conv_0.ops (F := F) arg0 arg1 arg2 φ).Forall fun op => op.writes ⊆ ((fn_conv_0.refs φ).map (Proc.devRef (τ := τ) .tc)).toFinset :=
  forall_writes_sub_of_map rfl

theorem fn_relu_1.ops_sub (arg0 : TRef sig ⟨S16x256x32x32, .f32⟩) (φ : fn_relu_1.Bufs) : (fn_relu_1.ops (F := F) arg0 φ).Forall fun op => op.bufs ⊆ tcRefs τ sig := by
  unfold fn_relu_1.ops
  simp only [List.Forall]
  exact ⟨nullary_bufs_sub .., unary_bufs_sub .., binary_bufs_sub ..⟩

/-- The buffers a call of `fn_relu_1` writes. -/
def fn_relu_1.refs (φ : fn_relu_1.Bufs) : List (Ref sig .tc) := [φ.cst.ref, φ.v0.ref, φ.v1.ref]

theorem fn_relu_1.ops_writes (arg0 : TRef sig ⟨S16x256x32x32, .f32⟩) (φ : fn_relu_1.Bufs) : (fn_relu_1.ops (F := F) arg0 φ).Forall fun op => op.writes ⊆ ((fn_relu_1.refs φ).map (Proc.devRef (τ := τ) .tc)).toFinset :=
  forall_writes_sub_of_map rfl

theorem fn_conv_2.ops_sub (arg0 : TRef sig ⟨S16x256x32x32, .f32⟩) (arg1 : TRef sig ⟨S256x256x3x3, .f32⟩) (arg2 : TRef sig ⟨S256, .f32⟩) (φ : fn_conv_2.Bufs) : (fn_conv_2.ops (F := F) arg0 arg1 arg2 φ).Forall fun op => op.bufs ⊆ tcRefs τ sig := by
  unfold fn_conv_2.ops
  simp only [List.Forall]
  exact ⟨unary_bufs_sub .., unary_bufs_sub .., nullary_bufs_sub .., binary_bufs_sub .., unary_bufs_sub .., unary_bufs_sub .., unary_bufs_sub .., nary_bufs_sub .., unary_bufs_sub .., unary_bufs_sub .., unary_bufs_sub .., nary_bufs_sub .., castOp_bufs_sub .., binary_bufs_sub .., unary_bufs_sub .., binary_bufs_sub .., castOp_bufs_sub ..⟩

/-- The buffers a call of `fn_conv_2` writes. -/
def fn_conv_2.refs (φ : fn_conv_2.Bufs) : List (Ref sig .tc) := [φ.v0.ref, φ.v1.ref, φ.cst.ref, φ.v2.ref, φ.v3.ref, φ.v4.ref, φ.v5.ref, φ.v6.ref, φ.v7.ref, φ.v8.ref, φ.v9.ref, φ.v10.ref, φ.v11.ref, φ.v12.ref, φ.v13.ref, φ.v14.ref, φ.v15.ref]

theorem fn_conv_2.ops_writes (arg0 : TRef sig ⟨S16x256x32x32, .f32⟩) (arg1 : TRef sig ⟨S256x256x3x3, .f32⟩) (arg2 : TRef sig ⟨S256, .f32⟩) (φ : fn_conv_2.Bufs) : (fn_conv_2.ops (F := F) arg0 arg1 arg2 φ).Forall fun op => op.writes ⊆ ((fn_conv_2.refs φ).map (Proc.devRef (τ := τ) .tc)).toFinset :=
  forall_writes_sub_of_map rfl

theorem fn_argmin.ops_sub (arg0 : TRef sig ⟨S16384x512, .f32⟩) (φ : fn_argmin.Bufs) : (fn_argmin.ops (F := F) arg0 φ).Forall fun op => op.bufs ⊆ tcRefs τ sig := by
  unfold fn_argmin.ops
  simp only [List.Forall]
  exact ⟨nullary_bufs_sub .., nullary_bufs_sub .., nullary_bufs_sub .., quaternary_bufs_sub .., quaternary_bufs_sub ..⟩

/-- The buffers a call of `fn_argmin` writes. -/
def fn_argmin.refs (φ : fn_argmin.Bufs) : List (Ref sig .tc) := [φ.v0.ref, φ.cst.ref, φ.c.ref, φ.v1_0.ref, φ.v1_1.ref]

theorem fn_argmin.ops_writes (arg0 : TRef sig ⟨S16384x512, .f32⟩) (φ : fn_argmin.Bufs) : (fn_argmin.ops (F := F) arg0 φ).Forall fun op => op.writes ⊆ ((fn_argmin.refs φ).map (Proc.devRef (τ := τ) .tc)).toFinset :=
  forall_writes_sub_of_map rfl

theorem fn_conv_3.ops_sub (arg0 : TRef sig ⟨S16x256x32x32, .f32⟩) (arg1 : TRef sig ⟨S256x256x1x1, .f32⟩) (arg2 : TRef sig ⟨S256, .f32⟩) (φ : fn_conv_3.Bufs) : (fn_conv_3.ops (F := F) arg0 arg1 arg2 φ).Forall fun op => op.bufs ⊆ tcRefs τ sig := by
  unfold fn_conv_3.ops
  simp only [List.Forall]
  exact ⟨unary_bufs_sub .., unary_bufs_sub .., nullary_bufs_sub .., binary_bufs_sub .., unary_bufs_sub .., unary_bufs_sub .., castOp_bufs_sub .., binary_bufs_sub .., unary_bufs_sub .., binary_bufs_sub .., castOp_bufs_sub ..⟩

/-- The buffers a call of `fn_conv_3` writes. -/
def fn_conv_3.refs (φ : fn_conv_3.Bufs) : List (Ref sig .tc) := [φ.v0.ref, φ.v1.ref, φ.cst.ref, φ.v2.ref, φ.v3.ref, φ.v4.ref, φ.v5.ref, φ.v6.ref, φ.v7.ref, φ.v8.ref, φ.v9.ref]

theorem fn_conv_3.ops_writes (arg0 : TRef sig ⟨S16x256x32x32, .f32⟩) (arg1 : TRef sig ⟨S256x256x1x1, .f32⟩) (arg2 : TRef sig ⟨S256, .f32⟩) (φ : fn_conv_3.Bufs) : (fn_conv_3.ops (F := F) arg0 arg1 arg2 φ).Forall fun op => op.writes ⊆ ((fn_conv_3.refs φ).map (Proc.devRef (τ := τ) .tc)).toFinset :=
  forall_writes_sub_of_map rfl

theorem fn_flip.ops_sub (arg0 : TRef sig ⟨S256x256x4x4, .f32⟩) (φ : fn_flip.Bufs) : (fn_flip.ops (F := F) arg0 φ).Forall fun op => op.bufs ⊆ tcRefs τ sig := by
  unfold fn_flip.ops
  simp only [List.Forall]
  exact unary_bufs_sub ..

/-- The buffers a call of `fn_flip` writes. -/
def fn_flip.refs (φ : fn_flip.Bufs) : List (Ref sig .tc) := [φ.v0.ref]

theorem fn_flip.ops_writes (arg0 : TRef sig ⟨S256x256x4x4, .f32⟩) (φ : fn_flip.Bufs) : (fn_flip.ops (F := F) arg0 φ).Forall fun op => op.writes ⊆ ((fn_flip.refs φ).map (Proc.devRef (τ := τ) .tc)).toFinset :=
  forall_writes_sub_of_map rfl

theorem fn_conv_4.ops_sub (arg0 : TRef sig ⟨S16x256x32x32, .f32⟩) (arg1 : TRef sig ⟨S256x256x4x4, .f32⟩) (arg2 : TRef sig ⟨S256, .f32⟩) (φ : fn_conv_4.Bufs) : (fn_conv_4.ops (F := F) arg0 arg1 arg2 φ).Forall fun op => op.bufs ⊆ tcRefs τ sig := by
  unfold fn_conv_4.ops
  simp only [List.Forall]
  exact ⟨unary_bufs_sub .., unary_bufs_sub .., nullary_bufs_sub .., binary_bufs_sub .., unary_bufs_sub .., unary_bufs_sub .., unary_bufs_sub .., unary_bufs_sub .., nary_bufs_sub .., unary_bufs_sub .., unary_bufs_sub .., unary_bufs_sub .., unary_bufs_sub .., nary_bufs_sub .., castOp_bufs_sub .., binary_bufs_sub .., unary_bufs_sub .., binary_bufs_sub .., castOp_bufs_sub ..⟩

/-- The buffers a call of `fn_conv_4` writes. -/
def fn_conv_4.refs (φ : fn_conv_4.Bufs) : List (Ref sig .tc) := [φ.v0.ref, φ.v1.ref, φ.cst.ref, φ.v2.ref, φ.v3.ref, φ.v4.ref, φ.v5.ref, φ.v6.ref, φ.v7.ref, φ.v8.ref, φ.v9.ref, φ.v10.ref, φ.v11.ref, φ.v12.ref, φ.v13.ref, φ.v14.ref, φ.v15.ref, φ.v16.ref, φ.v17.ref]

theorem fn_conv_4.ops_writes (arg0 : TRef sig ⟨S16x256x32x32, .f32⟩) (arg1 : TRef sig ⟨S256x256x4x4, .f32⟩) (arg2 : TRef sig ⟨S256, .f32⟩) (φ : fn_conv_4.Bufs) : (fn_conv_4.ops (F := F) arg0 arg1 arg2 φ).Forall fun op => op.writes ⊆ ((fn_conv_4.refs φ).map (Proc.devRef (τ := τ) .tc)).toFinset :=
  forall_writes_sub_of_map rfl

theorem fn_relu_5.ops_sub (arg0 : TRef sig ⟨S16x256x64x64, .f32⟩) (φ : fn_relu_5.Bufs) : (fn_relu_5.ops (F := F) arg0 φ).Forall fun op => op.bufs ⊆ tcRefs τ sig := by
  unfold fn_relu_5.ops
  simp only [List.Forall]
  exact ⟨nullary_bufs_sub .., unary_bufs_sub .., binary_bufs_sub ..⟩

/-- The buffers a call of `fn_relu_5` writes. -/
def fn_relu_5.refs (φ : fn_relu_5.Bufs) : List (Ref sig .tc) := [φ.cst.ref, φ.v0.ref, φ.v1.ref]

theorem fn_relu_5.ops_writes (arg0 : TRef sig ⟨S16x256x64x64, .f32⟩) (φ : fn_relu_5.Bufs) : (fn_relu_5.ops (F := F) arg0 φ).Forall fun op => op.writes ⊆ ((fn_relu_5.refs φ).map (Proc.devRef (τ := τ) .tc)).toFinset :=
  forall_writes_sub_of_map rfl

theorem fn_flip_6.ops_sub (arg0 : TRef sig ⟨S256x3x4x4, .f32⟩) (φ : fn_flip_6.Bufs) : (fn_flip_6.ops (F := F) arg0 φ).Forall fun op => op.bufs ⊆ tcRefs τ sig := by
  unfold fn_flip_6.ops
  simp only [List.Forall]
  exact unary_bufs_sub ..

/-- The buffers a call of `fn_flip_6` writes. -/
def fn_flip_6.refs (φ : fn_flip_6.Bufs) : List (Ref sig .tc) := [φ.v0.ref]

theorem fn_flip_6.ops_writes (arg0 : TRef sig ⟨S256x3x4x4, .f32⟩) (φ : fn_flip_6.Bufs) : (fn_flip_6.ops (F := F) arg0 φ).Forall fun op => op.writes ⊆ ((fn_flip_6.refs φ).map (Proc.devRef (τ := τ) .tc)).toFinset :=
  forall_writes_sub_of_map rfl

theorem fn_conv_7.ops_sub (arg0 : TRef sig ⟨S16x256x64x64, .f32⟩) (arg1 : TRef sig ⟨S3x256x4x4, .f32⟩) (arg2 : TRef sig ⟨S3, .f32⟩) (φ : fn_conv_7.Bufs) : (fn_conv_7.ops (F := F) arg0 arg1 arg2 φ).Forall fun op => op.bufs ⊆ tcRefs τ sig := by
  unfold fn_conv_7.ops
  simp only [List.Forall]
  exact ⟨unary_bufs_sub .., unary_bufs_sub .., nullary_bufs_sub .., binary_bufs_sub .., unary_bufs_sub .., unary_bufs_sub .., unary_bufs_sub .., unary_bufs_sub .., nary_bufs_sub .., unary_bufs_sub .., unary_bufs_sub .., unary_bufs_sub .., unary_bufs_sub .., nary_bufs_sub .., castOp_bufs_sub .., binary_bufs_sub .., unary_bufs_sub .., binary_bufs_sub .., castOp_bufs_sub ..⟩

/-- The buffers a call of `fn_conv_7` writes. -/
def fn_conv_7.refs (φ : fn_conv_7.Bufs) : List (Ref sig .tc) := [φ.v0.ref, φ.v1.ref, φ.cst.ref, φ.v2.ref, φ.v3.ref, φ.v4.ref, φ.v5.ref, φ.v6.ref, φ.v7.ref, φ.v8.ref, φ.v9.ref, φ.v10.ref, φ.v11.ref, φ.v12.ref, φ.v13.ref, φ.v14.ref, φ.v15.ref, φ.v16.ref, φ.v17.ref]

theorem fn_conv_7.ops_writes (arg0 : TRef sig ⟨S16x256x64x64, .f32⟩) (arg1 : TRef sig ⟨S3x256x4x4, .f32⟩) (arg2 : TRef sig ⟨S3, .f32⟩) (φ : fn_conv_7.Bufs) : (fn_conv_7.ops (F := F) arg0 arg1 arg2 φ).Forall fun op => op.writes ⊆ ((fn_conv_7.refs φ).map (Proc.devRef (τ := τ) .tc)).toFinset :=
  forall_writes_sub_of_map rfl

theorem segDist_sub : (segDist (F := F)).Forall fun op => op.bufs ⊆ tcRefs τ sig := by
  unfold segDist
  simp only [List.Forall]
  exact ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., nullary_bufs_sub .., unary_bufs_sub .., binary_bufs_sub .., unary_bufs_sub .., binary_bufs_sub .., binary_bufs_sub ..⟩

/-- The buffers this stretch writes. -/
def segDistRefs : List (Ref sig .tc) := [main_v5, main_v6, main_v7, main_cst, main_v8, main_v9, main_v10, main_cst_0, main_v11, main_v12, main_v13, main_v14, main_v15, main_cst_1, main_v16, main_v17, main_v18, main_v19, main_v20]

theorem segDist_writes : (segDist (F := F)).Forall fun op => op.writes ⊆ (segDistRefs.map (Proc.devRef (τ := τ) .tc)).toFinset :=
  forall_writes_sub_of_map rfl

theorem segQuant_sub : (segQuant (F := F)).Forall fun op => op.bufs ⊆ tcRefs τ sig := by
  unfold segQuant
  simp only [List.Forall]
  exact ⟨nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., binary_bufs_sub .., nullary_bufs_sub .., binary_bufs_sub .., nullary_bufs_sub .., binary_bufs_sub .., unary_bufs_sub .., binary_bufs_sub .., binary_bufs_sub ..⟩

/-- The buffers this stretch writes. -/
def segQuantRefs : List (Ref sig .tc) := [main_c, main_v22, main_v23, main_c_2, main_v24, main_v25, main_v26, main_v27, main_v28, main_v29, main_v30, main_v31, main_cst_3, main_v32, main_cst_4, main_v33, main_v34, main_v35, main_v36]

theorem segQuant_writes : (segQuant (F := F)).Forall fun op => op.writes ⊆ (segQuantRefs.map (Proc.devRef (τ := τ) .tc)).toFinset :=
  forall_writes_sub_of_map rfl

theorem segAdd1_sub : (segAdd1 (F := F)).Forall fun op => op.bufs ⊆ tcRefs τ sig := by
  unfold segAdd1
  simp only [List.Forall]
  exact binary_bufs_sub ..

/-- The buffers this stretch writes. -/
def segAdd1Refs : List (Ref sig .tc) := [main_v42]

theorem segAdd1_writes : (segAdd1 (F := F)).Forall fun op => op.writes ⊆ (segAdd1Refs.map (Proc.devRef (τ := τ) .tc)).toFinset :=
  forall_writes_sub_of_map rfl

theorem segAdd2_sub : (segAdd2 (F := F)).Forall fun op => op.bufs ⊆ tcRefs τ sig := by
  unfold segAdd2
  simp only [List.Forall]
  exact binary_bufs_sub ..

/-- The buffers this stretch writes. -/
def segAdd2Refs : List (Ref sig .tc) := [main_v47]

theorem segAdd2_writes : (segAdd2 (F := F)).Forall fun op => op.writes ⊆ (segAdd2Refs.map (Proc.devRef (τ := τ) .tc)).toFinset :=
  forall_writes_sub_of_map rfl

theorem segTr1_sub : (segTr1 (F := F)).Forall fun op => op.bufs ⊆ tcRefs τ sig := by
  unfold segTr1
  simp only [List.Forall]
  exact unary_bufs_sub ..

/-- The buffers this stretch writes. -/
def segTr1Refs : List (Ref sig .tc) := [main_v49]

theorem segTr1_writes : (segTr1 (F := F)).Forall fun op => op.writes ⊆ (segTr1Refs.map (Proc.devRef (τ := τ) .tc)).toFinset :=
  forall_writes_sub_of_map rfl

theorem segTr2_sub : (segTr2 (F := F)).Forall fun op => op.bufs ⊆ tcRefs τ sig := by
  unfold segTr2
  simp only [List.Forall]
  exact unary_bufs_sub ..

/-- The buffers this stretch writes. -/
def segTr2Refs : List (Ref sig .tc) := [main_v53]

theorem segTr2_writes : (segTr2 (F := F)).Forall fun op => op.writes ⊆ (segTr2Refs.map (Proc.devRef (τ := τ) .tc)).toFinset :=
  forall_writes_sub_of_map rfl

theorem segOut_sub : (segOut (F := F)).Forall fun op => op.bufs ⊆ tcRefs τ sig := by
  unfold segOut
  simp only [List.Forall]
  exact ⟨unary_bufs_sub .., unary_bufs_sub .., nullary_bufs_sub .., unary_bufs_sub .., binary_bufs_sub .., nullary_bufs_sub .., unary_bufs_sub .., binary_bufs_sub .., reshape_bufs_sub ..⟩

/-- The buffers this stretch writes. -/
def segOutRefs : List (Ref sig .tc) := [main_v55, main_v56, main_cst_5, main_v57, main_v58, main_cst_6, main_v59, main_v60, main_v61]

theorem segOut_writes : (segOut (F := F)).Forall fun op => op.writes ⊆ (segOutRefs.map (Proc.devRef (τ := τ) .tc)).toFinset :=
  forall_writes_sub_of_map rfl

end Cert.ReferenceIdeal.Val

end
-- ==== Proof.RefRun.lean ====
module

public import proofs.«01_k».proof.Proof.RefSub

@[expose] public section

set_option maxRecDepth 16384

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-! # The reference's run

Every device runs the straight line of `lines`; what a buffer holds at the end is the fold of the operations. -/

/-- The first part's operations. -/
def part0 : List (HloOp τ sig (Elt F)) :=
  fn_conv.ops (.of main_arg0) (.of main_arg2) (.of main_arg3) main_call0 ++ (fn_relu.ops (.of main_v0) main_call1 ++ (fn_conv_0.ops (.of main_v1) (.of main_arg4) (.of main_arg5) main_call2 ++ (fn_relu_1.ops (.of main_v2) main_call3 ++ (fn_conv_2.ops (.of main_v3) (.of main_arg6) (.of main_arg7) main_call4 ++ (segDist ++ (fn_argmin.ops (.of main_v20) main_call5 ++ (segQuant ++ (fn_conv_2.ops (.of main_v36) (.of main_arg8) (.of main_arg9) main_call6 ++ (fn_relu_1.ops (.of main_v37) main_call7 ++ (fn_conv_2.ops (.of main_v38) (.of main_arg10) (.of main_arg11) main_call8 ++ (fn_relu_1.ops (.of main_v39) main_call9 ++ (fn_conv_3.ops (.of main_v40) (.of main_arg12) (.of main_arg13) main_call10 ++ (segAdd1 ++ (fn_relu_1.ops (.of main_v42) main_call11 ++ (fn_conv_2.ops (.of main_v43) (.of main_arg14) (.of main_arg15) main_call12 ++ (fn_relu_1.ops (.of main_v44) main_call13 ++ (fn_conv_3.ops (.of main_v45) (.of main_arg16) (.of main_arg17) main_call14 ++ (segAdd2 ++ (fn_flip.ops (.of main_arg18) main_call15 ++ (segTr1 ++ (fn_conv_4.ops (.of main_v47) (.of main_v49) (.of main_arg19) main_call16 ++ (fn_relu_5.ops (.of main_v50) main_call17 ++ (fn_flip_6.ops (.of main_arg20) main_call18)))))))))))))))))))))))

/-- The second part's operations. -/
def part1 : List (HloOp τ sig (Elt F)) :=
  segTr2 ++ (fn_conv_7.ops (.of main_v51) (.of main_v53) (.of main_arg21) main_call19 ++ (segOut))

theorem main_part0_eq (c : Dev nD) : main_part0 (F := F) c = seq part0 := rfl

theorem main_part1_eq (c : Dev nD) : main_part1 (F := F) c = seq part1 := rfl

theorem main_eq (c : Dev nD) : main (F := F) c = seq (part0 ++ part1) := by
  rw [seq_append, ← main_part0_eq c, ← main_part1_eq c]; rfl

theorem scopedRefs_eq : (Finset.univ.filter fun b : Ref sig .tc => b.isScoped) = ∅ := by decide

theorem scopedSems_eq : (Finset.univ.filter fun sm : SemLoc sig => sm.isScoped .tc) = ∅ := by decide

theorem parts_fresh : List.Forall (fun op : HloOp τ sig (Elt F) => op.fresh = ∅) (part0 ++ part1) := forall_fresh_of_map rfl

theorem parts_sub : List.Forall (fun op : HloOp τ sig (Elt F) => op.bufs ⊆ tcRefs τ sig) (part0 ++ part1) := by
  unfold part0 part1
  simp only [List.forall_append]
  exact ⟨⟨fn_conv.ops_sub .., fn_relu.ops_sub .., fn_conv_0.ops_sub .., fn_relu_1.ops_sub .., fn_conv_2.ops_sub .., segDist_sub, fn_argmin.ops_sub .., segQuant_sub, fn_conv_2.ops_sub .., fn_relu_1.ops_sub .., fn_conv_2.ops_sub .., fn_relu_1.ops_sub .., fn_conv_3.ops_sub .., segAdd1_sub, fn_relu_1.ops_sub .., fn_conv_2.ops_sub .., fn_relu_1.ops_sub .., fn_conv_3.ops_sub .., segAdd2_sub, fn_flip.ops_sub .., segTr1_sub, fn_conv_4.ops_sub .., fn_relu_5.ops_sub .., fn_flip_6.ops_sub ..⟩, ⟨segTr2_sub, fn_conv_7.ops_sub .., segOut_sub⟩⟩

/-- Two lines run one after the other leave what the second leaves on what the first left. -/
theorem after_append_eq (l₁ l₂ : List (HloOp τ sig (Elt F))) (V : Valuation τ sig (Elt F)) :
    after (l₁ ++ l₂) V = after l₂ (after l₁ V) := by
  induction l₁ generalizing V with
  | nil => rfl
  | cons op l ih => exact ih _

/-! The valuations between the RL: `U k` is what the first `k` lines leave. -/

/-- Before the first line. -/
def U0 (V : Valuation τ sig (Elt F)) : Valuation τ sig (Elt F) := V
/-- After line 1. -/
def U1 (V : Valuation τ sig (Elt F)) : Valuation τ sig (Elt F) := after (fn_conv.ops (.of main_arg0) (.of main_arg2) (.of main_arg3) main_call0) (U0 V)
/-- After line 2. -/
def U2 (V : Valuation τ sig (Elt F)) : Valuation τ sig (Elt F) := after (fn_relu.ops (.of main_v0) main_call1) (U1 V)
/-- After line 3. -/
def U3 (V : Valuation τ sig (Elt F)) : Valuation τ sig (Elt F) := after (fn_conv_0.ops (.of main_v1) (.of main_arg4) (.of main_arg5) main_call2) (U2 V)
/-- After line 4. -/
def U4 (V : Valuation τ sig (Elt F)) : Valuation τ sig (Elt F) := after (fn_relu_1.ops (.of main_v2) main_call3) (U3 V)
/-- After line 5. -/
def U5 (V : Valuation τ sig (Elt F)) : Valuation τ sig (Elt F) := after (fn_conv_2.ops (.of main_v3) (.of main_arg6) (.of main_arg7) main_call4) (U4 V)
/-- After line 6. -/
def U6 (V : Valuation τ sig (Elt F)) : Valuation τ sig (Elt F) := after (segDist) (U5 V)
/-- After line 7. -/
def U7 (V : Valuation τ sig (Elt F)) : Valuation τ sig (Elt F) := after (fn_argmin.ops (.of main_v20) main_call5) (U6 V)
/-- After line 8. -/
def U8 (V : Valuation τ sig (Elt F)) : Valuation τ sig (Elt F) := after (segQuant) (U7 V)
/-- After line 9. -/
def U9 (V : Valuation τ sig (Elt F)) : Valuation τ sig (Elt F) := after (fn_conv_2.ops (.of main_v36) (.of main_arg8) (.of main_arg9) main_call6) (U8 V)
/-- After line 10. -/
def U10 (V : Valuation τ sig (Elt F)) : Valuation τ sig (Elt F) := after (fn_relu_1.ops (.of main_v37) main_call7) (U9 V)
/-- After line 11. -/
def U11 (V : Valuation τ sig (Elt F)) : Valuation τ sig (Elt F) := after (fn_conv_2.ops (.of main_v38) (.of main_arg10) (.of main_arg11) main_call8) (U10 V)
/-- After line 12. -/
def U12 (V : Valuation τ sig (Elt F)) : Valuation τ sig (Elt F) := after (fn_relu_1.ops (.of main_v39) main_call9) (U11 V)
/-- After line 13. -/
def U13 (V : Valuation τ sig (Elt F)) : Valuation τ sig (Elt F) := after (fn_conv_3.ops (.of main_v40) (.of main_arg12) (.of main_arg13) main_call10) (U12 V)
/-- After line 14. -/
def U14 (V : Valuation τ sig (Elt F)) : Valuation τ sig (Elt F) := after (segAdd1) (U13 V)
/-- After line 15. -/
def U15 (V : Valuation τ sig (Elt F)) : Valuation τ sig (Elt F) := after (fn_relu_1.ops (.of main_v42) main_call11) (U14 V)
/-- After line 16. -/
def U16 (V : Valuation τ sig (Elt F)) : Valuation τ sig (Elt F) := after (fn_conv_2.ops (.of main_v43) (.of main_arg14) (.of main_arg15) main_call12) (U15 V)
/-- After line 17. -/
def U17 (V : Valuation τ sig (Elt F)) : Valuation τ sig (Elt F) := after (fn_relu_1.ops (.of main_v44) main_call13) (U16 V)
/-- After line 18. -/
def U18 (V : Valuation τ sig (Elt F)) : Valuation τ sig (Elt F) := after (fn_conv_3.ops (.of main_v45) (.of main_arg16) (.of main_arg17) main_call14) (U17 V)
/-- After line 19. -/
def U19 (V : Valuation τ sig (Elt F)) : Valuation τ sig (Elt F) := after (segAdd2) (U18 V)
/-- After line 20. -/
def U20 (V : Valuation τ sig (Elt F)) : Valuation τ sig (Elt F) := after (fn_flip.ops (.of main_arg18) main_call15) (U19 V)
/-- After line 21. -/
def U21 (V : Valuation τ sig (Elt F)) : Valuation τ sig (Elt F) := after (segTr1) (U20 V)
/-- After line 22. -/
def U22 (V : Valuation τ sig (Elt F)) : Valuation τ sig (Elt F) := after (fn_conv_4.ops (.of main_v47) (.of main_v49) (.of main_arg19) main_call16) (U21 V)
/-- After line 23. -/
def U23 (V : Valuation τ sig (Elt F)) : Valuation τ sig (Elt F) := after (fn_relu_5.ops (.of main_v50) main_call17) (U22 V)
/-- After line 24. -/
def U24 (V : Valuation τ sig (Elt F)) : Valuation τ sig (Elt F) := after (fn_flip_6.ops (.of main_arg20) main_call18) (U23 V)
/-- After line 25. -/
def U25 (V : Valuation τ sig (Elt F)) : Valuation τ sig (Elt F) := after (segTr2) (U24 V)
/-- After line 26. -/
def U26 (V : Valuation τ sig (Elt F)) : Valuation τ sig (Elt F) := after (fn_conv_7.ops (.of main_v51) (.of main_v53) (.of main_arg21) main_call19) (U25 V)
/-- After line 27. -/
def U27 (V : Valuation τ sig (Elt F)) : Valuation τ sig (Elt F) := after (segOut) (U26 V)

theorem after_parts (V : Valuation τ sig (Elt F)) : after (part0 ++ part1) V = U27 V := by
  unfold part0 part1
  simp only [after_append_eq]
  rfl

/-- The reference's run: every buffer ends at what the lines leave. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = U27 (launchContents m c) (Proc.devRef .tc b) :=
  (θ_run defs _ _).mono (fun _ h c b => (h c b).trans (congrFun (after_parts _) _))
    (run_seq scopedRefs_eq scopedSems_eq defs main (fun _ => part0 ++ part1) main_eq (fun _ => parts_sub) m ρ
      fun _ => List.forall_iff_forall_mem.mp parts_fresh)

theorem U1_of (V : Valuation τ sig (Elt F)) {r : Ref sig .tc} (h : r ∉ (fn_conv.refs main_call0)) : U1 V (Proc.devRef .tc r) = U0 V (Proc.devRef .tc r) :=
  after_of_writes_sub _ _ (fn_conv.ops_writes ..) h
theorem U2_of (V : Valuation τ sig (Elt F)) {r : Ref sig .tc} (h : r ∉ (fn_relu.refs main_call1)) : U2 V (Proc.devRef .tc r) = U1 V (Proc.devRef .tc r) :=
  after_of_writes_sub _ _ (fn_relu.ops_writes ..) h
theorem U3_of (V : Valuation τ sig (Elt F)) {r : Ref sig .tc} (h : r ∉ (fn_conv_0.refs main_call2)) : U3 V (Proc.devRef .tc r) = U2 V (Proc.devRef .tc r) :=
  after_of_writes_sub _ _ (fn_conv_0.ops_writes ..) h
theorem U4_of (V : Valuation τ sig (Elt F)) {r : Ref sig .tc} (h : r ∉ (fn_relu_1.refs main_call3)) : U4 V (Proc.devRef .tc r) = U3 V (Proc.devRef .tc r) :=
  after_of_writes_sub _ _ (fn_relu_1.ops_writes ..) h
theorem U5_of (V : Valuation τ sig (Elt F)) {r : Ref sig .tc} (h : r ∉ (fn_conv_2.refs main_call4)) : U5 V (Proc.devRef .tc r) = U4 V (Proc.devRef .tc r) :=
  after_of_writes_sub _ _ (fn_conv_2.ops_writes ..) h
theorem U6_of (V : Valuation τ sig (Elt F)) {r : Ref sig .tc} (h : r ∉ segDistRefs) : U6 V (Proc.devRef .tc r) = U5 V (Proc.devRef .tc r) :=
  after_of_writes_sub _ _ segDist_writes h
theorem U7_of (V : Valuation τ sig (Elt F)) {r : Ref sig .tc} (h : r ∉ (fn_argmin.refs main_call5)) : U7 V (Proc.devRef .tc r) = U6 V (Proc.devRef .tc r) :=
  after_of_writes_sub _ _ (fn_argmin.ops_writes ..) h
theorem U8_of (V : Valuation τ sig (Elt F)) {r : Ref sig .tc} (h : r ∉ segQuantRefs) : U8 V (Proc.devRef .tc r) = U7 V (Proc.devRef .tc r) :=
  after_of_writes_sub _ _ segQuant_writes h
theorem U9_of (V : Valuation τ sig (Elt F)) {r : Ref sig .tc} (h : r ∉ (fn_conv_2.refs main_call6)) : U9 V (Proc.devRef .tc r) = U8 V (Proc.devRef .tc r) :=
  after_of_writes_sub _ _ (fn_conv_2.ops_writes ..) h
theorem U10_of (V : Valuation τ sig (Elt F)) {r : Ref sig .tc} (h : r ∉ (fn_relu_1.refs main_call7)) : U10 V (Proc.devRef .tc r) = U9 V (Proc.devRef .tc r) :=
  after_of_writes_sub _ _ (fn_relu_1.ops_writes ..) h
theorem U11_of (V : Valuation τ sig (Elt F)) {r : Ref sig .tc} (h : r ∉ (fn_conv_2.refs main_call8)) : U11 V (Proc.devRef .tc r) = U10 V (Proc.devRef .tc r) :=
  after_of_writes_sub _ _ (fn_conv_2.ops_writes ..) h
theorem U12_of (V : Valuation τ sig (Elt F)) {r : Ref sig .tc} (h : r ∉ (fn_relu_1.refs main_call9)) : U12 V (Proc.devRef .tc r) = U11 V (Proc.devRef .tc r) :=
  after_of_writes_sub _ _ (fn_relu_1.ops_writes ..) h
theorem U13_of (V : Valuation τ sig (Elt F)) {r : Ref sig .tc} (h : r ∉ (fn_conv_3.refs main_call10)) : U13 V (Proc.devRef .tc r) = U12 V (Proc.devRef .tc r) :=
  after_of_writes_sub _ _ (fn_conv_3.ops_writes ..) h
theorem U14_of (V : Valuation τ sig (Elt F)) {r : Ref sig .tc} (h : r ∉ segAdd1Refs) : U14 V (Proc.devRef .tc r) = U13 V (Proc.devRef .tc r) :=
  after_of_writes_sub _ _ segAdd1_writes h
theorem U15_of (V : Valuation τ sig (Elt F)) {r : Ref sig .tc} (h : r ∉ (fn_relu_1.refs main_call11)) : U15 V (Proc.devRef .tc r) = U14 V (Proc.devRef .tc r) :=
  after_of_writes_sub _ _ (fn_relu_1.ops_writes ..) h
theorem U16_of (V : Valuation τ sig (Elt F)) {r : Ref sig .tc} (h : r ∉ (fn_conv_2.refs main_call12)) : U16 V (Proc.devRef .tc r) = U15 V (Proc.devRef .tc r) :=
  after_of_writes_sub _ _ (fn_conv_2.ops_writes ..) h
theorem U17_of (V : Valuation τ sig (Elt F)) {r : Ref sig .tc} (h : r ∉ (fn_relu_1.refs main_call13)) : U17 V (Proc.devRef .tc r) = U16 V (Proc.devRef .tc r) :=
  after_of_writes_sub _ _ (fn_relu_1.ops_writes ..) h
theorem U18_of (V : Valuation τ sig (Elt F)) {r : Ref sig .tc} (h : r ∉ (fn_conv_3.refs main_call14)) : U18 V (Proc.devRef .tc r) = U17 V (Proc.devRef .tc r) :=
  after_of_writes_sub _ _ (fn_conv_3.ops_writes ..) h
theorem U19_of (V : Valuation τ sig (Elt F)) {r : Ref sig .tc} (h : r ∉ segAdd2Refs) : U19 V (Proc.devRef .tc r) = U18 V (Proc.devRef .tc r) :=
  after_of_writes_sub _ _ segAdd2_writes h
theorem U20_of (V : Valuation τ sig (Elt F)) {r : Ref sig .tc} (h : r ∉ (fn_flip.refs main_call15)) : U20 V (Proc.devRef .tc r) = U19 V (Proc.devRef .tc r) :=
  after_of_writes_sub _ _ (fn_flip.ops_writes ..) h
theorem U21_of (V : Valuation τ sig (Elt F)) {r : Ref sig .tc} (h : r ∉ segTr1Refs) : U21 V (Proc.devRef .tc r) = U20 V (Proc.devRef .tc r) :=
  after_of_writes_sub _ _ segTr1_writes h
theorem U22_of (V : Valuation τ sig (Elt F)) {r : Ref sig .tc} (h : r ∉ (fn_conv_4.refs main_call16)) : U22 V (Proc.devRef .tc r) = U21 V (Proc.devRef .tc r) :=
  after_of_writes_sub _ _ (fn_conv_4.ops_writes ..) h
theorem U23_of (V : Valuation τ sig (Elt F)) {r : Ref sig .tc} (h : r ∉ (fn_relu_5.refs main_call17)) : U23 V (Proc.devRef .tc r) = U22 V (Proc.devRef .tc r) :=
  after_of_writes_sub _ _ (fn_relu_5.ops_writes ..) h
theorem U24_of (V : Valuation τ sig (Elt F)) {r : Ref sig .tc} (h : r ∉ (fn_flip_6.refs main_call18)) : U24 V (Proc.devRef .tc r) = U23 V (Proc.devRef .tc r) :=
  after_of_writes_sub _ _ (fn_flip_6.ops_writes ..) h
theorem U25_of (V : Valuation τ sig (Elt F)) {r : Ref sig .tc} (h : r ∉ segTr2Refs) : U25 V (Proc.devRef .tc r) = U24 V (Proc.devRef .tc r) :=
  after_of_writes_sub _ _ segTr2_writes h
theorem U26_of (V : Valuation τ sig (Elt F)) {r : Ref sig .tc} (h : r ∉ (fn_conv_7.refs main_call19)) : U26 V (Proc.devRef .tc r) = U25 V (Proc.devRef .tc r) :=
  after_of_writes_sub _ _ (fn_conv_7.ops_writes ..) h
theorem U27_of (V : Valuation τ sig (Elt F)) {r : Ref sig .tc} (h : r ∉ segOutRefs) : U27 V (Proc.devRef .tc r) = U26 V (Proc.devRef .tc r) :=
  after_of_writes_sub _ _ segOut_writes h

/-- The lists of buffers written by the lines, in order. -/
def allRefs : List (Ref sig .tc) := fn_conv.refs main_call0 ++ fn_relu.refs main_call1 ++ fn_conv_0.refs main_call2 ++ fn_relu_1.refs main_call3 ++ fn_conv_2.refs main_call4 ++ segDistRefs ++ fn_argmin.refs main_call5 ++ segQuantRefs ++ fn_conv_2.refs main_call6 ++ fn_relu_1.refs main_call7 ++ fn_conv_2.refs main_call8 ++ fn_relu_1.refs main_call9 ++ fn_conv_3.refs main_call10 ++ segAdd1Refs ++ fn_relu_1.refs main_call11 ++ fn_conv_2.refs main_call12 ++ fn_relu_1.refs main_call13 ++ fn_conv_3.refs main_call14 ++ segAdd2Refs ++ fn_flip.refs main_call15 ++ segTr1Refs ++ fn_conv_4.refs main_call16 ++ fn_relu_5.refs main_call17 ++ fn_flip_6.refs main_call18 ++ segTr2Refs ++ fn_conv_7.refs main_call19 ++ segOutRefs

end Cert.ReferenceIdeal.Val

end
-- ==== Proof.RefFns.lean ====
module

public import proofs.«01_k».proof.Proof.RefOps

@[expose] public section

set_option maxRecDepth 16384

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-! # What each function of the reference computes, as a term over its arguments -/

/-- The value of `fn_conv` at its arguments. -/
def fn_conv.val (arg0 : Vec F S16x3x128x128 .f32) (arg1 : Vec F S128x3x4x4 .f32) (arg2 : Vec F S128 .f32) : Vec F S16x128x64x64 .f32 :=
  have v0 : Vec F S16x128x4096 .f32 := (broadcastInDim S16x128x4096 ![1] bcast_S128_S16x128x4096_1) arg2
  have v1 : Vec F S16x3x1x128x128 .f32 := (broadcastInDim S16x3x1x128x128 ![0, 1, 3, 4] bcast_S16x3x128x128_S16x3x1x128x128_0_1_3_4) arg0
  have cst : Vec F S_ .f32 := (constant S_ .f32 0x00000000#32)
  have v2 : Vec F S16x3x1x130x130 .f32 := (fun x v => pad S16x3x1x130x130 ![0, 0, 0, 1, 1] ![0, 0, 0, 1, 1] ![0, 0, 0, 0, 0] x v pads_S16x3x1x128x128_S16x3x1x130x130_000_000_000_110_110 h_S_) v1 cst
  have v3 : Vec F S16x3x1x130x64 .f32 := (Host.slice S16x3x1x130x64 ![0, 0, 0, 0, 0] ![1, 1, 1, 1, 2] · slicesBy_S16x3x1x130x130_S16x3x1x130x64_0s1_0s1_0s1_0s1_0s2) v2
  have v4 : Vec F S16x3x1x130x64 .f32 := (Host.slice S16x3x1x130x64 ![0, 0, 0, 0, 1] ![1, 1, 1, 1, 2] · slicesBy_S16x3x1x130x130_S16x3x1x130x64_0s1_0s1_0s1_0s1_1s2) v2
  have v5 : Vec F S16x3x1x130x64 .f32 := (Host.slice S16x3x1x130x64 ![0, 0, 0, 0, 2] ![1, 1, 1, 1, 2] · slicesBy_S16x3x1x130x130_S16x3x1x130x64_0s1_0s1_0s1_0s1_2s2) v2
  have v6 : Vec F S16x3x1x130x64 .f32 := (Host.slice S16x3x1x130x64 ![0, 0, 0, 0, 3] ![1, 1, 1, 1, 2] · slicesBy_S16x3x1x130x130_S16x3x1x130x64_0s1_0s1_0s1_0s1_3s2) v2
  have v7 : Vec F S16x3x4x130x64 .f32 := cat4 S16x3x4x130x64 2 concatenates_S16x3x1x130x64_S16x3x1x130x64_S16x3x1x130x64_S16x3x1x130x64_S16x3x4x130x64_d2 v3 v4 v5 v6
  have v8 : Vec F S16x3x4x64x64 .f32 := (Host.slice S16x3x4x64x64 ![0, 0, 0, 0, 0] ![1, 1, 1, 2, 1] · slicesBy_S16x3x4x130x64_S16x3x4x64x64_0s1_0s1_0s1_0s2_0s1) v7
  have v9 : Vec F S16x3x4x64x64 .f32 := (Host.slice S16x3x4x64x64 ![0, 0, 0, 1, 0] ![1, 1, 1, 2, 1] · slicesBy_S16x3x4x130x64_S16x3x4x64x64_0s1_0s1_0s1_1s2_0s1) v7
  have v10 : Vec F S16x3x4x64x64 .f32 := (Host.slice S16x3x4x64x64 ![0, 0, 0, 2, 0] ![1, 1, 1, 2, 1] · slicesBy_S16x3x4x130x64_S16x3x4x64x64_0s1_0s1_0s1_2s2_0s1) v7
  have v11 : Vec F S16x3x4x64x64 .f32 := (Host.slice S16x3x4x64x64 ![0, 0, 0, 3, 0] ![1, 1, 1, 2, 1] · slicesBy_S16x3x4x130x64_S16x3x4x64x64_0s1_0s1_0s1_3s2_0s1) v7
  have v12 : Vec F S16x3x16x64x64 .f32 := cat4 S16x3x16x64x64 2 concatenates_S16x3x4x64x64_S16x3x4x64x64_S16x3x4x64x64_S16x3x4x64x64_S16x3x16x64x64_d2 v8 v9 v10 v11
  have v13 : Vec F S16x3x4x4x4096 .f32 := shapeCast S16x3x4x4x4096 v12 shapeCasts_S16x3x16x64x64_S16x3x4x4x4096
  have v14 : Vec F S128x16x4096 .f32 := (fun l r => Host.dotGeneral dot_S128x3x4x4_S16x3x4x4x4096_S128x16x4096_123_123_0_04_n_n none l r) arg1 v13
  have v15 : Vec F S16x128x4096 .f32 := (transpose S16x128x4096 [1, 0, 2] · transposes_S128x16x4096_S16x128x4096_1_0_2) v14
  have v16 : Vec F S16x128x4096 .f32 := addf v15 v0
  have v17 : Vec F S16x128x64x64 .f32 := shapeCast S16x128x64x64 v16 shapeCasts_S16x128x4096_S16x128x64x64
  v17

/-- The value of `fn_relu` at its arguments. -/
def fn_relu.val (arg0 : Vec F S16x128x64x64 .f32) : Vec F S16x128x64x64 .f32 :=
  have cst : Vec F S_ .f32 := (constant S_ .f32 0x00000000#32)
  have v0 : Vec F S16x128x64x64 .f32 := (broadcastInDim S16x128x64x64 ![] bcast_S_S16x128x64x64) cst
  have v1 : Vec F S16x128x64x64 .f32 := maximumf arg0 v0
  v1

/-- The value of `fn_conv_0` at its arguments. -/
def fn_conv_0.val (arg0 : Vec F S16x128x64x64 .f32) (arg1 : Vec F S256x128x4x4 .f32) (arg2 : Vec F S256 .f32) : Vec F S16x256x32x32 .f32 :=
  have v0 : Vec F S16x256x1024 .f32 := (broadcastInDim S16x256x1024 ![1] bcast_S256_S16x256x1024_1) arg2
  have v1 : Vec F S16x128x1x64x64 .f32 := (broadcastInDim S16x128x1x64x64 ![0, 1, 3, 4] bcast_S16x128x64x64_S16x128x1x64x64_0_1_3_4) arg0
  have cst : Vec F S_ .f32 := (constant S_ .f32 0x00000000#32)
  have v2 : Vec F S16x128x1x66x66 .f32 := (fun x v => pad S16x128x1x66x66 ![0, 0, 0, 1, 1] ![0, 0, 0, 1, 1] ![0, 0, 0, 0, 0] x v pads_S16x128x1x64x64_S16x128x1x66x66_000_000_000_110_110 h_S_) v1 cst
  have v3 : Vec F S16x128x1x66x32 .f32 := (Host.slice S16x128x1x66x32 ![0, 0, 0, 0, 0] ![1, 1, 1, 1, 2] · slicesBy_S16x128x1x66x66_S16x128x1x66x32_0s1_0s1_0s1_0s1_0s2) v2
  have v4 : Vec F S16x128x1x66x32 .f32 := (Host.slice S16x128x1x66x32 ![0, 0, 0, 0, 1] ![1, 1, 1, 1, 2] · slicesBy_S16x128x1x66x66_S16x128x1x66x32_0s1_0s1_0s1_0s1_1s2) v2
  have v5 : Vec F S16x128x1x66x32 .f32 := (Host.slice S16x128x1x66x32 ![0, 0, 0, 0, 2] ![1, 1, 1, 1, 2] · slicesBy_S16x128x1x66x66_S16x128x1x66x32_0s1_0s1_0s1_0s1_2s2) v2
  have v6 : Vec F S16x128x1x66x32 .f32 := (Host.slice S16x128x1x66x32 ![0, 0, 0, 0, 3] ![1, 1, 1, 1, 2] · slicesBy_S16x128x1x66x66_S16x128x1x66x32_0s1_0s1_0s1_0s1_3s2) v2
  have v7 : Vec F S16x128x4x66x32 .f32 := cat4 S16x128x4x66x32 2 concatenates_S16x128x1x66x32_S16x128x1x66x32_S16x128x1x66x32_S16x128x1x66x32_S16x128x4x66x32_d2 v3 v4 v5 v6
  have v8 : Vec F S16x128x4x32x32 .f32 := (Host.slice S16x128x4x32x32 ![0, 0, 0, 0, 0] ![1, 1, 1, 2, 1] · slicesBy_S16x128x4x66x32_S16x128x4x32x32_0s1_0s1_0s1_0s2_0s1) v7
  have v9 : Vec F S16x128x4x32x32 .f32 := (Host.slice S16x128x4x32x32 ![0, 0, 0, 1, 0] ![1, 1, 1, 2, 1] · slicesBy_S16x128x4x66x32_S16x128x4x32x32_0s1_0s1_0s1_1s2_0s1) v7
  have v10 : Vec F S16x128x4x32x32 .f32 := (Host.slice S16x128x4x32x32 ![0, 0, 0, 2, 0] ![1, 1, 1, 2, 1] · slicesBy_S16x128x4x66x32_S16x128x4x32x32_0s1_0s1_0s1_2s2_0s1) v7
  have v11 : Vec F S16x128x4x32x32 .f32 := (Host.slice S16x128x4x32x32 ![0, 0, 0, 3, 0] ![1, 1, 1, 2, 1] · slicesBy_S16x128x4x66x32_S16x128x4x32x32_0s1_0s1_0s1_3s2_0s1) v7
  have v12 : Vec F S16x128x16x32x32 .f32 := cat4 S16x128x16x32x32 2 concatenates_S16x128x4x32x32_S16x128x4x32x32_S16x128x4x32x32_S16x128x4x32x32_S16x128x16x32x32_d2 v8 v9 v10 v11
  have v13 : Vec F S16x128x4x4x1024 .f32 := shapeCast S16x128x4x4x1024 v12 shapeCasts_S16x128x16x32x32_S16x128x4x4x1024
  have v14 : Vec F S256x16x1024 .f32 := (fun l r => Host.dotGeneral dot_S256x128x4x4_S16x128x4x4x1024_S256x16x1024_123_123_0_04_n_n none l r) arg1 v13
  have v15 : Vec F S16x256x1024 .f32 := (transpose S16x256x1024 [1, 0, 2] · transposes_S256x16x1024_S16x256x1024_1_0_2) v14
  have v16 : Vec F S16x256x1024 .f32 := addf v15 v0
  have v17 : Vec F S16x256x32x32 .f32 := shapeCast S16x256x32x32 v16 shapeCasts_S16x256x1024_S16x256x32x32
  v17

/-- The value of `fn_relu_1` at its arguments. -/
def fn_relu_1.val (arg0 : Vec F S16x256x32x32 .f32) : Vec F S16x256x32x32 .f32 :=
  have cst : Vec F S_ .f32 := (constant S_ .f32 0x00000000#32)
  have v0 : Vec F S16x256x32x32 .f32 := (broadcastInDim S16x256x32x32 ![] bcast_S_S16x256x32x32) cst
  have v1 : Vec F S16x256x32x32 .f32 := maximumf arg0 v0
  v1

/-- The value of `fn_conv_2` at its arguments. -/
def fn_conv_2.val (arg0 : Vec F S16x256x32x32 .f32) (arg1 : Vec F S256x256x3x3 .f32) (arg2 : Vec F S256 .f32) : Vec F S16x256x32x32 .f32 :=
  have v0 : Vec F S16x256x1024 .f32 := (broadcastInDim S16x256x1024 ![1] bcast_S256_S16x256x1024_1) arg2
  have v1 : Vec F S16x256x1x32x32 .f32 := (broadcastInDim S16x256x1x32x32 ![0, 1, 3, 4] bcast_S16x256x32x32_S16x256x1x32x32_0_1_3_4) arg0
  have cst : Vec F S_ .f32 := (constant S_ .f32 0x00000000#32)
  have v2 : Vec F S16x256x1x34x34 .f32 := (fun x v => pad S16x256x1x34x34 ![0, 0, 0, 1, 1] ![0, 0, 0, 1, 1] ![0, 0, 0, 0, 0] x v pads_S16x256x1x32x32_S16x256x1x34x34_000_000_000_110_110 h_S_) v1 cst
  have v3 : Vec F S16x256x1x34x32 .f32 := (extractStridedSlice S16x256x1x34x32 ![0, 0, 0, 0, 0] · slices_S16x256x1x34x34_S16x256x1x34x32_0_0_0_0_0) v2
  have v4 : Vec F S16x256x1x34x32 .f32 := (extractStridedSlice S16x256x1x34x32 ![0, 0, 0, 0, 1] · slices_S16x256x1x34x34_S16x256x1x34x32_0_0_0_0_1) v2
  have v5 : Vec F S16x256x1x34x32 .f32 := (extractStridedSlice S16x256x1x34x32 ![0, 0, 0, 0, 2] · slices_S16x256x1x34x34_S16x256x1x34x32_0_0_0_0_2) v2
  have v6 : Vec F S16x256x3x34x32 .f32 := cat3 S16x256x3x34x32 2 concatenates_S16x256x1x34x32_S16x256x1x34x32_S16x256x1x34x32_S16x256x3x34x32_d2 v3 v4 v5
  have v7 : Vec F S16x256x3x32x32 .f32 := (extractStridedSlice S16x256x3x32x32 ![0, 0, 0, 0, 0] · slices_S16x256x3x34x32_S16x256x3x32x32_0_0_0_0_0) v6
  have v8 : Vec F S16x256x3x32x32 .f32 := (extractStridedSlice S16x256x3x32x32 ![0, 0, 0, 1, 0] · slices_S16x256x3x34x32_S16x256x3x32x32_0_0_0_1_0) v6
  have v9 : Vec F S16x256x3x32x32 .f32 := (extractStridedSlice S16x256x3x32x32 ![0, 0, 0, 2, 0] · slices_S16x256x3x34x32_S16x256x3x32x32_0_0_0_2_0) v6
  have v10 : Vec F S16x256x9x32x32 .f32 := cat3 S16x256x9x32x32 2 concatenates_S16x256x3x32x32_S16x256x3x32x32_S16x256x3x32x32_S16x256x9x32x32_d2 v7 v8 v9
  have v11 : Vec F S16x256x3x3x1024 .f32 := shapeCast S16x256x3x3x1024 v10 shapeCasts_S16x256x9x32x32_S16x256x3x3x1024
  have v12 : Vec F S256x16x1024 .f32 := (fun l r => Host.dotGeneral dot_S256x256x3x3_S16x256x3x3x1024_S256x16x1024_123_123_0_04_n_n none l r) arg1 v11
  have v13 : Vec F S16x256x1024 .f32 := (transpose S16x256x1024 [1, 0, 2] · transposes_S256x16x1024_S16x256x1024_1_0_2) v12
  have v14 : Vec F S16x256x1024 .f32 := addf v13 v0
  have v15 : Vec F S16x256x32x32 .f32 := shapeCast S16x256x32x32 v14 shapeCasts_S16x256x1024_S16x256x32x32
  v15

/-- The value of `fn_argmin` at its arguments. -/
def fn_argmin.val (arg0 : Vec F S16384x512 .f32) : Vec F S16384 .i32 :=
  have v0 : Vec F S16384x512 .i32 := (iotaInDim S16384x512 32 1)
  have cst : Vec F S_ .f32 := (constant S_ .f32 0x7F800000#32)
  have c : Vec F S_ .i32 := (constantI S_ 32 0#32)
  have v1_1 : Vec F S16384 .i32 := (fun x y u v j => (Host.argReduce reducer_argmin_f32_i32 x y u v reducesTo_S16384x512_S16384_d1 h_S_ j).2) arg0 v0 cst c
  v1_1

/-- The value of `fn_conv_3` at its arguments. -/
def fn_conv_3.val (arg0 : Vec F S16x256x32x32 .f32) (arg1 : Vec F S256x256x1x1 .f32) (arg2 : Vec F S256 .f32) : Vec F S16x256x32x32 .f32 :=
  have v0 : Vec F S16x256x1024 .f32 := (broadcastInDim S16x256x1024 ![1] bcast_S256_S16x256x1024_1) arg2
  have v1 : Vec F S16x256x1x32x32 .f32 := (broadcastInDim S16x256x1x32x32 ![0, 1, 3, 4] bcast_S16x256x32x32_S16x256x1x32x32_0_1_3_4) arg0
  have cst : Vec F S_ .f32 := (constant S_ .f32 0x00000000#32)
  have v2 : Vec F S16x256x1x32x32 .f32 := (fun x v => pad S16x256x1x32x32 ![0, 0, 0, 0, 0] ![0, 0, 0, 0, 0] ![0, 0, 0, 0, 0] x v pads_S16x256x1x32x32_S16x256x1x32x32_000_000_000_000_000 h_S_) v1 cst
  have v3 : Vec F S16x256x1x32x32 .f32 := (extractStridedSlice S16x256x1x32x32 ![0, 0, 0, 0, 0] · slices_S16x256x1x32x32_S16x256x1x32x32_0_0_0_0_0) v2
  have v4 : Vec F S16x256x1x32x32 .f32 := (extractStridedSlice S16x256x1x32x32 ![0, 0, 0, 0, 0] · slices_S16x256x1x32x32_S16x256x1x32x32_0_0_0_0_0) v3
  have v5 : Vec F S16x256x1x1x1024 .f32 := shapeCast S16x256x1x1x1024 v4 shapeCasts_S16x256x1x32x32_S16x256x1x1x1024
  have v6 : Vec F S256x16x1024 .f32 := (fun l r => Host.dotGeneral dot_S256x256x1x1_S16x256x1x1x1024_S256x16x1024_123_123_0_04_n_n none l r) arg1 v5
  have v7 : Vec F S16x256x1024 .f32 := (transpose S16x256x1024 [1, 0, 2] · transposes_S256x16x1024_S16x256x1024_1_0_2) v6
  have v8 : Vec F S16x256x1024 .f32 := addf v7 v0
  have v9 : Vec F S16x256x32x32 .f32 := shapeCast S16x256x32x32 v8 shapeCasts_S16x256x1024_S16x256x32x32
  v9

/-- The value of `fn_flip` at its arguments. -/
def fn_flip.val (arg0 : Vec F S256x256x4x4 .f32) : Vec F S256x256x4x4 .f32 :=
  have v0 : Vec F S256x256x4x4 .f32 := (Host.reverse [2, 3]) arg0
  v0

/-- The value of `fn_conv_4` at its arguments. -/
def fn_conv_4.val (arg0 : Vec F S16x256x32x32 .f32) (arg1 : Vec F S256x256x4x4 .f32) (arg2 : Vec F S256 .f32) : Vec F S16x256x64x64 .f32 :=
  have v0 : Vec F S16x256x4096 .f32 := (broadcastInDim S16x256x4096 ![1] bcast_S256_S16x256x4096_1) arg2
  have v1 : Vec F S16x256x1x32x32 .f32 := (broadcastInDim S16x256x1x32x32 ![0, 1, 3, 4] bcast_S16x256x32x32_S16x256x1x32x32_0_1_3_4) arg0
  have cst : Vec F S_ .f32 := (constant S_ .f32 0x00000000#32)
  have v2 : Vec F S16x256x1x67x67 .f32 := (fun x v => pad S16x256x1x67x67 ![0, 0, 0, 2, 2] ![0, 0, 0, 2, 2] ![0, 0, 0, 1, 1] x v pads_S16x256x1x32x32_S16x256x1x67x67_000_000_000_221_221 h_S_) v1 cst
  have v3 : Vec F S16x256x1x67x64 .f32 := (extractStridedSlice S16x256x1x67x64 ![0, 0, 0, 0, 0] · slices_S16x256x1x67x67_S16x256x1x67x64_0_0_0_0_0) v2
  have v4 : Vec F S16x256x1x67x64 .f32 := (extractStridedSlice S16x256x1x67x64 ![0, 0, 0, 0, 1] · slices_S16x256x1x67x67_S16x256x1x67x64_0_0_0_0_1) v2
  have v5 : Vec F S16x256x1x67x64 .f32 := (extractStridedSlice S16x256x1x67x64 ![0, 0, 0, 0, 2] · slices_S16x256x1x67x67_S16x256x1x67x64_0_0_0_0_2) v2
  have v6 : Vec F S16x256x1x67x64 .f32 := (extractStridedSlice S16x256x1x67x64 ![0, 0, 0, 0, 3] · slices_S16x256x1x67x67_S16x256x1x67x64_0_0_0_0_3) v2
  have v7 : Vec F S16x256x4x67x64 .f32 := cat4 S16x256x4x67x64 2 concatenates_S16x256x1x67x64_S16x256x1x67x64_S16x256x1x67x64_S16x256x1x67x64_S16x256x4x67x64_d2 v3 v4 v5 v6
  have v8 : Vec F S16x256x4x64x64 .f32 := (extractStridedSlice S16x256x4x64x64 ![0, 0, 0, 0, 0] · slices_S16x256x4x67x64_S16x256x4x64x64_0_0_0_0_0) v7
  have v9 : Vec F S16x256x4x64x64 .f32 := (extractStridedSlice S16x256x4x64x64 ![0, 0, 0, 1, 0] · slices_S16x256x4x67x64_S16x256x4x64x64_0_0_0_1_0) v7
  have v10 : Vec F S16x256x4x64x64 .f32 := (extractStridedSlice S16x256x4x64x64 ![0, 0, 0, 2, 0] · slices_S16x256x4x67x64_S16x256x4x64x64_0_0_0_2_0) v7
  have v11 : Vec F S16x256x4x64x64 .f32 := (extractStridedSlice S16x256x4x64x64 ![0, 0, 0, 3, 0] · slices_S16x256x4x67x64_S16x256x4x64x64_0_0_0_3_0) v7
  have v12 : Vec F S16x256x16x64x64 .f32 := cat4 S16x256x16x64x64 2 concatenates_S16x256x4x64x64_S16x256x4x64x64_S16x256x4x64x64_S16x256x4x64x64_S16x256x16x64x64_d2 v8 v9 v10 v11
  have v13 : Vec F S16x256x4x4x4096 .f32 := shapeCast S16x256x4x4x4096 v12 shapeCasts_S16x256x16x64x64_S16x256x4x4x4096
  have v14 : Vec F S256x16x4096 .f32 := (fun l r => Host.dotGeneral dot_S256x256x4x4_S16x256x4x4x4096_S256x16x4096_123_123_0_04_n_n none l r) arg1 v13
  have v15 : Vec F S16x256x4096 .f32 := (transpose S16x256x4096 [1, 0, 2] · transposes_S256x16x4096_S16x256x4096_1_0_2) v14
  have v16 : Vec F S16x256x4096 .f32 := addf v15 v0
  have v17 : Vec F S16x256x64x64 .f32 := shapeCast S16x256x64x64 v16 shapeCasts_S16x256x4096_S16x256x64x64
  v17

/-- The value of `fn_relu_5` at its arguments. -/
def fn_relu_5.val (arg0 : Vec F S16x256x64x64 .f32) : Vec F S16x256x64x64 .f32 :=
  have cst : Vec F S_ .f32 := (constant S_ .f32 0x00000000#32)
  have v0 : Vec F S16x256x64x64 .f32 := (broadcastInDim S16x256x64x64 ![] bcast_S_S16x256x64x64) cst
  have v1 : Vec F S16x256x64x64 .f32 := maximumf arg0 v0
  v1

/-- The value of `fn_flip_6` at its arguments. -/
def fn_flip_6.val (arg0 : Vec F S256x3x4x4 .f32) : Vec F S256x3x4x4 .f32 :=
  have v0 : Vec F S256x3x4x4 .f32 := (Host.reverse [2, 3]) arg0
  v0

/-- The value of `fn_conv_7` at its arguments. -/
def fn_conv_7.val (arg0 : Vec F S16x256x64x64 .f32) (arg1 : Vec F S3x256x4x4 .f32) (arg2 : Vec F S3 .f32) : Vec F S16x3x128x128 .f32 :=
  have v0 : Vec F S16x3x16384 .f32 := (broadcastInDim S16x3x16384 ![1] bcast_S3_S16x3x16384_1) arg2
  have v1 : Vec F S16x256x1x64x64 .f32 := (broadcastInDim S16x256x1x64x64 ![0, 1, 3, 4] bcast_S16x256x64x64_S16x256x1x64x64_0_1_3_4) arg0
  have cst : Vec F S_ .f32 := (constant S_ .f32 0x00000000#32)
  have v2 : Vec F S16x256x1x131x131 .f32 := (fun x v => pad S16x256x1x131x131 ![0, 0, 0, 2, 2] ![0, 0, 0, 2, 2] ![0, 0, 0, 1, 1] x v pads_S16x256x1x64x64_S16x256x1x131x131_000_000_000_221_221 h_S_) v1 cst
  have v3 : Vec F S16x256x1x131x128 .f32 := (extractStridedSlice S16x256x1x131x128 ![0, 0, 0, 0, 0] · slices_S16x256x1x131x131_S16x256x1x131x128_0_0_0_0_0) v2
  have v4 : Vec F S16x256x1x131x128 .f32 := (extractStridedSlice S16x256x1x131x128 ![0, 0, 0, 0, 1] · slices_S16x256x1x131x131_S16x256x1x131x128_0_0_0_0_1) v2
  have v5 : Vec F S16x256x1x131x128 .f32 := (extractStridedSlice S16x256x1x131x128 ![0, 0, 0, 0, 2] · slices_S16x256x1x131x131_S16x256x1x131x128_0_0_0_0_2) v2
  have v6 : Vec F S16x256x1x131x128 .f32 := (extractStridedSlice S16x256x1x131x128 ![0, 0, 0, 0, 3] · slices_S16x256x1x131x131_S16x256x1x131x128_0_0_0_0_3) v2
  have v7 : Vec F S16x256x4x131x128 .f32 := cat4 S16x256x4x131x128 2 concatenates_S16x256x1x131x128_S16x256x1x131x128_S16x256x1x131x128_S16x256x1x131x128_S16x256x4x131x128_d2 v3 v4 v5 v6
  have v8 : Vec F S16x256x4x128x128 .f32 := (extractStridedSlice S16x256x4x128x128 ![0, 0, 0, 0, 0] · slices_S16x256x4x131x128_S16x256x4x128x128_0_0_0_0_0) v7
  have v9 : Vec F S16x256x4x128x128 .f32 := (extractStridedSlice S16x256x4x128x128 ![0, 0, 0, 1, 0] · slices_S16x256x4x131x128_S16x256x4x128x128_0_0_0_1_0) v7
  have v10 : Vec F S16x256x4x128x128 .f32 := (extractStridedSlice S16x256x4x128x128 ![0, 0, 0, 2, 0] · slices_S16x256x4x131x128_S16x256x4x128x128_0_0_0_2_0) v7
  have v11 : Vec F S16x256x4x128x128 .f32 := (extractStridedSlice S16x256x4x128x128 ![0, 0, 0, 3, 0] · slices_S16x256x4x131x128_S16x256x4x128x128_0_0_0_3_0) v7
  have v12 : Vec F S16x256x16x128x128 .f32 := cat4 S16x256x16x128x128 2 concatenates_S16x256x4x128x128_S16x256x4x128x128_S16x256x4x128x128_S16x256x4x128x128_S16x256x16x128x128_d2 v8 v9 v10 v11
  have v13 : Vec F S16x256x4x4x16384 .f32 := shapeCast S16x256x4x4x16384 v12 shapeCasts_S16x256x16x128x128_S16x256x4x4x16384
  have v14 : Vec F S3x16x16384 .f32 := (fun l r => Host.dotGeneral dot_S3x256x4x4_S16x256x4x4x16384_S3x16x16384_123_123_0_04_n_n none l r) arg1 v13
  have v15 : Vec F S16x3x16384 .f32 := (transpose S16x3x16384 [1, 0, 2] · transposes_S3x16x16384_S16x3x16384_1_0_2) v14
  have v16 : Vec F S16x3x16384 .f32 := addf v15 v0
  have v17 : Vec F S16x3x128x128 .f32 := shapeCast S16x3x128x128 v16 shapeCasts_S16x3x16384_S16x3x128x128
  v17

/-- A value of the main function, from the values read before it. -/
def permVal (v4 : Vec F S16x256x32x32 .f32) : Vec F S16x32x32x256 .f32 :=
  have v5 : Vec F S16x32x32x256 .f32 := ((transpose S16x32x32x256 [0, 2, 3, 1] · transposes_S16x256x32x32_S16x32x32x256_0_2_3_1) : (⟨S16x256x32x32, .f32⟩ : BufTy).Contents (Elt F) → (⟨S16x32x32x256, .f32⟩ : BufTy).Contents (Elt F)) v4
  v5

/-- A value of the main function, from the values read before it. -/
def distVal (v4 : Vec F S16x256x32x32 .f32) (arg1 : Vec F S512x256 .f32) : Vec F S16384x512 .f32 :=
  have v5 : Vec F S16x32x32x256 .f32 := ((transpose S16x32x32x256 [0, 2, 3, 1] · transposes_S16x256x32x32_S16x32x32x256_0_2_3_1) : (⟨S16x256x32x32, .f32⟩ : BufTy).Contents (Elt F) → (⟨S16x32x32x256, .f32⟩ : BufTy).Contents (Elt F)) v4
  have v6 : Vec F S16384x256 .f32 := shapeCast S16384x256 v5 shapeCasts_S16x32x32x256_S16384x256
  have v7 : Vec F S16384x256 .f32 := (mulf : (⟨S16384x256, .f32⟩ : BufTy).Contents (Elt F) → (⟨S16384x256, .f32⟩ : BufTy).Contents (Elt F) → (⟨S16384x256, .f32⟩ : BufTy).Contents (Elt F)) v6 v6
  have cst : Vec F S_ .f32 := (constant S_ .f32 0x00000000#32)
  have v8 : Vec F S16384 .f32 := ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)) v7 cst
  have v9 : Vec F S16384x1 .f32 := (broadcastInDim S16384x1 ![0] bcast_S16384_S16384x1_0 : (⟨S16384, .f32⟩ : BufTy).Contents (Elt F) → (⟨S16384x1, .f32⟩ : BufTy).Contents (Elt F)) v8
  have v10 : Vec F S512x256 .f32 := (mulf : (⟨S512x256, .f32⟩ : BufTy).Contents (Elt F) → (⟨S512x256, .f32⟩ : BufTy).Contents (Elt F) → (⟨S512x256, .f32⟩ : BufTy).Contents (Elt F)) arg1 arg1
  have cst_0 : Vec F S_ .f32 := (constant S_ .f32 0x00000000#32)
  have v11 : Vec F S512 .f32 := ((fun x v => Host.reduceAdd x v reducesTo_S512x256_S512_d1 h_S_) : (⟨S512x256, .f32⟩ : BufTy).Contents (Elt F) → (⟨S_, .f32⟩ : BufTy).Contents (Elt F) → (⟨S512, .f32⟩ : BufTy).Contents (Elt F)) v10 cst_0
  have v12 : Vec F S1x512 .f32 := (broadcastInDim S1x512 ![1] bcast_S512_S1x512_1 : (⟨S512, .f32⟩ : BufTy).Contents (Elt F) → (⟨S1x512, .f32⟩ : BufTy).Contents (Elt F)) v11
  have v13 : Vec F S16384x512 .f32 := (broadcastInDim S16384x512 ![0, 1] bcast_S16384x1_S16384x512_0_1 : (⟨S16384x1, .f32⟩ : BufTy).Contents (Elt F) → (⟨S16384x512, .f32⟩ : BufTy).Contents (Elt F)) v9
  have v14 : Vec F S16384x512 .f32 := (broadcastInDim S16384x512 ![0, 1] bcast_S1x512_S16384x512_0_1 : (⟨S1x512, .f32⟩ : BufTy).Contents (Elt F) → (⟨S16384x512, .f32⟩ : BufTy).Contents (Elt F)) v12
  have v15 : Vec F S16384x512 .f32 := (addf : (⟨S16384x512, .f32⟩ : BufTy).Contents (Elt F) → (⟨S16384x512, .f32⟩ : BufTy).Contents (Elt F) → (⟨S16384x512, .f32⟩ : BufTy).Contents (Elt F)) v13 v14
  have cst_1 : Vec F S_ .f32 := (constant S_ .f32 0x40000000#32)
  have v16 : Vec F S16384x256 .f32 := (broadcastInDim S16384x256 ![] bcast_S_S16384x256 : (⟨S_, .f32⟩ : BufTy).Contents (Elt F) → (⟨S16384x256, .f32⟩ : BufTy).Contents (Elt F)) cst_1
  have v17 : Vec F S16384x256 .f32 := (mulf : (⟨S16384x256, .f32⟩ : BufTy).Contents (Elt F) → (⟨S16384x256, .f32⟩ : BufTy).Contents (Elt F) → (⟨S16384x256, .f32⟩ : BufTy).Contents (Elt F)) v16 v6
  have v18 : Vec F S256x512 .f32 := ((transpose S256x512 [1, 0] · transposes_S512x256_S256x512_1_0) : (⟨S512x256, .f32⟩ : BufTy).Contents (Elt F) → (⟨S256x512, .f32⟩ : BufTy).Contents (Elt F)) arg1
  have v19 : Vec F S16384x512 .f32 := ((fun l r => Host.dotGeneral dot_S16384x256_S256x512_S16384x512_1_0_0_1_n_n none l r) : (⟨S16384x256, .f32⟩ : BufTy).Contents (Elt F) → (⟨S256x512, .f32⟩ : BufTy).Contents (Elt F) → (⟨S16384x512, .f32⟩ : BufTy).Contents (Elt F)) v17 v18
  have v20 : Vec F S16384x512 .f32 := (subf : (⟨S16384x512, .f32⟩ : BufTy).Contents (Elt F) → (⟨S16384x512, .f32⟩ : BufTy).Contents (Elt F) → (⟨S16384x512, .f32⟩ : BufTy).Contents (Elt F)) v15 v19
  v20

/-- A value of the main function, from the values read before it. -/
def lossVal (arg1 : Vec F S512x256 .f32) (v21 : Vec F S16384 .i32) (v5 : Vec F S16x32x32x256 .f32) : Vec F S_ .f32 :=
  have c : Vec F S_ .i32 := (constantI S_ 32 0#32)
  have v22 : Vec F S16384 .i32 := (broadcastInDim S16384 ![] bcast_S_S16384 : (⟨S_, .i32⟩ : BufTy).Contents (Elt F) → (⟨S16384, .i32⟩ : BufTy).Contents (Elt F)) c
  have v23 : Vec F S16384 .i1 := (cmpi .slt : (⟨S16384, .i32⟩ : BufTy).Contents (Elt F) → (⟨S16384, .i32⟩ : BufTy).Contents (Elt F) → (⟨S16384, .i1⟩ : BufTy).Contents (Elt F)) v21 v22
  have c_2 : Vec F S_ .i32 := (constantI S_ 32 512#32)
  have v24 : Vec F S16384 .i32 := (broadcastInDim S16384 ![] bcast_S_S16384 : (⟨S_, .i32⟩ : BufTy).Contents (Elt F) → (⟨S16384, .i32⟩ : BufTy).Contents (Elt F)) c_2
  have v25 : Vec F S16384 .i32 := (addi : (⟨S16384, .i32⟩ : BufTy).Contents (Elt F) → (⟨S16384, .i32⟩ : BufTy).Contents (Elt F) → (⟨S16384, .i32⟩ : BufTy).Contents (Elt F)) v21 v24
  have v26 : Vec F S16384 .i32 := (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) v23 v25 v21
  have v27 : Vec F S16384x1 .i32 := (broadcastInDim S16384x1 ![0] bcast_S16384_S16384x1_0 : (⟨S16384, .i32⟩ : BufTy).Contents (Elt F) → (⟨S16384x1, .i32⟩ : BufTy).Contents (Elt F)) v26
  have v28 : Vec F S16384x256 .f32 := ((fun x i => Host.gather gather_S512x256_S16384x1_S16384x256_1_0_n_n_0_1_1256 x i) : (⟨S512x256, .f32⟩ : BufTy).Contents (Elt F) → (⟨S16384x1, .i32⟩ : BufTy).Contents (Elt F) → (⟨S16384x256, .f32⟩ : BufTy).Contents (Elt F)) arg1 v27
  have v29 : Vec F S16x32x32x256 .f32 := shapeCast S16x32x32x256 v28 shapeCasts_S16384x256_S16x32x32x256
  have v30 : Vec F S16x32x32x256 .f32 := (subf : (⟨S16x32x32x256, .f32⟩ : BufTy).Contents (Elt F) → (⟨S16x32x32x256, .f32⟩ : BufTy).Contents (Elt F) → (⟨S16x32x32x256, .f32⟩ : BufTy).Contents (Elt F)) v29 v5
  have v31 : Vec F S16x32x32x256 .f32 := (mulf : (⟨S16x32x32x256, .f32⟩ : BufTy).Contents (Elt F) → (⟨S16x32x32x256, .f32⟩ : BufTy).Contents (Elt F) → (⟨S16x32x32x256, .f32⟩ : BufTy).Contents (Elt F)) v30 v30
  have cst_3 : Vec F S_ .f32 := (constant S_ .f32 0x00000000#32)
  have v32 : Vec F S_ .f32 := ((fun x v => Host.reduceAdd x v reducesTo_S16x32x32x256_S_d0_1_2_3 h_S_) : (⟨S16x32x32x256, .f32⟩ : BufTy).Contents (Elt F) → (⟨S_, .f32⟩ : BufTy).Contents (Elt F) → (⟨S_, .f32⟩ : BufTy).Contents (Elt F)) v31 cst_3
  have cst_4 : Vec F S_ .f32 := (constant S_ .f32 0x4A800000#32)
  have v33 : Vec F S_ .f32 := (Host.divf : (⟨S_, .f32⟩ : BufTy).Contents (Elt F) → (⟨S_, .f32⟩ : BufTy).Contents (Elt F) → (⟨S_, .f32⟩ : BufTy).Contents (Elt F)) v32 cst_4
  v33

/-- A value of the main function, from the values read before it. -/
def quantVal (v4 : Vec F S16x256x32x32 .f32) (arg1 : Vec F S512x256 .f32) (v21 : Vec F S16384 .i32) : Vec F S16x256x32x32 .f32 :=
  have c : Vec F S_ .i32 := (constantI S_ 32 0#32)
  have v22 : Vec F S16384 .i32 := (broadcastInDim S16384 ![] bcast_S_S16384 : (⟨S_, .i32⟩ : BufTy).Contents (Elt F) → (⟨S16384, .i32⟩ : BufTy).Contents (Elt F)) c
  have v23 : Vec F S16384 .i1 := (cmpi .slt : (⟨S16384, .i32⟩ : BufTy).Contents (Elt F) → (⟨S16384, .i32⟩ : BufTy).Contents (Elt F) → (⟨S16384, .i1⟩ : BufTy).Contents (Elt F)) v21 v22
  have c_2 : Vec F S_ .i32 := (constantI S_ 32 512#32)
  have v24 : Vec F S16384 .i32 := (broadcastInDim S16384 ![] bcast_S_S16384 : (⟨S_, .i32⟩ : BufTy).Contents (Elt F) → (⟨S16384, .i32⟩ : BufTy).Contents (Elt F)) c_2
  have v25 : Vec F S16384 .i32 := (addi : (⟨S16384, .i32⟩ : BufTy).Contents (Elt F) → (⟨S16384, .i32⟩ : BufTy).Contents (Elt F) → (⟨S16384, .i32⟩ : BufTy).Contents (Elt F)) v21 v24
  have v26 : Vec F S16384 .i32 := (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) v23 v25 v21
  have v27 : Vec F S16384x1 .i32 := (broadcastInDim S16384x1 ![0] bcast_S16384_S16384x1_0 : (⟨S16384, .i32⟩ : BufTy).Contents (Elt F) → (⟨S16384x1, .i32⟩ : BufTy).Contents (Elt F)) v26
  have v28 : Vec F S16384x256 .f32 := ((fun x i => Host.gather gather_S512x256_S16384x1_S16384x256_1_0_n_n_0_1_1256 x i) : (⟨S512x256, .f32⟩ : BufTy).Contents (Elt F) → (⟨S16384x1, .i32⟩ : BufTy).Contents (Elt F) → (⟨S16384x256, .f32⟩ : BufTy).Contents (Elt F)) arg1 v27
  have v29 : Vec F S16x32x32x256 .f32 := shapeCast S16x32x32x256 v28 shapeCasts_S16384x256_S16x32x32x256
  have v34 : Vec F S16x256x32x32 .f32 := ((transpose S16x256x32x32 [0, 3, 1, 2] · transposes_S16x32x32x256_S16x256x32x32_0_3_1_2) : (⟨S16x32x32x256, .f32⟩ : BufTy).Contents (Elt F) → (⟨S16x256x32x32, .f32⟩ : BufTy).Contents (Elt F)) v29
  have v35 : Vec F S16x256x32x32 .f32 := (subf : (⟨S16x256x32x32, .f32⟩ : BufTy).Contents (Elt F) → (⟨S16x256x32x32, .f32⟩ : BufTy).Contents (Elt F) → (⟨S16x256x32x32, .f32⟩ : BufTy).Contents (Elt F)) v34 v4
  have v36 : Vec F S16x256x32x32 .f32 := (addf : (⟨S16x256x32x32, .f32⟩ : BufTy).Contents (Elt F) → (⟨S16x256x32x32, .f32⟩ : BufTy).Contents (Elt F) → (⟨S16x256x32x32, .f32⟩ : BufTy).Contents (Elt F)) v4 v35
  v36

/-- A value of the main function, from the values read before it. -/
def tr1Val (v48 : Vec F S256x256x4x4 .f32) : Vec F S256x256x4x4 .f32 :=
  have v49 : Vec F S256x256x4x4 .f32 := ((transpose S256x256x4x4 [1, 0, 2, 3] · transposes_S256x256x4x4_S256x256x4x4_1_0_2_3) : (⟨S256x256x4x4, .f32⟩ : BufTy).Contents (Elt F) → (⟨S256x256x4x4, .f32⟩ : BufTy).Contents (Elt F)) v48
  v49

/-- A value of the main function, from the values read before it. -/
def tr2Val (v52 : Vec F S256x3x4x4 .f32) : Vec F S3x256x4x4 .f32 :=
  have v53 : Vec F S3x256x4x4 .f32 := ((transpose S3x256x4x4 [1, 0, 2, 3] · transposes_S256x3x4x4_S3x256x4x4_1_0_2_3) : (⟨S256x3x4x4, .f32⟩ : BufTy).Contents (Elt F) → (⟨S3x256x4x4, .f32⟩ : BufTy).Contents (Elt F)) v52
  v53

/-- A value of the main function, from the values read before it. -/
def sigVal (v54 : Vec F S16x3x128x128 .f32) : Vec F S16x3x128x128 .f32 :=
  have v55 : Vec F S16x3x128x128 .f32 := (Host.negf : (⟨S16x3x128x128, .f32⟩ : BufTy).Contents (Elt F) → (⟨S16x3x128x128, .f32⟩ : BufTy).Contents (Elt F)) v54
  have v56 : Vec F S16x3x128x128 .f32 := (Host.exp : (⟨S16x3x128x128, .f32⟩ : BufTy).Contents (Elt F) → (⟨S16x3x128x128, .f32⟩ : BufTy).Contents (Elt F)) v55
  have cst_5 : Vec F S_ .f32 := (constant S_ .f32 0x3F800000#32)
  have v57 : Vec F S16x3x128x128 .f32 := (broadcastInDim S16x3x128x128 ![] bcast_S_S16x3x128x128 : (⟨S_, .f32⟩ : BufTy).Contents (Elt F) → (⟨S16x3x128x128, .f32⟩ : BufTy).Contents (Elt F)) cst_5
  have v58 : Vec F S16x3x128x128 .f32 := (addf : (⟨S16x3x128x128, .f32⟩ : BufTy).Contents (Elt F) → (⟨S16x3x128x128, .f32⟩ : BufTy).Contents (Elt F) → (⟨S16x3x128x128, .f32⟩ : BufTy).Contents (Elt F)) v57 v56
  have cst_6 : Vec F S_ .f32 := (constant S_ .f32 0x3F800000#32)
  have v59 : Vec F S16x3x128x128 .f32 := (broadcastInDim S16x3x128x128 ![] bcast_S_S16x3x128x128 : (⟨S_, .f32⟩ : BufTy).Contents (Elt F) → (⟨S16x3x128x128, .f32⟩ : BufTy).Contents (Elt F)) cst_6
  have v60 : Vec F S16x3x128x128 .f32 := (Host.divf : (⟨S16x3x128x128, .f32⟩ : BufTy).Contents (Elt F) → (⟨S16x3x128x128, .f32⟩ : BufTy).Contents (Elt F) → (⟨S16x3x128x128, .f32⟩ : BufTy).Contents (Elt F)) v59 v58
  v60

/-- A value of the main function, from the values read before it. -/
def idxVal (v21 : Vec F S16384 .i32) : Vec F S16x32x32 .i32 :=
  have v61 : Vec F S16x32x32 .i32 := shapeCast S16x32x32 v21 shapeCasts_S16384_S16x32x32
  v61

end Cert.ReferenceIdeal.Val

end
-- ==== Proof.RefReads.lean ====
module

public import proofs.«01_k».proof.Proof.RefRun
public import proofs.«01_k».proof.Proof.RefFns
public import Idealize.ShloMosaic.Lib.StableHlo.RunRead

@[expose] public section

set_option maxRecDepth 16384

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-! # What the reference's lines leave in the buffers read later -/

theorem read_v0 (V : Valuation τ sig (Elt F)) : after (fn_conv.ops (.of main_arg0) (.of main_arg2) (.of main_arg3) main_call0) V (Proc.devRef .tc main_v0) = fn_conv.val (V (Proc.devRef .tc main_arg0)) (V (Proc.devRef .tc main_arg2)) (V (Proc.devRef .tc main_arg3)) := by
  unfold fn_conv.ops
  simp (disch := decide) only [readAfter, readUpto, nullary_result', unary_result', binary_result', castOp_result, catOp3_result, catOp4_result, TRef.ofBuf_toBuf]
  rfl

theorem read_v1 (V : Valuation τ sig (Elt F)) : after (fn_relu.ops (.of main_v0) main_call1) V (Proc.devRef .tc main_v1) = fn_relu.val (V (Proc.devRef .tc main_v0)) := by
  unfold fn_relu.ops
  after_reads_simp
  try rfl

theorem read_v2 (V : Valuation τ sig (Elt F)) : after (fn_conv_0.ops (.of main_v1) (.of main_arg4) (.of main_arg5) main_call2) V (Proc.devRef .tc main_v2) = fn_conv_0.val (V (Proc.devRef .tc main_v1)) (V (Proc.devRef .tc main_arg4)) (V (Proc.devRef .tc main_arg5)) := by
  unfold fn_conv_0.ops
  simp (disch := decide) only [readAfter, readUpto, nullary_result', unary_result', binary_result', castOp_result, catOp3_result, catOp4_result, TRef.ofBuf_toBuf]
  rfl

theorem read_v3 (V : Valuation τ sig (Elt F)) : after (fn_relu_1.ops (.of main_v2) main_call3) V (Proc.devRef .tc main_v3) = fn_relu_1.val (V (Proc.devRef .tc main_v2)) := by
  unfold fn_relu_1.ops
  after_reads_simp
  try rfl

theorem read_v4 (V : Valuation τ sig (Elt F)) : after (fn_conv_2.ops (.of main_v3) (.of main_arg6) (.of main_arg7) main_call4) V (Proc.devRef .tc main_v4) = fn_conv_2.val (V (Proc.devRef .tc main_v3)) (V (Proc.devRef .tc main_arg6)) (V (Proc.devRef .tc main_arg7)) := by
  unfold fn_conv_2.ops
  simp (disch := decide) only [readAfter, readUpto, nullary_result', unary_result', binary_result', castOp_result, catOp3_result, catOp4_result, TRef.ofBuf_toBuf]
  rfl

theorem read_v5 (V : Valuation τ sig (Elt F)) : after (segDist) V (Proc.devRef .tc main_v5) = permVal (V (Proc.devRef .tc main_v4)) := by
  unfold segDist
  after_reads_simp
  try rfl

theorem read_v20 (V : Valuation τ sig (Elt F)) : after (segDist) V (Proc.devRef .tc main_v20) = distVal (V (Proc.devRef .tc main_v4)) (V (Proc.devRef .tc main_arg1)) := by
  unfold segDist
  after_reads_simp
  try rfl

theorem read_v21 (V : Valuation τ sig (Elt F)) : after (fn_argmin.ops (.of main_v20) main_call5) V (Proc.devRef .tc main_v21) = fn_argmin.val (V (Proc.devRef .tc main_v20)) := by
  unfold fn_argmin.ops
  after_reads_simp
  try rfl

theorem read_v33 (V : Valuation τ sig (Elt F)) : after (segQuant) V (Proc.devRef .tc main_v33) = lossVal (V (Proc.devRef .tc main_arg1)) (V (Proc.devRef .tc main_v21)) (V (Proc.devRef .tc main_v5)) := by
  unfold segQuant
  after_reads_simp
  try rfl

theorem read_v36 (V : Valuation τ sig (Elt F)) : after (segQuant) V (Proc.devRef .tc main_v36) = quantVal (V (Proc.devRef .tc main_v4)) (V (Proc.devRef .tc main_arg1)) (V (Proc.devRef .tc main_v21)) := by
  unfold segQuant
  after_reads_simp
  try rfl

theorem read_v37 (V : Valuation τ sig (Elt F)) : after (fn_conv_2.ops (.of main_v36) (.of main_arg8) (.of main_arg9) main_call6) V (Proc.devRef .tc main_v37) = fn_conv_2.val (V (Proc.devRef .tc main_v36)) (V (Proc.devRef .tc main_arg8)) (V (Proc.devRef .tc main_arg9)) := by
  unfold fn_conv_2.ops
  simp (disch := decide) only [readAfter, readUpto, nullary_result', unary_result', binary_result', castOp_result, catOp3_result, catOp4_result, TRef.ofBuf_toBuf]
  rfl

theorem read_v38 (V : Valuation τ sig (Elt F)) : after (fn_relu_1.ops (.of main_v37) main_call7) V (Proc.devRef .tc main_v38) = fn_relu_1.val (V (Proc.devRef .tc main_v37)) := by
  unfold fn_relu_1.ops
  after_reads_simp
  try rfl

theorem read_v39 (V : Valuation τ sig (Elt F)) : after (fn_conv_2.ops (.of main_v38) (.of main_arg10) (.of main_arg11) main_call8) V (Proc.devRef .tc main_v39) = fn_conv_2.val (V (Proc.devRef .tc main_v38)) (V (Proc.devRef .tc main_arg10)) (V (Proc.devRef .tc main_arg11)) := by
  unfold fn_conv_2.ops
  simp (disch := decide) only [readAfter, readUpto, nullary_result', unary_result', binary_result', castOp_result, catOp3_result, catOp4_result, TRef.ofBuf_toBuf]
  rfl

theorem read_v40 (V : Valuation τ sig (Elt F)) : after (fn_relu_1.ops (.of main_v39) main_call9) V (Proc.devRef .tc main_v40) = fn_relu_1.val (V (Proc.devRef .tc main_v39)) := by
  unfold fn_relu_1.ops
  after_reads_simp
  try rfl

theorem read_v41 (V : Valuation τ sig (Elt F)) : after (fn_conv_3.ops (.of main_v40) (.of main_arg12) (.of main_arg13) main_call10) V (Proc.devRef .tc main_v41) = fn_conv_3.val (V (Proc.devRef .tc main_v40)) (V (Proc.devRef .tc main_arg12)) (V (Proc.devRef .tc main_arg13)) := by
  unfold fn_conv_3.ops
  simp (disch := decide) only [readAfter, readUpto, nullary_result', unary_result', binary_result', castOp_result, catOp3_result, catOp4_result, TRef.ofBuf_toBuf]
  rfl

theorem read_v42 (V : Valuation τ sig (Elt F)) : after (segAdd1) V (Proc.devRef .tc main_v42) = (addf ((V (Proc.devRef .tc main_v37)) : Vec F S16x256x32x32 .f32) ((V (Proc.devRef .tc main_v41)) : Vec F S16x256x32x32 .f32)) := by
  unfold segAdd1
  after_reads_simp
  try rfl

theorem read_v43 (V : Valuation τ sig (Elt F)) : after (fn_relu_1.ops (.of main_v42) main_call11) V (Proc.devRef .tc main_v43) = fn_relu_1.val (V (Proc.devRef .tc main_v42)) := by
  unfold fn_relu_1.ops
  after_reads_simp
  try rfl

theorem read_v44 (V : Valuation τ sig (Elt F)) : after (fn_conv_2.ops (.of main_v43) (.of main_arg14) (.of main_arg15) main_call12) V (Proc.devRef .tc main_v44) = fn_conv_2.val (V (Proc.devRef .tc main_v43)) (V (Proc.devRef .tc main_arg14)) (V (Proc.devRef .tc main_arg15)) := by
  unfold fn_conv_2.ops
  simp (disch := decide) only [readAfter, readUpto, nullary_result', unary_result', binary_result', castOp_result, catOp3_result, catOp4_result, TRef.ofBuf_toBuf]
  rfl

theorem read_v45 (V : Valuation τ sig (Elt F)) : after (fn_relu_1.ops (.of main_v44) main_call13) V (Proc.devRef .tc main_v45) = fn_relu_1.val (V (Proc.devRef .tc main_v44)) := by
  unfold fn_relu_1.ops
  after_reads_simp
  try rfl

theorem read_v46 (V : Valuation τ sig (Elt F)) : after (fn_conv_3.ops (.of main_v45) (.of main_arg16) (.of main_arg17) main_call14) V (Proc.devRef .tc main_v46) = fn_conv_3.val (V (Proc.devRef .tc main_v45)) (V (Proc.devRef .tc main_arg16)) (V (Proc.devRef .tc main_arg17)) := by
  unfold fn_conv_3.ops
  simp (disch := decide) only [readAfter, readUpto, nullary_result', unary_result', binary_result', castOp_result, catOp3_result, catOp4_result, TRef.ofBuf_toBuf]
  rfl

theorem read_v47 (V : Valuation τ sig (Elt F)) : after (segAdd2) V (Proc.devRef .tc main_v47) = (addf ((V (Proc.devRef .tc main_v42)) : Vec F S16x256x32x32 .f32) ((V (Proc.devRef .tc main_v46)) : Vec F S16x256x32x32 .f32)) := by
  unfold segAdd2
  after_reads_simp
  try rfl

theorem read_v48 (V : Valuation τ sig (Elt F)) : after (fn_flip.ops (.of main_arg18) main_call15) V (Proc.devRef .tc main_v48) = fn_flip.val (V (Proc.devRef .tc main_arg18)) := by
  unfold fn_flip.ops
  after_reads_simp
  try rfl

theorem read_v49 (V : Valuation τ sig (Elt F)) : after (segTr1) V (Proc.devRef .tc main_v49) = tr1Val (V (Proc.devRef .tc main_v48)) := by
  unfold segTr1
  after_reads_simp
  try rfl

theorem read_v50 (V : Valuation τ sig (Elt F)) : after (fn_conv_4.ops (.of main_v47) (.of main_v49) (.of main_arg19) main_call16) V (Proc.devRef .tc main_v50) = fn_conv_4.val (V (Proc.devRef .tc main_v47)) (V (Proc.devRef .tc main_v49)) (V (Proc.devRef .tc main_arg19)) := by
  unfold fn_conv_4.ops
  simp (disch := decide) only [readAfter, readUpto, nullary_result', unary_result', binary_result', castOp_result, catOp3_result, catOp4_result, TRef.ofBuf_toBuf]
  rfl

theorem read_v51 (V : Valuation τ sig (Elt F)) : after (fn_relu_5.ops (.of main_v50) main_call17) V (Proc.devRef .tc main_v51) = fn_relu_5.val (V (Proc.devRef .tc main_v50)) := by
  unfold fn_relu_5.ops
  after_reads_simp
  try rfl

theorem read_v52 (V : Valuation τ sig (Elt F)) : after (fn_flip_6.ops (.of main_arg20) main_call18) V (Proc.devRef .tc main_v52) = fn_flip_6.val (V (Proc.devRef .tc main_arg20)) := by
  unfold fn_flip_6.ops
  after_reads_simp
  try rfl

theorem read_v53 (V : Valuation τ sig (Elt F)) : after (segTr2) V (Proc.devRef .tc main_v53) = tr2Val (V (Proc.devRef .tc main_v52)) := by
  unfold segTr2
  after_reads_simp
  try rfl

theorem read_v54 (V : Valuation τ sig (Elt F)) : after (fn_conv_7.ops (.of main_v51) (.of main_v53) (.of main_arg21) main_call19) V (Proc.devRef .tc main_v54) = fn_conv_7.val (V (Proc.devRef .tc main_v51)) (V (Proc.devRef .tc main_v53)) (V (Proc.devRef .tc main_arg21)) := by
  unfold fn_conv_7.ops
  simp (disch := decide) only [readAfter, readUpto, nullary_result', unary_result', binary_result', castOp_result, catOp3_result, catOp4_result, TRef.ofBuf_toBuf]
  rfl

theorem read_v60 (V : Valuation τ sig (Elt F)) : after (segOut) V (Proc.devRef .tc main_v60) = sigVal (V (Proc.devRef .tc main_v54)) := by
  unfold segOut
  after_reads_simp
  try rfl

theorem read_v61 (V : Valuation τ sig (Elt F)) : after (segOut) V (Proc.devRef .tc main_v61) = idxVal (V (Proc.devRef .tc main_v21)) := by
  unfold segOut
  after_reads_simp
  try rfl

/-- The buffers written by the first lines, one line after another. -/
def R0 : List (Ref sig .tc) := []
/-- Those of the first 1 lines. -/
def R1 : List (Ref sig .tc) := R0 ++ fn_conv.refs main_call0
/-- Those of the first 2 lines. -/
def R2 : List (Ref sig .tc) := R1 ++ fn_relu.refs main_call1
/-- Those of the first 3 lines. -/
def R3 : List (Ref sig .tc) := R2 ++ fn_conv_0.refs main_call2
/-- Those of the first 4 lines. -/
def R4 : List (Ref sig .tc) := R3 ++ fn_relu_1.refs main_call3
/-- Those of the first 5 lines. -/
def R5 : List (Ref sig .tc) := R4 ++ fn_conv_2.refs main_call4
/-- Those of the first 6 lines. -/
def R6 : List (Ref sig .tc) := R5 ++ segDistRefs
/-- Those of the first 7 lines. -/
def R7 : List (Ref sig .tc) := R6 ++ fn_argmin.refs main_call5
/-- Those of the first 8 lines. -/
def R8 : List (Ref sig .tc) := R7 ++ segQuantRefs
/-- Those of the first 9 lines. -/
def R9 : List (Ref sig .tc) := R8 ++ fn_conv_2.refs main_call6
/-- Those of the first 10 lines. -/
def R10 : List (Ref sig .tc) := R9 ++ fn_relu_1.refs main_call7
/-- Those of the first 11 lines. -/
def R11 : List (Ref sig .tc) := R10 ++ fn_conv_2.refs main_call8
/-- Those of the first 12 lines. -/
def R12 : List (Ref sig .tc) := R11 ++ fn_relu_1.refs main_call9
/-- Those of the first 13 lines. -/
def R13 : List (Ref sig .tc) := R12 ++ fn_conv_3.refs main_call10
/-- Those of the first 14 lines. -/
def R14 : List (Ref sig .tc) := R13 ++ segAdd1Refs
/-- Those of the first 15 lines. -/
def R15 : List (Ref sig .tc) := R14 ++ fn_relu_1.refs main_call11
/-- Those of the first 16 lines. -/
def R16 : List (Ref sig .tc) := R15 ++ fn_conv_2.refs main_call12
/-- Those of the first 17 lines. -/
def R17 : List (Ref sig .tc) := R16 ++ fn_relu_1.refs main_call13
/-- Those of the first 18 lines. -/
def R18 : List (Ref sig .tc) := R17 ++ fn_conv_3.refs main_call14
/-- Those of the first 19 lines. -/
def R19 : List (Ref sig .tc) := R18 ++ segAdd2Refs
/-- Those of the first 20 lines. -/
def R20 : List (Ref sig .tc) := R19 ++ fn_flip.refs main_call15
/-- Those of the first 21 lines. -/
def R21 : List (Ref sig .tc) := R20 ++ segTr1Refs
/-- Those of the first 22 lines. -/
def R22 : List (Ref sig .tc) := R21 ++ fn_conv_4.refs main_call16
/-- Those of the first 23 lines. -/
def R23 : List (Ref sig .tc) := R22 ++ fn_relu_5.refs main_call17
/-- Those of the first 24 lines. -/
def R24 : List (Ref sig .tc) := R23 ++ fn_flip_6.refs main_call18
/-- Those of the first 25 lines. -/
def R25 : List (Ref sig .tc) := R24 ++ segTr2Refs
/-- Those of the first 26 lines. -/
def R26 : List (Ref sig .tc) := R25 ++ fn_conv_7.refs main_call19
/-- Those of the first 27 lines. -/
def R27 : List (Ref sig .tc) := R26 ++ segOutRefs
theorem U0_keep (V : Valuation τ sig (Elt F)) {r : Ref sig .tc} (_ : r ∉ R0) : U0 V (Proc.devRef .tc r) = V (Proc.devRef .tc r) := rfl
theorem U1_keep (V : Valuation τ sig (Elt F)) {r : Ref sig .tc} (h : r ∉ R1) : U1 V (Proc.devRef .tc r) = V (Proc.devRef .tc r) :=
  (U1_of V fun hk => h (List.mem_append_right _ hk)).trans (U0_keep V fun hk => h (List.mem_append_left _ hk))
theorem U2_keep (V : Valuation τ sig (Elt F)) {r : Ref sig .tc} (h : r ∉ R2) : U2 V (Proc.devRef .tc r) = V (Proc.devRef .tc r) :=
  (U2_of V fun hk => h (List.mem_append_right _ hk)).trans (U1_keep V fun hk => h (List.mem_append_left _ hk))
theorem U3_keep (V : Valuation τ sig (Elt F)) {r : Ref sig .tc} (h : r ∉ R3) : U3 V (Proc.devRef .tc r) = V (Proc.devRef .tc r) :=
  (U3_of V fun hk => h (List.mem_append_right _ hk)).trans (U2_keep V fun hk => h (List.mem_append_left _ hk))
theorem U4_keep (V : Valuation τ sig (Elt F)) {r : Ref sig .tc} (h : r ∉ R4) : U4 V (Proc.devRef .tc r) = V (Proc.devRef .tc r) :=
  (U4_of V fun hk => h (List.mem_append_right _ hk)).trans (U3_keep V fun hk => h (List.mem_append_left _ hk))
theorem U5_keep (V : Valuation τ sig (Elt F)) {r : Ref sig .tc} (h : r ∉ R5) : U5 V (Proc.devRef .tc r) = V (Proc.devRef .tc r) :=
  (U5_of V fun hk => h (List.mem_append_right _ hk)).trans (U4_keep V fun hk => h (List.mem_append_left _ hk))
theorem U6_keep (V : Valuation τ sig (Elt F)) {r : Ref sig .tc} (h : r ∉ R6) : U6 V (Proc.devRef .tc r) = V (Proc.devRef .tc r) :=
  (U6_of V fun hk => h (List.mem_append_right _ hk)).trans (U5_keep V fun hk => h (List.mem_append_left _ hk))
theorem U7_keep (V : Valuation τ sig (Elt F)) {r : Ref sig .tc} (h : r ∉ R7) : U7 V (Proc.devRef .tc r) = V (Proc.devRef .tc r) :=
  (U7_of V fun hk => h (List.mem_append_right _ hk)).trans (U6_keep V fun hk => h (List.mem_append_left _ hk))
theorem U8_keep (V : Valuation τ sig (Elt F)) {r : Ref sig .tc} (h : r ∉ R8) : U8 V (Proc.devRef .tc r) = V (Proc.devRef .tc r) :=
  (U8_of V fun hk => h (List.mem_append_right _ hk)).trans (U7_keep V fun hk => h (List.mem_append_left _ hk))
theorem U9_keep (V : Valuation τ sig (Elt F)) {r : Ref sig .tc} (h : r ∉ R9) : U9 V (Proc.devRef .tc r) = V (Proc.devRef .tc r) :=
  (U9_of V fun hk => h (List.mem_append_right _ hk)).trans (U8_keep V fun hk => h (List.mem_append_left _ hk))
theorem U10_keep (V : Valuation τ sig (Elt F)) {r : Ref sig .tc} (h : r ∉ R10) : U10 V (Proc.devRef .tc r) = V (Proc.devRef .tc r) :=
  (U10_of V fun hk => h (List.mem_append_right _ hk)).trans (U9_keep V fun hk => h (List.mem_append_left _ hk))
theorem U11_keep (V : Valuation τ sig (Elt F)) {r : Ref sig .tc} (h : r ∉ R11) : U11 V (Proc.devRef .tc r) = V (Proc.devRef .tc r) :=
  (U11_of V fun hk => h (List.mem_append_right _ hk)).trans (U10_keep V fun hk => h (List.mem_append_left _ hk))
theorem U12_keep (V : Valuation τ sig (Elt F)) {r : Ref sig .tc} (h : r ∉ R12) : U12 V (Proc.devRef .tc r) = V (Proc.devRef .tc r) :=
  (U12_of V fun hk => h (List.mem_append_right _ hk)).trans (U11_keep V fun hk => h (List.mem_append_left _ hk))
theorem U13_keep (V : Valuation τ sig (Elt F)) {r : Ref sig .tc} (h : r ∉ R13) : U13 V (Proc.devRef .tc r) = V (Proc.devRef .tc r) :=
  (U13_of V fun hk => h (List.mem_append_right _ hk)).trans (U12_keep V fun hk => h (List.mem_append_left _ hk))
theorem U14_keep (V : Valuation τ sig (Elt F)) {r : Ref sig .tc} (h : r ∉ R14) : U14 V (Proc.devRef .tc r) = V (Proc.devRef .tc r) :=
  (U14_of V fun hk => h (List.mem_append_right _ hk)).trans (U13_keep V fun hk => h (List.mem_append_left _ hk))
theorem U15_keep (V : Valuation τ sig (Elt F)) {r : Ref sig .tc} (h : r ∉ R15) : U15 V (Proc.devRef .tc r) = V (Proc.devRef .tc r) :=
  (U15_of V fun hk => h (List.mem_append_right _ hk)).trans (U14_keep V fun hk => h (List.mem_append_left _ hk))
theorem U16_keep (V : Valuation τ sig (Elt F)) {r : Ref sig .tc} (h : r ∉ R16) : U16 V (Proc.devRef .tc r) = V (Proc.devRef .tc r) :=
  (U16_of V fun hk => h (List.mem_append_right _ hk)).trans (U15_keep V fun hk => h (List.mem_append_left _ hk))
theorem U17_keep (V : Valuation τ sig (Elt F)) {r : Ref sig .tc} (h : r ∉ R17) : U17 V (Proc.devRef .tc r) = V (Proc.devRef .tc r) :=
  (U17_of V fun hk => h (List.mem_append_right _ hk)).trans (U16_keep V fun hk => h (List.mem_append_left _ hk))
theorem U18_keep (V : Valuation τ sig (Elt F)) {r : Ref sig .tc} (h : r ∉ R18) : U18 V (Proc.devRef .tc r) = V (Proc.devRef .tc r) :=
  (U18_of V fun hk => h (List.mem_append_right _ hk)).trans (U17_keep V fun hk => h (List.mem_append_left _ hk))
theorem U19_keep (V : Valuation τ sig (Elt F)) {r : Ref sig .tc} (h : r ∉ R19) : U19 V (Proc.devRef .tc r) = V (Proc.devRef .tc r) :=
  (U19_of V fun hk => h (List.mem_append_right _ hk)).trans (U18_keep V fun hk => h (List.mem_append_left _ hk))
theorem U20_keep (V : Valuation τ sig (Elt F)) {r : Ref sig .tc} (h : r ∉ R20) : U20 V (Proc.devRef .tc r) = V (Proc.devRef .tc r) :=
  (U20_of V fun hk => h (List.mem_append_right _ hk)).trans (U19_keep V fun hk => h (List.mem_append_left _ hk))
theorem U21_keep (V : Valuation τ sig (Elt F)) {r : Ref sig .tc} (h : r ∉ R21) : U21 V (Proc.devRef .tc r) = V (Proc.devRef .tc r) :=
  (U21_of V fun hk => h (List.mem_append_right _ hk)).trans (U20_keep V fun hk => h (List.mem_append_left _ hk))
theorem U22_keep (V : Valuation τ sig (Elt F)) {r : Ref sig .tc} (h : r ∉ R22) : U22 V (Proc.devRef .tc r) = V (Proc.devRef .tc r) :=
  (U22_of V fun hk => h (List.mem_append_right _ hk)).trans (U21_keep V fun hk => h (List.mem_append_left _ hk))
theorem U23_keep (V : Valuation τ sig (Elt F)) {r : Ref sig .tc} (h : r ∉ R23) : U23 V (Proc.devRef .tc r) = V (Proc.devRef .tc r) :=
  (U23_of V fun hk => h (List.mem_append_right _ hk)).trans (U22_keep V fun hk => h (List.mem_append_left _ hk))
theorem U24_keep (V : Valuation τ sig (Elt F)) {r : Ref sig .tc} (h : r ∉ R24) : U24 V (Proc.devRef .tc r) = V (Proc.devRef .tc r) :=
  (U24_of V fun hk => h (List.mem_append_right _ hk)).trans (U23_keep V fun hk => h (List.mem_append_left _ hk))
theorem U25_keep (V : Valuation τ sig (Elt F)) {r : Ref sig .tc} (h : r ∉ R25) : U25 V (Proc.devRef .tc r) = V (Proc.devRef .tc r) :=
  (U25_of V fun hk => h (List.mem_append_right _ hk)).trans (U24_keep V fun hk => h (List.mem_append_left _ hk))
theorem U26_keep (V : Valuation τ sig (Elt F)) {r : Ref sig .tc} (h : r ∉ R26) : U26 V (Proc.devRef .tc r) = V (Proc.devRef .tc r) :=
  (U26_of V fun hk => h (List.mem_append_right _ hk)).trans (U25_keep V fun hk => h (List.mem_append_left _ hk))
theorem U27_keep (V : Valuation τ sig (Elt F)) {r : Ref sig .tc} (h : r ∉ R27) : U27 V (Proc.devRef .tc r) = V (Proc.devRef .tc r) :=
  (U27_of V fun hk => h (List.mem_append_right _ hk)).trans (U26_keep V fun hk => h (List.mem_append_left _ hk))

/-! The values the reference computes, each from the launch contents. -/

/-- The value left in `main_v0`. -/
def r0 (V : Valuation τ sig (Elt F)) : Vec F S16x128x64x64 .f32 := fn_conv.val (V (Proc.devRef .tc main_arg0)) (V (Proc.devRef .tc main_arg2)) (V (Proc.devRef .tc main_arg3))

/-- The value left in `main_v1`. -/
def r1 (V : Valuation τ sig (Elt F)) : Vec F S16x128x64x64 .f32 := fn_relu.val (r0 V)

/-- The value left in `main_v2`. -/
def r2 (V : Valuation τ sig (Elt F)) : Vec F S16x256x32x32 .f32 := fn_conv_0.val (r1 V) (V (Proc.devRef .tc main_arg4)) (V (Proc.devRef .tc main_arg5))

/-- The value left in `main_v3`. -/
def r3 (V : Valuation τ sig (Elt F)) : Vec F S16x256x32x32 .f32 := fn_relu_1.val (r2 V)

/-- The value left in `main_v4`. -/
def r4 (V : Valuation τ sig (Elt F)) : Vec F S16x256x32x32 .f32 := fn_conv_2.val (r3 V) (V (Proc.devRef .tc main_arg6)) (V (Proc.devRef .tc main_arg7))

/-- The value left in `main_v5`. -/
def r5 (V : Valuation τ sig (Elt F)) : Vec F S16x32x32x256 .f32 := permVal (r4 V)

/-- The value left in `main_v20`. -/
def r20 (V : Valuation τ sig (Elt F)) : Vec F S16384x512 .f32 := distVal (r4 V) (V (Proc.devRef .tc main_arg1))

/-- The value left in `main_v21`. -/
def r21 (V : Valuation τ sig (Elt F)) : Vec F S16384 .i32 := fn_argmin.val (r20 V)

/-- The value left in `main_v33`. -/
def r33 (V : Valuation τ sig (Elt F)) : Vec F S_ .f32 := lossVal (V (Proc.devRef .tc main_arg1)) (r21 V) (r5 V)

/-- The value left in `main_v36`. -/
def r36 (V : Valuation τ sig (Elt F)) : Vec F S16x256x32x32 .f32 := quantVal (r4 V) (V (Proc.devRef .tc main_arg1)) (r21 V)

/-- The value left in `main_v37`. -/
def r37 (V : Valuation τ sig (Elt F)) : Vec F S16x256x32x32 .f32 := fn_conv_2.val (r36 V) (V (Proc.devRef .tc main_arg8)) (V (Proc.devRef .tc main_arg9))

/-- The value left in `main_v38`. -/
def r38 (V : Valuation τ sig (Elt F)) : Vec F S16x256x32x32 .f32 := fn_relu_1.val (r37 V)

/-- The value left in `main_v39`. -/
def r39 (V : Valuation τ sig (Elt F)) : Vec F S16x256x32x32 .f32 := fn_conv_2.val (r38 V) (V (Proc.devRef .tc main_arg10)) (V (Proc.devRef .tc main_arg11))

/-- The value left in `main_v40`. -/
def r40 (V : Valuation τ sig (Elt F)) : Vec F S16x256x32x32 .f32 := fn_relu_1.val (r39 V)

/-- The value left in `main_v41`. -/
def r41 (V : Valuation τ sig (Elt F)) : Vec F S16x256x32x32 .f32 := fn_conv_3.val (r40 V) (V (Proc.devRef .tc main_arg12)) (V (Proc.devRef .tc main_arg13))

/-- The value left in `main_v42`. -/
def r42 (V : Valuation τ sig (Elt F)) : Vec F S16x256x32x32 .f32 := addf (r37 V) (r41 V)

/-- The value left in `main_v43`. -/
def r43 (V : Valuation τ sig (Elt F)) : Vec F S16x256x32x32 .f32 := fn_relu_1.val (r42 V)

/-- The value left in `main_v44`. -/
def r44 (V : Valuation τ sig (Elt F)) : Vec F S16x256x32x32 .f32 := fn_conv_2.val (r43 V) (V (Proc.devRef .tc main_arg14)) (V (Proc.devRef .tc main_arg15))

/-- The value left in `main_v45`. -/
def r45 (V : Valuation τ sig (Elt F)) : Vec F S16x256x32x32 .f32 := fn_relu_1.val (r44 V)

/-- The value left in `main_v46`. -/
def r46 (V : Valuation τ sig (Elt F)) : Vec F S16x256x32x32 .f32 := fn_conv_3.val (r45 V) (V (Proc.devRef .tc main_arg16)) (V (Proc.devRef .tc main_arg17))

/-- The value left in `main_v47`. -/
def r47 (V : Valuation τ sig (Elt F)) : Vec F S16x256x32x32 .f32 := addf (r42 V) (r46 V)

/-- The value left in `main_v48`. -/
def r48 (V : Valuation τ sig (Elt F)) : Vec F S256x256x4x4 .f32 := fn_flip.val (V (Proc.devRef .tc main_arg18))

/-- The value left in `main_v49`. -/
def r49 (V : Valuation τ sig (Elt F)) : Vec F S256x256x4x4 .f32 := tr1Val (r48 V)

/-- The value left in `main_v50`. -/
def r50 (V : Valuation τ sig (Elt F)) : Vec F S16x256x64x64 .f32 := fn_conv_4.val (r47 V) (r49 V) (V (Proc.devRef .tc main_arg19))

/-- The value left in `main_v51`. -/
def r51 (V : Valuation τ sig (Elt F)) : Vec F S16x256x64x64 .f32 := fn_relu_5.val (r50 V)

/-- The value left in `main_v52`. -/
def r52 (V : Valuation τ sig (Elt F)) : Vec F S256x3x4x4 .f32 := fn_flip_6.val (V (Proc.devRef .tc main_arg20))

/-- The value left in `main_v53`. -/
def r53 (V : Valuation τ sig (Elt F)) : Vec F S3x256x4x4 .f32 := tr2Val (r52 V)

/-- The value left in `main_v54`. -/
def r54 (V : Valuation τ sig (Elt F)) : Vec F S16x3x128x128 .f32 := fn_conv_7.val (r51 V) (r53 V) (V (Proc.devRef .tc main_arg21))

/-- The value left in `main_v60`. -/
def r60 (V : Valuation τ sig (Elt F)) : Vec F S16x3x128x128 .f32 := sigVal (r54 V)

/-- The value left in `main_v61`. -/
def r61 (V : Valuation τ sig (Elt F)) : Vec F S16x32x32 .i32 := idxVal (r21 V)

theorem U1_v0 (V : Valuation τ sig (Elt F)) : U1 V (Proc.devRef .tc main_v0) = r0 V := by
  refine (read_v0 (U0 V)).trans ?_
  rw [U0_keep V (r := main_arg0) (by decide +kernel), U0_keep V (r := main_arg2) (by decide +kernel), U0_keep V (r := main_arg3) (by decide +kernel)]
  rfl
theorem U2_v1 (V : Valuation τ sig (Elt F)) : U2 V (Proc.devRef .tc main_v1) = r1 V := by
  refine (read_v1 (U1 V)).trans ?_
  rw [U1_v0 V]
  rfl
theorem U3_v2 (V : Valuation τ sig (Elt F)) : U3 V (Proc.devRef .tc main_v2) = r2 V := by
  refine (read_v2 (U2 V)).trans ?_
  rw [U2_v1 V, U2_keep V (r := main_arg4) (by decide +kernel), U2_keep V (r := main_arg5) (by decide +kernel)]
  rfl
theorem U4_v3 (V : Valuation τ sig (Elt F)) : U4 V (Proc.devRef .tc main_v3) = r3 V := by
  refine (read_v3 (U3 V)).trans ?_
  rw [U3_v2 V]
  rfl
theorem U5_v4 (V : Valuation τ sig (Elt F)) : U5 V (Proc.devRef .tc main_v4) = r4 V := by
  refine (read_v4 (U4 V)).trans ?_
  rw [U4_v3 V, U4_keep V (r := main_arg6) (by decide +kernel), U4_keep V (r := main_arg7) (by decide +kernel)]
  rfl
theorem U6_v5 (V : Valuation τ sig (Elt F)) : U6 V (Proc.devRef .tc main_v5) = r5 V := by
  refine (read_v5 (U5 V)).trans ?_
  rw [U5_v4 V]
  rfl
theorem U6_v20 (V : Valuation τ sig (Elt F)) : U6 V (Proc.devRef .tc main_v20) = r20 V := by
  refine (read_v20 (U5 V)).trans ?_
  rw [U5_v4 V, U5_keep V (r := main_arg1) (by decide +kernel)]
  rfl
theorem U7_v21 (V : Valuation τ sig (Elt F)) : U7 V (Proc.devRef .tc main_v21) = r21 V := by
  refine (read_v21 (U6 V)).trans ?_
  rw [U6_v20 V]
  rfl
theorem U7_v5 (V : Valuation τ sig (Elt F)) : U7 V (Proc.devRef .tc main_v5) = r5 V := (U7_of V (by decide +kernel)).trans (U6_v5 V)
theorem U8_v33 (V : Valuation τ sig (Elt F)) : U8 V (Proc.devRef .tc main_v33) = r33 V := by
  refine (read_v33 (U7 V)).trans ?_
  rw [U7_keep V (r := main_arg1) (by decide +kernel), U7_v21 V, U7_v5 V]
  rfl
theorem U6_v4 (V : Valuation τ sig (Elt F)) : U6 V (Proc.devRef .tc main_v4) = r4 V := (U6_of V (by decide +kernel)).trans (U5_v4 V)
theorem U7_v4 (V : Valuation τ sig (Elt F)) : U7 V (Proc.devRef .tc main_v4) = r4 V := (U7_of V (by decide +kernel)).trans (U6_v4 V)
theorem U8_v36 (V : Valuation τ sig (Elt F)) : U8 V (Proc.devRef .tc main_v36) = r36 V := by
  refine (read_v36 (U7 V)).trans ?_
  rw [U7_v4 V, U7_keep V (r := main_arg1) (by decide +kernel), U7_v21 V]
  rfl
theorem U9_v37 (V : Valuation τ sig (Elt F)) : U9 V (Proc.devRef .tc main_v37) = r37 V := by
  refine (read_v37 (U8 V)).trans ?_
  rw [U8_v36 V, U8_keep V (r := main_arg8) (by decide +kernel), U8_keep V (r := main_arg9) (by decide +kernel)]
  rfl
theorem U10_v38 (V : Valuation τ sig (Elt F)) : U10 V (Proc.devRef .tc main_v38) = r38 V := by
  refine (read_v38 (U9 V)).trans ?_
  rw [U9_v37 V]
  rfl
theorem U11_v39 (V : Valuation τ sig (Elt F)) : U11 V (Proc.devRef .tc main_v39) = r39 V := by
  refine (read_v39 (U10 V)).trans ?_
  rw [U10_v38 V, U10_keep V (r := main_arg10) (by decide +kernel), U10_keep V (r := main_arg11) (by decide +kernel)]
  rfl
theorem U12_v40 (V : Valuation τ sig (Elt F)) : U12 V (Proc.devRef .tc main_v40) = r40 V := by
  refine (read_v40 (U11 V)).trans ?_
  rw [U11_v39 V]
  rfl
theorem U13_v41 (V : Valuation τ sig (Elt F)) : U13 V (Proc.devRef .tc main_v41) = r41 V := by
  refine (read_v41 (U12 V)).trans ?_
  rw [U12_v40 V, U12_keep V (r := main_arg12) (by decide +kernel), U12_keep V (r := main_arg13) (by decide +kernel)]
  rfl
theorem U10_v37 (V : Valuation τ sig (Elt F)) : U10 V (Proc.devRef .tc main_v37) = r37 V := (U10_of V (by decide +kernel)).trans (U9_v37 V)
theorem U11_v37 (V : Valuation τ sig (Elt F)) : U11 V (Proc.devRef .tc main_v37) = r37 V := (U11_of V (by decide +kernel)).trans (U10_v37 V)
theorem U12_v37 (V : Valuation τ sig (Elt F)) : U12 V (Proc.devRef .tc main_v37) = r37 V := (U12_of V (by decide +kernel)).trans (U11_v37 V)
theorem U13_v37 (V : Valuation τ sig (Elt F)) : U13 V (Proc.devRef .tc main_v37) = r37 V := (U13_of V (by decide +kernel)).trans (U12_v37 V)
theorem U14_v42 (V : Valuation τ sig (Elt F)) : U14 V (Proc.devRef .tc main_v42) = r42 V := by
  refine (read_v42 (U13 V)).trans ?_
  rw [U13_v37 V, U13_v41 V]
  rfl
theorem U15_v43 (V : Valuation τ sig (Elt F)) : U15 V (Proc.devRef .tc main_v43) = r43 V := by
  refine (read_v43 (U14 V)).trans ?_
  rw [U14_v42 V]
  rfl
theorem U16_v44 (V : Valuation τ sig (Elt F)) : U16 V (Proc.devRef .tc main_v44) = r44 V := by
  refine (read_v44 (U15 V)).trans ?_
  rw [U15_v43 V, U15_keep V (r := main_arg14) (by decide +kernel), U15_keep V (r := main_arg15) (by decide +kernel)]
  rfl
theorem U17_v45 (V : Valuation τ sig (Elt F)) : U17 V (Proc.devRef .tc main_v45) = r45 V := by
  refine (read_v45 (U16 V)).trans ?_
  rw [U16_v44 V]
  rfl
theorem U18_v46 (V : Valuation τ sig (Elt F)) : U18 V (Proc.devRef .tc main_v46) = r46 V := by
  refine (read_v46 (U17 V)).trans ?_
  rw [U17_v45 V, U17_keep V (r := main_arg16) (by decide +kernel), U17_keep V (r := main_arg17) (by decide +kernel)]
  rfl
theorem U15_v42 (V : Valuation τ sig (Elt F)) : U15 V (Proc.devRef .tc main_v42) = r42 V := (U15_of V (by decide +kernel)).trans (U14_v42 V)
theorem U16_v42 (V : Valuation τ sig (Elt F)) : U16 V (Proc.devRef .tc main_v42) = r42 V := (U16_of V (by decide +kernel)).trans (U15_v42 V)
theorem U17_v42 (V : Valuation τ sig (Elt F)) : U17 V (Proc.devRef .tc main_v42) = r42 V := (U17_of V (by decide +kernel)).trans (U16_v42 V)
theorem U18_v42 (V : Valuation τ sig (Elt F)) : U18 V (Proc.devRef .tc main_v42) = r42 V := (U18_of V (by decide +kernel)).trans (U17_v42 V)
theorem U19_v47 (V : Valuation τ sig (Elt F)) : U19 V (Proc.devRef .tc main_v47) = r47 V := by
  refine (read_v47 (U18 V)).trans ?_
  rw [U18_v42 V, U18_v46 V]
  rfl
theorem U20_v48 (V : Valuation τ sig (Elt F)) : U20 V (Proc.devRef .tc main_v48) = r48 V := by
  refine (read_v48 (U19 V)).trans ?_
  rw [U19_keep V (r := main_arg18) (by decide +kernel)]
  rfl
theorem U21_v49 (V : Valuation τ sig (Elt F)) : U21 V (Proc.devRef .tc main_v49) = r49 V := by
  refine (read_v49 (U20 V)).trans ?_
  rw [U20_v48 V]
  rfl
theorem U20_v47 (V : Valuation τ sig (Elt F)) : U20 V (Proc.devRef .tc main_v47) = r47 V := (U20_of V (by decide +kernel)).trans (U19_v47 V)
theorem U21_v47 (V : Valuation τ sig (Elt F)) : U21 V (Proc.devRef .tc main_v47) = r47 V := (U21_of V (by decide +kernel)).trans (U20_v47 V)
theorem U22_v50 (V : Valuation τ sig (Elt F)) : U22 V (Proc.devRef .tc main_v50) = r50 V := by
  refine (read_v50 (U21 V)).trans ?_
  rw [U21_v47 V, U21_v49 V, U21_keep V (r := main_arg19) (by decide +kernel)]
  rfl
theorem U23_v51 (V : Valuation τ sig (Elt F)) : U23 V (Proc.devRef .tc main_v51) = r51 V := by
  refine (read_v51 (U22 V)).trans ?_
  rw [U22_v50 V]
  rfl
theorem U24_v52 (V : Valuation τ sig (Elt F)) : U24 V (Proc.devRef .tc main_v52) = r52 V := by
  refine (read_v52 (U23 V)).trans ?_
  rw [U23_keep V (r := main_arg20) (by decide +kernel)]
  rfl
theorem U25_v53 (V : Valuation τ sig (Elt F)) : U25 V (Proc.devRef .tc main_v53) = r53 V := by
  refine (read_v53 (U24 V)).trans ?_
  rw [U24_v52 V]
  rfl
theorem U24_v51 (V : Valuation τ sig (Elt F)) : U24 V (Proc.devRef .tc main_v51) = r51 V := (U24_of V (by decide +kernel)).trans (U23_v51 V)
theorem U25_v51 (V : Valuation τ sig (Elt F)) : U25 V (Proc.devRef .tc main_v51) = r51 V := (U25_of V (by decide +kernel)).trans (U24_v51 V)
theorem U26_v54 (V : Valuation τ sig (Elt F)) : U26 V (Proc.devRef .tc main_v54) = r54 V := by
  refine (read_v54 (U25 V)).trans ?_
  rw [U25_v51 V, U25_v53 V, U25_keep V (r := main_arg21) (by decide +kernel)]
  rfl
theorem U27_v60 (V : Valuation τ sig (Elt F)) : U27 V (Proc.devRef .tc main_v60) = r60 V := by
  refine (read_v60 (U26 V)).trans ?_
  rw [U26_v54 V]
  rfl
theorem U8_v21 (V : Valuation τ sig (Elt F)) : U8 V (Proc.devRef .tc main_v21) = r21 V := (U8_of V (by decide +kernel)).trans (U7_v21 V)
theorem U9_v21 (V : Valuation τ sig (Elt F)) : U9 V (Proc.devRef .tc main_v21) = r21 V := (U9_of V (by decide +kernel)).trans (U8_v21 V)
theorem U10_v21 (V : Valuation τ sig (Elt F)) : U10 V (Proc.devRef .tc main_v21) = r21 V := (U10_of V (by decide +kernel)).trans (U9_v21 V)
theorem U11_v21 (V : Valuation τ sig (Elt F)) : U11 V (Proc.devRef .tc main_v21) = r21 V := (U11_of V (by decide +kernel)).trans (U10_v21 V)
theorem U12_v21 (V : Valuation τ sig (Elt F)) : U12 V (Proc.devRef .tc main_v21) = r21 V := (U12_of V (by decide +kernel)).trans (U11_v21 V)
theorem U13_v21 (V : Valuation τ sig (Elt F)) : U13 V (Proc.devRef .tc main_v21) = r21 V := (U13_of V (by decide +kernel)).trans (U12_v21 V)
theorem U14_v21 (V : Valuation τ sig (Elt F)) : U14 V (Proc.devRef .tc main_v21) = r21 V := (U14_of V (by decide +kernel)).trans (U13_v21 V)
theorem U15_v21 (V : Valuation τ sig (Elt F)) : U15 V (Proc.devRef .tc main_v21) = r21 V := (U15_of V (by decide +kernel)).trans (U14_v21 V)
theorem U16_v21 (V : Valuation τ sig (Elt F)) : U16 V (Proc.devRef .tc main_v21) = r21 V := (U16_of V (by decide +kernel)).trans (U15_v21 V)
theorem U17_v21 (V : Valuation τ sig (Elt F)) : U17 V (Proc.devRef .tc main_v21) = r21 V := (U17_of V (by decide +kernel)).trans (U16_v21 V)
theorem U18_v21 (V : Valuation τ sig (Elt F)) : U18 V (Proc.devRef .tc main_v21) = r21 V := (U18_of V (by decide +kernel)).trans (U17_v21 V)
theorem U19_v21 (V : Valuation τ sig (Elt F)) : U19 V (Proc.devRef .tc main_v21) = r21 V := (U19_of V (by decide +kernel)).trans (U18_v21 V)
theorem U20_v21 (V : Valuation τ sig (Elt F)) : U20 V (Proc.devRef .tc main_v21) = r21 V := (U20_of V (by decide +kernel)).trans (U19_v21 V)
theorem U21_v21 (V : Valuation τ sig (Elt F)) : U21 V (Proc.devRef .tc main_v21) = r21 V := (U21_of V (by decide +kernel)).trans (U20_v21 V)
theorem U22_v21 (V : Valuation τ sig (Elt F)) : U22 V (Proc.devRef .tc main_v21) = r21 V := (U22_of V (by decide +kernel)).trans (U21_v21 V)
theorem U23_v21 (V : Valuation τ sig (Elt F)) : U23 V (Proc.devRef .tc main_v21) = r21 V := (U23_of V (by decide +kernel)).trans (U22_v21 V)
theorem U24_v21 (V : Valuation τ sig (Elt F)) : U24 V (Proc.devRef .tc main_v21) = r21 V := (U24_of V (by decide +kernel)).trans (U23_v21 V)
theorem U25_v21 (V : Valuation τ sig (Elt F)) : U25 V (Proc.devRef .tc main_v21) = r21 V := (U25_of V (by decide +kernel)).trans (U24_v21 V)
theorem U26_v21 (V : Valuation τ sig (Elt F)) : U26 V (Proc.devRef .tc main_v21) = r21 V := (U26_of V (by decide +kernel)).trans (U25_v21 V)
theorem U27_v61 (V : Valuation τ sig (Elt F)) : U27 V (Proc.devRef .tc main_v61) = r61 V := by
  refine (read_v61 (U26 V)).trans ?_
  rw [U26_v21 V]
  rfl
theorem U9_v33 (V : Valuation τ sig (Elt F)) : U9 V (Proc.devRef .tc main_v33) = r33 V := (U9_of V (by decide +kernel)).trans (U8_v33 V)
theorem U10_v33 (V : Valuation τ sig (Elt F)) : U10 V (Proc.devRef .tc main_v33) = r33 V := (U10_of V (by decide +kernel)).trans (U9_v33 V)
theorem U11_v33 (V : Valuation τ sig (Elt F)) : U11 V (Proc.devRef .tc main_v33) = r33 V := (U11_of V (by decide +kernel)).trans (U10_v33 V)
theorem U12_v33 (V : Valuation τ sig (Elt F)) : U12 V (Proc.devRef .tc main_v33) = r33 V := (U12_of V (by decide +kernel)).trans (U11_v33 V)
theorem U13_v33 (V : Valuation τ sig (Elt F)) : U13 V (Proc.devRef .tc main_v33) = r33 V := (U13_of V (by decide +kernel)).trans (U12_v33 V)
theorem U14_v33 (V : Valuation τ sig (Elt F)) : U14 V (Proc.devRef .tc main_v33) = r33 V := (U14_of V (by decide +kernel)).trans (U13_v33 V)
theorem U15_v33 (V : Valuation τ sig (Elt F)) : U15 V (Proc.devRef .tc main_v33) = r33 V := (U15_of V (by decide +kernel)).trans (U14_v33 V)
theorem U16_v33 (V : Valuation τ sig (Elt F)) : U16 V (Proc.devRef .tc main_v33) = r33 V := (U16_of V (by decide +kernel)).trans (U15_v33 V)
theorem U17_v33 (V : Valuation τ sig (Elt F)) : U17 V (Proc.devRef .tc main_v33) = r33 V := (U17_of V (by decide +kernel)).trans (U16_v33 V)
theorem U18_v33 (V : Valuation τ sig (Elt F)) : U18 V (Proc.devRef .tc main_v33) = r33 V := (U18_of V (by decide +kernel)).trans (U17_v33 V)
theorem U19_v33 (V : Valuation τ sig (Elt F)) : U19 V (Proc.devRef .tc main_v33) = r33 V := (U19_of V (by decide +kernel)).trans (U18_v33 V)
theorem U20_v33 (V : Valuation τ sig (Elt F)) : U20 V (Proc.devRef .tc main_v33) = r33 V := (U20_of V (by decide +kernel)).trans (U19_v33 V)
theorem U21_v33 (V : Valuation τ sig (Elt F)) : U21 V (Proc.devRef .tc main_v33) = r33 V := (U21_of V (by decide +kernel)).trans (U20_v33 V)
theorem U22_v33 (V : Valuation τ sig (Elt F)) : U22 V (Proc.devRef .tc main_v33) = r33 V := (U22_of V (by decide +kernel)).trans (U21_v33 V)
theorem U23_v33 (V : Valuation τ sig (Elt F)) : U23 V (Proc.devRef .tc main_v33) = r33 V := (U23_of V (by decide +kernel)).trans (U22_v33 V)
theorem U24_v33 (V : Valuation τ sig (Elt F)) : U24 V (Proc.devRef .tc main_v33) = r33 V := (U24_of V (by decide +kernel)).trans (U23_v33 V)
theorem U25_v33 (V : Valuation τ sig (Elt F)) : U25 V (Proc.devRef .tc main_v33) = r33 V := (U25_of V (by decide +kernel)).trans (U24_v33 V)
theorem U26_v33 (V : Valuation τ sig (Elt F)) : U26 V (Proc.devRef .tc main_v33) = r33 V := (U26_of V (by decide +kernel)).trans (U25_v33 V)
theorem U27_v33 (V : Valuation τ sig (Elt F)) : U27 V (Proc.devRef .tc main_v33) = r33 V := (U27_of V (by decide +kernel)).trans (U26_v33 V)

end Cert.ReferenceIdeal.Val

end
-- ==== Proof.RefFrame.lean ====
module

public import proofs.«01_k».proof.Proof.RefReads
public import proofs.«01_k».proof.Proof.RefRun
public import Idealize.ShloMosaic.PureOps.Ideal.Laws
public import Idealize.ShloMosaic.Lib.Quiescent

@[expose] public section

set_option maxRecDepth 16384

noncomputable section

namespace Cert.ReferenceIdeal.Val

open Idealize.ShloMosaic Idealize.ShloMosaic.TcCoe Idealize.ShloMosaic.StableHlo Idealize.SL.Sem Cert.ReferenceIdeal Cert.ReferenceIdeal.Gen

/-! # The reference keeps its arguments -/

variable {m : (ℓ : Loc nD τ sig) → Buf (Elt Ideal) ℓ}

/-- A buffer none of the lines writes ends as launched. -/
theorem kept {s : MemSt nD τ sig (Elt Ideal)} (h : ∀ (c : Dev nD) (b : Ref sig .tc), s.mem ((c.tc : Thread nD τ).loc b) = U27 (launchContents m c) (Proc.devRef .tc b))
    (c : Dev nD) (a : Ref sig .tc) (ha : a ∉ R27) : s.mem ((c.tc : Thread nD τ).loc a) = m ((c.tc : Thread nD τ).loc a) :=
  (h c a).trans (U27_keep (launchContents m c) ha)

/-- The reference runs, its arguments end as launched and every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  (θ_run defs _ _).mono (fun r h => ⟨fun c =>
      ⟨kept h c main_arg0 (by decide +kernel),
      kept h c main_arg1 (by decide +kernel),
      kept h c main_arg2 (by decide +kernel),
      kept h c main_arg3 (by decide +kernel),
      kept h c main_arg4 (by decide +kernel),
      kept h c main_arg5 (by decide +kernel),
      kept h c main_arg6 (by decide +kernel),
      kept h c main_arg7 (by decide +kernel),
      kept h c main_arg8 (by decide +kernel),
      kept h c main_arg9 (by decide +kernel),
      kept h c main_arg10 (by decide +kernel),
      kept h c main_arg11 (by decide +kernel),
      kept h c main_arg12 (by decide +kernel),
      kept h c main_arg13 (by decide +kernel),
      kept h c main_arg14 (by decide +kernel),
      kept h c main_arg15 (by decide +kernel),
      kept h c main_arg16 (by decide +kernel),
      kept h c main_arg17 (by decide +kernel),
      kept h c main_arg18 (by decide +kernel),
      kept h c main_arg19 (by decide +kernel),
      kept h c main_arg20 (by decide +kernel),
      kept h c main_arg21 (by decide +kernel)⟩,
    sem_eq_zero_of_no_sems (by decide) r.2⟩) (run m ρ)

end Cert.ReferenceIdeal.Val

end
-- ==== Proof.KRun.lean ====
module

public import proofs.«01_k».proof.Proof.Gen.KernelIdeal.Frame
public import Idealize.ShloMosaic.PureOps.Ideal.Laws

@[expose] public section

set_option maxRecDepth 16384

noncomputable section

namespace Cert.KernelIdeal.Vals

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-!
# The kernel's run

Every buffer ends at the last boundary's contents. The launch is set up as for the claim that the arguments are kept;
what is read at the end is every buffer instead of the arguments alone.
-/

variable (m : (ℓ : Loc nD τ sig) → Buf (Elt Ideal) ℓ) (ρ : Dev nD → PrngReg)

set_option backward.isDefEq.respectTransparency.types false in
/-- Every final state holds the last boundary's contents. -/
theorem run : θ_run defs (onTc (τ := τ) (main (F := Ideal))) ⟨m, fun _ => 0, ρ⟩ (fun r => ∀ (c : Dev nD), ∀ b ∈ Pipeline.ucRefs τ sig,
    r.2.mem ((c : Thread nD τ).1, b) = W37 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := by
      iterate 37 refine ⟨fun _ => .rfl, ?_⟩
      intro c
      dsimp only [Pipeline.Seg.post, hseg, Pipeline.HostSeg.ofOps]
      iintro ⟨Hh, Hp, HO⟩
      isplitl [Hh Hp]
      · isplitl [Hh]; · iexact Hh
        iexact Hp
      iexact HO)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W37 m ρ c b)
    (hfin := fun c s' => by
      iintro ⟨⟨Hh, -⟩, HSI⟩
      unfold StableHlo.held
      imodintro
      iapply (pointsTo_read_all (Pipeline.ucRefs τ sig) (fun b => (((c : Thread nD τ)).1, b)) (W37 m ρ c) s')
      isplitl [Hh] <;> iassumption)
    (hQ := fun s h _ => h)

end Cert.KernelIdeal.Vals

end
-- ==== Proof.Spec.lean ====
module

public import Idealize.ShloMosaic.Lib.Pointwise

@[expose] public section

/-!
# The mathematics of the network, image by image

An image is a function of a row, a column and a channel. `conv` is a convolution with a square filter, `convT` a
transposed one with stride two, filter four and padding one, written as the convolution of the dilated image with the
turned filter. Everything is over the extended reals, where a sum may be taken in any order.
-/

noncomputable section

namespace Cert.Spec

/-- An image of `H` rows, `W` columns and `C` channels. -/
abbrev Img (H W C : ℕ) := Fin H → Fin W → Fin C → EReal

/-- The image with a border of `p` zeros, at any row and column. -/
def padAt {H W C : ℕ} (p : ℕ) (f : Img H W C) (Y X : ℕ) (c : Fin C) : EReal :=
  if h : (p ≤ Y ∧ Y - p < H) ∧ p ≤ X ∧ X - p < W then f ⟨Y - p, h.1.2⟩ ⟨X - p, h.2.2⟩ c else 0

/-- The image with a zero between any two neighbours and a border of two zeros. -/
def dilAt {H W C : ℕ} (f : Img H W C) (Y X : ℕ) (c : Fin C) : EReal :=
  if h : (2 ≤ Y ∧ (Y - 2) % 2 = 0 ∧ (Y - 2) / 2 < H) ∧ 2 ≤ X ∧ (X - 2) % 2 = 0 ∧ (X - 2) / 2 < W then
    f ⟨(Y - 2) / 2, h.1.2.2⟩ ⟨(X - 2) / 2, h.2.2.2⟩ c
  else 0

/-- A convolution with filter size `k`, stride `s` and padding `p`. -/
def conv {H W C O : ℕ} (k s p : ℕ) (f : Img H W C) (w : Fin O → Fin C → Fin k → Fin k → EReal) (b : Fin O → EReal)
    (y x : ℕ) (o : Fin O) : EReal :=
  (∑ c : Fin C, ∑ i : Fin k, ∑ j : Fin k, w o c i j * padAt p f (s * y + i) (s * x + j) c) + b o

/-- A transposed convolution with filter size four, stride two and padding one. -/
def convT {H W C O : ℕ} (f : Img H W C) (w : Fin C → Fin O → Fin 4 → Fin 4 → EReal) (b : Fin O → EReal) (y x : ℕ) (o : Fin O) :
    EReal :=
  (∑ c : Fin C, ∑ i : Fin 4, ∑ j : Fin 4, w c o i.rev j.rev * dilAt f (y + i) (x + j) c) + b o

/-- A convolution, summed tap by tap. -/
theorem conv_taps {H W C O : ℕ} (k s p : ℕ) (f : Img H W C) (w : Fin O → Fin C → Fin k → Fin k → EReal) (b : Fin O → EReal)
    (y x : ℕ) (o : Fin O) :
    conv k s p f w b y x o = (∑ i : Fin k, ∑ j : Fin k, ∑ c : Fin C, padAt p f (s * y + i) (s * x + j) c * w o c i j) + b o := by
  unfold conv
  congr 1
  rw [Finset.sum_comm]
  refine Finset.sum_congr rfl fun i _ => ?_
  rw [Finset.sum_comm]
  exact Finset.sum_congr rfl fun j _ => Finset.sum_congr rfl fun c _ => mul_comm _ _

/-- A transposed convolution, summed tap by tap. -/
theorem convT_taps {H W C O : ℕ} (f : Img H W C) (w : Fin C → Fin O → Fin 4 → Fin 4 → EReal) (b : Fin O → EReal)
    (y x : ℕ) (o : Fin O) :
    convT f w b y x o = (∑ i : Fin 4, ∑ j : Fin 4, ∑ c : Fin C, dilAt f (y + i) (x + j) c * w c o i.rev j.rev) + b o := by
  unfold convT
  congr 1
  rw [Finset.sum_comm]
  refine Finset.sum_congr rfl fun i _ => ?_
  rw [Finset.sum_comm]
  exact Finset.sum_congr rfl fun j _ => Finset.sum_congr rfl fun c _ => mul_comm _ _

/-- The border and the inside of `padAt 1`, by the coordinates of the image. -/
theorem padAt_inside {H W C : ℕ} (p : ℕ) (f : Img H W C) (Y X : ℕ) (c : Fin C) (y : Fin H) (x : Fin W) (hY : Y = p + y) (hX : X = p + x) :
    padAt p f Y X c = f y x c := by
  subst hY hX
  unfold padAt
  rw [dif_pos (by omega)]
  simp only [Nat.add_sub_cancel_left]

/-- Reading the padded image where the coordinates are written in another way. -/
theorem padAt_intro {H W C : ℕ} {p : ℕ} {f : Img H W C} {Y X A B : ℕ} {c : Fin C} (hY : A = Y) (hX : B = X) :
    (if h : (p ≤ A ∧ A - p < H) ∧ p ≤ B ∧ B - p < W then f ⟨A - p, h.1.2⟩ ⟨B - p, h.2.2⟩ c else 0) = padAt p f Y X c := by
  subst hY hX
  rfl

/-- Two guarded readings agree when their guards say the same and the readings agree under them. -/
theorem dite_eq {P Q : Prop} [Decidable P] [Decidable Q] (h : P ↔ Q) {u : P → EReal} {v : Q → EReal} (huv : ∀ p q, u p = v q) :
    (if p : P then u p else 0) = (if q : Q then v q else 0) := by
  by_cases hp : P
  · rw [dif_pos hp, dif_pos (h.1 hp), huv]
  · rw [dif_neg hp, dif_neg (fun q => hp (h.2 q))]

/-- Reading the dilated image where the coordinates are written in another way. -/
theorem dilAt_intro {H W C : ℕ} {f : Img H W C} {Y X A B : ℕ} {c : Fin C} (hY : A = Y) (hX : B = X) :
    (if h : (2 ≤ A ∧ (A - 2) % 2 = 0 ∧ (A - 2) / 2 < H) ∧ 2 ≤ B ∧ (B - 2) % 2 = 0 ∧ (B - 2) / 2 < W then
      f ⟨(A - 2) / 2, h.1.2.2⟩ ⟨(B - 2) / 2, h.2.2.2⟩ c else 0) = dilAt f Y X c := by
  subst hY hX
  rfl

end Cert.Spec

end
-- ==== Proof.Vq.lean ====
module

public import proofs.«01_k».proof.Proof.Spec
public import Idealize.ShloMosaic.PureOps.Ideal.Laws
public import Idealize.ShloMosaic.PureOps.Reduce

@[expose] public section

set_option maxRecDepth 16384

noncomputable section

namespace Cert.Spec

open Idealize.ShloMosaic

open scoped BigOperators

/-!
# The nearest codebook row

The squared distance of a vector to each of the 512 rows, the first row at the least distance, and the
forms in which a program computes that row's number.
-/

/-- The squared distance of `z` to row `k` of the codebook, expanded. -/
noncomputable def gap (z : Fin 256 → EReal) (e : Fin 512 → Fin 256 → EReal) (k : Fin 512) : EReal :=
  ∑ c, z c * z c + ∑ c, e k c * e k c - Ideal.ofBits .f32 1073741824#32 * ∑ c, z c * e k c

/-- Some row is at the least distance. -/
theorem exists_least (d : Fin 512 → EReal) : ∃ k, ∀ j, d k ≤ d j := by
  obtain ⟨k, _, hk⟩ := Finset.exists_min_image Finset.univ d ⟨0, Finset.mem_univ 0⟩
  exact ⟨k, fun j => hk j (Finset.mem_univ j)⟩

/-- The first row at the least distance. -/
noncomputable def best (d : Fin 512 → EReal) : Fin 512 :=
  (Finset.univ.filter fun k => ∀ j, d k ≤ d j).min' (by
    obtain ⟨k, hk⟩ := exists_least d
    exact ⟨k, by simpa using hk⟩)

theorem best_le (d : Fin 512 → EReal) (j : Fin 512) : d (best d) ≤ d j := by
  have h := Finset.min'_mem (Finset.univ.filter fun k => ∀ j, d k ≤ d j) (by
    obtain ⟨k, hk⟩ := exists_least d
    exact ⟨k, by simpa using hk⟩)
  exact (Finset.mem_filter.mp h).2 j

theorem best_first (d : Fin 512 → EReal) (k : Fin 512) (hk : ∀ j, d k ≤ d j) : best d ≤ k :=
  Finset.min'_le _ _ (by simpa using hk)

theorem toInt_small (n : ℕ) (h : n ≤ 512) : (BitVec.ofNat 32 n).toInt = n := by
  rw [BitVec.toInt_eq_toNat_cond, BitVec.toNat_ofNat]
  split_ifs <;> omega

/-- A fold of the signed minimum is one of its terms, and at most each of them. -/
theorem fold_minsi (b : BitVec 32) (f : Fin 512 → BitVec 32) (s : Finset (Fin 512)) :
    (∀ x ∈ s, (Finset.fold IntOp.minsi b f s).toInt ≤ (f x).toInt)
      ∧ (Finset.fold IntOp.minsi b f s = b ∨ ∃ x ∈ s, Finset.fold IntOp.minsi b f s = f x)
      ∧ (Finset.fold IntOp.minsi b f s).toInt ≤ b.toInt := by
  classical
  induction s using Finset.induction_on with
  | empty => simp
  | insert a s ha ih =>
    rw [Finset.fold_insert ha]
    obtain ⟨h1, h2, h3⟩ := ih
    unfold IntOp.minsi
    by_cases hlt : (f a).slt (Finset.fold IntOp.minsi b f s) = true
    · have hl : (f a).toInt < (Finset.fold IntOp.minsi b f s).toInt := by simpa [BitVec.slt] using hlt
      unfold IntOp.minsi at hlt hl h1 h2 h3
      rw [if_pos hlt]
      refine ⟨fun x hx => ?_, .inr ⟨a, Finset.mem_insert_self _ _, rfl⟩, by omega⟩
      rcases Finset.mem_insert.mp hx with rfl | hx
      · exact le_refl _
      · have := h1 x hx; omega
    · have hl : (Finset.fold IntOp.minsi b f s).toInt ≤ (f a).toInt := by simpa [BitVec.slt] using hlt
      unfold IntOp.minsi at hlt hl h1 h2 h3
      rw [if_neg hlt]
      refine ⟨fun x hx => ?_, ?_, h3⟩
      · rcases Finset.mem_insert.mp hx with rfl | hx
        · exact hl
        · exact h1 x hx
      · rcases h2 with h2 | ⟨x, hx, h2⟩
        · exact .inl h2
        · exact .inr ⟨x, Finset.mem_insert_of_mem hx, h2⟩

/-- The word of infinity is the greatest extended real. -/
theorem top_word : Ideal.ofBits .f32 2139095040#32 = (⊤ : EReal) := by
  simp [Ideal.ofBits, Ideal.ieee]

/-- The least distance, folded. -/
theorem fold_min_eq (d : Fin 512 → EReal) :
    Finset.fold min (Ideal.ofBits .f32 2139095040#32) d Finset.univ = d (best d) := by
  rw [top_word]
  have h : Finset.fold min (⊤ : EReal) d Finset.univ = Finset.univ.inf d := rfl
  rw [h]
  exact le_antisymm (Finset.inf_le (Finset.mem_univ _)) (Finset.le_inf fun j _ => best_le d j)

/-- The smallest number among the rows at the least distance, every other row counting as 512. -/
theorem pick_eq (d : Fin 512 → EReal) :
    Finset.fold IntOp.minsi (2147483647#32) (fun x : Fin 512 =>
      if d x = Finset.fold min (Ideal.ofBits .f32 2139095040#32) d Finset.univ then BitVec.ofNat 32 x else 512#32) Finset.univ
      = BitVec.ofNat 32 (best d) := by
  rw [fold_min_eq]
  obtain ⟨h1, h2, _⟩ := fold_minsi (2147483647#32) (fun x : Fin 512 => if d x = d (best d) then BitVec.ofNat 32 x else 512#32) Finset.univ
  have hb := h1 (best d) (Finset.mem_univ _)
  simp only [if_true] at hb
  rw [toInt_small _ (by omega)] at hb
  rcases h2 with h2 | ⟨x, _, h2⟩
  · rw [h2] at hb
    have : (2147483647#32).toInt = 2147483647 := by decide
    omega
  · rw [h2] at hb ⊢
    split_ifs at hb ⊢ with hx
    · rw [toInt_small _ (by omega)] at hb
      have hf := best_first d x (fun j => hx ▸ best_le d j)
      have : x = best d := le_antisymm (Fin.le_def.mpr (by omega)) hf
      rw [this]
    · have : (512#32).toInt = 512 := by decide
      omega

/-- The product of the indicator row of `k` with a column is the column's entry at `k`. -/
theorem indicator_sum (k : Fin 512) (v : Fin 512 → EReal) :
    ∑ x : Fin 512, (FloatOps.sitofp (F := Ideal) .f32 (BitVec.setWidth 32 (IntOp.cmpi .eq (BitVec.ofNat 32 ↑x) (BitVec.ofNat 32 ↑k))) : EReal) * v x = v k := by
  rw [Finset.sum_eq_single k]
  · have h : IntOp.cmpi .eq (BitVec.ofNat 32 (k : ℕ)) (BitVec.ofNat 32 (k : ℕ)) = 1#1 := by simp [IntOp.cmpi]
    rw [h]
    have : (FloatOps.sitofp (F := Ideal) .f32 (BitVec.setWidth 32 1#1) : EReal) = 1 := by
      change (((BitVec.setWidth 32 1#1).toInt : ℝ) : EReal) = 1
      have : (BitVec.setWidth 32 1#1).toInt = 1 := by decide
      rw [this]; norm_num
    rw [this, one_mul]
  · intro x _ hx
    have h : IntOp.cmpi .eq (BitVec.ofNat 32 (x : ℕ)) (BitVec.ofNat 32 (k : ℕ)) = 0#1 := by
      have hne : BitVec.ofNat 32 (x : ℕ) ≠ BitVec.ofNat 32 (k : ℕ) := by
        intro he
        have := congrArg BitVec.toNat he
        simp only [BitVec.toNat_ofNat] at this
        exact hx (Fin.ext (by omega))
      unfold IntOp.cmpi
      rw [show (BitVec.ofNat 32 (x : ℕ) == BitVec.ofNat 32 (k : ℕ)) = false from beq_eq_false_iff_ne.mpr hne]
      rfl
    rw [h]
    have : (FloatOps.sitofp (F := Ideal) .f32 (BitVec.setWidth 32 0#1) : EReal) = 0 := by
      change (((BitVec.setWidth 32 0#1).toInt : ℝ) : EReal) = 0
      have : (BitVec.setWidth 32 0#1).toInt = 0 := by decide
      rw [this]; norm_num
    rw [this, zero_mul]
  · intro h
    exact absurd (Finset.mem_univ k) h

end Cert.Spec

end
-- ==== Proof.SpecTaps.lean ====
module

public import proofs.«01_k».proof.Proof.Spec

@[expose] public section

/-!
# Convolutions, tap by tap

The kernel multiplies shifted images by the slices of a filter and adds the products. These lemmas write `conv` and
`convT` as such sums.
-/

noncomputable section

namespace Cert.Spec

/-- A three by three convolution is nine products, row by row. -/
theorem conv3_nine {H W C O : ℕ} (f : Img H W C) (w : Fin O → Fin C → Fin 3 → Fin 3 → EReal) (b : Fin O → EReal) (y x : ℕ) (o : Fin O) :
    conv 3 1 1 f w b y x o =
      ∑ c, padAt 1 f y x c * w o c 0 0 + ∑ c, padAt 1 f y (1 + x) c * w o c 0 1 + ∑ c, padAt 1 f y (2 + x) c * w o c 0 2
        + ∑ c, padAt 1 f (1 + y) x c * w o c 1 0 + ∑ c, padAt 1 f (1 + y) (1 + x) c * w o c 1 1 + ∑ c, padAt 1 f (1 + y) (2 + x) c * w o c 1 2
        + ∑ c, padAt 1 f (2 + y) x c * w o c 2 0 + ∑ c, padAt 1 f (2 + y) (1 + x) c * w o c 2 1 + ∑ c, padAt 1 f (2 + y) (2 + x) c * w o c 2 2
        + b o := by
  rw [conv_taps]
  simp only [Fin.sum_univ_three, Fin.val_zero, Fin.val_one, Fin.val_two, Nat.add_zero, Nat.one_mul, Nat.add_comm _ 2]
  simp only [Nat.add_comm _ 1, add_assoc]

/-- A sum over the 48 channels the first call gathers is a sum over filter rows, filter columns and channels. -/
theorem sum_48 (g : Fin 48 → EReal) :
    ∑ k, g k = ∑ i : Fin 4, ∑ j : Fin 4, ∑ c : Fin 3, g ⟨(4 * i + j) * 3 + c, by omega⟩ := by
  simp only [Fin.sum_univ_succ, Fin.sum_univ_zero, add_assoc, add_zero]
  rfl

/-- A sum over 256 channels is the sum over its two halves. -/
theorem sum_halves (g : Fin 256 → EReal) :
    ∑ k, g k = ∑ h : Fin 2, ∑ c : Fin 128, g ⟨h * 128 + c, by omega⟩ := by
  rw [Fin.sum_univ_two]
  refine (Fin.sum_univ_add (a := 128) (b := 128) g).trans (congrArg₂ (· + ·) ?_ ?_)
  · exact Finset.sum_congr rfl fun c _ => congrArg g (Fin.ext (by simp))
  · exact Finset.sum_congr rfl fun c _ => congrArg g (Fin.ext (by simp [Nat.add_comm]))

/-- The first call: one product over 48 gathered channels. -/
theorem conv_gathered {H W O : ℕ} (f : Img H W 3) (w : Fin O → Fin 3 → Fin 4 → Fin 4 → EReal) (b : Fin O → EReal) (y x : ℕ) (o : Fin O)
    (P Q : Fin 48 → EReal)
    (hP : ∀ (i j : Fin 4) (c : Fin 3), P ⟨(4 * i + j) * 3 + c, by omega⟩ = padAt 1 f (2 * y + i) (2 * x + j) c)
    (hQ : ∀ (i j : Fin 4) (c : Fin 3), Q ⟨(4 * i + j) * 3 + c, by omega⟩ = w o c i j) :
    (∑ k, P k * Q k) + b o = conv 4 2 1 f w b y x o := by
  rw [conv_taps, sum_48 fun k => P k * Q k]
  simp only [hP, hQ]

/-- The second call: eight products over pairs of neighbouring columns. -/
theorem conv_paired {H W O : ℕ} (f : Img H W 128) (w : Fin O → Fin 128 → Fin 4 → Fin 4 → EReal) (b : Fin O → EReal) (y x : ℕ) (o : Fin O)
    (P Q : Fin 8 → Fin 256 → EReal)
    (hP : ∀ (i : Fin 4) (d h : Fin 2) (c : Fin 128),
      P ⟨2 * i + d, by omega⟩ ⟨h * 128 + c, by omega⟩ = padAt 1 f (2 * y + i) (2 * x + (2 * d + h)) c)
    (hQ : ∀ (i : Fin 4) (d h : Fin 2) (c : Fin 128), Q ⟨2 * i + d, by omega⟩ ⟨h * 128 + c, by omega⟩ = w o c i ⟨2 * d + h, by omega⟩) :
    (∑ t, ∑ k, P t k * Q t k) + b o = conv 4 2 1 f w b y x o := by
  have key : ∀ (i : Fin 4) (d : Fin 2), ∑ k, P ⟨2 * i + d, by omega⟩ k * Q ⟨2 * i + d, by omega⟩ k
      = ∑ h : Fin 2, ∑ c, padAt 1 f (2 * y + i) (2 * x + (2 * d + h)) c * w o c i ⟨2 * d + h, by omega⟩ := by
    intro i d
    rw [sum_halves]
    simp only [hP, hQ]
  have h4 : ∀ i : Fin 4, ∑ j : Fin 4, ∑ c, padAt 1 f (2 * y + i) (2 * x + j) c * w o c i j
      = ∑ d : Fin 2, ∑ k, P ⟨2 * i + d, by omega⟩ k * Q ⟨2 * i + d, by omega⟩ k := by
    intro i
    simp only [key]
    rw [Fin.sum_univ_four, Fin.sum_univ_two, Fin.sum_univ_two, Fin.sum_univ_two]
    exact add_assoc _ _ _
  rw [conv_taps]
  refine congrArg (· + _) ?_
  simp only [h4, Fin.sum_univ_four, Fin.sum_univ_two, Fin.sum_univ_eight, add_assoc]
  rfl

/-- The dilated image at a pixel of phase `(p, q)`: only the filter rows and columns of the same parity meet a pixel. -/
theorem dilAt_phase {H W C : ℕ} (f : Img H W C) (y x p q i j : ℕ) (c : Fin C) (hp : p < 2) (hq : q < 2) :
    dilAt f (2 * y + p + i) (2 * x + q + j) c
      = if i % 2 = p ∧ j % 2 = q then padAt 1 f (y + (p + i) / 2) (x + (q + j) / 2) c else 0 := by
  unfold dilAt padAt
  split_ifs with h1 h2 h3 h4 h5
  · exact congrArg₂ (fun a b => f a b c) (Fin.ext (by dsimp only; omega)) (Fin.ext (by dsimp only; omega))
  all_goals first | rfl | (exfalso; omega)

/-- A sum over four rows of which only those of one parity count. -/
theorem sum_parity (p : Fin 2) (F : Fin 4 → EReal) (h : ∀ i : Fin 4, (i : ℕ) % 2 ≠ p → F i = 0) :
    ∑ i, F i = ∑ a : Fin 2, F ⟨2 + p - 2 * a, by omega⟩ := by
  rw [Fin.sum_univ_four, Fin.sum_univ_two]
  fin_cases p
  · rw [h 1 (by decide), h 3 (by decide), add_zero, add_zero, add_comm]
    rfl
  · rw [h 0 (by decide), h 2 (by decide), zero_add, add_zero, add_comm]
    rfl

/-- A transposed convolution at a pixel of phase `(p, q)`: four products, with the rows `2 + p - 2a` of the turned filter. -/
theorem convT_phase {H W C O : ℕ} (f : Img H W C) (w : Fin C → Fin O → Fin 4 → Fin 4 → EReal) (b : Fin O → EReal) (y x : ℕ)
    (p q : Fin 2) (o : Fin O) :
    convT f w b (2 * y + p) (2 * x + q) o
      = (∑ a : Fin 2, ∑ d : Fin 2, ∑ c, padAt 1 f (y + p + 1 - a) (x + q + 1 - d) c
          * w c o ⟨1 - p + 2 * a, by omega⟩ ⟨1 - q + 2 * d, by omega⟩) + b o := by
  rw [convT_taps]
  refine congrArg (· + _) ?_
  simp only [dilAt_phase _ _ _ _ _ _ _ _ p.isLt q.isLt]
  rw [sum_parity p]
  · refine Finset.sum_congr rfl fun a _ => ?_
    rw [sum_parity q]
    · refine Finset.sum_congr rfl fun d _ => Finset.sum_congr rfl fun c _ => ?_
      rw [if_pos (by dsimp only; omega)]
      refine congrArg₂ (· * ·) (congrArg₂ (fun Y X => padAt 1 f Y X c) ?_ ?_) (congrArg₂ (w c o) (Fin.ext ?_) (Fin.ext ?_)) <;>
        simp only [Fin.val_rev] <;> omega
    · intro j hj
      refine Finset.sum_eq_zero fun c _ => ?_
      rw [if_neg (fun h => hj h.2), zero_mul]
  · intro i hi
    refine Finset.sum_eq_zero fun j _ => Finset.sum_eq_zero fun c _ => ?_
    rw [if_neg (fun h => hi h.1), zero_mul]

/-- A sum over three shifts of which only the two that a phase uses count. -/
theorem sum_shifts (p : Fin 2) (F : Fin 3 → EReal) (h : ∀ s : Fin 3, ¬((p : ℕ) ≤ s ∧ (s : ℕ) ≤ p + 1) → F s = 0) :
    ∑ s, F s = ∑ a : Fin 2, F ⟨p + 1 - a, by omega⟩ := by
  rw [Fin.sum_univ_three, Fin.sum_univ_two]
  fin_cases p
  · rw [h 2 (by decide), add_zero, add_comm]
    rfl
  · rw [h 0 (by decide), zero_add, add_comm]
    rfl

/-- The same over all nine shifts, when the slices of the filter a phase does not use are zero. -/
theorem convT_shifts {H W C O : ℕ} (f : Img H W C) (w : Fin C → Fin O → Fin 4 → Fin 4 → EReal) (b : Fin O → EReal) (y x : ℕ)
    (p q : Fin 2) (o : Fin O) (Q : Fin 3 → Fin 3 → Fin C → EReal)
    (hQ : ∀ (a d : Fin 2) (c : Fin C), Q ⟨p + 1 - a, by omega⟩ ⟨q + 1 - d, by omega⟩ c = w c o ⟨1 - p + 2 * a, by omega⟩ ⟨1 - q + 2 * d, by omega⟩)
    (h0 : ∀ (s u : Fin 3) (c : Fin C), ¬(((p : ℕ) ≤ s ∧ (s : ℕ) ≤ p + 1) ∧ (q : ℕ) ≤ u ∧ (u : ℕ) ≤ q + 1) → Q s u c = 0) :
    (∑ s : Fin 3, ∑ u : Fin 3, ∑ c, padAt 1 f (y + s) (x + u) c * Q s u c) + b o = convT f w b (2 * y + p) (2 * x + q) o := by
  rw [convT_phase]
  refine congrArg (· + _) ?_
  rw [sum_shifts p]
  · refine Finset.sum_congr rfl fun a _ => ?_
    rw [sum_shifts q]
    · refine Finset.sum_congr rfl fun d _ => Finset.sum_congr rfl fun c _ => ?_
      rw [hQ]
      refine congrArg (· * _) (congrArg₂ (fun Y X => padAt 1 f Y X c) ?_ ?_) <;> dsimp only <;> omega
    · intro u hu
      exact Finset.sum_eq_zero fun c _ => by rw [h0 _ _ _ (fun h => hu h.2), mul_zero]
  · intro s hs
    exact Finset.sum_eq_zero fun u _ => Finset.sum_eq_zero fun c _ => by rw [h0 _ _ _ (fun h => hs h.1), mul_zero]

end Cert.Spec

end
-- ==== Proof.Resid.lean ====
module

public import proofs.«01_k».proof.Proof.SpecTaps

@[expose] public section

set_option maxRecDepth 16384

noncomputable section

namespace Cert.Spec

open Idealize.ShloMosaic

open scoped BigOperators

/-- A residual block: the image plus a one by one convolution of the clipped three by three convolution of
the clipped image. -/
noncomputable def resid (f : Img 32 32 256) (w : Fin 256 → Fin 256 → Fin 3 → Fin 3 → EReal) (b : Fin 256 → EReal)
    (v : Fin 256 → Fin 256 → EReal) (d : Fin 256 → EReal) : Img 32 32 256 := fun y x o =>
  f y x o + ((∑ c, v o c * max (conv 3 1 1 (fun y x c => max (f y x c) 0) w b y x c) 0) + d o)

/-- The filter a stack of nine matrices stands for, row by row. -/
def nine {V : Type} (g : Fin 9 → Fin 256 → Fin 256 → V) (o c : Fin 256) (i j : Fin 3) : V := g ⟨3 * i + j, by omega⟩ c o

end Cert.Spec

end
-- ==== Proof.Net.lean ====
module

public import proofs.«01_k».proof.Proof.Vq
public import proofs.«01_k».proof.Proof.Resid
public import Idealize.ShloMosaic.Lib.Pipeline.ValueKit

@[expose] public section

set_option maxRecDepth 16384

noncomputable section

namespace Cert.Spec

open Idealize.ShloMosaic

open scoped BigOperators

/-!
# The network

The inputs as functions of their coordinates, and the network layer by layer, for one image of the batch at a time:
two strided convolutions, a third one, the nearest codebook row at each place, the decoder's convolution with two
residual blocks, two transposed convolutions and the logistic function. The two programs' results are each shown
equal to these.
-/

/-- The network's inputs: the images, the codebook, and each layer's filter and bias. -/
structure Par where
  x : Fin 16 → Img 128 128 3
  e : Fin 512 → Fin 256 → EReal
  w1 : Fin 128 → Fin 3 → Fin 4 → Fin 4 → EReal
  b1 : Fin 128 → EReal
  w2 : Fin 256 → Fin 128 → Fin 4 → Fin 4 → EReal
  b2 : Fin 256 → EReal
  w3 : Fin 256 → Fin 256 → Fin 3 → Fin 3 → EReal
  b3 : Fin 256 → EReal
  w4 : Fin 256 → Fin 256 → Fin 3 → Fin 3 → EReal
  b4 : Fin 256 → EReal
  w5 : Fin 256 → Fin 256 → Fin 3 → Fin 3 → EReal
  b5 : Fin 256 → EReal
  v5 : Fin 256 → Fin 256 → EReal
  d5 : Fin 256 → EReal
  w6 : Fin 256 → Fin 256 → Fin 3 → Fin 3 → EReal
  b6 : Fin 256 → EReal
  v6 : Fin 256 → Fin 256 → EReal
  d6 : Fin 256 → EReal
  w7 : Fin 256 → Fin 256 → Fin 4 → Fin 4 → EReal
  b7 : Fin 256 → EReal
  w8 : Fin 256 → Fin 3 → Fin 4 → Fin 4 → EReal
  b8 : Fin 3 → EReal

/-- The inputs read off the arrays a program is given. -/
def parOf (a0 : Vec Ideal ⟨4, ![16, 3, 128, 128]⟩ .f32) (a1 : Vec Ideal ⟨2, ![512, 256]⟩ .f32) (a2 : Vec Ideal ⟨4, ![128, 3, 4, 4]⟩ .f32)
    (a3 : Vec Ideal ⟨1, ![128]⟩ .f32) (a4 : Vec Ideal ⟨4, ![256, 128, 4, 4]⟩ .f32) (a5 : Vec Ideal ⟨1, ![256]⟩ .f32)
    (a6 : Vec Ideal ⟨4, ![256, 256, 3, 3]⟩ .f32) (a7 : Vec Ideal ⟨1, ![256]⟩ .f32) (a8 : Vec Ideal ⟨4, ![256, 256, 3, 3]⟩ .f32)
    (a9 : Vec Ideal ⟨1, ![256]⟩ .f32) (a10 : Vec Ideal ⟨4, ![256, 256, 3, 3]⟩ .f32) (a11 : Vec Ideal ⟨1, ![256]⟩ .f32)
    (a12 : Vec Ideal ⟨4, ![256, 256, 1, 1]⟩ .f32) (a13 : Vec Ideal ⟨1, ![256]⟩ .f32) (a14 : Vec Ideal ⟨4, ![256, 256, 3, 3]⟩ .f32)
    (a15 : Vec Ideal ⟨1, ![256]⟩ .f32) (a16 : Vec Ideal ⟨4, ![256, 256, 1, 1]⟩ .f32) (a17 : Vec Ideal ⟨1, ![256]⟩ .f32)
    (a18 : Vec Ideal ⟨4, ![256, 256, 4, 4]⟩ .f32) (a19 : Vec Ideal ⟨1, ![256]⟩ .f32) (a20 : Vec Ideal ⟨4, ![256, 3, 4, 4]⟩ .f32)
    (a21 : Vec Ideal ⟨1, ![3]⟩ .f32) : Par where
  x := fun n y x c => a0 (ix4 n c y x)
  e := fun k c => a1 (ix2 k c)
  w1 := fun o c i j => a2 (ix4 o c i j)
  b1 := fun o => a3 (ix1 o)
  w2 := fun o c i j => a4 (ix4 o c i j)
  b2 := fun o => a5 (ix1 o)
  w3 := fun o c i j => a6 (ix4 o c i j)
  b3 := fun o => a7 (ix1 o)
  w4 := fun o c i j => a8 (ix4 o c i j)
  b4 := fun o => a9 (ix1 o)
  w5 := fun o c i j => a10 (ix4 o c i j)
  b5 := fun o => a11 (ix1 o)
  v5 := fun o c => a12 (ix4 o c 0 0)
  d5 := fun o => a13 (ix1 o)
  w6 := fun o c i j => a14 (ix4 o c i j)
  b6 := fun o => a15 (ix1 o)
  v6 := fun o c => a16 (ix4 o c 0 0)
  d6 := fun o => a17 (ix1 o)
  w7 := fun c o i j => a18 (ix4 c o i j)
  b7 := fun o => a19 (ix1 o)
  w8 := fun c o i j => a20 (ix4 c o i j)
  b8 := fun o => a21 (ix1 o)

namespace Par

variable (P : Par) (n : Fin 16)

/-- The first layer. -/
def l1 : Img 64 64 128 := fun y x o => max (conv 4 2 1 (P.x n) P.w1 P.b1 y x o) 0

/-- The second layer. -/
def l2 : Img 32 32 256 := fun y x o => max (conv 4 2 1 (P.l1 n) P.w2 P.b2 y x o) 0

/-- The encoded image. -/
def z : Img 32 32 256 := fun y x o => conv 3 1 1 (P.l2 n) P.w3 P.b3 y x o

/-- The number of the codebook row nearest to the encoded image, at each place. -/
def row (y x : Fin 32) : Fin 512 := best (gap (P.z n y x) P.e)

/-- The image made of the nearest codebook rows. -/
def q : Img 32 32 256 := fun y x c => P.e (P.row n y x) c

/-- The mean squared difference of the codebook rows from the encoded images. -/
def loss : EReal :=
  Ideal.div (∑ n : Fin 16, ∑ y : Fin 32, ∑ x : Fin 32, ∑ c : Fin 256, (P.q n y x c - P.z n y x c) * (P.q n y x c - P.z n y x c))
    (Ideal.ofBits .f32 1249902592#32)

/-- The decoder's first layer. -/
def l4 : Img 32 32 256 := fun y x o => conv 3 1 1 (P.q n) P.w4 P.b4 y x o

/-- After the first residual block. -/
def l5 : Img 32 32 256 := resid (P.l4 n) P.w5 P.b5 P.v5 P.d5

/-- After the second residual block. -/
def l6 : Img 32 32 256 := resid (P.l5 n) P.w6 P.b6 P.v6 P.d6

/-- The first transposed convolution. -/
def l7 : Img 64 64 256 := fun y x o => max (convT (P.l6 n) P.w7 P.b7 y x o) 0

/-- The image the network returns. -/
def xhat : Img 128 128 3 := fun y x o => Ideal.logistic (convT (P.l7 n) P.w8 P.b8 y x o)

end Par

end Cert.Spec

end
-- ==== Proof.NetCongr.lean ====
module

public import proofs.«01_k».proof.Proof.Net

@[expose] public section

set_option maxRecDepth 16384

noncomputable section

namespace Cert.Spec

/-! # A layer of equal inputs -/

theorem conv_congr {H W C O k s p : ℕ} {f f' : Img H W C} {w w' : Fin O → Fin C → Fin k → Fin k → EReal} {b b' : Fin O → EReal}
    (hf : f = f') (hw : w = w') (hb : b = b') (y x : ℕ) (o : Fin O) : conv k s p f w b y x o = conv k s p f' w' b' y x o := by
  rw [hf, hw, hb]

theorem convT_congr {H W C O : ℕ} {f f' : Img H W C} {w w' : Fin C → Fin O → Fin 4 → Fin 4 → EReal} {b b' : Fin O → EReal}
    (hf : f = f') (hw : w = w') (hb : b = b') (y x : ℕ) (o : Fin O) : convT f w b y x o = convT f' w' b' y x o := by
  rw [hf, hw, hb]

theorem resid_congr {f f' : Img 32 32 256} {w w' : Fin 256 → Fin 256 → Fin 3 → Fin 3 → EReal} {b b' : Fin 256 → EReal}
    {v v' : Fin 256 → Fin 256 → EReal} {d d' : Fin 256 → EReal} (hf : f = f') (hw : w = w') (hb : b = b') (hv : v = v') (hd : d = d') :
    resid f w b v d = resid f' w' b' v' d' := by
  rw [hf, hw, hb, hv, hd]

/-- Nine matrices that are the taps of a filter. -/
theorem nine_eq {g : Fin 9 → Fin 256 → Fin 256 → EReal} {w : Fin 256 → Fin 256 → Fin 3 → Fin 3 → EReal}
    (h : ∀ t c o, g t c o = w o c ⟨t / 3, by omega⟩ ⟨t % 3, by omega⟩) : nine g = w := by
  funext o c i j
  refine (h _ c o).trans (congrArg₂ (w o c) (Fin.ext ?_) (Fin.ext ?_))
  · show (3 * i.val + j.val) / 3 = i.val
    omega
  · show (3 * i.val + j.val) % 3 = j.val
    omega

end Cert.Spec

end
-- ==== Proof.KVal01.lean ====
module

public import proofs.«01_k».proof.Proof.Gen.KernelIdeal.Frame.Region0
public import proofs.«01_k».proof.Proof.SpecTaps
public import Idealize.ShloMosaic.Lib.Pipeline.ValueKit
public import proofs.«01_k».proof.Proof.Gen.KernelIdeal.Frame.Region1

@[expose] public section

set_option maxRecDepth 16384

noncomputable section

namespace Cert.KernelIdeal.Vals

open Idealize.ShloMosaic Cert.KernelIdeal Cert.KernelIdeal.Gen

/-!
# The first two calls, block by block

What one grid point of each of the two strided convolutions leaves in its block of the result.
-/

/-- The first call's block: the convolution of the image its gathered channels come from. -/
theorem out0_at (x0 : Vec Ideal S1x64x64x48 .f32) (x1 : Vec Ideal S48x128 .bf16) (x2 : Vec Ideal S1x128 .f32)
    (f : Cert.Spec.Img 128 128 3) (w : Fin 128 → Fin 3 → Fin 4 → Fin 4 → EReal) (y x : Fin 64) (o : Fin 128)
    (hx : ∀ (i j : Fin 4) (c : Fin 3), x0 (ix4 0 y x ⟨(4 * i + j) * 3 + c, by omega⟩) = Cert.Spec.padAt 1 f (2 * y + i) (2 * x + j) c)
    (hw : ∀ (i j : Fin 4) (c : Fin 3), x1 (ix2 ⟨(4 * i + j) * 3 + c, by omega⟩ o) = w o c i j) :
    out0_3 x0 x1 x2 (ix4 0 y x o) = max (Cert.Spec.conv 4 2 1 f w (fun o => x2 (ix2 0 o)) y x o) 0 := by
  unfold out0_3
  frame_out
  unfold k0_pay1
  pointwise
  rw [← Cert.Spec.conv_gathered f w (fun o => x2 (ix2 0 o)) y x o (fun k => x0 (ix4 0 y x k)) (fun k => x1 (ix2 k o)) hx hw]

/-- The second call's block: the convolution of the image whose two by two squares are its channels. -/
theorem out1_at (x0 : Vec Ideal S1x33x33x512 .f32) (x1 : Vec Ideal S8x256x256 .bf16) (x2 : Vec Ideal S1x256 .f32)
    (f : Cert.Spec.Img 64 64 128) (w : Fin 256 → Fin 128 → Fin 4 → Fin 4 → EReal) (y x : Fin 32) (o : Fin 256)
    (hx : ∀ (Y X : Fin 33) (j h : Fin 2) (c : Fin 128),
      x0 (ix4 0 Y X ⟨j * 256 + (h * 128 + c), by omega⟩) = Cert.Spec.padAt 1 f (2 * Y + j) (2 * X + h) c)
    (hw : ∀ (i : Fin 4) (d h : Fin 2) (c : Fin 128),
      x1 (ix3 ⟨2 * i + d, by omega⟩ ⟨h * 128 + c, by omega⟩ o) = w o c i ⟨2 * d + h, by omega⟩) :
    out1_3 x0 x1 x2 (ix4 0 y x o) = max (Cert.Spec.conv 4 2 1 f w (fun o => x2 (ix2 0 o)) y x o) 0 := by
  rw [← Cert.Spec.conv_paired f w (fun o => x2 (ix2 0 o)) y x o
    (fun t k => x0 (ix4 0 ⟨t / 4 + y, by omega⟩ ⟨t % 2 + x, by omega⟩ ⟨t / 2 % 2 * 256 + k, by omega⟩)) (fun t k => x1 (ix3 t k o)) ?_ hw]
  · unfold out1_3
    frame_out
    unfold k1_pay1 k1_pay2 k1_pay3 k1_pay4
    pointwise
    rw [Fin.sum_univ_eight]
    simp only [Nat.reduceDiv, Nat.reduceMod, Nat.zero_mul, Nat.one_mul, Nat.zero_add, Fin.val_zero, Fin.val_one, Fin.val_two]
    unfold k1_pay2
    pointwise
  · intro i d h c
    refine Eq.trans ?_ ((hx ⟨(2 * i + d) / 4 + y, by omega⟩ ⟨(2 * i + d) % 2 + x, by omega⟩ ⟨i % 2, by omega⟩ h c).trans ?_)
    · refine congrArg (fun k => x0 (ix4 0 _ _ k)) (Fin.ext ?_)
      dsimp only
      omega
    · refine congrArg₂ (fun a b => Cert.Spec.padAt 1 f a b c) ?_ ?_ <;> dsimp only <;> omega

end Cert.KernelIdeal.Vals

end
-- ==== Proof.Arr0.lean ====
module

public import proofs.«01_k».proof.Proof.Gen.KernelIdeal.Frame.Region0
public import Idealize.ShloMosaic.Lib.Pipeline.ValueKit

@[expose] public section

set_option maxRecDepth 16384

noncomputable section

namespace Cert.KernelIdeal.Vals

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-- Which block of its array each window is at: the first input and the results walk image by image, the rest stay. -/
theorem idx0 : ∀ t : Fin cfg0.N, win0_0.index t = ![t.val, 0, 0, 0] ∧ win0_1.index t = ![0, 0] ∧ win0_2.index t = ![0, 0] ∧ win0_3.index t = ![t.val, 0, 0, 0] :=
  (by decide +kernel : ∀ t : Fin grid0.N, _)

theorem pts0 (t : Fin cfg0.N) : t.val < 16 := lt_of_lt_of_eq t.isLt (by decide +kernel)

/-- The first input's block is one image. -/
theorem blk0_0 (c : Dev nD) (t : Fin cfg0.N) : iblk0 V c 0 t = (fun j : S1x64x64x48.Idx => V c main_v86 (ix4 ⟨t.val, pts0 t⟩ (j 1) (j 2) (j 3))) := by
  funext j
  blk_ext [iblk0, idx0 t]

theorem blk0_1 (c : Dev nD) (t : Fin cfg0.N) : iblk0 V c 1 t = V c main_v88 := by
  blk_ext! [iblk0, idx0 t]

theorem blk0_2 (c : Dev nD) (t : Fin cfg0.N) : iblk0 V c 2 t = V c main_v89 := by
  blk_ext! [iblk0, idx0 t]

/-- Result 3 as one function of the whole input arrays: each image is computed from the same image. -/
def arrVal0_3 (c : Dev nD) : Vec Ideal S16x64x64x128 .f32 := fun i => out0_3 (fun j : S1x64x64x48.Idx => V c main_v86 (ix4 (i 0) (j 1) (j 2) (j 3))) (V c main_v88) (V c main_v89) (ix4 0 (i 1) (i 2) (i 3))

theorem aft0_3 (c : Dev nD) (t : Fin cfg0.N) : (dat0 V c).after 3 t = out0_3 (fun j : S1x64x64x48.Idx => V c main_v86 (ix4 ⟨t.val, pts0 t⟩ (j 1) (j 2) (j 3))) (V c main_v88) (V c main_v89) := by
  rw [after0_3, blk0_0, blk0_1, blk0_2]

theorem emb0_3 (t : Fin cfg0.N) (y : S1x64x64x128.Idx) : ((cfg0.win 3).blk t).view.emb y = ix4 ⟨t.val, pts0 t⟩ (y 1) (y 2) (y 3) := by
  blk_ext [idx0 t]

theorem own0_3 (y : S1x64x64x128.Idx) : y = ix4 0 (y 1) (y 2) (y 3) := by
  blk_ext []

theorem point0_3 (c : Dev nD) (t : Fin cfg0.N) (y : S1x64x64x128.Idx) : (dat0 V c).after 3 t y = arrVal0_3 V c (((cfg0.win 3).blk t).view.emb y) := by
  rw [emb0_3, aft0_3]
  exact congrArg _ (own0_3 y)

/-- The array result 3 is left in. -/
theorem arr0_3 (c : Dev nD) : (dat0 V c).arrAt 3 cfg0.N = arrVal0_3 V c := by
  refine (dat0 V c).arrAt_eq_of_covers 3 _ (by decide +kernel) fun t _ y => ?_
  blk_simp
  exact point0_3 V c t y

end Cert.KernelIdeal.Vals

end
-- ==== Proof.Ladder.lean ====
module

public import proofs.«01_k».proof.Proof.Spec

@[expose] public section

set_option maxRecDepth 16384

noncomputable section

namespace Cert.Spec

open Idealize.ShloMosaic

/-- A case distinction all of whose cases have one value has that value. -/
theorem ladder {α : Type*} {p : Prop} [Decidable p] {a : p → α} {b : ¬p → α} {v : α} (h1 : ∀ h, a h = v) (h2 : ∀ h, b h = v) : dite p a b = v := by
  by_cases h : p
  · rw [dif_pos h, h1]
  · rw [dif_neg h, h2]

end Cert.Spec

end
-- ==== Proof.KHost0.lean ====
module

public import proofs.«01_k».proof.Proof.Gen.KernelIdeal.Launch
public import Idealize.ShloMosaic.Lib.Pipeline.ValueKit
public import Idealize.ShloMosaic.Lib.StableHlo.ReadAt
public import proofs.«01_k».proof.Proof.Ladder

@[expose] public section

set_option maxRecDepth 16384

noncomputable section

namespace Cert.KernelIdeal.Vals

open Idealize.ShloMosaic Idealize.ShloMosaic.TcCoe Idealize.ShloMosaic.StableHlo Idealize.SL.Sem Cert.KernelIdeal Cert.KernelIdeal.Gen

/-! # The arrays the host lines hand to the calls, element by element -/

variable (V : Valuation τ sig (Elt Ideal))

theorem zero_conv : FloatOps.sitofp (F := Ideal) .f32 (0#32 : BitVec 32) = (0 : EReal) := by
  show (((0#32 : BitVec 32).toInt : ℝ) : EReal) = 0
  norm_num

theorem rd_v1 (n : Fin 16) (Y X : Fin 130) (c : Fin 3) : after hostOps0_1 (after hostOps0 V) (Proc.devRef .tc main_v1) (ix4 n Y X c) =
    if h : (0 < Y.val ∧ Y.val < 129) ∧ (0 < X.val ∧ X.val < 129) then V (Proc.devRef .tc main_arg0) (ix4 n c ⟨Y-1, by omega⟩ ⟨X-1, by omega⟩) else (0 : EReal) := by
  after_reads_at
  rw [zero_conv]
  exact Cert.Spec.dite_eq (by omega) fun _ _ => rfl

theorem rd_v91 (n : Fin 16) (Y X : Fin 66) (c : Fin 128) : after hostOps1_1 (after hostOps1 V) (Proc.devRef .tc main_v91) (ix4 n Y X c) =
    if h : (0 < Y.val ∧ Y.val < 65) ∧ (0 < X.val ∧ X.val < 65) then V (Proc.devRef .tc main_v90) (ix4 n ⟨Y-1, by omega⟩ ⟨X-1, by omega⟩ c) else (0 : EReal) := by
  after_reads_at
  rw [zero_conv]
  exact Cert.Spec.dite_eq (by omega) fun _ _ => rfl

theorem rd_v94 (n : Fin 16) (Y X : Fin 33) (j h : Fin 2) (c : Fin 128) : after hostOps1_2 V (Proc.devRef .tc main_v94) (ix4 n Y X ⟨j*256+(h*128+c), by omega⟩) = V (Proc.devRef .tc main_v91) (ix4 n ⟨2*Y+j, by omega⟩ ⟨2*X+h, by omega⟩ c) := by
  after_reads_at
  blk_ext []

theorem rd_v89 (o : Fin 128) : after hostOps0_2 V (Proc.devRef .tc main_v89) (ix2 0 o) = V (Proc.devRef .tc main_arg3) (ix1 o) := by
  after_reads_at

theorem rd_v161 (o : Fin 256) : after hostOps1_2 V (Proc.devRef .tc main_v161) (ix2 0 o) = V (Proc.devRef .tc main_arg5) (ix1 o) := by
  after_reads_at

end Cert.KernelIdeal.Vals

end
-- ==== Proof.KHost0b.lean ====
module

public import proofs.«01_k».proof.Proof.Gen.KernelIdeal.Launch
public import Idealize.ShloMosaic.Lib.Pipeline.ValueKit
public import Idealize.ShloMosaic.Lib.StableHlo.ReadAt
public import proofs.«01_k».proof.Proof.Ladder

@[expose] public section

set_option maxRecDepth 16384

noncomputable section

namespace Cert.KernelIdeal.Vals

open Idealize.ShloMosaic Idealize.ShloMosaic.TcCoe Idealize.ShloMosaic.StableHlo Idealize.SL.Sem Cert.KernelIdeal Cert.KernelIdeal.Gen

/-! # The arrays the host lines hand to the calls, element by element -/

variable (V : Valuation τ sig (Elt Ideal))

theorem cat_v86 : after hostOps0_2 V (Proc.devRef .tc main_v86) = (concatenate S16x64x64x48 3 [⟨S16x64x64x3, upto hostOps0_2 V 84 (Proc.devRef .tc main_v7)⟩, ⟨S16x64x64x3, upto hostOps0_2 V 84 (Proc.devRef .tc main_v12)⟩, ⟨S16x64x64x3, upto hostOps0_2 V 84 (Proc.devRef .tc main_v17)⟩, ⟨S16x64x64x3, upto hostOps0_2 V 84 (Proc.devRef .tc main_v22)⟩, ⟨S16x64x64x3, upto hostOps0_2 V 84 (Proc.devRef .tc main_v27)⟩, ⟨S16x64x64x3, upto hostOps0_2 V 84 (Proc.devRef .tc main_v32)⟩, ⟨S16x64x64x3, upto hostOps0_2 V 84 (Proc.devRef .tc main_v37)⟩, ⟨S16x64x64x3, upto hostOps0_2 V 84 (Proc.devRef .tc main_v42)⟩, ⟨S16x64x64x3, upto hostOps0_2 V 84 (Proc.devRef .tc main_v47)⟩, ⟨S16x64x64x3, upto hostOps0_2 V 84 (Proc.devRef .tc main_v52)⟩, ⟨S16x64x64x3, upto hostOps0_2 V 84 (Proc.devRef .tc main_v57)⟩, ⟨S16x64x64x3, upto hostOps0_2 V 84 (Proc.devRef .tc main_v62)⟩, ⟨S16x64x64x3, upto hostOps0_2 V 84 (Proc.devRef .tc main_v67)⟩, ⟨S16x64x64x3, upto hostOps0_2 V 84 (Proc.devRef .tc main_v72)⟩, ⟨S16x64x64x3, upto hostOps0_2 V 84 (Proc.devRef .tc main_v77)⟩, ⟨S16x64x64x3, upto hostOps0_2 V 84 (Proc.devRef .tc main_v82)⟩] concatenates_S16x64x64x3_S16x64x64x3_S16x64x64x3_S16x64x64x3_S16x64x64x3_S16x64x64x3_S16x64x64x3_S16x64x64x3_S16x64x64x3_S16x64x64x3_S16x64x64x3_S16x64x64x3_S16x64x64x3_S16x64x64x3_S16x64x64x3_S16x64x64x3_S16x64x64x48_d3 : Vec Ideal S16x64x64x48 .f32) :=
  (after_last_write (i := 84) [main_v87, main_v88, main_v89] rfl rfl (by decide) V).trans (nary_result ..)

/-- Sixteen equal pieces side by side: piece `k` holds the places `k*3 …`. -/
theorem sixteen_x (f : Fin 16 → Vec Ideal S16x64x64x3 .f32) (n : Fin 16) (y x : Fin 64) (c : Fin 3) (k : Fin 16) : (concatenate S16x64x64x48 3 [⟨S16x64x64x3, f 0⟩, ⟨S16x64x64x3, f 1⟩, ⟨S16x64x64x3, f 2⟩, ⟨S16x64x64x3, f 3⟩, ⟨S16x64x64x3, f 4⟩, ⟨S16x64x64x3, f 5⟩, ⟨S16x64x64x3, f 6⟩, ⟨S16x64x64x3, f 7⟩, ⟨S16x64x64x3, f 8⟩, ⟨S16x64x64x3, f 9⟩, ⟨S16x64x64x3, f 10⟩, ⟨S16x64x64x3, f 11⟩, ⟨S16x64x64x3, f 12⟩, ⟨S16x64x64x3, f 13⟩, ⟨S16x64x64x3, f 14⟩, ⟨S16x64x64x3, f 15⟩] concatenates_S16x64x64x3_S16x64x64x3_S16x64x64x3_S16x64x64x3_S16x64x64x3_S16x64x64x3_S16x64x64x3_S16x64x64x3_S16x64x64x3_S16x64x64x3_S16x64x64x3_S16x64x64x3_S16x64x64x3_S16x64x64x3_S16x64x64x3_S16x64x64x3_S16x64x64x48_d3 : Vec Ideal S16x64x64x48 .f32) (ix4 n y x ⟨k*3+c, by omega⟩) = f k (ix4 n y x c) :=
  concatenate_ofFn_apply (t := S16x64x64x48) (s₁ := S16x64x64x3) 3 f concatenates_S16x64x64x3_S16x64x64x3_S16x64x64x3_S16x64x64x3_S16x64x64x3_S16x64x64x3_S16x64x64x3_S16x64x64x3_S16x64x64x3_S16x64x64x3_S16x64x64x3_S16x64x64x3_S16x64x64x3_S16x64x64x3_S16x64x64x3_S16x64x64x3_S16x64x64x48_d3 rfl 3 rfl _ k (by show (k.val * 3 + _) / 3 = k.val; omega) _ (by show c.val = (k.val * 3 + c.val) % 3; omega)
    (by intro b hb; fin_cases b <;> first | rfl | exact absurd rfl hb)

set_option maxHeartbeats 4000000 in
theorem each_v86 (n : Fin 16) (y x : Fin 64) (c : Fin 3) (k : Fin 16) : (![upto hostOps0_2 V 84 (Proc.devRef .tc main_v7), upto hostOps0_2 V 84 (Proc.devRef .tc main_v12), upto hostOps0_2 V 84 (Proc.devRef .tc main_v17), upto hostOps0_2 V 84 (Proc.devRef .tc main_v22), upto hostOps0_2 V 84 (Proc.devRef .tc main_v27), upto hostOps0_2 V 84 (Proc.devRef .tc main_v32), upto hostOps0_2 V 84 (Proc.devRef .tc main_v37), upto hostOps0_2 V 84 (Proc.devRef .tc main_v42), upto hostOps0_2 V 84 (Proc.devRef .tc main_v47), upto hostOps0_2 V 84 (Proc.devRef .tc main_v52), upto hostOps0_2 V 84 (Proc.devRef .tc main_v57), upto hostOps0_2 V 84 (Proc.devRef .tc main_v62), upto hostOps0_2 V 84 (Proc.devRef .tc main_v67), upto hostOps0_2 V 84 (Proc.devRef .tc main_v72), upto hostOps0_2 V 84 (Proc.devRef .tc main_v77), upto hostOps0_2 V 84 (Proc.devRef .tc main_v82)] : Fin 16 → Vec Ideal S16x64x64x3 .f32) k (ix4 n y x c) = V (Proc.devRef .tc main_v1) (ix4 n ⟨2*y+k/4, by omega⟩ ⟨2*x+k%4, by omega⟩ c) := by
  fin_cases k
  all_goals simp only [Matrix.cons_val, Fin.zero_eta, Fin.mk_one, Fin.reduceFinMk]
  all_goals after_reads_at <;> blk_ext []

set_option maxHeartbeats 4000000 in
theorem rd_v86 (n : Fin 16) (y x : Fin 64) (i j : Fin 4) (c : Fin 3) : after hostOps0_2 V (Proc.devRef .tc main_v86) (ix4 n y x ⟨(4*i+j)*3+c, by omega⟩) = V (Proc.devRef .tc main_v1) (ix4 n ⟨2*y+i, by omega⟩ ⟨2*x+j, by omega⟩ c) := by
  rw [cat_v86]
  refine (sixteen_x ![upto hostOps0_2 V 84 (Proc.devRef .tc main_v7), upto hostOps0_2 V 84 (Proc.devRef .tc main_v12), upto hostOps0_2 V 84 (Proc.devRef .tc main_v17), upto hostOps0_2 V 84 (Proc.devRef .tc main_v22), upto hostOps0_2 V 84 (Proc.devRef .tc main_v27), upto hostOps0_2 V 84 (Proc.devRef .tc main_v32), upto hostOps0_2 V 84 (Proc.devRef .tc main_v37), upto hostOps0_2 V 84 (Proc.devRef .tc main_v42), upto hostOps0_2 V 84 (Proc.devRef .tc main_v47), upto hostOps0_2 V 84 (Proc.devRef .tc main_v52), upto hostOps0_2 V 84 (Proc.devRef .tc main_v57), upto hostOps0_2 V 84 (Proc.devRef .tc main_v62), upto hostOps0_2 V 84 (Proc.devRef .tc main_v67), upto hostOps0_2 V 84 (Proc.devRef .tc main_v72), upto hostOps0_2 V 84 (Proc.devRef .tc main_v77), upto hostOps0_2 V 84 (Proc.devRef .tc main_v82)] n y x c ⟨4*i+j, by omega⟩).trans ((each_v86 V n y x c _).trans ?_)
  blk_ext []

end Cert.KernelIdeal.Vals

end
-- ==== Proof.KHost0c.lean ====
module

public import proofs.«01_k».proof.Proof.Gen.KernelIdeal.Launch
public import Idealize.ShloMosaic.Lib.Pipeline.ValueKit
public import Idealize.ShloMosaic.Lib.StableHlo.ReadAt
public import proofs.«01_k».proof.Proof.Ladder

@[expose] public section

set_option maxRecDepth 16384

noncomputable section

namespace Cert.KernelIdeal.Vals

open Idealize.ShloMosaic Idealize.ShloMosaic.TcCoe Idealize.ShloMosaic.StableHlo Idealize.SL.Sem Cert.KernelIdeal Cert.KernelIdeal.Gen

/-! # The arrays the host lines hand to the calls, element by element -/

variable (V : Valuation τ sig (Elt Ideal))

theorem cat_v87 : upto hostOps0_2 V 86 (Proc.devRef .tc main_v87) = (concatenate S48x128 0 [⟨S3x128, upto hostOps0_2 V 85 (Proc.devRef .tc main_v10)⟩, ⟨S3x128, upto hostOps0_2 V 85 (Proc.devRef .tc main_v15)⟩, ⟨S3x128, upto hostOps0_2 V 85 (Proc.devRef .tc main_v20)⟩, ⟨S3x128, upto hostOps0_2 V 85 (Proc.devRef .tc main_v25)⟩, ⟨S3x128, upto hostOps0_2 V 85 (Proc.devRef .tc main_v30)⟩, ⟨S3x128, upto hostOps0_2 V 85 (Proc.devRef .tc main_v35)⟩, ⟨S3x128, upto hostOps0_2 V 85 (Proc.devRef .tc main_v40)⟩, ⟨S3x128, upto hostOps0_2 V 85 (Proc.devRef .tc main_v45)⟩, ⟨S3x128, upto hostOps0_2 V 85 (Proc.devRef .tc main_v50)⟩, ⟨S3x128, upto hostOps0_2 V 85 (Proc.devRef .tc main_v55)⟩, ⟨S3x128, upto hostOps0_2 V 85 (Proc.devRef .tc main_v60)⟩, ⟨S3x128, upto hostOps0_2 V 85 (Proc.devRef .tc main_v65)⟩, ⟨S3x128, upto hostOps0_2 V 85 (Proc.devRef .tc main_v70)⟩, ⟨S3x128, upto hostOps0_2 V 85 (Proc.devRef .tc main_v75)⟩, ⟨S3x128, upto hostOps0_2 V 85 (Proc.devRef .tc main_v80)⟩, ⟨S3x128, upto hostOps0_2 V 85 (Proc.devRef .tc main_v85)⟩] concatenates_S3x128_S3x128_S3x128_S3x128_S3x128_S3x128_S3x128_S3x128_S3x128_S3x128_S3x128_S3x128_S3x128_S3x128_S3x128_S3x128_S48x128_d0 : Vec Ideal S48x128 .f32) :=
  (upto_last_write (i := 85) [] rfl rfl (by decide) V).trans (nary_result ..)

theorem cut_v88 : after hostOps0_2 V (Proc.devRef .tc main_v88) = (truncf .bf16 (upto hostOps0_2 V 86 (Proc.devRef .tc main_v87) : FVec Ideal S48x128 .f32) bitsLt_bf16_f32 : FVec Ideal S48x128 .bf16) :=
  (after_last_write (i := 86) [main_v89] rfl rfl (by decide) V).trans (unary_result ..)

/-- Sixteen equal pieces side by side: piece `k` holds the places `k*3 …`. -/
theorem sixteen_w (f : Fin 16 → Vec Ideal S3x128 .f32) (c : Fin 3) (o : Fin 128) (k : Fin 16) : (concatenate S48x128 0 [⟨S3x128, f 0⟩, ⟨S3x128, f 1⟩, ⟨S3x128, f 2⟩, ⟨S3x128, f 3⟩, ⟨S3x128, f 4⟩, ⟨S3x128, f 5⟩, ⟨S3x128, f 6⟩, ⟨S3x128, f 7⟩, ⟨S3x128, f 8⟩, ⟨S3x128, f 9⟩, ⟨S3x128, f 10⟩, ⟨S3x128, f 11⟩, ⟨S3x128, f 12⟩, ⟨S3x128, f 13⟩, ⟨S3x128, f 14⟩, ⟨S3x128, f 15⟩] concatenates_S3x128_S3x128_S3x128_S3x128_S3x128_S3x128_S3x128_S3x128_S3x128_S3x128_S3x128_S3x128_S3x128_S3x128_S3x128_S3x128_S48x128_d0 : Vec Ideal S48x128 .f32) (ix2 ⟨k*3+c, by omega⟩ o) = f k (ix2 c o) :=
  concatenate_ofFn_apply (t := S48x128) (s₁ := S3x128) 0 f concatenates_S3x128_S3x128_S3x128_S3x128_S3x128_S3x128_S3x128_S3x128_S3x128_S3x128_S3x128_S3x128_S3x128_S3x128_S3x128_S3x128_S48x128_d0 rfl 3 rfl _ k (by show (k.val * 3 + _) / 3 = k.val; omega) _ (by show c.val = (k.val * 3 + c.val) % 3; omega)
    (by intro b hb; fin_cases b <;> first | rfl | exact absurd rfl hb)

set_option maxHeartbeats 4000000 in
theorem each_v87 (c : Fin 3) (o : Fin 128) (k : Fin 16) : (![upto hostOps0_2 V 85 (Proc.devRef .tc main_v10), upto hostOps0_2 V 85 (Proc.devRef .tc main_v15), upto hostOps0_2 V 85 (Proc.devRef .tc main_v20), upto hostOps0_2 V 85 (Proc.devRef .tc main_v25), upto hostOps0_2 V 85 (Proc.devRef .tc main_v30), upto hostOps0_2 V 85 (Proc.devRef .tc main_v35), upto hostOps0_2 V 85 (Proc.devRef .tc main_v40), upto hostOps0_2 V 85 (Proc.devRef .tc main_v45), upto hostOps0_2 V 85 (Proc.devRef .tc main_v50), upto hostOps0_2 V 85 (Proc.devRef .tc main_v55), upto hostOps0_2 V 85 (Proc.devRef .tc main_v60), upto hostOps0_2 V 85 (Proc.devRef .tc main_v65), upto hostOps0_2 V 85 (Proc.devRef .tc main_v70), upto hostOps0_2 V 85 (Proc.devRef .tc main_v75), upto hostOps0_2 V 85 (Proc.devRef .tc main_v80), upto hostOps0_2 V 85 (Proc.devRef .tc main_v85)] : Fin 16 → Vec Ideal S3x128 .f32) k (ix2 c o) = V (Proc.devRef .tc main_arg2) (ix4 o c ⟨k/4, by omega⟩ ⟨k%4, by omega⟩) := by
  fin_cases k
  all_goals simp only [Matrix.cons_val, Fin.zero_eta, Fin.mk_one, Fin.reduceFinMk]
  all_goals after_reads_at <;> blk_ext []

set_option maxHeartbeats 4000000 in
theorem rd_v88 (o : Fin 128) (i j : Fin 4) (c : Fin 3) : after hostOps0_2 V (Proc.devRef .tc main_v88) (ix2 ⟨(4*i+j)*3+c, by omega⟩ o) = V (Proc.devRef .tc main_arg2) (ix4 o c i j) := by
  rw [cut_v88]
  refine (congrFun (cat_v87 V) (ix2 ⟨(4*i+j)*3+c, by omega⟩ o)).trans ?_
  refine (sixteen_w ![upto hostOps0_2 V 85 (Proc.devRef .tc main_v10), upto hostOps0_2 V 85 (Proc.devRef .tc main_v15), upto hostOps0_2 V 85 (Proc.devRef .tc main_v20), upto hostOps0_2 V 85 (Proc.devRef .tc main_v25), upto hostOps0_2 V 85 (Proc.devRef .tc main_v30), upto hostOps0_2 V 85 (Proc.devRef .tc main_v35), upto hostOps0_2 V 85 (Proc.devRef .tc main_v40), upto hostOps0_2 V 85 (Proc.devRef .tc main_v45), upto hostOps0_2 V 85 (Proc.devRef .tc main_v50), upto hostOps0_2 V 85 (Proc.devRef .tc main_v55), upto hostOps0_2 V 85 (Proc.devRef .tc main_v60), upto hostOps0_2 V 85 (Proc.devRef .tc main_v65), upto hostOps0_2 V 85 (Proc.devRef .tc main_v70), upto hostOps0_2 V 85 (Proc.devRef .tc main_v75), upto hostOps0_2 V 85 (Proc.devRef .tc main_v80), upto hostOps0_2 V 85 (Proc.devRef .tc main_v85)] c o ⟨4*i+j, by omega⟩).trans ((each_v87 V c o _).trans ?_)
  blk_ext []

end Cert.KernelIdeal.Vals

end
-- ==== Proof.KChain0.lean ====
module

public import proofs.«01_k».proof.Proof.NetCongr
public import proofs.«01_k».proof.Proof.Gen.KernelIdeal.Frame.Fold0
public import proofs.«01_k».proof.Proof.KVal01
public import proofs.«01_k».proof.Proof.Arr0
public import proofs.«01_k».proof.Proof.KHost0
public import proofs.«01_k».proof.Proof.KHost0b
public import proofs.«01_k».proof.Proof.KHost0c

@[expose] public section

set_option maxRecDepth 16384

noncomputable section

namespace Cert.KernelIdeal.Vals

open Idealize.ShloMosaic Idealize.ShloMosaic.TcCoe Idealize.ShloMosaic.StableHlo Idealize.SL.Sem Cert.KernelIdeal Cert.KernelIdeal.Gen

/-! # The first call: the first layer -/

variable (m : (ℓ : Loc nD τ sig) → Buf (Elt Ideal) ℓ) (ρ : Dev nD → PrngReg) (c : Dev nD)

/-- The inputs, read off the initial memory. -/
def par : Cert.Spec.Par := Cert.Spec.parOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))

theorem at_v86 (n : Fin 16) (y x : Fin 64) (i j : Fin 4) (k : Fin 3) :
    W3 m ρ c (Proc.devRef .tc main_v86) (ix4 n y x ⟨(4*i+j)*3+k, by omega⟩) = Cert.Spec.padAt 1 ((par m c).x n) (2 * y + i) (2 * x + j) k := by
  refine (rd_v86 (W2 m ρ c) n y x i j k).trans ((rd_v1 (W0 m ρ c) n _ _ k).trans ?_)
  unfold Cert.Spec.padAt
  exact Cert.Spec.dite_eq (by dsimp only; omega) fun _ _ => rfl

theorem at_v88 (o : Fin 128) (i j : Fin 4) (k : Fin 3) :
    W3 m ρ c (Proc.devRef .tc main_v88) (ix2 ⟨(4*i+j)*3+k, by omega⟩ o) = (par m c).w1 o k i j :=
  (rd_v88 (W2 m ρ c) o i j k).trans (congrFun (W2_args m ρ c main_arg2 (by decide)) _)

theorem at_v89 (o : Fin 128) : W3 m ρ c (Proc.devRef .tc main_v89) (ix2 0 o) = (par m c).b1 o :=
  (rd_v89 (W2 m ρ c) o).trans (congrFun (W2_args m ρ c main_arg3 (by decide)) _)

/-- The first call leaves the first layer. -/
theorem at_v90 (n : Fin 16) (y x : Fin 64) (o : Fin 128) : W4 m ρ c (Proc.devRef .tc main_v90) (ix4 n y x o) = (par m c).l1 n y x o := by
  have h : W4 m ρ c (Proc.devRef .tc main_v90) = arrVal0_3 (V3 m ρ) c := (W4_arr m ρ c 3).trans (arr0_3 (V3 m ρ) c)
  refine (congrFun h (ix4 n y x o)).trans ?_
  refine (out0_at _ _ _ ((par m c).x n) (par m c).w1 y x o (fun i j k => at_v86 m ρ c n y x i j k) fun i j k => at_v88 m ρ c o i j k).trans ?_
  exact congrArg (max · 0) (Cert.Spec.conv_congr rfl rfl (funext fun o => at_v89 m ρ c o) y x o)

end Cert.KernelIdeal.Vals

end
-- ==== Proof.Arr1.lean ====
module

public import proofs.«01_k».proof.Proof.Gen.KernelIdeal.Frame.Region1
public import Idealize.ShloMosaic.Lib.Pipeline.ValueKit

@[expose] public section

set_option maxRecDepth 16384

noncomputable section

namespace Cert.KernelIdeal.Vals

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-- Which block of its array each window is at: the first input and the results walk image by image, the rest stay. -/
theorem idx1 : ∀ t : Fin cfg1.N, win1_0.index t = ![t.val, 0, 0, 0] ∧ win1_1.index t = ![0, 0, 0] ∧ win1_2.index t = ![0, 0] ∧ win1_3.index t = ![t.val, 0, 0, 0] :=
  (by decide +kernel : ∀ t : Fin grid1.N, _)

theorem pts1 (t : Fin cfg1.N) : t.val < 16 := lt_of_lt_of_eq t.isLt (by decide +kernel)

/-- The first input's block is one image. -/
theorem blk1_0 (c : Dev nD) (t : Fin cfg1.N) : iblk1 V c 0 t = (fun j : S1x33x33x512.Idx => V c main_v94 (ix4 ⟨t.val, pts1 t⟩ (j 1) (j 2) (j 3))) := by
  funext j
  blk_ext [iblk1, idx1 t]

theorem blk1_1 (c : Dev nD) (t : Fin cfg1.N) : iblk1 V c 1 t = V c main_v160 := by
  blk_ext! [iblk1, idx1 t]

theorem blk1_2 (c : Dev nD) (t : Fin cfg1.N) : iblk1 V c 2 t = V c main_v161 := by
  blk_ext! [iblk1, idx1 t]

/-- Result 3 as one function of the whole input arrays: each image is computed from the same image. -/
def arrVal1_3 (c : Dev nD) : Vec Ideal S16x32x32x256 .f32 := fun i => out1_3 (fun j : S1x33x33x512.Idx => V c main_v94 (ix4 (i 0) (j 1) (j 2) (j 3))) (V c main_v160) (V c main_v161) (ix4 0 (i 1) (i 2) (i 3))

theorem aft1_3 (c : Dev nD) (t : Fin cfg1.N) : (dat1 V c).after 3 t = out1_3 (fun j : S1x33x33x512.Idx => V c main_v94 (ix4 ⟨t.val, pts1 t⟩ (j 1) (j 2) (j 3))) (V c main_v160) (V c main_v161) := by
  rw [after1_3, blk1_0, blk1_1, blk1_2]

theorem emb1_3 (t : Fin cfg1.N) (y : S1x32x32x256.Idx) : ((cfg1.win 3).blk t).view.emb y = ix4 ⟨t.val, pts1 t⟩ (y 1) (y 2) (y 3) := by
  blk_ext [idx1 t]

theorem own1_3 (y : S1x32x32x256.Idx) : y = ix4 0 (y 1) (y 2) (y 3) := by
  blk_ext []

theorem point1_3 (c : Dev nD) (t : Fin cfg1.N) (y : S1x32x32x256.Idx) : (dat1 V c).after 3 t y = arrVal1_3 V c (((cfg1.win 3).blk t).view.emb y) := by
  rw [emb1_3, aft1_3]
  exact congrArg _ (own1_3 y)

/-- The array result 3 is left in. -/
theorem arr1_3 (c : Dev nD) : (dat1 V c).arrAt 3 cfg1.N = arrVal1_3 V c := by
  refine (dat1 V c).arrAt_eq_of_covers 3 _ (by decide +kernel) fun t _ y => ?_
  blk_simp
  exact point1_3 V c t y

end Cert.KernelIdeal.Vals

end
-- ==== Proof.KHost1.lean ====
module

public import proofs.«01_k».proof.Proof.Gen.KernelIdeal.Launch
public import Idealize.ShloMosaic.Lib.Pipeline.ValueKit
public import Idealize.ShloMosaic.Lib.StableHlo.ReadAt
public import proofs.«01_k».proof.Proof.Ladder

@[expose] public section

set_option maxRecDepth 16384

noncomputable section

namespace Cert.KernelIdeal.Vals

open Idealize.ShloMosaic Idealize.ShloMosaic.TcCoe Idealize.ShloMosaic.StableHlo Idealize.SL.Sem Cert.KernelIdeal Cert.KernelIdeal.Gen

/-! # The arrays the host lines hand to the calls, element by element -/

variable (V : Valuation τ sig (Elt Ideal))

set_option maxHeartbeats 4000000 in
theorem rd_v160 (i : Fin 4) (d h : Fin 2) (c : Fin 128) (o : Fin 256) : after hostOps1_2 V (Proc.devRef .tc main_v160) (ix3 ⟨2*i+d, by omega⟩ ⟨h*128+c, by omega⟩ o) = V (Proc.devRef .tc main_arg4) (ix4 o c i ⟨2*d+h, by omega⟩) := by
  after_reads_at
  repeat' with_reducible refine Cert.Spec.ladder (fun h => ?_) fun h => ?_
  all_goals after_reads_at
  all_goals repeat' with_reducible refine Cert.Spec.ladder (fun h => ?_) fun h => ?_
  all_goals after_reads_at
  all_goals blk_ext []

end Cert.KernelIdeal.Vals

end
-- ==== Proof.KChain1.lean ====
module

public import proofs.«01_k».proof.Proof.KChain0
public import proofs.«01_k».proof.Proof.Arr1
public import proofs.«01_k».proof.Proof.KHost1

@[expose] public section

set_option maxRecDepth 16384

noncomputable section

namespace Cert.KernelIdeal.Vals

open Idealize.ShloMosaic Idealize.ShloMosaic.TcCoe Idealize.ShloMosaic.StableHlo Idealize.SL.Sem Cert.KernelIdeal Cert.KernelIdeal.Gen

/-! # The second call: the second layer -/

variable (m : (ℓ : Loc nD τ sig) → Buf (Elt Ideal) ℓ) (ρ : Dev nD → PrngReg) (c : Dev nD)

theorem at_v94 (n : Fin 16) (Y X : Fin 33) (j h : Fin 2) (k : Fin 128) :
    W7 m ρ c (Proc.devRef .tc main_v94) (ix4 n Y X ⟨j*256+(h*128+k), by omega⟩) = Cert.Spec.padAt 1 ((par m c).l1 n) (2 * Y + j) (2 * X + h) k := by
  refine (rd_v94 (W6 m ρ c) n Y X j h k).trans ((rd_v91 (W4 m ρ c) n _ _ k).trans ?_)
  unfold Cert.Spec.padAt
  exact Cert.Spec.dite_eq (by dsimp only; omega) fun _ _ => at_v90 m ρ c n _ _ k

theorem at_v160 (i : Fin 4) (d h : Fin 2) (k : Fin 128) (o : Fin 256) :
    W7 m ρ c (Proc.devRef .tc main_v160) (ix3 ⟨2*i+d, by omega⟩ ⟨h*128+k, by omega⟩ o) = (par m c).w2 o k i ⟨2*d+h, by omega⟩ :=
  (rd_v160 (W6 m ρ c) i d h k o).trans (congrFun (W6_args m ρ c main_arg4 (by decide)) _)

theorem at_v161 (o : Fin 256) : W7 m ρ c (Proc.devRef .tc main_v161) (ix2 0 o) = (par m c).b2 o :=
  (rd_v161 (W6 m ρ c) o).trans (congrFun (W6_args m ρ c main_arg5 (by decide)) _)

/-- The second call leaves the second layer. -/
theorem at_v162 (n : Fin 16) (y x : Fin 32) (o : Fin 256) : W8 m ρ c (Proc.devRef .tc main_v162) (ix4 n y x o) = (par m c).l2 n y x o := by
  have h : W8 m ρ c (Proc.devRef .tc main_v162) = arrVal1_3 (V7 m ρ) c := (W8_arr m ρ c 3).trans (arr1_3 (V7 m ρ) c)
  refine (congrFun h (ix4 n y x o)).trans ?_
  refine (out1_at _ _ _ ((par m c).l1 n) (par m c).w2 y x o (fun Y X j h k => at_v94 m ρ c n Y X j h k) fun i d h k => at_v160 m ρ c i d h k o).trans ?_
  exact congrArg (max · 0) (Cert.Spec.conv_congr rfl rfl (funext fun o => at_v161 m ρ c o) y x o)

end Cert.KernelIdeal.Vals

end
-- ==== Proof.KPad.lean ====
module

public import proofs.«01_k».proof.Proof.Spec

@[expose] public section

set_option maxRecDepth 16384

noncomputable section

namespace Cert.KernelIdeal.Vals

open Idealize.ShloMosaic

/-- The zero a padding word is read as. -/
theorem zero_word : ((((0#32 : BitVec 32).toInt : ℤ) : ℝ) : EReal) = 0 := by
  simp

end Cert.KernelIdeal.Vals

end
-- ==== Proof.KVal2.lean ====
module

public import proofs.«01_k».proof.Proof.Gen.KernelIdeal.Frame.Region2
public import proofs.«01_k».proof.Proof.Resid
public import proofs.«01_k».proof.Proof.KPad
public import proofs.«01_k».proof.Proof.Vq
public import Idealize.ShloMosaic.Lib.Pipeline.ValueKit

@[expose] public section

set_option maxRecDepth 16384

noncomputable section

namespace Cert.KernelIdeal.Vals

open Idealize.ShloMosaic Cert.KernelIdeal Cert.KernelIdeal.Gen

/-!
# The third call, block by block

A three by three convolution, the nearest codebook row of every position, and the squared error.
-/

theorem zpay3_at (v : Vec Ideal S1x32x32x256 .f32) (y x : Fin 34) (o : Fin 256) :
    k2_pay3 v (ix3 y x o) = Cert.Spec.padAt 1 (fun (y x : Fin 32) (o : Fin 256) => v (ix4 0 y x o)) y x o := by
  obtain ⟨y, hy⟩ := y
  obtain ⟨x, hx⟩ := x
  unfold k2_pay3
  pointwise
  simp only [zero_word]
  unfold Cert.Spec.padAt
  dsimp only
  split_ifs <;> first | (exfalso; omega) | rfl | exact (dif_neg (by omega)).symm | exact congrArg v (congrArg₂ (fun a b => ix4 0 a b o) (Fin.ext (by dsimp only <;> omega)) (Fin.ext (by dsimp only <;> omega))) | (
    refine Eq.trans ?_ (dif_pos (by omega)).symm
    exact congrArg v (congrArg₂ (fun a b => ix4 0 a b o) (Fin.ext (by dsimp only <;> omega)) (Fin.ext (by dsimp only <;> omega))))

theorem zpay3_ld (x0 : Vec Ideal S1x32x32x256 .f32) (y x : Fin 34) (o : Fin 256) :
    k2_pay3 (View.ld x0 r2_0) (ix3 y x o) = Cert.Spec.padAt 1 (fun (y x : Fin 32) (o : Fin 256) => x0 (ix4 0 y x o)) y x o :=
  (zpay3_at _ y x o).trans (congrArg (fun f : Cert.Spec.Img 32 32 256 => Cert.Spec.padAt 1 f y x o)
    (funext fun y => funext fun x => funext fun o => by pointwise))

/-- The encoded image of one block. -/
noncomputable def enc (x0 : Vec Ideal S1x32x32x256 .f32) (x1 : Vec Ideal S9x256x256 .bf16) (x2 : Vec Ideal S1x256 .f32) : Cert.Spec.Img 32 32 256 :=
  fun y x o => Cert.Spec.conv 3 1 1 (fun y x c => x0 (ix4 0 y x c)) (Cert.Spec.nine fun t c o => x1 (ix3 t c o)) (fun o => x2 (ix2 0 o)) y x o

theorem z_at (x0 : Vec Ideal S1x32x32x256 .f32) (x1 : Vec Ideal S9x256x256 .bf16) (x2 : Vec Ideal S1x256 .f32) (x3 : Vec Ideal S256x512 .f32) (x4 : Vec Ideal S512x256 .f32) (y x : Fin 32) (o : Fin 256) :
    k2_pay12 x0 x1 x2 x3 x4 (ix2 ⟨y * 32 + x, by omega⟩ o) + k2_pay13 x0 x1 x2 x3 x4 (ix2 ⟨y * 32 + x, by omega⟩ o) = enc x0 x1 x2 y x o := by
  unfold k2_pay12 k2_pay13 k2_pay5 k2_pay6 k2_pay4 enc
  rw [Cert.Spec.conv3_nine]
  pointwise
  simp only [zpay3_ld]
  rfl

/-- The nearest codebook row of one position. -/
noncomputable def near (x0 : Vec Ideal S1x32x32x256 .f32) (x1 : Vec Ideal S9x256x256 .bf16) (x2 : Vec Ideal S1x256 .f32) (x3 : Vec Ideal S256x512 .f32)
    (y x : Fin 32) : Fin 512 :=
  Cert.Spec.best (Cert.Spec.gap (enc x0 x1 x2 y x) (fun k c => x3 (ix2 c k)))

theorem pick_at (v72 v75 : FVec Ideal S1024x256 .f32) (v80 : Vec Ideal S256x512 .f32) (r : Fin 1024) :
    k2_pay8 v72 v75 v80 (ix1 r) = BitVec.ofNat 32 (Cert.Spec.best (Cert.Spec.gap (fun c => v72 (ix2 r c) + v75 (ix2 r c)) (fun k c => v80 (ix2 c k)))) := by
  unfold k2_pay8 k2_pay7
  pointwise
  exact Cert.Spec.pick_eq _

theorem near_at (x0 : Vec Ideal S1x32x32x256 .f32) (x1 : Vec Ideal S9x256x256 .bf16) (x2 : Vec Ideal S1x256 .f32) (x3 : Vec Ideal S256x512 .f32) (x4 : Vec Ideal S512x256 .f32) (y x : Fin 32) :
    k2_pay8 (k2_pay12 x0 x1 x2 x3 x4) (k2_pay13 x0 x1 x2 x3 x4) (View.ld x3 r2_11) (ix1 ⟨y * 32 + x, by omega⟩) = BitVec.ofNat 32 (near x0 x1 x2 x3 y x) := by
  rw [pick_at]
  simp only [z_at]
  refine congrArg (fun e => BitVec.ofNat 32 (Cert.Spec.best (Cert.Spec.gap _ e))) (funext fun k => funext fun c => ?_)
  pointwise

theorem quant_at (x0 : Vec Ideal S1x32x32x256 .f32) (x1 : Vec Ideal S9x256x256 .bf16) (x2 : Vec Ideal S1x256 .f32) (x3 : Vec Ideal S256x512 .f32) (x4 : Vec Ideal S512x256 .f32) (y x : Fin 32) (o : Fin 256) :
    k2_pay10 (k2_pay12 x0 x1 x2 x3 x4) (k2_pay13 x0 x1 x2 x3 x4) (View.ld x3 r2_11) (View.ld x4 r2_13) (ix2 ⟨y * 32 + x, by omega⟩ o) = x4 (ix2 (near x0 x1 x2 x3 y x) o) := by
  unfold k2_pay10
  pointwise
  simp only [near_at]
  exact Cert.Spec.indicator_sum (near x0 x1 x2 x3 y x) (fun k => x4 (ix2 k o))

/-- The block of row numbers. -/
theorem out2_5_at (x0 : Vec Ideal S1x32x32x256 .f32) (x1 : Vec Ideal S9x256x256 .bf16) (x2 : Vec Ideal S1x256 .f32) (x3 : Vec Ideal S256x512 .f32) (x4 : Vec Ideal S512x256 .f32) (y x : Fin 32) :
    out2_5 x0 x1 x2 x3 x4 (ix3 0 0 ⟨y * 32 + x, by omega⟩) = BitVec.ofNat 32 (near x0 x1 x2 x3 y x) := by
  rw [← near_at x0 x1 x2 x3 x4]
  unfold out2_5
  frame_out
  unfold k2_pay9
  pointwise

/-- The block of nearest rows. -/
theorem out2_6_at (x0 : Vec Ideal S1x32x32x256 .f32) (x1 : Vec Ideal S9x256x256 .bf16) (x2 : Vec Ideal S1x256 .f32) (x3 : Vec Ideal S256x512 .f32) (x4 : Vec Ideal S512x256 .f32) (y x : Fin 32) (o : Fin 256) :
    out2_6 x0 x1 x2 x3 x4 (ix4 0 y x o) = x4 (ix2 (near x0 x1 x2 x3 y x) o) := by
  rw [← quant_at x0 x1 x2 x3 x4]
  unfold out2_6
  frame_out
  unfold k2_pay1 k2_pay11
  pointwise

/-- A sum over the 1024 positions, row by row. -/
theorem sum_rows (f : Fin 1024 → EReal) : ∑ r, f r = ∑ y : Fin 32, ∑ x : Fin 32, f ⟨y * 32 + x, by omega⟩ := by
  rw [← Fintype.sum_prod_type' (f := fun (y x : Fin 32) => f ⟨y * 32 + x, by omega⟩)]
  refine (Fintype.sum_equiv (finProdFinEquiv (m := 32) (n := 32)) _ _ fun p => ?_).symm
  refine congrArg f (Fin.ext ?_)
  simp [finProdFinEquiv]
  omega

/-- The block of squared errors, one per channel. -/
theorem out2_7_at (x0 : Vec Ideal S1x32x32x256 .f32) (x1 : Vec Ideal S9x256x256 .bf16) (x2 : Vec Ideal S1x256 .f32) (x3 : Vec Ideal S256x512 .f32) (x4 : Vec Ideal S512x256 .f32) (o : Fin 256) :
    out2_7 x0 x1 x2 x3 x4 (ix3 0 0 o) = ∑ y : Fin 32, ∑ x : Fin 32,
      (x4 (ix2 (near x0 x1 x2 x3 y x) o) - enc x0 x1 x2 y x o) * (x4 (ix2 (near x0 x1 x2 x3 y x) o) - enc x0 x1 x2 y x o) := by
  have hq := fun y x => quant_at x0 x1 x2 x3 x4 y x o
  have hz := fun y x => z_at x0 x1 x2 x3 x4 y x o
  simp only [← hq, ← hz]
  rw [← sum_rows (fun r => (k2_pay10 (k2_pay12 x0 x1 x2 x3 x4) (k2_pay13 x0 x1 x2 x3 x4) (View.ld x3 r2_11) (View.ld x4 r2_13) (ix2 r o) - (k2_pay12 x0 x1 x2 x3 x4 (ix2 r o) + k2_pay13 x0 x1 x2 x3 x4 (ix2 r o)))
    * (k2_pay10 (k2_pay12 x0 x1 x2 x3 x4) (k2_pay13 x0 x1 x2 x3 x4) (View.ld x3 r2_11) (View.ld x4 r2_13) (ix2 r o) - (k2_pay12 x0 x1 x2 x3 x4 (ix2 r o) + k2_pay13 x0 x1 x2 x3 x4 (ix2 r o))))]
  unfold out2_7
  frame_out
  unfold k2_pay2 k2_pay7
  pointwise

end Cert.KernelIdeal.Vals

end
-- ==== Proof.Arr2.lean ====
module

public import proofs.«01_k».proof.Proof.Gen.KernelIdeal.Frame.Region2
public import Idealize.ShloMosaic.Lib.Pipeline.ValueKit

@[expose] public section

set_option maxRecDepth 16384

noncomputable section

namespace Cert.KernelIdeal.Vals

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-- Which block of its array each window is at: the first input and the results walk image by image, the rest stay. -/
theorem idx2 : ∀ t : Fin cfg2.N, win2_0.index t = ![t.val, 0, 0, 0] ∧ win2_1.index t = ![0, 0, 0] ∧ win2_2.index t = ![0, 0] ∧ win2_3.index t = ![0, 0] ∧ win2_4.index t = ![0, 0] ∧ win2_5.index t = ![t.val, 0, 0] ∧ win2_6.index t = ![t.val, 0, 0, 0] ∧ win2_7.index t = ![t.val, 0, 0] :=
  (by decide +kernel : ∀ t : Fin grid2.N, _)

theorem pts2 (t : Fin cfg2.N) : t.val < 16 := lt_of_lt_of_eq t.isLt (by decide +kernel)

/-- The first input's block is one image. -/
theorem blk2_0 (c : Dev nD) (t : Fin cfg2.N) : iblk2 V c 0 t = (fun j : S1x32x32x256.Idx => V c main_v162 (ix4 ⟨t.val, pts2 t⟩ (j 1) (j 2) (j 3))) := by
  funext j
  blk_ext [iblk2, idx2 t]

theorem blk2_1 (c : Dev nD) (t : Fin cfg2.N) : iblk2 V c 1 t = V c main_v200 := by
  blk_ext! [iblk2, idx2 t]

theorem blk2_2 (c : Dev nD) (t : Fin cfg2.N) : iblk2 V c 2 t = V c main_v201 := by
  blk_ext! [iblk2, idx2 t]

theorem blk2_3 (c : Dev nD) (t : Fin cfg2.N) : iblk2 V c 3 t = V c main_v202 := by
  blk_ext! [iblk2, idx2 t]

theorem blk2_4 (c : Dev nD) (t : Fin cfg2.N) : iblk2 V c 4 t = V c main_arg1 := by
  blk_ext! [iblk2, idx2 t]

/-- Result 5 as one function of the whole input arrays: each image is computed from the same image. -/
def arrVal2_5 (c : Dev nD) : Vec Ideal S16x1x1024 .i32 := fun i => out2_5 (fun j : S1x32x32x256.Idx => V c main_v162 (ix4 (i 0) (j 1) (j 2) (j 3))) (V c main_v200) (V c main_v201) (V c main_v202) (V c main_arg1) (ix3 0 (i 1) (i 2))

theorem aft2_5 (c : Dev nD) (t : Fin cfg2.N) : (dat2 V c).after 5 t = out2_5 (fun j : S1x32x32x256.Idx => V c main_v162 (ix4 ⟨t.val, pts2 t⟩ (j 1) (j 2) (j 3))) (V c main_v200) (V c main_v201) (V c main_v202) (V c main_arg1) := by
  rw [after2_5, blk2_0, blk2_1, blk2_2, blk2_3, blk2_4]

theorem emb2_5 (t : Fin cfg2.N) (y : S1x1x1024.Idx) : ((cfg2.win 5).blk t).view.emb y = ix3 ⟨t.val, pts2 t⟩ (y 1) (y 2) := by
  blk_ext [idx2 t]

theorem own2_5 (y : S1x1x1024.Idx) : y = ix3 0 (y 1) (y 2) := by
  blk_ext []

theorem point2_5 (c : Dev nD) (t : Fin cfg2.N) (y : S1x1x1024.Idx) : (dat2 V c).after 5 t y = arrVal2_5 V c (((cfg2.win 5).blk t).view.emb y) := by
  rw [emb2_5, aft2_5]
  exact congrArg _ (own2_5 y)

/-- The array result 5 is left in. -/
theorem arr2_5 (c : Dev nD) : (dat2 V c).arrAt 5 cfg2.N = arrVal2_5 V c := by
  refine (dat2 V c).arrAt_eq_of_covers 5 _ (by decide +kernel) fun t _ y => ?_
  blk_simp
  exact point2_5 V c t y

/-- Result 6 as one function of the whole input arrays: each image is computed from the same image. -/
def arrVal2_6 (c : Dev nD) : Vec Ideal S16x32x32x256 .bf16 := fun i => out2_6 (fun j : S1x32x32x256.Idx => V c main_v162 (ix4 (i 0) (j 1) (j 2) (j 3))) (V c main_v200) (V c main_v201) (V c main_v202) (V c main_arg1) (ix4 0 (i 1) (i 2) (i 3))

theorem aft2_6 (c : Dev nD) (t : Fin cfg2.N) : (dat2 V c).after 6 t = out2_6 (fun j : S1x32x32x256.Idx => V c main_v162 (ix4 ⟨t.val, pts2 t⟩ (j 1) (j 2) (j 3))) (V c main_v200) (V c main_v201) (V c main_v202) (V c main_arg1) := by
  rw [after2_6, blk2_0, blk2_1, blk2_2, blk2_3, blk2_4]

theorem emb2_6 (t : Fin cfg2.N) (y : S1x32x32x256.Idx) : ((cfg2.win 6).blk t).view.emb y = ix4 ⟨t.val, pts2 t⟩ (y 1) (y 2) (y 3) := by
  blk_ext [idx2 t]

theorem own2_6 (y : S1x32x32x256.Idx) : y = ix4 0 (y 1) (y 2) (y 3) := by
  blk_ext []

theorem point2_6 (c : Dev nD) (t : Fin cfg2.N) (y : S1x32x32x256.Idx) : (dat2 V c).after 6 t y = arrVal2_6 V c (((cfg2.win 6).blk t).view.emb y) := by
  rw [emb2_6, aft2_6]
  exact congrArg _ (own2_6 y)

/-- The array result 6 is left in. -/
theorem arr2_6 (c : Dev nD) : (dat2 V c).arrAt 6 cfg2.N = arrVal2_6 V c := by
  refine (dat2 V c).arrAt_eq_of_covers 6 _ (by decide +kernel) fun t _ y => ?_
  blk_simp
  exact point2_6 V c t y

/-- Result 7 as one function of the whole input arrays: each image is computed from the same image. -/
def arrVal2_7 (c : Dev nD) : Vec Ideal S16x1x256 .f32 := fun i => out2_7 (fun j : S1x32x32x256.Idx => V c main_v162 (ix4 (i 0) (j 1) (j 2) (j 3))) (V c main_v200) (V c main_v201) (V c main_v202) (V c main_arg1) (ix3 0 (i 1) (i 2))

theorem aft2_7 (c : Dev nD) (t : Fin cfg2.N) : (dat2 V c).after 7 t = out2_7 (fun j : S1x32x32x256.Idx => V c main_v162 (ix4 ⟨t.val, pts2 t⟩ (j 1) (j 2) (j 3))) (V c main_v200) (V c main_v201) (V c main_v202) (V c main_arg1) := by
  rw [after2_7, blk2_0, blk2_1, blk2_2, blk2_3, blk2_4]

theorem emb2_7 (t : Fin cfg2.N) (y : S1x1x256.Idx) : ((cfg2.win 7).blk t).view.emb y = ix3 ⟨t.val, pts2 t⟩ (y 1) (y 2) := by
  blk_ext [idx2 t]

theorem own2_7 (y : S1x1x256.Idx) : y = ix3 0 (y 1) (y 2) := by
  blk_ext []

theorem point2_7 (c : Dev nD) (t : Fin cfg2.N) (y : S1x1x256.Idx) : (dat2 V c).after 7 t y = arrVal2_7 V c (((cfg2.win 7).blk t).view.emb y) := by
  rw [emb2_7, aft2_7]
  exact congrArg _ (own2_7 y)

/-- The array result 7 is left in. -/
theorem arr2_7 (c : Dev nD) : (dat2 V c).arrAt 7 cfg2.N = arrVal2_7 V c := by
  refine (dat2 V c).arrAt_eq_of_covers 7 _ (by decide +kernel) fun t _ y => ?_
  blk_simp
  exact point2_7 V c t y

end Cert.KernelIdeal.Vals

end
-- ==== Proof.KHost2.lean ====
module

public import proofs.«01_k».proof.Proof.Gen.KernelIdeal.Launch
public import Idealize.ShloMosaic.Lib.Pipeline.ValueKit
public import Idealize.ShloMosaic.Lib.StableHlo.ReadAt
public import proofs.«01_k».proof.Proof.Ladder

@[expose] public section

set_option maxRecDepth 16384

noncomputable section

namespace Cert.KernelIdeal.Vals

open Idealize.ShloMosaic Idealize.ShloMosaic.TcCoe Idealize.ShloMosaic.StableHlo Idealize.SL.Sem Cert.KernelIdeal Cert.KernelIdeal.Gen

/-! # The arrays the host lines hand to the calls, element by element -/

variable (V : Valuation τ sig (Elt Ideal))

theorem rd_v202 (c : Fin 256) (k : Fin 512) : after hostOps2 V (Proc.devRef .tc main_v202) (ix2 c k) = V (Proc.devRef .tc main_arg1) (ix2 k c) := by
  after_reads_at

theorem rd_v201 (o : Fin 256) : after hostOps2 V (Proc.devRef .tc main_v201) (ix2 0 o) = V (Proc.devRef .tc main_arg7) (ix1 o) := by
  after_reads_at

set_option maxHeartbeats 4000000 in
theorem rd_v200 (t : Fin 9) (c o : Fin 256) : after hostOps2 V (Proc.devRef .tc main_v200) (ix3 t c o) = V (Proc.devRef .tc main_arg6) (ix4 o c ⟨t/3, by omega⟩ ⟨t%3, by omega⟩) := by
  after_reads_at
  after_reads_at
  repeat' with_reducible refine Cert.Spec.ladder (fun h => ?_) fun h => ?_
  all_goals blk_ext []

end Cert.KernelIdeal.Vals

end
-- ==== Proof.KChain2.lean ====
module

public import proofs.«01_k».proof.Proof.KChain1
public import proofs.«01_k».proof.Proof.KVal2
public import proofs.«01_k».proof.Proof.Arr2
public import proofs.«01_k».proof.Proof.KHost2

@[expose] public section

set_option maxRecDepth 16384

noncomputable section

namespace Cert.KernelIdeal.Vals

open Idealize.ShloMosaic Idealize.ShloMosaic.TcCoe Idealize.ShloMosaic.StableHlo Idealize.SL.Sem Cert.KernelIdeal Cert.KernelIdeal.Gen

/-! # The third call: the encoded images and their nearest codebook rows -/

variable (m : (ℓ : Loc nD τ sig) → Buf (Elt Ideal) ℓ) (ρ : Dev nD → PrngReg) (c : Dev nD)

theorem enc_eq (n : Fin 16) : enc (fun j : S1x32x32x256.Idx => V9 m ρ c main_v162 (ix4 n (j 1) (j 2) (j 3))) (V9 m ρ c main_v200) (V9 m ρ c main_v201) = (par m c).z n := by
  funext y x o
  refine Cert.Spec.conv_congr ?_ ?_ ?_ y x o
  · funext y x k
    exact (congrFun (W9_of m ρ c main_v162 (by decide +kernel)) _).trans (at_v162 m ρ c n y x k)
  · exact Cert.Spec.nine_eq fun t k o => (rd_v200 (W8 m ρ c) t k o).trans (congrFun (W8_args m ρ c main_arg6 (by decide)) _)
  · exact funext fun o => (rd_v201 (W8 m ρ c) o).trans (congrFun (W8_args m ρ c main_arg7 (by decide)) _)

theorem code_eq (k : Fin 512) (o : Fin 256) : V9 m ρ c main_arg1 (ix2 k o) = (par m c).e k o :=
  congrFun (W9_args m ρ c main_arg1 (by decide)) _

theorem near_eq (n : Fin 16) (y x : Fin 32) :
    near (fun j : S1x32x32x256.Idx => V9 m ρ c main_v162 (ix4 n (j 1) (j 2) (j 3))) (V9 m ρ c main_v200) (V9 m ρ c main_v201) (V9 m ρ c main_v202) y x = (par m c).row n y x := by
  have hg : (fun (k : Fin 512) (o : Fin 256) => V9 m ρ c main_v202 (ix2 o k)) = (par m c).e :=
    funext fun k => funext fun o => (rd_v202 (W8 m ρ c) o k).trans (congrFun (W8_args m ρ c main_arg1 (by decide)) _)
  unfold near
  rw [enc_eq]
  exact congrArg (fun e => Cert.Spec.best (Cert.Spec.gap ((par m c).z n y x) e)) hg

/-- The third call leaves the numbers of the nearest rows, -/
theorem at_v203_0 (n : Fin 16) (y x : Fin 32) :
    W10 m ρ c (Proc.devRef .tc main_v203_0) (ix3 n 0 ⟨y * 32 + x, by omega⟩) = BitVec.ofNat 32 ((par m c).row n y x) := by
  have h : W10 m ρ c (Proc.devRef .tc main_v203_0) = arrVal2_5 (V9 m ρ) c := (W10_arr m ρ c 5).trans (arr2_5 (V9 m ρ) c)
  refine (congrFun h (ix3 n 0 ⟨y * 32 + x, by omega⟩)).trans ?_
  refine (out2_5_at (fun j : S1x32x32x256.Idx => V9 m ρ c main_v162 (ix4 n (j 1) (j 2) (j 3))) (V9 m ρ c main_v200) (V9 m ρ c main_v201) (V9 m ρ c main_v202) (V9 m ρ c main_arg1) y x).trans ?_
  rw [near_eq]

/-- those rows, -/
theorem at_v203_1 (n : Fin 16) (y x : Fin 32) (o : Fin 256) :
    W10 m ρ c (Proc.devRef .tc main_v203_1) (ix4 n y x o) = (par m c).q n y x o := by
  have h : W10 m ρ c (Proc.devRef .tc main_v203_1) = arrVal2_6 (V9 m ρ) c := (W10_arr m ρ c 6).trans (arr2_6 (V9 m ρ) c)
  refine (congrFun h (ix4 n y x o)).trans ?_
  refine (out2_6_at (fun j : S1x32x32x256.Idx => V9 m ρ c main_v162 (ix4 n (j 1) (j 2) (j 3))) (V9 m ρ c main_v200) (V9 m ρ c main_v201) (V9 m ρ c main_v202) (V9 m ρ c main_arg1) y x o).trans ?_
  rw [near_eq]
  exact code_eq m ρ c _ o

/-- and the squared differences, summed over an image's places. -/
theorem at_v203_2 (n : Fin 16) (o : Fin 256) :
    W10 m ρ c (Proc.devRef .tc main_v203_2) (ix3 n 0 o)
      = ∑ y : Fin 32, ∑ x : Fin 32, ((par m c).q n y x o - (par m c).z n y x o) * ((par m c).q n y x o - (par m c).z n y x o) := by
  have h : W10 m ρ c (Proc.devRef .tc main_v203_2) = arrVal2_7 (V9 m ρ) c := (W10_arr m ρ c 7).trans (arr2_7 (V9 m ρ) c)
  refine (congrFun h (ix3 n 0 o)).trans ?_
  refine (out2_7_at (fun j : S1x32x32x256.Idx => V9 m ρ c main_v162 (ix4 n (j 1) (j 2) (j 3))) (V9 m ρ c main_v200) (V9 m ρ c main_v201) (V9 m ρ c main_v202) (V9 m ρ c main_arg1) o).trans ?_
  refine Finset.sum_congr rfl fun y _ => Finset.sum_congr rfl fun x _ => ?_
  rw [near_eq, enc_eq]
  exact congrArg (fun e : EReal => (e - (par m c).z n y x o) * (e - (par m c).z n y x o)) (code_eq m ρ c _ o)

end Cert.KernelIdeal.Vals

end
-- ==== Proof.KVal3.lean ====
module

public import proofs.«01_k».proof.Proof.Gen.KernelIdeal.Frame.Region3
public import proofs.«01_k».proof.Proof.Resid
public import proofs.«01_k».proof.Proof.KPad
public import Idealize.ShloMosaic.Lib.Pipeline.ValueKit

@[expose] public section

set_option maxRecDepth 16384

noncomputable section

namespace Cert.KernelIdeal.Vals

open Idealize.ShloMosaic Cert.KernelIdeal Cert.KernelIdeal.Gen

/-!
# The fourth call, block by block

A three by three convolution and two residual blocks.
-/

theorem pay3_at (v : Vec Ideal S1x32x32x256 .bf16) (y x : Fin 34) (o : Fin 256) :
    k3_pay3 v (ix3 y x o) = Cert.Spec.padAt 1 (fun (y x : Fin 32) (o : Fin 256) => v (ix4 0 y x o)) y x o := by
  obtain ⟨y, hy⟩ := y
  obtain ⟨x, hx⟩ := x
  unfold k3_pay3
  pointwise
  simp only [zero_word]
  unfold Cert.Spec.padAt
  dsimp only
  split_ifs <;> first | (exfalso; omega) | rfl | exact (dif_neg (by omega)).symm | exact congrArg v (congrArg₂ (fun a b => ix4 0 a b o) (Fin.ext (by dsimp only <;> omega)) (Fin.ext (by dsimp only <;> omega))) | (
    refine Eq.trans ?_ (dif_pos (by omega)).symm
    exact congrArg v (congrArg₂ (fun a b => ix4 0 a b o) (Fin.ext (by dsimp only <;> omega)) (Fin.ext (by dsimp only <;> omega))))

theorem pay8_at (v : FVec Ideal S32x32x256 .bf16) (y x : Fin 34) (o : Fin 256) :
    k3_pay8 v (ix3 y x o) = Cert.Spec.padAt 1 (fun (y x : Fin 32) (o : Fin 256) => v (ix3 y x o)) y x o := by
  obtain ⟨y, hy⟩ := y
  obtain ⟨x, hx⟩ := x
  unfold k3_pay8
  pointwise
  simp only [zero_word]
  unfold Cert.Spec.padAt
  dsimp only
  split_ifs <;> first | (exfalso; omega) | rfl | exact (dif_neg (by omega)).symm | exact congrArg v (congrArg₂ (fun a b => ix3 a b o) (Fin.ext (by dsimp only <;> omega)) (Fin.ext (by dsimp only <;> omega))) | (
    refine Eq.trans ?_ (dif_pos (by omega)).symm
    exact congrArg v (congrArg₂ (fun a b => ix3 a b o) (Fin.ext (by dsimp only <;> omega)) (Fin.ext (by dsimp only <;> omega))))

theorem pay12_at (v : FVec Ideal S1024x256 .f32) (z : Ideal .f32) (y x : Fin 34) (o : Fin 256) :
    k3_pay12 v z (ix3 y x o) = Cert.Spec.padAt 1 (fun (y x : Fin 32) (o : Fin 256) => max (v (ix2 ⟨y * 32 + x, by omega⟩ o)) z) y x o := by
  obtain ⟨y, hy⟩ := y
  obtain ⟨x, hx⟩ := x
  unfold k3_pay12
  pointwise
  simp only [zero_word]
  unfold Cert.Spec.padAt
  dsimp only
  split_ifs <;> first | (exfalso; omega) | rfl | exact (dif_neg (by omega)).symm | exact congrArg (fun i => max (v (ix2 i o)) z) (Fin.ext (by dsimp only <;> omega)) | (
    refine Eq.trans ?_ (dif_pos (by omega)).symm
    exact congrArg (fun i => max (v (ix2 i o)) z) (Fin.ext (by dsimp only <;> omega)))

/-- The hidden image of one block: the three by three convolution of its input. -/
noncomputable def hid (x0 : Vec Ideal S1x32x32x256 .bf16) (x1 : Vec Ideal S9x256x256 .bf16) (x2 : Vec Ideal S1x256 .f32) : Cert.Spec.Img 32 32 256 :=
  fun y x o => Cert.Spec.conv 3 1 1 (fun y x c => x0 (ix4 0 y x c)) (Cert.Spec.nine fun t c o => x1 (ix3 t c o)) (fun o => x2 (ix2 0 o)) y x o

theorem pay3_ld (x0 : Vec Ideal S1x32x32x256 .bf16) (y x : Fin 34) (o : Fin 256) :
    k3_pay3 (View.ld x0 r3_0) (ix3 y x o) = Cert.Spec.padAt 1 (fun (y x : Fin 32) (o : Fin 256) => x0 (ix4 0 y x o)) y x o :=
  (pay3_at _ y x o).trans (congrArg (fun f : Cert.Spec.Img 32 32 256 => Cert.Spec.padAt 1 f y x o)
    (funext fun y => funext fun x => funext fun o => by pointwise))

theorem pay6_at (v3 : FVec Ideal S1x256 .f32) (v12 : FVec Ideal S34x34x256 .bf16) (v35 : FVec Ideal S1024x256 .f32) (a b c d e : Vec Ideal S1x256x256 .bf16) (y x : Fin 32) (o : Fin 256) :
    k3_pay6 v3 v12 v35 a b c d e (ix3 y x o) = max (k3_pay5 v3 v12 v35 a b c d e (ix2 ⟨y * 32 + x, by omega⟩ o)) 0 := by
  unfold k3_pay6
  pointwise

theorem h_at (x0 : Vec Ideal S1x32x32x256 .bf16) (x1 : Vec Ideal S9x256x256 .bf16) (x2 : Vec Ideal S1x256 .f32) (x3 : Vec Ideal S9x256x256 .bf16) (x4 : Vec Ideal S1x256 .f32) (x5 : Vec Ideal S256x256 .bf16) (x6 : Vec Ideal S1x256 .f32) (x7 : Vec Ideal S9x256x256 .bf16) (x8 : Vec Ideal S1x256 .f32) (x9 : Vec Ideal S256x256 .bf16) (x10 : Vec Ideal S1x256 .f32) (y x : Fin 32) (o : Fin 256) :
    k3_pay5 (k3_pay16 x0 x1 x2 x3 x4 x5 x6 x7 x8 x9 x10) (k3_pay17 x0 x1 x2 x3 x4 x5 x6 x7 x8 x9 x10) (k3_pay18 x0 x1 x2 x3 x4 x5 x6 x7 x8 x9 x10) (View.ld x1 r3_6) (View.ld x1 r3_7) (View.ld x1 r3_8) (View.ld x1 r3_9) (View.ld x1 r3_10) (ix2 ⟨y * 32 + x, by omega⟩ o)
      = hid x0 x1 x2 y x o := by
  unfold k3_pay5 k3_pay16 k3_pay17 k3_pay18 k3_pay4 k3_pay2 hid
  rw [Cert.Spec.conv3_nine]
  pointwise
  simp only [pay3_ld]
  rfl

theorem relu_h_at (x0 : Vec Ideal S1x32x32x256 .bf16) (x1 : Vec Ideal S9x256x256 .bf16) (x2 : Vec Ideal S1x256 .f32) (x3 : Vec Ideal S9x256x256 .bf16) (x4 : Vec Ideal S1x256 .f32) (x5 : Vec Ideal S256x256 .bf16) (x6 : Vec Ideal S1x256 .f32) (x7 : Vec Ideal S9x256x256 .bf16) (x8 : Vec Ideal S1x256 .f32) (x9 : Vec Ideal S256x256 .bf16) (x10 : Vec Ideal S1x256 .f32) (y x : Fin 32) (o : Fin 256) :
    k3_pay19 x0 x1 x2 x3 x4 x5 x6 x7 x8 x9 x10 (ix3 y x o) = max (hid x0 x1 x2 y x o) 0 := by
  unfold k3_pay19
  rw [pay6_at, h_at]

/-- The image after the first residual block. -/
noncomputable def mid (x0 : Vec Ideal S1x32x32x256 .bf16) (x1 : Vec Ideal S9x256x256 .bf16) (x2 : Vec Ideal S1x256 .f32)
    (x3 : Vec Ideal S9x256x256 .bf16) (x4 : Vec Ideal S1x256 .f32) (x5 : Vec Ideal S256x256 .bf16) (x6 : Vec Ideal S1x256 .f32) : Cert.Spec.Img 32 32 256 :=
  Cert.Spec.resid (hid x0 x1 x2) (Cert.Spec.nine fun t c o => x3 (ix3 t c o)) (fun o => x4 (ix2 0 o)) (fun o c => x5 (ix2 c o)) (fun o => x6 (ix2 0 o))

theorem pay20_at (x0 : Vec Ideal S1x32x32x256 .bf16) (x1 : Vec Ideal S9x256x256 .bf16) (x2 : Vec Ideal S1x256 .f32) (x3 : Vec Ideal S9x256x256 .bf16) (x4 : Vec Ideal S1x256 .f32) (x5 : Vec Ideal S256x256 .bf16) (x6 : Vec Ideal S1x256 .f32) (x7 : Vec Ideal S9x256x256 .bf16) (x8 : Vec Ideal S1x256 .f32) (x9 : Vec Ideal S256x256 .bf16) (x10 : Vec Ideal S1x256 .f32) (y x : Fin 32) (o : Fin 256) :
    k3_pay20 x0 x1 x2 x3 x4 x5 x6 x7 x8 x9 x10 (ix2 ⟨y * 32 + x, by omega⟩ o) = mid x0 x1 x2 x3 x4 x5 x6 y x o := by
  unfold k3_pay20 k3_pay10 k3_pay9 k3_pay7
  pointwise
  rw [h_at]
  simp only [pay8_at, relu_h_at]
  unfold mid Cert.Spec.resid
  refine congrArg₂ (· + ·) rfl (congrArg₂ (· + ·) (Finset.sum_congr rfl fun c _ => ?_) rfl)
  rw [Cert.Spec.conv3_nine, mul_comm]
  rfl

/-- The block the fourth call leaves: both residual blocks after the convolution. -/
theorem out3_at (x0 : Vec Ideal S1x32x32x256 .bf16) (x1 : Vec Ideal S9x256x256 .bf16) (x2 : Vec Ideal S1x256 .f32) (x3 : Vec Ideal S9x256x256 .bf16) (x4 : Vec Ideal S1x256 .f32) (x5 : Vec Ideal S256x256 .bf16) (x6 : Vec Ideal S1x256 .f32) (x7 : Vec Ideal S9x256x256 .bf16) (x8 : Vec Ideal S1x256 .f32) (x9 : Vec Ideal S256x256 .bf16) (x10 : Vec Ideal S1x256 .f32) (y x : Fin 32) (o : Fin 256) :
    out3_11 x0 x1 x2 x3 x4 x5 x6 x7 x8 x9 x10 (ix4 0 y x o)
      = Cert.Spec.resid (mid x0 x1 x2 x3 x4 x5 x6) (Cert.Spec.nine fun t c o => x7 (ix3 t c o)) (fun o => x8 (ix2 0 o))
          (fun o c => x9 (ix2 c o)) (fun o => x10 (ix2 0 o)) y x o := by
  unfold out3_11
  frame_out
  unfold k3_pay1 k3_pay15 k3_pay13 k3_pay14 k3_pay11
  pointwise
  rw [pay20_at]
  simp only [pay12_at, pay20_at]
  unfold Cert.Spec.resid
  refine congrArg₂ (· + ·) rfl (congrArg₂ (· + ·) (Finset.sum_congr rfl fun c _ => ?_) rfl)
  rw [Cert.Spec.conv3_nine, mul_comm]
  rfl

end Cert.KernelIdeal.Vals

end
-- ==== Proof.Arr3.lean ====
module

public import proofs.«01_k».proof.Proof.Gen.KernelIdeal.Frame.Region3
public import Idealize.ShloMosaic.Lib.Pipeline.ValueKit

@[expose] public section

set_option maxRecDepth 16384

noncomputable section

namespace Cert.KernelIdeal.Vals

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-- Which block of its array each window is at: the first input and the results walk image by image, the rest stay. -/
theorem idx3 : ∀ t : Fin cfg3.N, win3_0.index t = ![t.val, 0, 0, 0] ∧ win3_1.index t = ![0, 0, 0] ∧ win3_2.index t = ![0, 0] ∧ win3_3.index t = ![0, 0, 0] ∧ win3_4.index t = ![0, 0] ∧ win3_5.index t = ![0, 0] ∧ win3_6.index t = ![0, 0] ∧ win3_7.index t = ![0, 0, 0] ∧ win3_8.index t = ![0, 0] ∧ win3_9.index t = ![0, 0] ∧ win3_10.index t = ![0, 0] ∧ win3_11.index t = ![t.val, 0, 0, 0] :=
  (by decide +kernel : ∀ t : Fin grid3.N, _)

theorem pts3 (t : Fin cfg3.N) : t.val < 16 := lt_of_lt_of_eq t.isLt (by decide +kernel)

/-- The first input's block is one image. -/
theorem blk3_0 (c : Dev nD) (t : Fin cfg3.N) : iblk3 V c 0 t = (fun j : S1x32x32x256.Idx => V c main_v203_1 (ix4 ⟨t.val, pts3 t⟩ (j 1) (j 2) (j 3))) := by
  funext j
  blk_ext [iblk3, idx3 t]

theorem blk3_1 (c : Dev nD) (t : Fin cfg3.N) : iblk3 V c 1 t = V c main_v244 := by
  blk_ext! [iblk3, idx3 t]

theorem blk3_2 (c : Dev nD) (t : Fin cfg3.N) : iblk3 V c 2 t = V c main_v245 := by
  blk_ext! [iblk3, idx3 t]

theorem blk3_3 (c : Dev nD) (t : Fin cfg3.N) : iblk3 V c 3 t = V c main_v283 := by
  blk_ext! [iblk3, idx3 t]

theorem blk3_4 (c : Dev nD) (t : Fin cfg3.N) : iblk3 V c 4 t = V c main_v284 := by
  blk_ext! [iblk3, idx3 t]

theorem blk3_5 (c : Dev nD) (t : Fin cfg3.N) : iblk3 V c 5 t = V c main_v287 := by
  blk_ext! [iblk3, idx3 t]

theorem blk3_6 (c : Dev nD) (t : Fin cfg3.N) : iblk3 V c 6 t = V c main_v288 := by
  blk_ext! [iblk3, idx3 t]

theorem blk3_7 (c : Dev nD) (t : Fin cfg3.N) : iblk3 V c 7 t = V c main_v326 := by
  blk_ext! [iblk3, idx3 t]

theorem blk3_8 (c : Dev nD) (t : Fin cfg3.N) : iblk3 V c 8 t = V c main_v327 := by
  blk_ext! [iblk3, idx3 t]

theorem blk3_9 (c : Dev nD) (t : Fin cfg3.N) : iblk3 V c 9 t = V c main_v330 := by
  blk_ext! [iblk3, idx3 t]

theorem blk3_10 (c : Dev nD) (t : Fin cfg3.N) : iblk3 V c 10 t = V c main_v331 := by
  blk_ext! [iblk3, idx3 t]

/-- Result 11 as one function of the whole input arrays: each image is computed from the same image. -/
def arrVal3_11 (c : Dev nD) : Vec Ideal S16x32x32x256 .bf16 := fun i => out3_11 (fun j : S1x32x32x256.Idx => V c main_v203_1 (ix4 (i 0) (j 1) (j 2) (j 3))) (V c main_v244) (V c main_v245) (V c main_v283) (V c main_v284) (V c main_v287) (V c main_v288) (V c main_v326) (V c main_v327) (V c main_v330) (V c main_v331) (ix4 0 (i 1) (i 2) (i 3))

theorem aft3_11 (c : Dev nD) (t : Fin cfg3.N) : (dat3 V c).after 11 t = out3_11 (fun j : S1x32x32x256.Idx => V c main_v203_1 (ix4 ⟨t.val, pts3 t⟩ (j 1) (j 2) (j 3))) (V c main_v244) (V c main_v245) (V c main_v283) (V c main_v284) (V c main_v287) (V c main_v288) (V c main_v326) (V c main_v327) (V c main_v330) (V c main_v331) := by
  rw [after3_11, blk3_0, blk3_1, blk3_2, blk3_3, blk3_4, blk3_5, blk3_6, blk3_7, blk3_8, blk3_9, blk3_10]

theorem emb3_11 (t : Fin cfg3.N) (y : S1x32x32x256.Idx) : ((cfg3.win 11).blk t).view.emb y = ix4 ⟨t.val, pts3 t⟩ (y 1) (y 2) (y 3) := by
  blk_ext [idx3 t]

theorem own3_11 (y : S1x32x32x256.Idx) : y = ix4 0 (y 1) (y 2) (y 3) := by
  blk_ext []

theorem point3_11 (c : Dev nD) (t : Fin cfg3.N) (y : S1x32x32x256.Idx) : (dat3 V c).after 11 t y = arrVal3_11 V c (((cfg3.win 11).blk t).view.emb y) := by
  rw [emb3_11, aft3_11]
  exact congrArg _ (own3_11 y)

/-- The array result 11 is left in. -/
theorem arr3_11 (c : Dev nD) : (dat3 V c).arrAt 11 cfg3.N = arrVal3_11 V c := by
  refine (dat3 V c).arrAt_eq_of_covers 11 _ (by decide +kernel) fun t _ y => ?_
  blk_simp
  exact point3_11 V c t y

end Cert.KernelIdeal.Vals

end
-- ==== Proof.KHost3.lean ====
module

public import proofs.«01_k».proof.Proof.Gen.KernelIdeal.Launch
public import Idealize.ShloMosaic.Lib.Pipeline.ValueKit
public import Idealize.ShloMosaic.Lib.StableHlo.ReadAt
public import proofs.«01_k».proof.Proof.Ladder

@[expose] public section

set_option maxRecDepth 16384

noncomputable section

namespace Cert.KernelIdeal.Vals

open Idealize.ShloMosaic Idealize.ShloMosaic.TcCoe Idealize.ShloMosaic.StableHlo Idealize.SL.Sem Cert.KernelIdeal Cert.KernelIdeal.Gen

/-! # The arrays the host lines hand to the calls, element by element -/

variable (V : Valuation τ sig (Elt Ideal))

theorem rd_v205 (j : S_.Idx) : after hostOps3 V (Proc.devRef .tc main_v205) j = Ideal.div (∑ n : Fin 16, ∑ k : Fin 1, ∑ o : Fin 256, V (Proc.devRef .tc main_v203_2) (ix3 n k o)) (Ideal.ofBits FTy.f32 1249902592#32) := by
  after_reads_at

theorem rd_v206 (n : Fin 16) (y x : Fin 32) : after hostOps3 V (Proc.devRef .tc main_v206) (ix3 n y x) = V (Proc.devRef .tc main_v203_0) (ix3 n 0 ⟨y*32+x, by omega⟩) := by
  after_reads_at

set_option maxHeartbeats 4000000 in
theorem rd_v244 (t : Fin 9) (c o : Fin 256) : after hostOps3 V (Proc.devRef .tc main_v244) (ix3 t c o) = V (Proc.devRef .tc main_arg8) (ix4 o c ⟨t/3, by omega⟩ ⟨t%3, by omega⟩) := by
  after_reads_at
  after_reads_at
  repeat' with_reducible refine Cert.Spec.ladder (fun h => ?_) fun h => ?_
  all_goals blk_ext []

theorem rd_v245 (o : Fin 256) : after hostOps3 V (Proc.devRef .tc main_v245) (ix2 0 o) = V (Proc.devRef .tc main_arg9) (ix1 o) := by
  after_reads_at

set_option maxHeartbeats 4000000 in
theorem rd_v283 (t : Fin 9) (c o : Fin 256) : after hostOps3 V (Proc.devRef .tc main_v283) (ix3 t c o) = V (Proc.devRef .tc main_arg10) (ix4 o c ⟨t/3, by omega⟩ ⟨t%3, by omega⟩) := by
  after_reads_at
  after_reads_at
  repeat' with_reducible refine Cert.Spec.ladder (fun h => ?_) fun h => ?_
  all_goals blk_ext []

theorem rd_v284 (o : Fin 256) : after hostOps3 V (Proc.devRef .tc main_v284) (ix2 0 o) = V (Proc.devRef .tc main_arg11) (ix1 o) := by
  after_reads_at

theorem rd_v287 (c o : Fin 256) : after hostOps3 V (Proc.devRef .tc main_v287) (ix2 c o) = V (Proc.devRef .tc main_arg12) (ix4 o c 0 0) := by
  after_reads_at

theorem rd_v288 (o : Fin 256) : after hostOps3 V (Proc.devRef .tc main_v288) (ix2 0 o) = V (Proc.devRef .tc main_arg13) (ix1 o) := by
  after_reads_at

set_option maxHeartbeats 4000000 in
theorem rd_v326 (t : Fin 9) (c o : Fin 256) : after hostOps3 V (Proc.devRef .tc main_v326) (ix3 t c o) = V (Proc.devRef .tc main_arg14) (ix4 o c ⟨t/3, by omega⟩ ⟨t%3, by omega⟩) := by
  after_reads_at
  after_reads_at
  repeat' with_reducible refine Cert.Spec.ladder (fun h => ?_) fun h => ?_
  all_goals blk_ext []

theorem rd_v327 (o : Fin 256) : after hostOps3 V (Proc.devRef .tc main_v327) (ix2 0 o) = V (Proc.devRef .tc main_arg15) (ix1 o) := by
  after_reads_at

theorem rd_v330 (c o : Fin 256) : after hostOps3 V (Proc.devRef .tc main_v330) (ix2 c o) = V (Proc.devRef .tc main_arg16) (ix4 o c 0 0) := by
  after_reads_at

theorem rd_v331 (o : Fin 256) : after hostOps3 V (Proc.devRef .tc main_v331) (ix2 0 o) = V (Proc.devRef .tc main_arg17) (ix1 o) := by
  after_reads_at

end Cert.KernelIdeal.Vals

end
-- ==== Proof.KChain3.lean ====
module

public import proofs.«01_k».proof.Proof.KChain2
public import proofs.«01_k».proof.Proof.KVal3
public import proofs.«01_k».proof.Proof.Arr3
public import proofs.«01_k».proof.Proof.KHost3

@[expose] public section

set_option maxRecDepth 16384

noncomputable section

namespace Cert.KernelIdeal.Vals

open Idealize.ShloMosaic Idealize.ShloMosaic.TcCoe Idealize.ShloMosaic.StableHlo Idealize.SL.Sem Cert.KernelIdeal Cert.KernelIdeal.Gen

/-! # The fourth call: the decoder with its residual blocks; the loss and the row numbers -/

variable (m : (ℓ : Loc nD τ sig) → Buf (Elt Ideal) ℓ) (ρ : Dev nD → PrngReg) (c : Dev nD)

theorem at_l4 (n : Fin 16) : hid (fun j : S1x32x32x256.Idx => V11 m ρ c main_v203_1 (ix4 n (j 1) (j 2) (j 3))) (V11 m ρ c main_v244) (V11 m ρ c main_v245) = (par m c).l4 n := by
  funext y x o
  refine Cert.Spec.conv_congr ?_ ?_ ?_ y x o
  · funext y x k
    exact (congrFun (W11_of m ρ c main_v203_1 (by decide +kernel)) _).trans (at_v203_1 m ρ c n y x k)
  · exact Cert.Spec.nine_eq fun t k o => (rd_v244 (W10 m ρ c) t k o).trans (congrFun (W10_args m ρ c main_arg8 (by decide)) _)
  · exact funext fun o => (rd_v245 (W10 m ρ c) o).trans (congrFun (W10_args m ρ c main_arg9 (by decide)) _)

theorem at_l5 (n : Fin 16) : mid (fun j : S1x32x32x256.Idx => V11 m ρ c main_v203_1 (ix4 n (j 1) (j 2) (j 3))) (V11 m ρ c main_v244) (V11 m ρ c main_v245)
    (V11 m ρ c main_v283) (V11 m ρ c main_v284) (V11 m ρ c main_v287) (V11 m ρ c main_v288) = (par m c).l5 n := by
  refine Cert.Spec.resid_congr (at_l4 m ρ c n) ?_ ?_ ?_ ?_
  · exact Cert.Spec.nine_eq fun t k o => (rd_v283 (W10 m ρ c) t k o).trans (congrFun (W10_args m ρ c main_arg10 (by decide)) _)
  · exact funext fun o => (rd_v284 (W10 m ρ c) o).trans (congrFun (W10_args m ρ c main_arg11 (by decide)) _)
  · exact funext fun o => funext fun k => (rd_v287 (W10 m ρ c) k o).trans (congrFun (W10_args m ρ c main_arg12 (by decide)) _)
  · exact funext fun o => (rd_v288 (W10 m ρ c) o).trans (congrFun (W10_args m ρ c main_arg13 (by decide)) _)

/-- The fourth call leaves the decoder's image after its two residual blocks. -/
theorem at_v332 (n : Fin 16) (y x : Fin 32) (o : Fin 256) : W12 m ρ c (Proc.devRef .tc main_v332) (ix4 n y x o) = (par m c).l6 n y x o := by
  have h : W12 m ρ c (Proc.devRef .tc main_v332) = arrVal3_11 (V11 m ρ) c := (W12_arr m ρ c 11).trans (arr3_11 (V11 m ρ) c)
  refine (congrFun h (ix4 n y x o)).trans ?_
  refine (out3_at _ _ _ _ _ _ _ _ _ _ _ y x o).trans ?_
  refine congrFun (congrFun (congrFun (Cert.Spec.resid_congr (at_l5 m ρ c n) ?_ ?_ ?_ ?_) y) x) o
  · exact Cert.Spec.nine_eq fun t k o => (rd_v326 (W10 m ρ c) t k o).trans (congrFun (W10_args m ρ c main_arg14 (by decide)) _)
  · exact funext fun o => (rd_v327 (W10 m ρ c) o).trans (congrFun (W10_args m ρ c main_arg15 (by decide)) _)
  · exact funext fun o => funext fun k => (rd_v330 (W10 m ρ c) k o).trans (congrFun (W10_args m ρ c main_arg16 (by decide)) _)
  · exact funext fun o => (rd_v331 (W10 m ρ c) o).trans (congrFun (W10_args m ρ c main_arg17 (by decide)) _)

/-- The row numbers, as the host hands them back. -/
theorem at_v206 (n : Fin 16) (y x : Fin 32) : W11 m ρ c (Proc.devRef .tc main_v206) (ix3 n y x) = BitVec.ofNat 32 ((par m c).row n y x) :=
  (rd_v206 (W10 m ρ c) n y x).trans (at_v203_0 m ρ c n y x)

/-- The loss: the sums of the images, added and divided by the number of terms. -/
theorem at_v205 (j : S_.Idx) : W11 m ρ c (Proc.devRef .tc main_v205) j = (par m c).loss := by
  refine (rd_v205 (W10 m ρ c) j).trans (congrArg (Ideal.div · _) (Finset.sum_congr rfl fun n _ => ?_))
  rw [Fin.sum_univ_one]
  refine Eq.trans (b := ∑ o : Fin 256, ∑ y : Fin 32, ∑ x : Fin 32, ((par m c).q n y x o - (par m c).z n y x o) * ((par m c).q n y x o - (par m c).z n y x o))
    (Finset.sum_congr rfl fun o _ => at_v203_2 m ρ c n o) ?_
  rw [Finset.sum_comm]
  refine Finset.sum_congr rfl fun y _ => ?_
  rw [Finset.sum_comm]

end Cert.KernelIdeal.Vals

end
-- ==== Proof.KVal4.lean ====
module

public import proofs.«01_k».proof.Proof.Gen.KernelIdeal.Frame.Region4
public import proofs.«01_k».proof.Proof.SpecTaps
public import Idealize.ShloMosaic.Lib.Pipeline.ValueKit
public import proofs.«01_k».proof.Proof.KPad

@[expose] public section

set_option maxRecDepth 16384

noncomputable section

namespace Cert.KernelIdeal.Vals

open Idealize.ShloMosaic Cert.KernelIdeal Cert.KernelIdeal.Gen

/-!
# The first transposed convolution, block by block

Each of the four phases of the doubled image is a sum of four products of shifted images.
-/

/-- Phase `(p, q)` of the doubled image at `(y, x)`. -/
def phase (x0 : Vec Ideal S1x32x32x256 .bf16) (x1 : Vec Ideal S16x256x256 .bf16) (x2 : Vec Ideal S1x256 .f32)
    (p q : Fin 2) (y x : Fin 32) (o : Fin 256) : EReal :=
  max ((∑ a : Fin 2, ∑ d : Fin 2, ∑ c, Cert.Spec.padAt 1 (fun y x c => x0 (ix4 0 y x c)) (y + p + 1 - a) (x + q + 1 - d) c
    * x1 (ix3 ⟨8 * p + 4 * q + 2 * a + d, by omega⟩ c o)) + x2 (ix2 0 o)) 0

theorem phase00 (x0 : Vec Ideal S1x32x32x256 .bf16) (x1 : Vec Ideal S16x256x256 .bf16) (x2 : Vec Ideal S1x256 .f32) (y x : Fin 32) (o : Fin 256) :
    k4_pay5 (k4_pay3 (View.ld x0 r4_0) (View.ld x1 r4_1) (View.ld x1 r4_2) (View.ld x1 r4_3)) (k4_pay4 (View.ld x0 r4_0) (View.ld x1 r4_4)) (View.ld x2 r4_5) (ix5 0 0 y x o) = phase x0 x1 x2 0 0 y x o := by
  obtain ⟨y, hy⟩ := y
  obtain ⟨x, hx⟩ := x
  have hr : (y * 32 + x) / 32 = y := by omega
  have hs : (y * 32 + x) % 32 = x := by omega
  unfold k4_pay5 k4_pay4 k4_pay3 k4_pay2
  pointwise
  unfold phase
  simp only [zero_word, hr, hs]
  refine congrArg (max · 0) (congrArg (· + _) ?_)
  simp only [Fin.sum_univ_two, ← add_assoc]
  refine congrArg₂ (· + ·) (congrArg₂ (· + ·) (congrArg₂ (· + ·) ?_ ?_) ?_) ?_ <;>
  · refine Finset.sum_congr rfl fun c _ => congrArg₂ (· * ·) ?_ rfl
    unfold Cert.Spec.padAt
    dsimp only [Fin.val_zero, Fin.val_one]
    split_ifs <;> first | (exfalso; omega) | rfl | exact (dif_neg (by omega)).symm | exact congrArg x0 (congrArg₂ (fun a b => ix4 0 a b c) (Fin.ext (by dsimp only <;> omega)) (Fin.ext (by dsimp only <;> omega))) | (
      refine Eq.trans ?_ (dif_pos (by omega)).symm
      exact congrArg x0 (congrArg₂ (fun a b => ix4 0 a b c) (Fin.ext (by dsimp only <;> omega)) (Fin.ext (by dsimp only <;> omega))))

theorem phase01 (x0 : Vec Ideal S1x32x32x256 .bf16) (x1 : Vec Ideal S16x256x256 .bf16) (x2 : Vec Ideal S1x256 .f32) (y x : Fin 32) (o : Fin 256) :
    k4_pay8 (k4_pay14 x0 x1 x2) (k4_pay6 (k4_pay14 x0 x1 x2) (View.ld x1 r4_7) (View.ld x1 r4_8)) (k4_pay7 (k4_pay14 x0 x1 x2) (View.ld x1 r4_9)) (View.ld x1 r4_10) (View.ld x2 r4_5) (ix5 0 0 y x o) = phase x0 x1 x2 0 1 y x o := by
  obtain ⟨y, hy⟩ := y
  obtain ⟨x, hx⟩ := x
  have hr : (y * 32 + x) / 32 = y := by omega
  have hs : (y * 32 + x) % 32 = x := by omega
  unfold k4_pay8 k4_pay6 k4_pay7 k4_pay14 k4_pay2
  pointwise
  unfold phase
  simp only [zero_word, hr, hs]
  refine congrArg (max · 0) (congrArg (· + _) ?_)
  simp only [Fin.sum_univ_two, ← add_assoc]
  refine congrArg₂ (· + ·) (congrArg₂ (· + ·) (congrArg₂ (· + ·) ?_ ?_) ?_) ?_ <;>
  · refine Finset.sum_congr rfl fun c _ => congrArg₂ (· * ·) ?_ rfl
    unfold Cert.Spec.padAt
    dsimp only [Fin.val_zero, Fin.val_one]
    split_ifs <;> first | (exfalso; omega) | rfl | exact (dif_neg (by omega)).symm | exact congrArg x0 (congrArg₂ (fun a b => ix4 0 a b c) (Fin.ext (by dsimp only <;> omega)) (Fin.ext (by dsimp only <;> omega))) | (
      refine Eq.trans ?_ (dif_pos (by omega)).symm
      exact congrArg x0 (congrArg₂ (fun a b => ix4 0 a b c) (Fin.ext (by dsimp only <;> omega)) (Fin.ext (by dsimp only <;> omega))))

theorem phase10 (x0 : Vec Ideal S1x32x32x256 .bf16) (x1 : Vec Ideal S16x256x256 .bf16) (x2 : Vec Ideal S1x256 .f32) (y x : Fin 32) (o : Fin 256) :
    k4_pay11 (k4_pay14 x0 x1 x2) (k4_pay9 (k4_pay14 x0 x1 x2) (View.ld x1 r4_12)) (k4_pay10 (k4_pay14 x0 x1 x2)) (View.ld x1 r4_13) (View.ld x1 r4_14) (View.ld x1 r4_15) (View.ld x2 r4_5) (ix5 0 0 y x o) = phase x0 x1 x2 1 0 y x o := by
  obtain ⟨y, hy⟩ := y
  obtain ⟨x, hx⟩ := x
  have hr : (y * 32 + x) / 32 = y := by omega
  have hs : (y * 32 + x) % 32 = x := by omega
  unfold k4_pay11 k4_pay9 k4_pay10 k4_pay14 k4_pay2
  pointwise
  unfold phase
  simp only [zero_word, hr, hs]
  refine congrArg (max · 0) (congrArg (· + _) ?_)
  simp only [Fin.sum_univ_two, ← add_assoc]
  refine congrArg₂ (· + ·) (congrArg₂ (· + ·) (congrArg₂ (· + ·) ?_ ?_) ?_) ?_ <;>
  · refine Finset.sum_congr rfl fun c _ => congrArg₂ (· * ·) ?_ rfl
    unfold Cert.Spec.padAt
    dsimp only [Fin.val_zero, Fin.val_one]
    split_ifs <;> first | (exfalso; omega) | rfl | exact (dif_neg (by omega)).symm | exact congrArg x0 (congrArg₂ (fun a b => ix4 0 a b c) (Fin.ext (by dsimp only <;> omega)) (Fin.ext (by dsimp only <;> omega))) | (
      refine Eq.trans ?_ (dif_pos (by omega)).symm
      exact congrArg x0 (congrArg₂ (fun a b => ix4 0 a b c) (Fin.ext (by dsimp only <;> omega)) (Fin.ext (by dsimp only <;> omega))))

theorem phase11 (x0 : Vec Ideal S1x32x32x256 .bf16) (x1 : Vec Ideal S16x256x256 .bf16) (x2 : Vec Ideal S1x256 .f32) (y x : Fin 32) (o : Fin 256) :
    k4_pay1 (k4_pay13 (k4_pay14 x0 x1 x2) (k4_pay12 (k4_pay14 x0 x1 x2)) (View.ld x1 r4_17) (View.ld x1 r4_18) (View.ld x1 r4_19) (View.ld x1 r4_20) (View.ld x2 r4_5)) (ix5 0 0 y x o) = phase x0 x1 x2 1 1 y x o := by
  obtain ⟨y, hy⟩ := y
  obtain ⟨x, hx⟩ := x
  have hr : (y * 32 + x) / 32 = y := by omega
  have hs : (y * 32 + x) % 32 = x := by omega
  unfold k4_pay1 k4_pay13 k4_pay12 k4_pay14 k4_pay2
  pointwise
  unfold phase
  simp only [zero_word, hr, hs]
  refine congrArg (max · 0) (congrArg (· + _) ?_)
  simp only [Fin.sum_univ_two, ← add_assoc]
  refine congrArg₂ (· + ·) (congrArg₂ (· + ·) (congrArg₂ (· + ·) ?_ ?_) ?_) ?_ <;>
  · refine Finset.sum_congr rfl fun c _ => congrArg₂ (· * ·) ?_ rfl
    unfold Cert.Spec.padAt
    dsimp only [Fin.val_zero, Fin.val_one]
    split_ifs <;> first | (exfalso; omega) | rfl | exact (dif_neg (by omega)).symm | exact congrArg x0 (congrArg₂ (fun a b => ix4 0 a b c) (Fin.ext (by dsimp only <;> omega)) (Fin.ext (by dsimp only <;> omega))) | (
      refine Eq.trans ?_ (dif_pos (by omega)).symm
      exact congrArg x0 (congrArg₂ (fun a b => ix4 0 a b c) (Fin.ext (by dsimp only <;> omega)) (Fin.ext (by dsimp only <;> omega))))

theorem idx_phase (z : S1x1x32x32x256.Idx) (y x : Fin 32) (o : Fin 256) (h2 : (z 2 : ℕ) = y) (h3 : (z 3 : ℕ) = x) (h4 : (z 4 : ℕ) = o) :
    z = ix5 0 0 y x o := by
  funext a
  match a with
  | ⟨0, _⟩ => exact Fin.ext (by have := (z 0).isLt; change (z 0 : ℕ) < 1 at this; change (z 0 : ℕ) = 0; omega)
  | ⟨1, _⟩ => exact Fin.ext (by have := (z 1).isLt; change (z 1 : ℕ) < 1 at this; change (z 1 : ℕ) = 0; omega)
  | ⟨2, _⟩ => exact Fin.ext h2
  | ⟨3, _⟩ => exact Fin.ext h3
  | ⟨4, _⟩ => exact Fin.ext h4

/-- The block of the fifth call holds its four phases. -/
theorem out4_phase (x0 : Vec Ideal S1x32x32x256 .bf16) (x1 : Vec Ideal S16x256x256 .bf16) (x2 : Vec Ideal S1x256 .f32)
    (p q : Fin 2) (y x : Fin 32) (o : Fin 256) :
    out4_3 x0 x1 x2 (ix5 0 ⟨2 * p + q, by omega⟩ y x o) = phase x0 x1 x2 p q y x o := by
  canon_tiles z h
  all_goals
    have hz := idx_phase z y x o h2.symm h3.symm h4.symm
    rw [hz]
  · have hk : 2 * (p : ℕ) + q = 3 + (z 1 : ℕ) := by first | exact h1 | exact h1.trans (Nat.zero_add _).symm
    have hz1 : (z 1 : ℕ) < 1 := (z 1).isLt
    obtain ⟨rfl, rfl⟩ : p = 1 ∧ q = 1 := ⟨Fin.ext (show (p : ℕ) = 1 by omega), Fin.ext (show (q : ℕ) = 1 by omega)⟩
    exact phase11 x0 x1 x2 y x o
  · have hk : 2 * (p : ℕ) + q = 2 + (z 1 : ℕ) := by first | exact h1 | exact h1.trans (Nat.zero_add _).symm
    have hz1 : (z 1 : ℕ) < 1 := (z 1).isLt
    obtain ⟨rfl, rfl⟩ : p = 1 ∧ q = 0 := ⟨Fin.ext (show (p : ℕ) = 1 by omega), Fin.ext (show (q : ℕ) = 0 by omega)⟩
    exact phase10 x0 x1 x2 y x o
  · have hk : 2 * (p : ℕ) + q = 1 + (z 1 : ℕ) := by first | exact h1 | exact h1.trans (Nat.zero_add _).symm
    have hz1 : (z 1 : ℕ) < 1 := (z 1).isLt
    obtain ⟨rfl, rfl⟩ : p = 0 ∧ q = 1 := ⟨Fin.ext (show (p : ℕ) = 0 by omega), Fin.ext (show (q : ℕ) = 1 by omega)⟩
    exact phase01 x0 x1 x2 y x o
  · have hk : 2 * (p : ℕ) + q = 0 + (z 1 : ℕ) := by first | exact h1 | exact h1.trans (Nat.zero_add _).symm
    have hz1 : (z 1 : ℕ) < 1 := (z 1).isLt
    obtain ⟨rfl, rfl⟩ : p = 0 ∧ q = 0 := ⟨Fin.ext (show (p : ℕ) = 0 by omega), Fin.ext (show (q : ℕ) = 0 by omega)⟩
    exact phase00 x0 x1 x2 y x o

/-- The block of the fifth call: the transposed convolution with the filter its matrices are cut from. -/
theorem out4_at (x0 : Vec Ideal S1x32x32x256 .bf16) (x1 : Vec Ideal S16x256x256 .bf16) (x2 : Vec Ideal S1x256 .f32)
    (w : Fin 256 → Fin 256 → Fin 4 → Fin 4 → EReal) (p q : Fin 2) (y x : Fin 32) (o : Fin 256)
    (hw : ∀ (a d : Fin 2) (c : Fin 256), x1 (ix3 ⟨8 * p + 4 * q + 2 * a + d, by omega⟩ c o)
      = w c o ⟨1 - p + 2 * a, by omega⟩ ⟨1 - q + 2 * d, by omega⟩) :
    out4_3 x0 x1 x2 (ix5 0 ⟨2 * p + q, by omega⟩ y x o)
      = max (Cert.Spec.convT (fun y x c => x0 (ix4 0 y x c)) w (fun o => x2 (ix2 0 o)) (2 * y + p) (2 * x + q) o) 0 := by
  rw [out4_phase, Cert.Spec.convT_phase]
  unfold phase
  simp only [hw]

end Cert.KernelIdeal.Vals

end
-- ==== Proof.Arr4.lean ====
module

public import proofs.«01_k».proof.Proof.Gen.KernelIdeal.Frame.Region4
public import Idealize.ShloMosaic.Lib.Pipeline.ValueKit

@[expose] public section

set_option maxRecDepth 16384

noncomputable section

namespace Cert.KernelIdeal.Vals

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-- Which block of its array each window is at: the first input and the results walk image by image, the rest stay. -/
theorem idx4 : ∀ t : Fin cfg4.N, win4_0.index t = ![t.val, 0, 0, 0] ∧ win4_1.index t = ![0, 0, 0] ∧ win4_2.index t = ![0, 0] ∧ win4_3.index t = ![t.val, 0, 0, 0, 0] :=
  (by decide +kernel : ∀ t : Fin grid4.N, _)

theorem pts4 (t : Fin cfg4.N) : t.val < 16 := lt_of_lt_of_eq t.isLt (by decide +kernel)

/-- The first input's block is one image. -/
theorem blk4_0 (c : Dev nD) (t : Fin cfg4.N) : iblk4 V c 0 t = (fun j : S1x32x32x256.Idx => V c main_v332 (ix4 ⟨t.val, pts4 t⟩ (j 1) (j 2) (j 3))) := by
  funext j
  blk_ext [iblk4, idx4 t]

theorem blk4_1 (c : Dev nD) (t : Fin cfg4.N) : iblk4 V c 1 t = V c main_v397 := by
  blk_ext! [iblk4, idx4 t]

theorem blk4_2 (c : Dev nD) (t : Fin cfg4.N) : iblk4 V c 2 t = V c main_v398 := by
  blk_ext! [iblk4, idx4 t]

/-- Result 3 as one function of the whole input arrays: each image is computed from the same image. -/
def arrVal4_3 (c : Dev nD) : Vec Ideal S16x4x32x32x256 .bf16 := fun i => out4_3 (fun j : S1x32x32x256.Idx => V c main_v332 (ix4 (i 0) (j 1) (j 2) (j 3))) (V c main_v397) (V c main_v398) (ix5 0 (i 1) (i 2) (i 3) (i 4))

theorem aft4_3 (c : Dev nD) (t : Fin cfg4.N) : (dat4 V c).after 3 t = out4_3 (fun j : S1x32x32x256.Idx => V c main_v332 (ix4 ⟨t.val, pts4 t⟩ (j 1) (j 2) (j 3))) (V c main_v397) (V c main_v398) := by
  rw [after4_3, blk4_0, blk4_1, blk4_2]

theorem emb4_3 (t : Fin cfg4.N) (y : S1x4x32x32x256.Idx) : ((cfg4.win 3).blk t).view.emb y = ix5 ⟨t.val, pts4 t⟩ (y 1) (y 2) (y 3) (y 4) := by
  blk_ext [idx4 t]

theorem own4_3 (y : S1x4x32x32x256.Idx) : y = ix5 0 (y 1) (y 2) (y 3) (y 4) := by
  blk_ext []

theorem point4_3 (c : Dev nD) (t : Fin cfg4.N) (y : S1x4x32x32x256.Idx) : (dat4 V c).after 3 t y = arrVal4_3 V c (((cfg4.win 3).blk t).view.emb y) := by
  rw [emb4_3, aft4_3]
  exact congrArg _ (own4_3 y)

/-- The array result 3 is left in. -/
theorem arr4_3 (c : Dev nD) : (dat4 V c).arrAt 3 cfg4.N = arrVal4_3 V c := by
  refine (dat4 V c).arrAt_eq_of_covers 3 _ (by decide +kernel) fun t _ y => ?_
  blk_simp
  exact point4_3 V c t y

end Cert.KernelIdeal.Vals

end
-- ==== Proof.KHost4.lean ====
module

public import proofs.«01_k».proof.Proof.Gen.KernelIdeal.Launch
public import Idealize.ShloMosaic.Lib.Pipeline.ValueKit
public import Idealize.ShloMosaic.Lib.StableHlo.ReadAt
public import proofs.«01_k».proof.Proof.Ladder

@[expose] public section

set_option maxRecDepth 16384

noncomputable section

namespace Cert.KernelIdeal.Vals

open Idealize.ShloMosaic Idealize.ShloMosaic.TcCoe Idealize.ShloMosaic.StableHlo Idealize.SL.Sem Cert.KernelIdeal Cert.KernelIdeal.Gen

/-! # The arrays the host lines hand to the calls, element by element -/

variable (V : Valuation τ sig (Elt Ideal))

theorem rd_v398 (o : Fin 256) : after hostOps4 V (Proc.devRef .tc main_v398) (ix2 0 o) = V (Proc.devRef .tc main_arg19) (ix1 o) := by
  after_reads_at

theorem cat_v397 : after hostOps4 V (Proc.devRef .tc main_v397) = (concatenate S16x256x256 0 [⟨S1x256x256, upto hostOps4 V 64 (Proc.devRef .tc main_v381)⟩, ⟨S1x256x256, upto hostOps4 V 64 (Proc.devRef .tc main_v382)⟩, ⟨S1x256x256, upto hostOps4 V 64 (Proc.devRef .tc main_v383)⟩, ⟨S1x256x256, upto hostOps4 V 64 (Proc.devRef .tc main_v384)⟩, ⟨S1x256x256, upto hostOps4 V 64 (Proc.devRef .tc main_v385)⟩, ⟨S1x256x256, upto hostOps4 V 64 (Proc.devRef .tc main_v386)⟩, ⟨S1x256x256, upto hostOps4 V 64 (Proc.devRef .tc main_v387)⟩, ⟨S1x256x256, upto hostOps4 V 64 (Proc.devRef .tc main_v388)⟩, ⟨S1x256x256, upto hostOps4 V 64 (Proc.devRef .tc main_v389)⟩, ⟨S1x256x256, upto hostOps4 V 64 (Proc.devRef .tc main_v390)⟩, ⟨S1x256x256, upto hostOps4 V 64 (Proc.devRef .tc main_v391)⟩, ⟨S1x256x256, upto hostOps4 V 64 (Proc.devRef .tc main_v392)⟩, ⟨S1x256x256, upto hostOps4 V 64 (Proc.devRef .tc main_v393)⟩, ⟨S1x256x256, upto hostOps4 V 64 (Proc.devRef .tc main_v394)⟩, ⟨S1x256x256, upto hostOps4 V 64 (Proc.devRef .tc main_v395)⟩, ⟨S1x256x256, upto hostOps4 V 64 (Proc.devRef .tc main_v396)⟩] concatenates_S1x256x256_S1x256x256_S1x256x256_S1x256x256_S1x256x256_S1x256x256_S1x256x256_S1x256x256_S1x256x256_S1x256x256_S1x256x256_S1x256x256_S1x256x256_S1x256x256_S1x256x256_S1x256x256_S16x256x256_d0 : Vec Ideal S16x256x256 .bf16) :=
  (after_last_write (i := 64) [main_v398] rfl rfl (by decide) V).trans (nary_result ..)

/-- Sixteen equal pieces side by side: piece `k` holds the places `k*1 …`. -/
theorem sixteen_t (f : Fin 16 → Vec Ideal S1x256x256 .bf16) (c o : Fin 256) (k : Fin 16) : (concatenate S16x256x256 0 [⟨S1x256x256, f 0⟩, ⟨S1x256x256, f 1⟩, ⟨S1x256x256, f 2⟩, ⟨S1x256x256, f 3⟩, ⟨S1x256x256, f 4⟩, ⟨S1x256x256, f 5⟩, ⟨S1x256x256, f 6⟩, ⟨S1x256x256, f 7⟩, ⟨S1x256x256, f 8⟩, ⟨S1x256x256, f 9⟩, ⟨S1x256x256, f 10⟩, ⟨S1x256x256, f 11⟩, ⟨S1x256x256, f 12⟩, ⟨S1x256x256, f 13⟩, ⟨S1x256x256, f 14⟩, ⟨S1x256x256, f 15⟩] concatenates_S1x256x256_S1x256x256_S1x256x256_S1x256x256_S1x256x256_S1x256x256_S1x256x256_S1x256x256_S1x256x256_S1x256x256_S1x256x256_S1x256x256_S1x256x256_S1x256x256_S1x256x256_S1x256x256_S16x256x256_d0 : Vec Ideal S16x256x256 .bf16) (ix3 k c o) = f k (ix3 0 c o) :=
  concatenate_ofFn_apply (t := S16x256x256) (s₁ := S1x256x256) 0 f concatenates_S1x256x256_S1x256x256_S1x256x256_S1x256x256_S1x256x256_S1x256x256_S1x256x256_S1x256x256_S1x256x256_S1x256x256_S1x256x256_S1x256x256_S1x256x256_S1x256x256_S1x256x256_S1x256x256_S16x256x256_d0 rfl 1 rfl _ k (by show k.val / 1 = k.val; omega) _ (by show 0 = k.val % 1; omega)
    (by intro b hb; fin_cases b <;> first | rfl | exact absurd rfl hb)

/-- The filter row of piece `k`. -/
def tapY (k : Fin 16) : Fin 4 := ⟨1-k/8+2*(k/2%2), by omega⟩

/-- The filter column of piece `k`. -/
def tapX (k : Fin 16) : Fin 4 := ⟨1-k/4%2+2*(k%2), by omega⟩

set_option maxHeartbeats 4000000 in
theorem each_v397 (c o : Fin 256) (k : Fin 16) : (![upto hostOps4 V 64 (Proc.devRef .tc main_v381), upto hostOps4 V 64 (Proc.devRef .tc main_v382), upto hostOps4 V 64 (Proc.devRef .tc main_v383), upto hostOps4 V 64 (Proc.devRef .tc main_v384), upto hostOps4 V 64 (Proc.devRef .tc main_v385), upto hostOps4 V 64 (Proc.devRef .tc main_v386), upto hostOps4 V 64 (Proc.devRef .tc main_v387), upto hostOps4 V 64 (Proc.devRef .tc main_v388), upto hostOps4 V 64 (Proc.devRef .tc main_v389), upto hostOps4 V 64 (Proc.devRef .tc main_v390), upto hostOps4 V 64 (Proc.devRef .tc main_v391), upto hostOps4 V 64 (Proc.devRef .tc main_v392), upto hostOps4 V 64 (Proc.devRef .tc main_v393), upto hostOps4 V 64 (Proc.devRef .tc main_v394), upto hostOps4 V 64 (Proc.devRef .tc main_v395), upto hostOps4 V 64 (Proc.devRef .tc main_v396)] : Fin 16 → Vec Ideal S1x256x256 .bf16) k (ix3 0 c o) = V (Proc.devRef .tc main_arg18) (ix4 c o (tapY k) (tapX k)) := by
  fin_cases k
  all_goals simp only [Matrix.cons_val, Fin.zero_eta, Fin.mk_one, Fin.reduceFinMk]
  all_goals after_reads_at <;> rfl

set_option maxHeartbeats 4000000 in
theorem rd_v397 (p q a d : Fin 2) (c o : Fin 256) : after hostOps4 V (Proc.devRef .tc main_v397) (ix3 ⟨8*p+4*q+2*a+d, by omega⟩ c o) = V (Proc.devRef .tc main_arg18) (ix4 c o ⟨1-p+2*a, by omega⟩ ⟨1-q+2*d, by omega⟩) := by
  rw [cat_v397]
  refine (sixteen_t ![upto hostOps4 V 64 (Proc.devRef .tc main_v381), upto hostOps4 V 64 (Proc.devRef .tc main_v382), upto hostOps4 V 64 (Proc.devRef .tc main_v383), upto hostOps4 V 64 (Proc.devRef .tc main_v384), upto hostOps4 V 64 (Proc.devRef .tc main_v385), upto hostOps4 V 64 (Proc.devRef .tc main_v386), upto hostOps4 V 64 (Proc.devRef .tc main_v387), upto hostOps4 V 64 (Proc.devRef .tc main_v388), upto hostOps4 V 64 (Proc.devRef .tc main_v389), upto hostOps4 V 64 (Proc.devRef .tc main_v390), upto hostOps4 V 64 (Proc.devRef .tc main_v391), upto hostOps4 V 64 (Proc.devRef .tc main_v392), upto hostOps4 V 64 (Proc.devRef .tc main_v393), upto hostOps4 V 64 (Proc.devRef .tc main_v394), upto hostOps4 V 64 (Proc.devRef .tc main_v395), upto hostOps4 V 64 (Proc.devRef .tc main_v396)] c o ⟨8*p+4*q+2*a+d, by omega⟩).trans ((each_v397 V c o _).trans ?_)
  unfold tapY tapX
  blk_ext []

end Cert.KernelIdeal.Vals

end
-- ==== Proof.KChain4.lean ====
module

public import proofs.«01_k».proof.Proof.KChain3
public import proofs.«01_k».proof.Proof.KVal4
public import proofs.«01_k».proof.Proof.Arr4
public import proofs.«01_k».proof.Proof.KHost4

@[expose] public section

set_option maxRecDepth 16384

noncomputable section

namespace Cert.KernelIdeal.Vals

open Idealize.ShloMosaic Idealize.ShloMosaic.TcCoe Idealize.ShloMosaic.StableHlo Idealize.SL.Sem Cert.KernelIdeal Cert.KernelIdeal.Gen

/-! # The fifth call: the first transposed convolution -/

variable (m : (ℓ : Loc nD τ sig) → Buf (Elt Ideal) ℓ) (ρ : Dev nD → PrngReg) (c : Dev nD)

/-- The fifth call leaves the first transposed convolution, one of four phases at a time. -/
theorem at_v399 (n : Fin 16) (p q : Fin 2) (y x : Fin 32) (o : Fin 256) :
    W14 m ρ c (Proc.devRef .tc main_v399) (ix5 n ⟨2 * p + q, by omega⟩ y x o) = (par m c).l7 n ⟨2 * y + p, by omega⟩ ⟨2 * x + q, by omega⟩ o := by
  have h : W14 m ρ c (Proc.devRef .tc main_v399) = arrVal4_3 (V13 m ρ) c := (W14_arr m ρ c 3).trans (arr4_3 (V13 m ρ) c)
  refine (congrFun h (ix5 n ⟨2 * p + q, by omega⟩ y x o)).trans ?_
  refine (out4_at _ _ _ (par m c).w7 p q y x o fun a d k =>
    (rd_v397 (W12 m ρ c) p q a d k o).trans (congrFun (W12_args m ρ c main_arg18 (by decide)) _)).trans ?_
  refine congrArg (max · 0) (Cert.Spec.convT_congr ?_ rfl ?_ _ _ o)
  · funext y x k
    exact (congrFun (W13_of m ρ c main_v332 (by decide +kernel)) _).trans (at_v332 m ρ c n y x k)
  · exact funext fun o => (rd_v398 (W12 m ρ c) o).trans (congrFun (W12_args m ρ c main_arg19 (by decide)) _)

end Cert.KernelIdeal.Vals

end
-- ==== Proof.KVal5.lean ====
module

public import proofs.«01_k».proof.Proof.Gen.KernelIdeal.Frame.Region5
public import proofs.«01_k».proof.Proof.SpecTaps
public import Idealize.ShloMosaic.Lib.Pipeline.ValueKit
public import proofs.«01_k».proof.Proof.KPad

@[expose] public section

set_option maxRecDepth 16384

noncomputable section

namespace Cert.KernelIdeal.Vals

open Idealize.ShloMosaic Cert.KernelIdeal Cert.KernelIdeal.Gen

/-!
# The last call, block by block

Nine products of shifted images, and the logistic function.
-/

theorem out5_at (x0 : Vec Ideal S1x64x64x256 .bf16) (x1 : Vec Ideal S9x256x16 .bf16) (x2 : Vec Ideal S1x16 .f32) (y x : Fin 64) (k : Fin 16) :
    out5_3 x0 x1 x2 (ix4 0 y x k)
      = Ideal.logistic ((∑ s : Fin 3, ∑ u : Fin 3, ∑ c, Cert.Spec.padAt 1 (fun y x c => x0 (ix4 0 y x c)) (y + s) (x + u) c
          * x1 (ix3 ⟨3 * s + u, by omega⟩ c k)) + x2 (ix2 0 k)) := by
  obtain ⟨y, hy⟩ := y
  obtain ⟨x, hx⟩ := x
  have hr : (y * 64 + x) / 64 = y := by omega
  have hs : (y * 64 + x) % 64 = x := by omega
  unfold out5_3
  frame_out
  unfold k5_pay1 k5_pay5 k5_pay3 k5_pay4 k5_pay6 k5_pay7 k5_pay2
  pointwise
  simp only [zero_word, hr, hs]
  refine congrArg Ideal.logistic (congrArg (· + _) ?_)
  simp only [Fin.sum_univ_three, ← add_assoc]
  refine congrArg₂ (· + ·) (congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_) ?_ <;>
  · refine Finset.sum_congr rfl fun o _ => congrArg₂ (· * ·) ?_ rfl
    unfold Cert.Spec.padAt
    dsimp only [Fin.val_zero, Fin.val_one, Fin.val_two]
    split_ifs <;> first | (exfalso; omega) | rfl | exact (dif_neg (by omega)).symm | (
      exact congrArg x0 (congrArg₂ (fun a b => ix4 0 a b o) (Fin.ext (by dsimp only <;> omega)) (Fin.ext (by dsimp only <;> omega)))) | (
      refine Eq.trans ?_ (dif_pos (by omega)).symm
      exact congrArg x0 (congrArg₂ (fun a b => ix4 0 a b o) (Fin.ext (by dsimp only <;> omega)) (Fin.ext (by dsimp only <;> omega))))

end Cert.KernelIdeal.Vals

end
-- ==== Proof.Arr5.lean ====
module

public import proofs.«01_k».proof.Proof.Gen.KernelIdeal.Frame.Region5
public import Idealize.ShloMosaic.Lib.Pipeline.ValueKit

@[expose] public section

set_option maxRecDepth 16384

noncomputable section

namespace Cert.KernelIdeal.Vals

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-- Which block of its array each window is at: the first input and the results walk image by image, the rest stay. -/
theorem idx5 : ∀ t : Fin cfg5.N, win5_0.index t = ![t.val, 0, 0, 0] ∧ win5_1.index t = ![0, 0, 0] ∧ win5_2.index t = ![0, 0] ∧ win5_3.index t = ![t.val, 0, 0, 0] :=
  (by decide +kernel : ∀ t : Fin grid5.N, _)

theorem pts5 (t : Fin cfg5.N) : t.val < 16 := lt_of_lt_of_eq t.isLt (by decide +kernel)

/-- The first input's block is one image. -/
theorem blk5_0 (c : Dev nD) (t : Fin cfg5.N) : iblk5 V c 0 t = (fun j : S1x64x64x256.Idx => V c main_v402 (ix4 ⟨t.val, pts5 t⟩ (j 1) (j 2) (j 3))) := by
  funext j
  blk_ext [iblk5, idx5 t]

theorem blk5_1 (c : Dev nD) (t : Fin cfg5.N) : iblk5 V c 1 t = V c main_v464 := by
  blk_ext! [iblk5, idx5 t]

theorem blk5_2 (c : Dev nD) (t : Fin cfg5.N) : iblk5 V c 2 t = V c main_v469 := by
  blk_ext! [iblk5, idx5 t]

/-- Result 3 as one function of the whole input arrays: each image is computed from the same image. -/
def arrVal5_3 (c : Dev nD) : Vec Ideal S16x64x64x16 .f32 := fun i => out5_3 (fun j : S1x64x64x256.Idx => V c main_v402 (ix4 (i 0) (j 1) (j 2) (j 3))) (V c main_v464) (V c main_v469) (ix4 0 (i 1) (i 2) (i 3))

theorem aft5_3 (c : Dev nD) (t : Fin cfg5.N) : (dat5 V c).after 3 t = out5_3 (fun j : S1x64x64x256.Idx => V c main_v402 (ix4 ⟨t.val, pts5 t⟩ (j 1) (j 2) (j 3))) (V c main_v464) (V c main_v469) := by
  rw [after5_3, blk5_0, blk5_1, blk5_2]

theorem emb5_3 (t : Fin cfg5.N) (y : S1x64x64x16.Idx) : ((cfg5.win 3).blk t).view.emb y = ix4 ⟨t.val, pts5 t⟩ (y 1) (y 2) (y 3) := by
  blk_ext [idx5 t]

theorem own5_3 (y : S1x64x64x16.Idx) : y = ix4 0 (y 1) (y 2) (y 3) := by
  blk_ext []

theorem point5_3 (c : Dev nD) (t : Fin cfg5.N) (y : S1x64x64x16.Idx) : (dat5 V c).after 3 t y = arrVal5_3 V c (((cfg5.win 3).blk t).view.emb y) := by
  rw [emb5_3, aft5_3]
  exact congrArg _ (own5_3 y)

/-- The array result 3 is left in. -/
theorem arr5_3 (c : Dev nD) : (dat5 V c).arrAt 3 cfg5.N = arrVal5_3 V c := by
  refine (dat5 V c).arrAt_eq_of_covers 3 _ (by decide +kernel) fun t _ y => ?_
  blk_simp
  exact point5_3 V c t y

end Cert.KernelIdeal.Vals

end
-- ==== Proof.KHost5.lean ====
module

public import proofs.«01_k».proof.Proof.Gen.KernelIdeal.Launch
public import Idealize.ShloMosaic.Lib.Pipeline.ValueKit
public import Idealize.ShloMosaic.Lib.StableHlo.ReadAt
public import proofs.«01_k».proof.Proof.Ladder
public import proofs.«01_k».proof.Proof.KHost0

@[expose] public section

set_option maxRecDepth 16384

noncomputable section

namespace Cert.KernelIdeal.Vals

open Idealize.ShloMosaic Idealize.ShloMosaic.TcCoe Idealize.ShloMosaic.StableHlo Idealize.SL.Sem Cert.KernelIdeal Cert.KernelIdeal.Gen

variable (V : Valuation τ sig (Elt Ideal))

/-- The filter entry which the shift `(s, u)` meets in the phase `(p, q)`, zero where that phase has none. -/
def entry (W : Vec Ideal S256x3x4x4 .f32) (s u : Fin 3) (p q : Fin 2) (c : Fin 256) (o : Fin 3) : EReal :=
  if h : (2*s.val ≤ 3+p ∧ 3+p ≤ 3+2*s.val) ∧ (2*u.val ≤ 3+q ∧ 3+q ≤ 3+2*u.val) then W (ix4 c o ⟨3+p-2*s, by omega⟩ ⟨3+q-2*u, by omega⟩) else 0

theorem entry_some (W : Vec Ideal S256x3x4x4 .f32) (s u : Fin 3) (p q : Fin 2) (c : Fin 256) (o o' : Fin 3) (a b : Fin 4)
    (ha : a.val + 2*s.val = 3+p.val) (hb : b.val + 2*u.val = 3+q.val) (ho : o'.val = o.val) : W (ix4 c o' a b) = entry W s u p q c o := by
  unfold entry
  rw [dif_pos (by omega)]
  obtain rfl : o' = o := Fin.ext ho
  exact congrArg₂ (fun a b => W (ix4 c o' a b)) (Fin.ext (by dsimp only <;> omega)) (Fin.ext (by dsimp only <;> omega))

theorem entry_none (W : Vec Ideal S256x3x4x4 .f32) (s u : Fin 3) (p q : Fin 2) (c : Fin 256) (o : Fin 3) {z : EReal} (hz : z = 0)
    (h : ¬ ((2*s.val ≤ 3+p ∧ 3+p ≤ 3+2*s.val) ∧ (2*u.val ≤ 3+q ∧ 3+q ≤ 3+2*u.val))) : z = entry W s u p q c o := by
  unfold entry
  rw [dif_neg h, hz]

/-- The stack of the nine padded filters, each still to be read. -/
theorem stack_v464 (t : Fin 9) (c : Fin 256) (k : Fin 16) {v : EReal}
    (h0 : t.val = 0 → V (Proc.devRef .tc main_v407) (ix2 c k) = v) (h1 : t.val = 1 → V (Proc.devRef .tc main_v413) (ix2 c k) = v)
    (h2 : t.val = 2 → V (Proc.devRef .tc main_v417) (ix2 c k) = v) (h3 : t.val = 3 → V (Proc.devRef .tc main_v423) (ix2 c k) = v)
    (h4 : t.val = 4 → V (Proc.devRef .tc main_v433) (ix2 c k) = v) (h5 : t.val = 5 → V (Proc.devRef .tc main_v439) (ix2 c k) = v)
    (h6 : t.val = 6 → V (Proc.devRef .tc main_v443) (ix2 c k) = v) (h7 : t.val = 7 → V (Proc.devRef .tc main_v449) (ix2 c k) = v)
    (h8 : t.val = 8 → V (Proc.devRef .tc main_v453) (ix2 c k) = v) :
    after hostOps5_18 V (Proc.devRef .tc main_v464) (ix3 t c k) = v := by
  after_reads_at
  after_reads_at
  repeat' with_reducible refine Cert.Spec.ladder (fun h => ?_) fun h => ?_
  · exact h0 (by omega)
  · exact h1 (by omega)
  · exact h2 (by omega)
  · exact h3 (by omega)
  · exact h4 (by omega)
  · exact h5 (by omega)
  · exact h6 (by omega)
  · exact h7 (by omega)
  · exact h8 (by omega)

theorem zero_bits : Ideal.ofBits .f32 0#32 = 0 := Ideal.ofBits_zero_f32

set_option maxHeartbeats 8000000 in
theorem rd_v464 (s u : Fin 3) (p q : Fin 2) (c : Fin 256) (o : Fin 3) : after hostOps5_18 (after hostOps5_17 (after hostOps5_16 (after hostOps5_15 (after hostOps5_14 (after hostOps5_13 (after hostOps5_12 (after hostOps5_11 (after hostOps5_10 (after hostOps5_9 (after hostOps5_8 (after hostOps5_7 (after hostOps5_6 (after hostOps5_5 (after hostOps5_4 (after hostOps5_3 (after hostOps5_2 (after hostOps5_1 (after hostOps5 V)))))))))))))))))) (Proc.devRef .tc main_v464) (ix3 ⟨3*s+u, by omega⟩ c ⟨(2*p+q)*3+o, by omega⟩)
    = entry (V (Proc.devRef .tc main_arg20)) s u p q c o := by
  refine stack_v464 _ _ _ _ ?_ ?_ ?_ ?_ ?_ ?_ ?_ ?_ ?_
  all_goals intro ht
  all_goals after_reads_at
  all_goals try after_reads_at
  all_goals repeat' with_reducible refine Cert.Spec.ladder (fun h => ?_) fun h => ?_
  all_goals dsimp only at ht
  all_goals first
    | (exfalso; omega)
    | (refine entry_none _ s u p q c o rfl ?_; omega)
    | (refine entry_some _ s u p q c o _ _ _ ?_ ?_ ?_ <;> first | omega | (simp; omega) | (dsimp only; omega))

theorem rd_v469 (p q : Fin 2) (o : Fin 3) : after hostOps5_20 (after hostOps5_19 (after hostOps5_18 V)) (Proc.devRef .tc main_v469) (ix2 0 ⟨(2*p+q)*3+o, by omega⟩)
    = V (Proc.devRef .tc main_arg21) (ix1 o) := by
  after_reads_at
  refine Cert.Spec.ladder (fun h => ?_) fun h => ?_
  · blk_ext []
  · exact absurd (show (2*p.val+q.val)*3+o.val < 12 by omega) h

end Cert.KernelIdeal.Vals

end
-- ==== Proof.KHost6.lean ====
module

public import proofs.«01_k».proof.Proof.Gen.KernelIdeal.Launch
public import Idealize.ShloMosaic.Lib.Pipeline.ValueKit
public import Idealize.ShloMosaic.Lib.StableHlo.ReadAt
public import proofs.«01_k».proof.Proof.Ladder

@[expose] public section

set_option maxRecDepth 16384

noncomputable section

namespace Cert.KernelIdeal.Vals

open Idealize.ShloMosaic Idealize.ShloMosaic.TcCoe Idealize.ShloMosaic.StableHlo Idealize.SL.Sem Cert.KernelIdeal Cert.KernelIdeal.Gen

/-! # The arrays the host lines hand to the calls, element by element -/

variable (V : Valuation τ sig (Elt Ideal))

theorem rd_v402 (n : Fin 16) (y x : Fin 32) (p q : Fin 2) (o : Fin 256) : after hostOps5 V (Proc.devRef .tc main_v402) (ix4 n ⟨2*y+p, by omega⟩ ⟨2*x+q, by omega⟩ o) = V (Proc.devRef .tc main_v399) (ix5 n ⟨2*p+q, by omega⟩ y x o) := by
  after_reads_at
  blk_ext []

theorem rd_v475 (n : Fin 16) (y x : Fin 64) (p q : Fin 2) (o : Fin 3) : after hostOps6 V (Proc.devRef .tc main_v475) (ix4 n o ⟨2*y+p, by omega⟩ ⟨2*x+q, by omega⟩) = V (Proc.devRef .tc main_v470) (ix4 n y x ⟨(2*p+q)*3+o, by omega⟩) := by
  after_reads_at
  blk_ext []

end Cert.KernelIdeal.Vals

end
-- ==== Proof.KChain5.lean ====
module

public import proofs.«01_k».proof.Proof.KChain4
public import proofs.«01_k».proof.Proof.KVal5
public import proofs.«01_k».proof.Proof.Arr5
public import proofs.«01_k».proof.Proof.KHost5
public import proofs.«01_k».proof.Proof.KHost6

@[expose] public section

set_option maxRecDepth 16384

noncomputable section

namespace Cert.KernelIdeal.Vals

open Idealize.ShloMosaic Idealize.ShloMosaic.TcCoe Idealize.ShloMosaic.StableHlo Idealize.SL.Sem Cert.KernelIdeal Cert.KernelIdeal.Gen

/-! # The sixth call and the results -/

variable (m : (ℓ : Loc nD τ sig) → Buf (Elt Ideal) ℓ) (ρ : Dev nD → PrngReg) (c : Dev nD)

theorem at_v402 (n : Fin 16) (Y X : Fin 64) (o : Fin 256) : W35 m ρ c (Proc.devRef .tc main_v402) (ix4 n Y X o) = (par m c).l7 n Y X o := by
  have h : W35 m ρ c (Proc.devRef .tc main_v402) = W15 m ρ c (Proc.devRef .tc main_v402) := ((((((((((((((((((((W35_of m ρ c main_v402 (by decide +kernel)).trans (W34_of m ρ c main_v402 (by decide +kernel))).trans (W33_of m ρ c main_v402 (by decide +kernel))).trans (W32_of m ρ c main_v402 (by decide +kernel))).trans (W31_of m ρ c main_v402 (by decide +kernel))).trans (W30_of m ρ c main_v402 (by decide +kernel))).trans (W29_of m ρ c main_v402 (by decide +kernel))).trans (W28_of m ρ c main_v402 (by decide +kernel))).trans (W27_of m ρ c main_v402 (by decide +kernel))).trans (W26_of m ρ c main_v402 (by decide +kernel))).trans (W25_of m ρ c main_v402 (by decide +kernel))).trans (W24_of m ρ c main_v402 (by decide +kernel))).trans (W23_of m ρ c main_v402 (by decide +kernel))).trans (W22_of m ρ c main_v402 (by decide +kernel))).trans (W21_of m ρ c main_v402 (by decide +kernel))).trans (W20_of m ρ c main_v402 (by decide +kernel))).trans (W19_of m ρ c main_v402 (by decide +kernel))).trans (W18_of m ρ c main_v402 (by decide +kernel))).trans (W17_of m ρ c main_v402 (by decide +kernel))).trans (W16_of m ρ c main_v402 (by decide +kernel)))
  have hY : Y = ⟨2 * (Y.val / 2) + Y.val % 2, by omega⟩ := Fin.ext (by dsimp only; omega)
  have hX : X = ⟨2 * (X.val / 2) + X.val % 2, by omega⟩ := Fin.ext (by dsimp only; omega)
  refine (congrFun h _).trans ?_
  rw [hY, hX]
  exact (rd_v402 (W14 m ρ c) n ⟨Y.val / 2, by omega⟩ ⟨X.val / 2, by omega⟩ ⟨Y.val % 2, by omega⟩ ⟨X.val % 2, by omega⟩ o).trans
    (at_v399 m ρ c n ⟨Y.val % 2, by omega⟩ ⟨X.val % 2, by omega⟩ ⟨Y.val / 2, by omega⟩ ⟨X.val / 2, by omega⟩ o)

theorem at_v464 (s u : Fin 3) (p q : Fin 2) (k : Fin 256) (o : Fin 3) :
    W35 m ρ c (Proc.devRef .tc main_v464) (ix3 ⟨3*s+u, by omega⟩ k ⟨(2*p+q)*3+o, by omega⟩) = entry (m ((c : Thread nD τ).loc main_arg20)) s u p q k o := by
  have h : W35 m ρ c (Proc.devRef .tc main_v464) = W33 m ρ c (Proc.devRef .tc main_v464) := ((W35_of m ρ c main_v464 (by decide +kernel)).trans (W34_of m ρ c main_v464 (by decide +kernel)))
  refine (congrFun h _).trans ((rd_v464 (W14 m ρ c) s u p q k o).trans ?_)
  rw [W14_args m ρ c main_arg20 (by decide)]

theorem at_v469 (p q : Fin 2) (o : Fin 3) : W35 m ρ c (Proc.devRef .tc main_v469) (ix2 0 ⟨(2*p+q)*3+o, by omega⟩) = (par m c).b8 o :=
  (rd_v469 (W32 m ρ c) p q o).trans (congrFun (W32_args m ρ c main_arg21 (by decide)) _)

/-- The taps of the second transposed convolution, spread over the nine shifts. -/
theorem entry_tap (W : Vec Ideal S256x3x4x4 .f32) (p q a d : Fin 2) (k : Fin 256) (o : Fin 3) :
    entry W ⟨p + 1 - a, by omega⟩ ⟨q + 1 - d, by omega⟩ p q k o = W (ix4 k o ⟨1 - p + 2 * a, by omega⟩ ⟨1 - q + 2 * d, by omega⟩) :=
  (entry_some W _ _ p q k o o _ _ (by dsimp only; omega) (by dsimp only; omega) rfl).symm

theorem entry_else (W : Vec Ideal S256x3x4x4 .f32) (s u : Fin 3) (p q : Fin 2) (k : Fin 256) (o : Fin 3)
    (h : ¬(((p : ℕ) ≤ s ∧ (s : ℕ) ≤ p + 1) ∧ (q : ℕ) ≤ u ∧ (u : ℕ) ≤ q + 1)) : entry W s u p q k o = 0 :=
  (entry_none W s u p q k o rfl (by omega)).symm

/-- The sixth call leaves the image, one of four phases at a time. -/
theorem at_v470 (n : Fin 16) (y x : Fin 64) (p q : Fin 2) (o : Fin 3) :
    W36 m ρ c (Proc.devRef .tc main_v470) (ix4 n y x ⟨(2 * p + q) * 3 + o, by omega⟩) = (par m c).xhat n ⟨2 * y + p, by omega⟩ ⟨2 * x + q, by omega⟩ o := by
  have h : W36 m ρ c (Proc.devRef .tc main_v470) = arrVal5_3 (V35 m ρ) c := (W36_arr m ρ c 3).trans (arr5_3 (V35 m ρ) c)
  refine (congrFun h (ix4 n y x ⟨(2 * p + q) * 3 + o, by omega⟩)).trans ?_
  refine (out5_at _ _ _ y x ⟨(2 * p + q) * 3 + o, by omega⟩).trans (congrArg Ideal.logistic ?_)
  refine Eq.trans ?_ (Cert.Spec.convT_shifts ((par m c).l7 n) (par m c).w8 (par m c).b8 y x p q o
    (fun s u k => entry (m ((c : Thread nD τ).loc main_arg20)) s u p q k o) (fun a d k => entry_tap _ p q a d k o) fun s u k => entry_else _ s u p q k o)
  refine congrArg₂ (· + ·) ?_ (at_v469 m ρ c p q o)
  refine Finset.sum_congr rfl fun s _ => Finset.sum_congr rfl fun u _ => Finset.sum_congr rfl fun k _ => ?_
  refine congrArg₂ (· * ·) ?_ (at_v464 m ρ c s u p q k o)
  exact congrArg (fun f => Cert.Spec.padAt 1 f (y + s) (x + u) k) (funext fun y => funext fun x => funext fun k => at_v402 m ρ c n y x k)

/-- The first result. -/
theorem end_xhat (n : Fin 16) (o : Fin 3) (Y X : Fin 128) : W37 m ρ c (Proc.devRef .tc main_v475) (ix4 n o Y X) = (par m c).xhat n Y X o := by
  have hY : Y = ⟨2 * (Y.val / 2) + Y.val % 2, by omega⟩ := Fin.ext (by dsimp only; omega)
  have hX : X = ⟨2 * (X.val / 2) + X.val % 2, by omega⟩ := Fin.ext (by dsimp only; omega)
  rw [hY, hX]
  exact (rd_v475 (W36 m ρ c) n ⟨Y.val / 2, by omega⟩ ⟨X.val / 2, by omega⟩ ⟨Y.val % 2, by omega⟩ ⟨X.val % 2, by omega⟩ o).trans
    (at_v470 m ρ c n ⟨Y.val / 2, by omega⟩ ⟨X.val / 2, by omega⟩ ⟨Y.val % 2, by omega⟩ ⟨X.val % 2, by omega⟩ o)

/-- The second and third results. -/
theorem end_loss (j : S_.Idx) : W37 m ρ c (Proc.devRef .tc main_v205) j = (par m c).loss := by
  have h : W37 m ρ c (Proc.devRef .tc main_v205) = W11 m ρ c (Proc.devRef .tc main_v205) := ((((((((((((((((((((((((((W37_of m ρ c main_v205 (by decide +kernel)).trans (W36_of m ρ c main_v205 (by decide +kernel))).trans (W35_of m ρ c main_v205 (by decide +kernel))).trans (W34_of m ρ c main_v205 (by decide +kernel))).trans (W33_of m ρ c main_v205 (by decide +kernel))).trans (W32_of m ρ c main_v205 (by decide +kernel))).trans (W31_of m ρ c main_v205 (by decide +kernel))).trans (W30_of m ρ c main_v205 (by decide +kernel))).trans (W29_of m ρ c main_v205 (by decide +kernel))).trans (W28_of m ρ c main_v205 (by decide +kernel))).trans (W27_of m ρ c main_v205 (by decide +kernel))).trans (W26_of m ρ c main_v205 (by decide +kernel))).trans (W25_of m ρ c main_v205 (by decide +kernel))).trans (W24_of m ρ c main_v205 (by decide +kernel))).trans (W23_of m ρ c main_v205 (by decide +kernel))).trans (W22_of m ρ c main_v205 (by decide +kernel))).trans (W21_of m ρ c main_v205 (by decide +kernel))).trans (W20_of m ρ c main_v205 (by decide +kernel))).trans (W19_of m ρ c main_v205 (by decide +kernel))).trans (W18_of m ρ c main_v205 (by decide +kernel))).trans (W17_of m ρ c main_v205 (by decide +kernel))).trans (W16_of m ρ c main_v205 (by decide +kernel))).trans (W15_of m ρ c main_v205 (by decide +kernel))).trans (W14_of m ρ c main_v205 (by decide +kernel))).trans (W13_of m ρ c main_v205 (by decide +kernel))).trans (W12_of m ρ c main_v205 (by decide +kernel)))
  exact (congrFun h j).trans (at_v205 m ρ c j)

/-- The fourth result. -/
theorem end_idx (n : Fin 16) (y x : Fin 32) : W37 m ρ c (Proc.devRef .tc main_v206) (ix3 n y x) = BitVec.ofNat 32 ((par m c).row n y x) := by
  have h : W37 m ρ c (Proc.devRef .tc main_v206) = W11 m ρ c (Proc.devRef .tc main_v206) := ((((((((((((((((((((((((((W37_of m ρ c main_v206 (by decide +kernel)).trans (W36_of m ρ c main_v206 (by decide +kernel))).trans (W35_of m ρ c main_v206 (by decide +kernel))).trans (W34_of m ρ c main_v206 (by decide +kernel))).trans (W33_of m ρ c main_v206 (by decide +kernel))).trans (W32_of m ρ c main_v206 (by decide +kernel))).trans (W31_of m ρ c main_v206 (by decide +kernel))).trans (W30_of m ρ c main_v206 (by decide +kernel))).trans (W29_of m ρ c main_v206 (by decide +kernel))).trans (W28_of m ρ c main_v206 (by decide +kernel))).trans (W27_of m ρ c main_v206 (by decide +kernel))).trans (W26_of m ρ c main_v206 (by decide +kernel))).trans (W25_of m ρ c main_v206 (by decide +kernel))).trans (W24_of m ρ c main_v206 (by decide +kernel))).trans (W23_of m ρ c main_v206 (by decide +kernel))).trans (W22_of m ρ c main_v206 (by decide +kernel))).trans (W21_of m ρ c main_v206 (by decide +kernel))).trans (W20_of m ρ c main_v206 (by decide +kernel))).trans (W19_of m ρ c main_v206 (by decide +kernel))).trans (W18_of m ρ c main_v206 (by decide +kernel))).trans (W17_of m ρ c main_v206 (by decide +kernel))).trans (W16_of m ρ c main_v206 (by decide +kernel))).trans (W15_of m ρ c main_v206 (by decide +kernel))).trans (W14_of m ρ c main_v206 (by decide +kernel))).trans (W13_of m ρ c main_v206 (by decide +kernel))).trans (W12_of m ρ c main_v206 (by decide +kernel)))
  exact (congrFun h _).trans (at_v206 m ρ c n y x)

end Cert.KernelIdeal.Vals

end
-- ==== Proof.Dot3.lean ====
module

public import Idealize.ShloMosaic.Lib.Pointwise

@[expose] public section

/-!
# A contraction over three axes, at an index

The reference's convolution contracts a filter's channel, row and column at once.
-/

noncomputable section

namespace Cert.Dot3

open Idealize.ShloMosaic

variable {sl sr so : Shape} (d : DotDims sl sr so)

theorem rank_contr {a b e : Fin sl.rank} (hc : d.lhsContracting = [a, b, e]) : d.contr.rank = 3 := by
  rw [d.rank_contr, hc]; rfl

theorem size_contr {a b e : Fin sl.rank} (hc : d.lhsContracting = [a, b, e]) {K L M : ℕ} (hK : sl.size a = K) (hL : sl.size b = L)
    (hM : sl.size e = M) (p : Fin d.contr.rank) : (![K, L, M] (p.cast (rank_contr d hc))) = d.contr.size p := by
  subst hK hL hM
  have key : ∀ (l : List (Fin sl.rank)) (h : l = [a, b, e]) (p : Fin (l.map sl.size).length),
      (![sl.size a, sl.size b, sl.size e] (p.cast (by rw [h]; rfl))) = (l.map sl.size)[p] := by
    rintro _ rfl ⟨p, hp⟩
    have hp' : p < 3 := by simpa using hp
    interval_cases p <;> rfl
  exact key _ hc p

/-- The index of the contraction with coordinates `k`, `l`, `m`. -/
def contrIdx {a b e : Fin sl.rank} (hc : d.lhsContracting = [a, b, e]) {K L M : ℕ} (hK : sl.size a = K) (hL : sl.size b = L)
    (hM : sl.size e = M) (k : Fin K) (l : Fin L) (m : Fin M) : d.contr.Idx :=
  fun p => Fin.cast (size_contr d hc hK hL hM p) (ix3 k l m (p.cast (rank_contr d hc)))

/-- A sum over the contraction's indices is the triple sum over the coordinates. -/
theorem sum_contr {R : Type*} [AddCommMonoid R] {a b e : Fin sl.rank} (hc : d.lhsContracting = [a, b, e]) {K L M : ℕ}
    (hK : sl.size a = K) (hL : sl.size b = L) (hM : sl.size e = M) (f : d.contr.Idx → R) :
    ∑ kk : d.contr.Idx, f kk = ∑ k : Fin K, ∑ l : Fin L, ∑ m : Fin M, f (contrIdx d hc hK hL hM k l m) := by
  refine Eq.trans ?_ (sum_idx3 (n0 := K) (n1 := L) (n2 := M) (fun i => f (contrIdx d hc hK hL hM (i 0) (i 1) (i 2))))
  symm
  refine Fintype.sum_equiv ⟨fun i : (⟨3, ![K, L, M]⟩ : Shape).Idx => contrIdx d hc hK hL hM (i 0) (i 1) (i 2),
    fun kk q => Fin.cast (by rw [← size_contr d hc hK hL hM]; rfl) (kk (q.cast (rank_contr d hc).symm)), ?_, ?_⟩ _ _ fun _ => rfl
  · intro i
    funext q
    fin_cases q <;> rfl
  · intro kk
    funext p
    obtain ⟨q, rfl⟩ : ∃ q : Fin 3, p = q.cast (rank_contr d hc).symm := ⟨p.cast (rank_contr d hc), rfl⟩
    fin_cases q <;> rfl

/-- The contraction over three axes at a result index, the operands' indices named. -/
theorem dot_apply {a b e : Fin sl.rank} (hc : d.lhsContracting = [a, b, e]) {K L M : ℕ}
    (hK : sl.size a = K) (hL : sl.size b = L) (hM : sl.size e = M) (lhs : sl.Idx → EReal) (rhs : sr.Idx → EReal) (acc : so.Idx → EReal)
    (j : so.Idx) (A : Fin K → Fin L → Fin M → sl.Idx) (B : Fin K → Fin L → Fin M → sr.Idx)
    (hA : ∀ k l m, Shape.Idx.norm (d.lhsIdx j (contrIdx d hc hK hL hM k l m)) = A k l m)
    (hB : ∀ k l m, Shape.Idx.norm (d.rhsIdx j (contrIdx d hc hK hL hM k l m)) = B k l m) :
    Ideal.matmul d lhs rhs acc j = acc j + ∑ k : Fin K, ∑ l : Fin L, ∑ m : Fin M, lhs (A k l m) * rhs (B k l m) := by
  refine congrArg (acc j + ·) ((sum_contr d hc hK hL hM _).trans ?_)
  refine Finset.sum_congr rfl fun k _ => Finset.sum_congr rfl fun l _ => Finset.sum_congr rfl fun m _ => ?_
  rw [← hA, ← hB]
  rfl

end Cert.Dot3

end
-- ==== Proof.RefConv.lean ====
module

public import proofs.«01_k».proof.Proof.RefFns
public import proofs.«01_k».proof.Proof.Spec
public import proofs.«01_k».proof.Proof.Dot3

@[expose] public section

set_option maxRecDepth 16384

noncomputable section

namespace Cert.ReferenceIdeal.Val

open Idealize.ShloMosaic Cert.ReferenceIdeal Cert.ReferenceIdeal.Gen

/-!
# The reference's convolutions, read at an index

Each of them is `Spec.conv` (or, after the filter was turned, `Spec.convT`) of one image of the batch.
-/

theorem fn_conv_dot (w : Vec Ideal S128x3x4x4 .f32) (T : Vec Ideal S16x3x4x4x4096 .f32) (n : Fin 16) (o : Fin 128) (p : Fin 4096) :
    Ideal.matmul dot_S128x3x4x4_S16x3x4x4x4096_S128x16x4096_123_123_0_04_n_n w T (fun _ => 0) (ix3 o n p)
      = ∑ c : Fin 3, ∑ i : Fin 4, ∑ j : Fin 4, w (ix4 o c i j) * T (ix5 n c i j p) :=
  (Cert.Dot3.dot_apply dot_S128x3x4x4_S16x3x4x4x4096_S128x16x4096_123_123_0_04_n_n (K := 3) (L := 4) (M := 4) rfl rfl rfl rfl _ _ _ _
    (fun c i j => ix4 o c i j) (fun c i j => ix5 n c i j p) (fun c i j => by pointwise; rfl) (fun c i j => by pointwise; rfl)).trans (zero_add _)

theorem fn_conv_at (x : Vec Ideal S16x3x128x128 .f32) (w : Vec Ideal S128x3x4x4 .f32) (b : Vec Ideal S128 .f32) (n : Fin 16) (o : Fin 128) (y z : Fin 64) :
    fn_conv.val x w b (ix4 n o y z) = Cert.Spec.conv 4 2 1 (fun y z c => x (ix4 n c y z)) (fun o c i j => w (ix4 o c i j)) (fun o => b (ix1 o)) y z o := by
  unfold fn_conv.val cat4
  pointwise
  rw [fn_conv_dot]
  unfold Cert.Spec.conv
  refine congrArg (· + _) ?_
  refine Finset.sum_congr rfl fun c _ => Finset.sum_congr rfl fun i _ => Finset.sum_congr rfl fun j _ => congrArg _ ?_
  obtain ⟨y, hy⟩ := y
  obtain ⟨z, hz⟩ := z
  unfold Cert.Spec.padAt
  fin_cases i <;> fin_cases j <;> pointwise <;> refine Cert.Spec.dite_eq (by omega) fun _ _ => congrArg x (congrArg₂ (ix4 n c) (Fin.ext ?_) (Fin.ext ?_)) <;>
    dsimp only <;> omega

theorem fn_conv_0_dot (w : Vec Ideal S256x128x4x4 .f32) (T : Vec Ideal S16x128x4x4x1024 .f32) (n : Fin 16) (o : Fin 256) (p : Fin 1024) :
    Ideal.matmul dot_S256x128x4x4_S16x128x4x4x1024_S256x16x1024_123_123_0_04_n_n w T (fun _ => 0) (ix3 o n p)
      = ∑ c : Fin 128, ∑ i : Fin 4, ∑ j : Fin 4, w (ix4 o c i j) * T (ix5 n c i j p) :=
  (Cert.Dot3.dot_apply dot_S256x128x4x4_S16x128x4x4x1024_S256x16x1024_123_123_0_04_n_n (K := 128) (L := 4) (M := 4) rfl rfl rfl rfl _ _ _ _
    (fun c i j => ix4 o c i j) (fun c i j => ix5 n c i j p) (fun c i j => by pointwise; rfl) (fun c i j => by pointwise; rfl)).trans (zero_add _)

theorem fn_conv_0_at (x : Vec Ideal S16x128x64x64 .f32) (w : Vec Ideal S256x128x4x4 .f32) (b : Vec Ideal S256 .f32) (n : Fin 16) (o : Fin 256) (y z : Fin 32) :
    fn_conv_0.val x w b (ix4 n o y z) = Cert.Spec.conv 4 2 1 (fun y z c => x (ix4 n c y z)) (fun o c i j => w (ix4 o c i j)) (fun o => b (ix1 o)) y z o := by
  unfold fn_conv_0.val cat4
  pointwise
  rw [fn_conv_0_dot]
  unfold Cert.Spec.conv
  refine congrArg (· + _) ?_
  refine Finset.sum_congr rfl fun c _ => Finset.sum_congr rfl fun i _ => Finset.sum_congr rfl fun j _ => congrArg _ ?_
  obtain ⟨y, hy⟩ := y
  obtain ⟨z, hz⟩ := z
  unfold Cert.Spec.padAt
  fin_cases i <;> fin_cases j <;> pointwise <;> refine Cert.Spec.dite_eq (by omega) fun _ _ => congrArg x (congrArg₂ (ix4 n c) (Fin.ext ?_) (Fin.ext ?_)) <;>
    dsimp only <;> omega

theorem fn_conv_2_dot (w : Vec Ideal S256x256x3x3 .f32) (T : Vec Ideal S16x256x3x3x1024 .f32) (n : Fin 16) (o : Fin 256) (p : Fin 1024) :
    Ideal.matmul dot_S256x256x3x3_S16x256x3x3x1024_S256x16x1024_123_123_0_04_n_n w T (fun _ => 0) (ix3 o n p)
      = ∑ c : Fin 256, ∑ i : Fin 3, ∑ j : Fin 3, w (ix4 o c i j) * T (ix5 n c i j p) :=
  (Cert.Dot3.dot_apply dot_S256x256x3x3_S16x256x3x3x1024_S256x16x1024_123_123_0_04_n_n (K := 256) (L := 3) (M := 3) rfl rfl rfl rfl _ _ _ _
    (fun c i j => ix4 o c i j) (fun c i j => ix5 n c i j p) (fun c i j => by pointwise; rfl) (fun c i j => by pointwise; rfl)).trans (zero_add _)

theorem fn_conv_2_at (x : Vec Ideal S16x256x32x32 .f32) (w : Vec Ideal S256x256x3x3 .f32) (b : Vec Ideal S256 .f32) (n : Fin 16) (o : Fin 256) (y z : Fin 32) :
    fn_conv_2.val x w b (ix4 n o y z) = Cert.Spec.conv 3 1 1 (fun y z c => x (ix4 n c y z)) (fun o c i j => w (ix4 o c i j)) (fun o => b (ix1 o)) y z o := by
  unfold fn_conv_2.val cat3
  pointwise
  rw [fn_conv_2_dot]
  unfold Cert.Spec.conv
  refine congrArg (· + _) ?_
  refine Finset.sum_congr rfl fun c _ => Finset.sum_congr rfl fun i _ => Finset.sum_congr rfl fun j _ => congrArg _ ?_
  obtain ⟨y, hy⟩ := y
  obtain ⟨z, hz⟩ := z
  unfold Cert.Spec.padAt
  fin_cases i <;> fin_cases j <;> pointwise <;> refine Cert.Spec.dite_eq (by omega) fun _ _ => congrArg x (congrArg₂ (ix4 n c) (Fin.ext ?_) (Fin.ext ?_)) <;>
    dsimp only <;> omega

theorem fn_conv_3_dot (w : Vec Ideal S256x256x1x1 .f32) (T : Vec Ideal S16x256x1x1x1024 .f32) (n : Fin 16) (o : Fin 256) (p : Fin 1024) :
    Ideal.matmul dot_S256x256x1x1_S16x256x1x1x1024_S256x16x1024_123_123_0_04_n_n w T (fun _ => 0) (ix3 o n p)
      = ∑ c : Fin 256, ∑ i : Fin 1, ∑ j : Fin 1, w (ix4 o c i j) * T (ix5 n c i j p) :=
  (Cert.Dot3.dot_apply dot_S256x256x1x1_S16x256x1x1x1024_S256x16x1024_123_123_0_04_n_n (K := 256) (L := 1) (M := 1) rfl rfl rfl rfl _ _ _ _
    (fun c i j => ix4 o c i j) (fun c i j => ix5 n c i j p) (fun c i j => by pointwise; rfl) (fun c i j => by pointwise; rfl)).trans (zero_add _)

theorem fn_conv_3_at (x : Vec Ideal S16x256x32x32 .f32) (w : Vec Ideal S256x256x1x1 .f32) (b : Vec Ideal S256 .f32) (n : Fin 16) (o : Fin 256) (y z : Fin 32) :
    fn_conv_3.val x w b (ix4 n o y z) = (∑ c : Fin 256, w (ix4 o c 0 0) * x (ix4 n c y z)) + b (ix1 o) := by
  unfold fn_conv_3.val
  pointwise
  rw [fn_conv_3_dot]
  refine congrArg (· + _) ?_
  refine Finset.sum_congr rfl fun c _ => ?_
  simp only [Fin.sum_univ_one]
  pointwise

theorem fn_conv_4_dot (w : Vec Ideal S256x256x4x4 .f32) (T : Vec Ideal S16x256x4x4x4096 .f32) (n : Fin 16) (o : Fin 256) (p : Fin 4096) :
    Ideal.matmul dot_S256x256x4x4_S16x256x4x4x4096_S256x16x4096_123_123_0_04_n_n w T (fun _ => 0) (ix3 o n p)
      = ∑ c : Fin 256, ∑ i : Fin 4, ∑ j : Fin 4, w (ix4 o c i j) * T (ix5 n c i j p) :=
  (Cert.Dot3.dot_apply dot_S256x256x4x4_S16x256x4x4x4096_S256x16x4096_123_123_0_04_n_n (K := 256) (L := 4) (M := 4) rfl rfl rfl rfl _ _ _ _
    (fun c i j => ix4 o c i j) (fun c i j => ix5 n c i j p) (fun c i j => by pointwise; rfl) (fun c i j => by pointwise; rfl)).trans (zero_add _)

theorem fn_conv_4_at (x : Vec Ideal S16x256x32x32 .f32) (w : Vec Ideal S256x256x4x4 .f32) (b : Vec Ideal S256 .f32) (n : Fin 16) (o : Fin 256) (y z : Fin 64) :
    fn_conv_4.val x w b (ix4 n o y z) = Cert.Spec.convT (fun y z c => x (ix4 n c y z)) (fun c o i j => w (ix4 o c i.rev j.rev)) (fun o => b (ix1 o)) y z o := by
  unfold fn_conv_4.val cat4
  pointwise
  rw [fn_conv_4_dot]
  unfold Cert.Spec.convT
  refine congrArg (· + _) ?_
  refine Finset.sum_congr rfl fun c _ => Finset.sum_congr rfl fun i _ => Finset.sum_congr rfl fun j _ => congrArg₂ (· * ·) (by simp only [Fin.rev_rev]) ?_
  obtain ⟨y, hy⟩ := y
  obtain ⟨z, hz⟩ := z
  unfold Cert.Spec.dilAt
  fin_cases i <;> fin_cases j <;> pointwise <;> refine Cert.Spec.dite_eq (by omega) fun _ _ => congrArg x (congrArg₂ (ix4 n c) (Fin.ext ?_) (Fin.ext ?_)) <;>
    dsimp only <;> omega

theorem fn_conv_7_dot (w : Vec Ideal S3x256x4x4 .f32) (T : Vec Ideal S16x256x4x4x16384 .f32) (n : Fin 16) (o : Fin 3) (p : Fin 16384) :
    Ideal.matmul dot_S3x256x4x4_S16x256x4x4x16384_S3x16x16384_123_123_0_04_n_n w T (fun _ => 0) (ix3 o n p)
      = ∑ c : Fin 256, ∑ i : Fin 4, ∑ j : Fin 4, w (ix4 o c i j) * T (ix5 n c i j p) :=
  (Cert.Dot3.dot_apply dot_S3x256x4x4_S16x256x4x4x16384_S3x16x16384_123_123_0_04_n_n (K := 256) (L := 4) (M := 4) rfl rfl rfl rfl _ _ _ _
    (fun c i j => ix4 o c i j) (fun c i j => ix5 n c i j p) (fun c i j => by pointwise; rfl) (fun c i j => by pointwise; rfl)).trans (zero_add _)

theorem fn_conv_7_at (x : Vec Ideal S16x256x64x64 .f32) (w : Vec Ideal S3x256x4x4 .f32) (b : Vec Ideal S3 .f32) (n : Fin 16) (o : Fin 3) (y z : Fin 128) :
    fn_conv_7.val x w b (ix4 n o y z) = Cert.Spec.convT (fun y z c => x (ix4 n c y z)) (fun c o i j => w (ix4 o c i.rev j.rev)) (fun o => b (ix1 o)) y z o := by
  unfold fn_conv_7.val cat4
  pointwise
  rw [fn_conv_7_dot]
  unfold Cert.Spec.convT
  refine congrArg (· + _) ?_
  refine Finset.sum_congr rfl fun c _ => Finset.sum_congr rfl fun i _ => Finset.sum_congr rfl fun j _ => congrArg₂ (· * ·) (by simp only [Fin.rev_rev]) ?_
  obtain ⟨y, hy⟩ := y
  obtain ⟨z, hz⟩ := z
  unfold Cert.Spec.dilAt
  fin_cases i <;> fin_cases j <;> pointwise <;> refine Cert.Spec.dite_eq (by omega) fun _ _ => congrArg x (congrArg₂ (ix4 n c) (Fin.ext ?_) (Fin.ext ?_)) <;>
    dsimp only <;> omega

end Cert.ReferenceIdeal.Val

end
-- ==== Proof.RefVq.lean ====
module

public import proofs.«01_k».proof.Proof.RefFns
public import proofs.«01_k».proof.Proof.Vq
public import Idealize.ShloMosaic.Lib.Routing.Ops
public import Idealize.ShloMosaic.Lib.Routing.OpsPair
public import Idealize.ShloMosaic.Lib.Pipeline.ValueKit

@[expose] public section

set_option maxRecDepth 16384

noncomputable section

namespace Cert.ReferenceIdeal.Val

open Idealize.ShloMosaic Cert.ReferenceIdeal Cert.ReferenceIdeal.Gen

open scoped BigOperators

/-!
# The reference's nearest row, read at an index
-/

/-- A constant factor that is a nonnegative real passes out of a sum. -/
theorem sum_scaled {n : ℕ} (r : ℝ) (hr : 0 ≤ r) (x e : Fin n → EReal) :
    ∑ c, ((r : ℝ) : EReal) * x c * e c = ((r : ℝ) : EReal) * ∑ c, x c * e c := by
  classical
  simp only [mul_assoc]
  have h : ∀ s : Finset (Fin n), ∑ c ∈ s, (r : EReal) * (x c * e c) = (r : EReal) * ∑ c ∈ s, x c * e c := by
    intro s
    induction s using Finset.induction_on with
    | empty => simp
    | insert a s ha ih =>
      rw [Finset.sum_insert ha, Finset.sum_insert ha, ih, EReal.left_distrib_of_nonneg_of_ne_top (EReal.coe_nonneg.mpr hr) (EReal.coe_ne_top r)]
  exact h Finset.univ

theorem two_word : Ideal.ofBits .f32 1073741824#32 = ((2 : ℝ) : EReal) := by
  simp [Ideal.ofBits, Ideal.ieee]
  rw [← EReal.coe_mul]
  norm_num

/-- The reference's squared distances. -/
theorem distVal_at (x : Vec Ideal S16x256x32x32 .f32) (e : Vec Ideal S512x256 .f32) (n : Fin 16) (y z : Fin 32) (k : Fin 512) :
    distVal x e (ix2 ⟨n * 1024 + y * 32 + z, by omega⟩ k) = Cert.Spec.gap (fun c => x (ix4 n c y z)) (fun k c => e (ix2 k c)) k := by
  obtain ⟨n, hn⟩ := n
  obtain ⟨y, hy⟩ := y
  obtain ⟨z, hz⟩ := z
  unfold distVal
  pointwise
  have h1 : (n * 1024 + y * 32 + z) / 1024 = n := by omega
  have h2 : (n * 1024 + y * 32 + z) / 32 % 32 = y := by omega
  have h3 : (n * 1024 + y * 32 + z) % 32 = z := by omega
  simp only [h1, h2, h3]
  unfold Cert.Spec.gap
  rw [two_word, sum_scaled 2 (by norm_num)]

/-- The order the reference's reducer takes the lesser pair of. -/
def Lex (a b : Ideal .f32 × BitVec 32) : Prop := (a.1 : EReal) < b.1 ∨ ((a.1 : EReal) = b.1 ∧ a.2.toInt ≤ b.2.toInt)

theorem reducer_cases (a b : Ideal .f32 × BitVec 32) :
    (reducer_argmin_f32_i32 a b = a ∧ Lex a b) ∨ (reducer_argmin_f32_i32 a b = b ∧ Lex b a) := by
  obtain ⟨av, ai⟩ := a
  obtain ⟨bv, bi⟩ := b
  have hune : (FloatOps.cmpf .une av av : BitVec 1) = 0#1 := by
    rw [Ideal.cmpf_def]; simp [Ideal.cmp]
  have holt : (FloatOps.cmpf .olt av bv : BitVec 1) = BitVec.ofBool (decide ((av : EReal) < bv)) := by
    rw [Ideal.cmpf_def]; simp [Ideal.cmp]
  have hoeq : (FloatOps.cmpf .oeq av bv : BitVec 1) = BitVec.ofBool (decide ((av : EReal) = bv)) := by
    rw [Ideal.cmpf_def]; simp [Ideal.cmp]
  have hslt : (IntOp.cmpi .slt ai bi : BitVec 1) = BitVec.ofBool (decide (ai.toInt < bi.toInt)) := by
    simp [IntOp.cmpi, BitVec.slt]
  have hor : ∀ b : Bool, 1#1 ||| BitVec.ofBool b = 1#1 := by decide
  unfold reducer_argmin_f32_i32 Lex
  simp only [hune, holt, hoeq, hslt]
  rcases lt_trichotomy (av : EReal) bv with h | h | h
  · left
    simp [h, hor, IntOp.ori, IntOp.andi, Scalar.select]
  · by_cases hi : ai.toInt < bi.toInt
    · left
      simp [h, hi, IntOp.ori, IntOp.andi, Scalar.select, le_of_lt hi]
    · right
      simp [h, hi, IntOp.ori, IntOp.andi, Scalar.select, not_lt.mp hi]
  · right
    simp [h, not_lt.mpr (le_of_lt h), ne_of_gt h, IntOp.ori, IntOp.andi, Scalar.select]

theorem Lex.refl (a : Ideal .f32 × BitVec 32) : Lex a a := .inr ⟨rfl, le_refl _⟩

theorem Lex.trans {a b c : Ideal .f32 × BitVec 32} (h : Lex a b) (k : Lex b c) : Lex a c := by
  rcases h with h | ⟨h, h'⟩ <;> rcases k with k | ⟨k, k'⟩
  · exact .inl (lt_trans h k)
  · exact .inl (k ▸ h)
  · exact .inl (h ▸ k)
  · exact .inr ⟨h.trans k, le_trans h' k'⟩

/-- A fold of the reducer is one of its terms, and comes before each of them. -/
theorem fold_lex (l : List (Ideal .f32 × BitVec 32)) (a : Ideal .f32 × BitVec 32) :
    (l.foldl reducer_argmin_f32_i32 a = a ∨ l.foldl reducer_argmin_f32_i32 a ∈ l)
      ∧ Lex (l.foldl reducer_argmin_f32_i32 a) a ∧ ∀ p ∈ l, Lex (l.foldl reducer_argmin_f32_i32 a) p := by
  induction l generalizing a with
  | nil => exact ⟨.inl rfl, Lex.refl a, by simp⟩
  | cons b l ih =>
    obtain ⟨h1, h2, h3⟩ := ih (reducer_argmin_f32_i32 a b)
    rw [List.foldl_cons]
    rcases reducer_cases a b with ⟨h, hl⟩ | ⟨h, hl⟩ <;> rw [h] at h1 h2 h3 ⊢
    · refine ⟨h1.imp id (List.mem_cons_of_mem _), h2, fun p hp => ?_⟩
      rcases List.mem_cons.mp hp with rfl | hp
      · exact h2.trans hl
      · exact h3 p hp
    · refine ⟨.inr ?_, h2.trans hl, fun p hp => ?_⟩
      · rcases h1 with h1 | h1
        · rw [h1]; exact List.mem_cons_self
        · exact List.mem_cons_of_mem _ h1
      · rcases List.mem_cons.mp hp with rfl | hp
        · exact h2
        · exact h3 p hp

theorem drop_at {N : ℕ} (h : (⟨2, ![N, 512]⟩ : Shape).ReducesTo [1] ⟨1, ![N]⟩) (i : (⟨2, ![N, 512]⟩ : Shape).Idx) : h.drop i = ix1 (i 0) := by
  funext a
  match a with
  | ⟨0, _⟩ => exact Fin.ext rfl

/-- The pair the reducer leaves of a row of distances has the number of the first least one. -/
theorem argmin_row {N : ℕ} (d : FVec Ideal (⟨2, ![N, 512]⟩ : Shape) .f32) (num : IVec (⟨2, ![N, 512]⟩ : Shape) 32) (hn : ∀ i, num i = BitVec.ofNat 32 (i 1))
    (ix : FVec Ideal S_ .f32) (iy : IVec S_ 32) (hix : ∀ i, (ix i : EReal) = ⊤) (hiy : ∀ i, iy i = 0#32)
    (h : (⟨2, ![N, 512]⟩ : Shape).ReducesTo [1] ⟨1, ![N]⟩) (hu : 0 < S_.numel) (r : Fin N) :
    (Host.argReduce reducer_argmin_f32_i32 d num ix iy h hu (ix1 r)).2 = BitVec.ofNat 32 (Cert.Spec.best fun k => d (ix2 r k)) := by
  rw [Ideal.argReduce_eq_reduce2, Host.reduce2_eq_foldl_fiber]
  generalize hL : Host.argReduceFiber (α := Ideal .f32) d num h (ix1 r) = L
  have hmem : ∀ p, p ∈ L ↔ ∃ k : Fin 512, p = (d (ix2 r k), BitVec.ofNat 32 k) := by
    intro p
    rw [← hL, Host.argReduceFiber, List.mem_map]
    constructor
    · rintro ⟨m, hm, rfl⟩
      have hm' := of_decide_eq_true (List.mem_filter.mp hm).2
      rw [drop_at] at hm'
      generalize (⟨2, ![N, 512]⟩ : Shape).rowMajor.symm m = i at hm' ⊢
      have h0 : i 0 = r := congrFun hm' 0
      refine ⟨i 1, ?_⟩
      have hi : i = ix2 r (i 1) := by
        funext a
        match a with
        | ⟨0, _⟩ => exact h0
        | ⟨1, _⟩ => rfl
      exact Prod.ext (congrArg d hi) (hn i)
    · rintro ⟨k, rfl⟩
      refine ⟨(⟨2, ![N, 512]⟩ : Shape).rowMajor (ix2 r k), List.mem_filter.mpr ⟨List.mem_finRange _, decide_eq_true ?_⟩, ?_⟩
      · rw [Equiv.symm_apply_apply, drop_at]
        rfl
      · rw [Equiv.symm_apply_apply]
        exact Prod.ext rfl (hn _)
  obtain ⟨h1, h2, h3⟩ := fold_lex L (ix (Shape.Idx.first hu), iy (Shape.Idx.first hu))
  generalize L.foldl reducer_argmin_f32_i32 _ = R at h1 h2 h3 ⊢
  have hb := h3 _ ((hmem _).mpr ⟨Cert.Spec.best fun k => d (ix2 r k), rfl⟩)
  have hle : (R.1 : EReal) ≤ d (ix2 r (Cert.Spec.best fun k => d (ix2 r k))) := by
    rcases hb with hb | hb
    · exact le_of_lt hb
    · exact le_of_eq hb.1
  rcases h1 with h1 | h1
  · have htop : (R.1 : EReal) = ⊤ := by rw [h1]; exact hix _
    rw [htop, top_le_iff] at hle
    have h0 : Cert.Spec.best (fun k => d (ix2 r k)) ≤ 0 := Cert.Spec.best_first _ 0 fun j => by
      have := Cert.Spec.best_le (fun k => d (ix2 r k)) j
      rw [hle, top_le_iff] at this
      change _ ≤ d (ix2 r j)
      rw [this]
      exact le_top
    have h0' : Cert.Spec.best (fun k => d (ix2 r k)) = 0 := le_antisymm h0 (Fin.zero_le _)
    rw [h1, h0']
    exact hiy _
  · obtain ⟨k, hk⟩ := (hmem R).mp h1
    rw [hk] at hle hb ⊢
    have hf := Cert.Spec.best_first (fun k => d (ix2 r k)) k fun j => le_trans hle (Cert.Spec.best_le (fun k => d (ix2 r k)) j)
    have heq : d (ix2 r k) = d (ix2 r (Cert.Spec.best fun k => d (ix2 r k))) := le_antisymm hle (Cert.Spec.best_le (fun k => d (ix2 r k)) k)
    rcases hb with hb | ⟨_, hb⟩
    · exact absurd hb (not_lt.mpr (le_of_eq heq.symm))
    · rw [Cert.Spec.toInt_small _ (by omega), Cert.Spec.toInt_small _ (by omega)] at hb
      have : k = Cert.Spec.best fun k => d (ix2 r k) := le_antisymm (Fin.le_def.mpr (by omega)) hf
      rw [← this]

theorem argmin_eq {F : FTy → Type} [FloatOps F] (d : Vec F S16384x512 .f32) : fn_argmin.val d = fun j =>
    (Host.argReduce (F := F) reducer_argmin_f32_i32 d (iotaInDim S16384x512 32 1) (constant S_ .f32 0x7F800000#32) (constantI S_ 32 0#32)
      reducesTo_S16384x512_S16384_d1 h_S_ j).2 := rfl

/-- The reference's argmin: the first row at the least distance. -/
theorem argmin_at (d : Vec Ideal S16384x512 .f32) (r : Fin 16384) :
    fn_argmin.val d (ix1 r) = BitVec.ofNat 32 (Cert.Spec.best fun k => d (ix2 r k)) := by
  rw [argmin_eq]
  exact argmin_row (N := 16384) d (iotaInDim S16384x512 32 1) (fun _ => rfl) (constant S_ .f32 0x7F800000#32) (constantI S_ 32 0#32) (fun _ => Cert.Spec.top_word) (fun _ => rfl)
    reducesTo_S16384x512_S16384_d1 h_S_ r

/-- The row the reference gathers for position `r`, its index being a row number. -/
theorem gathered_at (e : Vec Ideal S512x256 .f32) (i : Vec Ideal S16384 .i32) (r : Fin 16384) (c : Fin 256) (k : Fin 512)
    (hk : i (ix1 r) = BitVec.ofNat 32 k) :
    Host.gather gather_S512x256_S16384x1_S16384x256_1_0_n_n_0_1_1256 e (broadcastInDim S16384x1 ![0] bcast_S16384_S16384x1_0
      (select (cmpi .slt i (broadcastInDim S16384 ![] bcast_S_S16384 (constantI S_ 32 0#32)))
        (addi i (broadcastInDim S16384 ![] bcast_S_S16384 (constantI S_ 32 512#32))) i)) (ix2 r c) = e (ix2 k c) := by
  refine Routing.gather_row gather_S512x256_S16384x1_S16384x256_1_0_n_n_0_1_1256 rfl rfl rfl rfl rfl e _ r c k ?_ (by norm_num)
  pointwise
  rw [hk]
  exact Routing.wrap_of_lt _ _ (by rw [BitVec.toNat_ofNat]; omega)

theorem permVal_at (x : Vec Ideal S16x256x32x32 .f32) (n : Fin 16) (y z : Fin 32) (c : Fin 256) :
    permVal x (ix4 n y z c) = x (ix4 n c y z) := by
  unfold permVal
  pointwise

theorem idxVal_at (i : Vec Ideal S16384 .i32) (n : Fin 16) (y z : Fin 32) :
    idxVal (F := Ideal) i (ix3 n y z) = i (ix1 ⟨n * 1024 + y * 32 + z, by omega⟩) := by
  unfold idxVal
  pointwise

theorem quantVal_at (x : Vec Ideal S16x256x32x32 .f32) (e : Vec Ideal S512x256 .f32) (i : Vec Ideal S16384 .i32) (n : Fin 16) (y z : Fin 32) (c : Fin 256)
    (k : Fin 512) (hk : i (ix1 ⟨n * 1024 + y * 32 + z, by omega⟩) = BitVec.ofNat 32 k) :
    quantVal x e i (ix4 n c y z) = x (ix4 n c y z) + (e (ix2 k c) - x (ix4 n c y z)) := by
  rw [← gathered_at e i ⟨n * 1024 + y * 32 + z, by omega⟩ c k hk]
  unfold quantVal
  pointwise

/-- A sum over every axis of an array. -/
theorem sum_all (h : S16x32x32x256.ReducesTo [0, 1, 2, 3] S_) (v : S16x32x32x256.Idx → EReal) (j : S_.Idx) :
    Ideal.hostReduceAdd h v 0 j = ∑ n, ∑ y, ∑ z, ∑ c, v (ix4 n y z c) := by
  unfold Ideal.hostReduceAdd
  rw [zero_add, Finset.filter_true_of_mem fun i _ => funext fun a => a.elim0]
  exact sum_idx4 v

theorem lossVal_at (e : Vec Ideal S512x256 .f32) (i : Vec Ideal S16384 .i32) (x : Vec Ideal S16x32x32x256 .f32) (k : Fin 16 → Fin 32 → Fin 32 → Fin 512)
    (hk : ∀ (n : Fin 16) (y z : Fin 32), i (ix1 ⟨n * 1024 + y * 32 + z, by omega⟩) = BitVec.ofNat 32 (k n y z)) (j : S_.Idx) :
    lossVal e i x j = Ideal.div (∑ n, ∑ y, ∑ z, ∑ c, (e (ix2 (k n y z) c) - x (ix4 n y z c)) * (e (ix2 (k n y z) c) - x (ix4 n y z c)))
      (Ideal.ofBits .f32 1249902592#32) := by
  have h : ∀ n y z c, (shapeCast S16x32x32x256 (Host.gather gather_S512x256_S16384x1_S16384x256_1_0_n_n_0_1_1256 e (broadcastInDim S16384x1 ![0] bcast_S16384_S16384x1_0
      (select (cmpi .slt i (broadcastInDim S16384 ![] bcast_S_S16384 (constantI S_ 32 0#32)))
        (addi i (broadcastInDim S16384 ![] bcast_S_S16384 (constantI S_ 32 512#32))) i))) shapeCasts_S16384x256_S16x32x32x256 : Vec Ideal S16x32x32x256 .f32) (ix4 n y z c) = e (ix2 (k n y z) c) := by
    intro n y z c
    rw [← gathered_at e i ⟨n * 1024 + y * 32 + z, by omega⟩ c (k n y z) (hk n y z)]
    pointwise
  unfold lossVal
  pointwise
  refine congrArg (Ideal.div · _) ?_
  rw [sum_all]
  exact Finset.sum_congr rfl fun n _ => Finset.sum_congr rfl fun y _ => Finset.sum_congr rfl fun z _ => Finset.sum_congr rfl fun c _ =>
    congrArg (fun v : EReal => (v - x (ix4 n y z c)) * (v - x (ix4 n y z c))) (h n y z c)

end Cert.ReferenceIdeal.Val

end
-- ==== Proof.RefChain.lean ====
module

public import proofs.«01_k».proof.Proof.NetCongr
public import proofs.«01_k».proof.Proof.RefReads
public import proofs.«01_k».proof.Proof.RefConv
public import proofs.«01_k».proof.Proof.RefVq

@[expose] public section

set_option maxRecDepth 16384

noncomputable section

namespace Cert.ReferenceIdeal.Val

open Idealize.ShloMosaic Idealize.ShloMosaic.TcCoe Idealize.ShloMosaic.StableHlo Idealize.SL.Sem Cert.ReferenceIdeal Cert.ReferenceIdeal.Gen

/-!
# The reference's values are the network's layers

The reference holds an image channel first; `chw` reads such an array as images.
-/

/-- Image `n` of an array held channel first. -/
abbrev chw {C H W : ℕ} (v : Vec Ideal ⟨4, ![16, C, H, W]⟩ .f32) (n : Fin 16) : Cert.Spec.Img H W C := fun y x c => v (ix4 n c y x)

variable (V : Valuation τ sig (Elt Ideal))

/-- The inputs, read off the launch contents. -/
def par : Cert.Spec.Par := Cert.Spec.parOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21))

theorem relu_at (x : Vec Ideal S16x128x64x64 .f32) (n : Fin 16) (o : Fin 128) (y z : Fin 64) : fn_relu.val x (ix4 n o y z) = max (x (ix4 n o y z)) 0 := by
  unfold fn_relu.val
  pointwise

theorem relu_1_at (x : Vec Ideal S16x256x32x32 .f32) (n : Fin 16) (o : Fin 256) (y z : Fin 32) : fn_relu_1.val x (ix4 n o y z) = max (x (ix4 n o y z)) 0 := by
  unfold fn_relu_1.val
  pointwise

theorem relu_5_at (x : Vec Ideal S16x256x64x64 .f32) (n : Fin 16) (o : Fin 256) (y z : Fin 64) : fn_relu_5.val x (ix4 n o y z) = max (x (ix4 n o y z)) 0 := by
  unfold fn_relu_5.val
  pointwise

theorem tr1_at (w : Vec Ideal S256x256x4x4 .f32) (o c : Fin 256) (i j : Fin 4) : tr1Val (fn_flip.val w) (ix4 o c i j) = w (ix4 c o i.rev j.rev) := by
  unfold tr1Val fn_flip.val
  pointwise
  rfl

theorem tr2_at (w : Vec Ideal S256x3x4x4 .f32) (o : Fin 3) (c : Fin 256) (i j : Fin 4) : tr2Val (fn_flip_6.val w) (ix4 o c i j) = w (ix4 c o i.rev j.rev) := by
  unfold tr2Val fn_flip_6.val
  pointwise
  rfl

theorem one_word : Ideal.ofBits .f32 1065353216#32 = 1 := by
  simp [Ideal.ofBits, Ideal.ieee]
  rw [← EReal.coe_mul]
  norm_num

theorem sig_at (x : Vec Ideal S16x3x128x128 .f32) (n : Fin 16) (o : Fin 3) (y z : Fin 128) : sigVal x (ix4 n o y z) = Ideal.logistic (x (ix4 n o y z)) := by
  unfold sigVal
  pointwise
  rfl

theorem at1 (n : Fin 16) : chw (r1 V) n = (par V).l1 n := by
  funext y x o
  exact (relu_at _ n o y x).trans (congrArg (max · 0) (fn_conv_at _ _ _ n o y x))

theorem at3 (n : Fin 16) : chw (r3 V) n = (par V).l2 n := by
  funext y x o
  exact (relu_1_at _ n o y x).trans (congrArg (max · 0) ((fn_conv_0_at _ _ _ n o y x).trans (Cert.Spec.conv_congr (at1 V n) rfl rfl y x o)))

theorem at4 (n : Fin 16) : chw (r4 V) n = (par V).z n := by
  funext y x o
  exact (fn_conv_2_at _ _ _ n o y x).trans (Cert.Spec.conv_congr (at3 V n) rfl rfl y x o)

/-- The numbers of the nearest rows. -/
theorem at21 (n : Fin 16) (y x : Fin 32) : r21 V (ix1 ⟨n * 1024 + y * 32 + x, by omega⟩) = BitVec.ofNat 32 ((par V).row n y x) := by
  refine (argmin_at (r20 V) _).trans (congrArg (fun d => BitVec.ofNat 32 (Cert.Spec.best d).val) (funext fun k => ?_))
  refine (distVal_at (r4 V) _ n y x k).trans ?_
  exact congrArg (fun f : Cert.Spec.Img 32 32 256 => Cert.Spec.gap (f y x) (par V).e k) (at4 V n)

/-- The fourth result. -/
theorem at61 (n : Fin 16) (y x : Fin 32) : r61 V (ix3 n y x) = BitVec.ofNat 32 ((par V).row n y x) :=
  (idxVal_at (r21 V) n y x).trans (at21 V n y x)

/-- The second and third results. -/
theorem at33 (j : S_.Idx) : r33 V j = (par V).loss := by
  refine (lossVal_at _ (r21 V) (r5 V) (fun n y x => (par V).row n y x) (fun n y x => at21 V n y x) j).trans (congrArg (Ideal.div · _) ?_)
  refine Finset.sum_congr rfl fun n _ => Finset.sum_congr rfl fun y _ => Finset.sum_congr rfl fun x _ => Finset.sum_congr rfl fun c _ => ?_
  have h : r5 V (ix4 n y x c) = (par V).z n y x c :=
    (permVal_at (r4 V) n y x c).trans (congrArg (fun f : Cert.Spec.Img 32 32 256 => f y x c) (at4 V n))
  rw [h]
  rfl

/-- The encoded image plus the difference of the nearest rows from it is the nearest rows, where the encoded image is real. -/
theorem at36 (hz : ∀ n y x c (e : EReal), (par V).z n y x c + (e - (par V).z n y x c) = e) (n : Fin 16) : chw (r36 V) n = (par V).q n := by
  funext y x c
  refine (quantVal_at (r4 V) _ (r21 V) n y x c ((par V).row n y x) (at21 V n y x)).trans ?_
  have h : r4 V (ix4 n c y x) = (par V).z n y x c := congrArg (fun f : Cert.Spec.Img 32 32 256 => f y x c) (at4 V n)
  rw [h]
  exact hz n y x c _

section Decoder

variable (hz : ∀ n y x c (e : EReal), (par V).z n y x c + (e - (par V).z n y x c) = e)

include hz

theorem at37 (n : Fin 16) : chw (r37 V) n = (par V).l4 n := by
  funext y x o
  exact (fn_conv_2_at _ _ _ n o y x).trans (Cert.Spec.conv_congr (at36 V hz n) rfl rfl y x o)

theorem at42 (n : Fin 16) : chw (r42 V) n = (par V).l5 n := by
  have h0 : chw (r37 V) n = (par V).l4 n := at37 V hz n
  have h1 : ∀ y x c, r38 V (ix4 n c y x) = max ((par V).l4 n y x c) 0 := fun y x c =>
    (relu_1_at _ n c y x).trans (congrArg (max · 0) (congrArg (fun f : Cert.Spec.Img 32 32 256 => f y x c) h0))
  have h2 : ∀ (y x : Fin 32) c, r40 V (ix4 n c y x) = max (Cert.Spec.conv 3 1 1 (fun y x c => max ((par V).l4 n y x c) 0) (par V).w5 (par V).b5 y x c) 0 := fun y x c =>
    (relu_1_at _ n c y x).trans (congrArg (max · 0) ((fn_conv_2_at _ _ _ n c y x).trans
      (Cert.Spec.conv_congr (funext fun y => funext fun x => funext fun c => h1 y x c) rfl rfl y x c)))
  funext y x o
  refine congrArg₂ (fun a b : EReal => a + b) (congrArg (fun f : Cert.Spec.Img 32 32 256 => f y x o) h0) ?_
  refine (fn_conv_3_at _ _ _ n o y x).trans (congrArg (· + _) (Finset.sum_congr rfl fun c _ => ?_))
  exact congrArg (fun e : EReal => (par V).v5 o c * e) (h2 y x c)

theorem at47 (n : Fin 16) : chw (r47 V) n = (par V).l6 n := by
  have h0 : chw (r42 V) n = (par V).l5 n := at42 V hz n
  have h1 : ∀ y x c, r43 V (ix4 n c y x) = max ((par V).l5 n y x c) 0 := fun y x c =>
    (relu_1_at _ n c y x).trans (congrArg (max · 0) (congrArg (fun f : Cert.Spec.Img 32 32 256 => f y x c) h0))
  have h2 : ∀ (y x : Fin 32) c, r45 V (ix4 n c y x) = max (Cert.Spec.conv 3 1 1 (fun y x c => max ((par V).l5 n y x c) 0) (par V).w6 (par V).b6 y x c) 0 := fun y x c =>
    (relu_1_at _ n c y x).trans (congrArg (max · 0) ((fn_conv_2_at _ _ _ n c y x).trans
      (Cert.Spec.conv_congr (funext fun y => funext fun x => funext fun c => h1 y x c) rfl rfl y x c)))
  funext y x o
  refine congrArg₂ (fun a b : EReal => a + b) (congrArg (fun f : Cert.Spec.Img 32 32 256 => f y x o) h0) ?_
  refine (fn_conv_3_at _ _ _ n o y x).trans (congrArg (· + _) (Finset.sum_congr rfl fun c _ => ?_))
  exact congrArg (fun e : EReal => (par V).v6 o c * e) (h2 y x c)

theorem at51 (n : Fin 16) : chw (r51 V) n = (par V).l7 n := by
  funext y x o
  refine (relu_5_at _ n o y x).trans (congrArg (max · 0) ((fn_conv_4_at _ _ _ n o y x).trans (Cert.Spec.convT_congr (at47 V hz n) ?_ rfl y x o)))
  funext c o i j
  refine (tr1_at _ o c i.rev j.rev).trans ?_
  rw [Fin.rev_rev, Fin.rev_rev]
  rfl

/-- The first result. -/
theorem at60 (n : Fin 16) (o : Fin 3) (y x : Fin 128) : r60 V (ix4 n o y x) = (par V).xhat n y x o := by
  refine (sig_at _ n o y x).trans (congrArg Ideal.logistic ((fn_conv_7_at _ _ _ n o y x).trans (Cert.Spec.convT_congr (at51 V hz n) ?_ rfl y x o)))
  funext c o i j
  refine (tr2_at _ o c i.rev j.rev).trans ?_
  rw [Fin.rev_rev, Fin.rev_rev]
  rfl

end Decoder

end Cert.ReferenceIdeal.Val

end
-- ==== Proof.Real.lean ====
module

public import proofs.«01_k».proof.Proof.Net

@[expose] public section

set_option maxRecDepth 16384

noncomputable section

namespace Cert.Spec

open Idealize.ShloMosaic

open scoped BigOperators

/-!
# Finite inputs give a finite encoded image

Where the encoder's inputs are real numbers so is the encoded image, and then adding the difference from a codebook
entry to it gives that entry.
-/

/-- A real number, not an infinity. -/
def Real (x : EReal) : Prop := ∃ r : ℝ, x = (r : EReal)

theorem Real.zero : Real 0 := ⟨0, rfl⟩

theorem Real.add {x y : EReal} (hx : Real x) (hy : Real y) : Real (x + y) := by
  obtain ⟨a, rfl⟩ := hx
  obtain ⟨b, rfl⟩ := hy
  exact ⟨a + b, (EReal.coe_add a b).symm⟩

theorem Real.mul {x y : EReal} (hx : Real x) (hy : Real y) : Real (x * y) := by
  obtain ⟨a, rfl⟩ := hx
  obtain ⟨b, rfl⟩ := hy
  exact ⟨a * b, (EReal.coe_mul a b).symm⟩

theorem Real.relu {x : EReal} (hx : Real x) : Real (max x 0) := by
  rcases max_choice x 0 with h | h <;> rw [h]
  · exact hx
  · exact Real.zero

theorem Real.sum {ι : Type} (s : Finset ι) (f : ι → EReal) (h : ∀ i, Real (f i)) : Real (∑ i ∈ s, f i) :=
  Finset.sum_induction f Real (fun _ _ => Real.add) Real.zero fun i _ => h i

theorem Real.padAt {H W C p : ℕ} {f : Img H W C} (h : ∀ y x c, Real (f y x c)) (Y X : ℕ) (c : Fin C) : Real (padAt p f Y X c) := by
  unfold Cert.Spec.padAt
  split
  · exact h _ _ _
  · exact Real.zero

theorem Real.conv {H W C O k s p : ℕ} {f : Img H W C} {w : Fin O → Fin C → Fin k → Fin k → EReal} {b : Fin O → EReal}
    (hf : ∀ y x c, Real (f y x c)) (hw : ∀ o c i j, Real (w o c i j)) (hb : ∀ o, Real (b o)) (y x : ℕ) (o : Fin O) :
    Real (conv k s p f w b y x o) :=
  (Real.sum _ _ fun c => Real.sum _ _ fun i => Real.sum _ _ fun j => (hw o c i j).mul (Real.padAt hf _ _ c)).add (hb o)

/-- Adding the difference from `z` to a real `z`. -/
theorem Real.add_sub {z : EReal} (hz : Real z) (e : EReal) : z + (e - z) = e := by
  obtain ⟨r, rfl⟩ := hz
  induction e using EReal.rec with
  | bot => simp
  | top => simp
  | coe a =>
    rw [← EReal.coe_sub, ← EReal.coe_add]
    exact congrArg _ (by ring)

/-- The encoder's inputs are real numbers. -/
structure Par.Tame (P : Par) : Prop where
  x : ∀ n y x c, Real (P.x n y x c)
  w1 : ∀ o c i j, Real (P.w1 o c i j)
  b1 : ∀ o, Real (P.b1 o)
  w2 : ∀ o c i j, Real (P.w2 o c i j)
  b2 : ∀ o, Real (P.b2 o)
  w3 : ∀ o c i j, Real (P.w3 o c i j)
  b3 : ∀ o, Real (P.b3 o)

theorem Par.Tame.z {P : Par} (h : P.Tame) (n : Fin 16) (y x : Fin 32) (o : Fin 256) : Real (P.z n y x o) :=
  Real.conv (fun _ _ _ => (Real.conv (fun _ _ _ => (Real.conv (h.x n) h.w1 h.b1 _ _ _).relu) h.w2 h.b2 _ _ _).relu) h.w3 h.b3 _ _ _

end Cert.Spec

end
-- ==== Proof.Finite.lean ====
module

public import proofs.«01_k».proof.Proof.Real
public import proofs.«01_k».proof.Proof.Gen.Pre_finite
public import Idealize.ShloMosaic.Lib.KernelVsHost
public import Idealize.ShloMosaic.Lib.Affine

@[expose] public section

set_option maxRecDepth 16384

noncomputable section

namespace Cert.Pre_finite.Val

open Idealize.ShloMosaic Cert.Pre_finite Cert.Pre_finite.Facts

/-!
# The precondition

The precondition compares each entry of the encoder's inputs with infinity and joins the answers. Where it holds,
every entry is a real number.
-/

/-- An "and" over a list holds only where each of its terms does. -/
theorem fold_and {ι : Type} (x : ι → BitVec 1) (l : List ι) (b : BitVec 1) (h : l.foldl (fun r n => IntOp.andi r (x n)) b = 1#1) :
    b = 1#1 ∧ ∀ n ∈ l, x n = 1#1 := by
  induction l generalizing b with
  | nil => exact ⟨h, fun _ hn => absurd hn List.not_mem_nil⟩
  | cons a l ih =>
    obtain ⟨h1, h2⟩ := ih _ h
    obtain ⟨h3, h4⟩ := IntOp.andi_eq_one.mp h1
    exact ⟨h3, fun n hn => (List.mem_cons.mp hn).elim (fun e => e ▸ h4) (h2 n)⟩

/-- A number below infinity in absolute value is real. -/
theorem real_of_lt (x : Ideal .f32) (h : FloatOps.cmpf .olt (FloatOps.hostAbsf x) (FloatOps.ofBits (F := Ideal) .f32 0x7F800000#32) = 1#1) :
    Cert.Spec.Real x := by
  rw [← Ideal.xori_weird_eq_hostAbsf_olt_inf] at h
  have hn : ¬ ((x : EReal) = ⊤ ∨ (x : EReal) = ⊥) := by
    intro hx
    have e : FloatOps.weird x = 1#1 := by
      show BitVec.ofBool (decide ((x : EReal) = ⊤ ∨ (x : EReal) = ⊥)) = 1#1
      rw [decide_eq_true hx]
      rfl
    rw [e] at h
    exact absurd h (by decide)
  rw [not_or] at hn
  exact ⟨EReal.toReal x, (EReal.coe_toReal hn.1 hn.2).symm⟩

/-- One array's part of the precondition. -/
theorem all_real {s : Shape} {axes : List (Fin s.rank)} (a : FVec Ideal s .f32) (hb : S_.BroadcastsInDim s (![] : Fin 0 → Fin s.rank))
    (h : s.ReducesTo axes S_) (hu : 0 < S_.numel) (j : S_.Idx)
    (ht : Host.reduce IntOp.andi (cmpf .olt (Host.absf a) (broadcastInDim s ![] hb (constant S_ .f32 0x7F800000#32))) (constantI S_ 1 1#1) h hu j = 1#1)
    (i : s.Idx) : Cert.Spec.Real (a i) := by
  have := (fold_and _ _ _ ht).2 (s.rowMajor i) (List.mem_filter.mpr ⟨List.mem_finRange _, decide_eq_true (funext fun k => k.elim0)⟩)
  rw [Equiv.symm_apply_apply] at this
  exact real_of_lt _ this

/-- Where the precondition holds, the encoder's inputs are real numbers. -/
theorem tame (a0 : FVec Ideal S16x3x128x128 .f32) (a1 : FVec Ideal S512x256 .f32) (a2 : FVec Ideal S128x3x4x4 .f32) (a3 : FVec Ideal S128 .f32) (a4 : FVec Ideal S256x128x4x4 .f32) (a5 : FVec Ideal S256 .f32) (a6 : FVec Ideal S256x256x3x3 .f32) (a7 : FVec Ideal S256 .f32) (a8 : FVec Ideal S256x256x3x3 .f32) (a9 : FVec Ideal S256 .f32) (a10 : FVec Ideal S256x256x3x3 .f32) (a11 : FVec Ideal S256 .f32) (a12 : FVec Ideal S256x256x1x1 .f32) (a13 : FVec Ideal S256 .f32) (a14 : FVec Ideal S256x256x3x3 .f32) (a15 : FVec Ideal S256 .f32) (a16 : FVec Ideal S256x256x1x1 .f32) (a17 : FVec Ideal S256 .f32) (a18 : FVec Ideal S256x256x4x4 .f32) (a19 : FVec Ideal S256 .f32) (a20 : FVec Ideal S256x3x4x4 .f32) (a21 : FVec Ideal S3 .f32)
    (h : Cert.Pre_finite.fn (F := Ideal) a0 a1 a2 a3 a4 a5 a6 a7 a8 a9 a10 a11 a12 a13 a14 a15 a16 a17 a18 a19 a20 a21 = fun _ => 1#1) : (Cert.Spec.parOf a0 a1 a2 a3 a4 a5 a6 a7 a8 a9 a10 a11 a12 a13 a14 a15 a16 a17 a18 a19 a20 a21).Tame := by
  have h7 := congrFun h (fun k => k.elim0)
  unfold Cert.Pre_finite.fn Cert.Pre_finite.fn_part1 at h7
  obtain ⟨h6, r7⟩ := IntOp.andi_eq_one.mp h7
  obtain ⟨h5, r6⟩ := IntOp.andi_eq_one.mp h6
  obtain ⟨h4, r5⟩ := IntOp.andi_eq_one.mp h5
  obtain ⟨h3, r4⟩ := IntOp.andi_eq_one.mp h4
  obtain ⟨h2, r3⟩ := IntOp.andi_eq_one.mp h3
  obtain ⟨r0, r2⟩ := IntOp.andi_eq_one.mp h2
  exact ⟨fun _ _ _ _ => all_real a0 _ _ _ _ r0 _, fun _ _ _ _ => all_real a2 _ _ _ _ r2 _, fun _ => all_real a3 _ _ _ _ r3 _,
    fun _ _ _ _ => all_real a4 _ _ _ _ r4 _, fun _ => all_real a5 _ _ _ _ r5 _, fun _ _ _ _ => all_real a6 _ _ _ _ r6 _,
    fun _ => all_real a7 _ _ _ _ r7 _⟩

end Cert.Pre_finite.Val

end
-- ==== Proof.Agree.lean ====
module

public import proofs.«01_k».proof.Defs
public import proofs.«01_k».proof.Proof.KRun
public import proofs.«01_k».proof.Proof.KChain5
public import proofs.«01_k».proof.Proof.RefFrame
public import proofs.«01_k».proof.Proof.RefChain
public import proofs.«01_k».proof.Proof.Finite

@[expose] public section

set_option maxRecDepth 16384
set_option maxHeartbeats 4000000

noncomputable section

namespace Cert.Proof

open Idealize.ShloMosaic Idealize.ShloMosaic.StableHlo Idealize.SL.Sem

/-!
# The two programs' results agree

Both programs' results are the network's, at the inputs each was given; the inputs are the same, and the encoder's
are finite.
-/

theorem parOf_congr {a0 b0 : Vec Ideal ⟨4, ![16, 3, 128, 128]⟩ .f32} {a1 b1 : Vec Ideal ⟨2, ![512, 256]⟩ .f32} {a2 b2 : Vec Ideal ⟨4, ![128, 3, 4, 4]⟩ .f32}
    {a3 b3 : Vec Ideal ⟨1, ![128]⟩ .f32} {a4 b4 : Vec Ideal ⟨4, ![256, 128, 4, 4]⟩ .f32} {a5 b5 : Vec Ideal ⟨1, ![256]⟩ .f32}
    {a6 b6 : Vec Ideal ⟨4, ![256, 256, 3, 3]⟩ .f32} {a7 b7 : Vec Ideal ⟨1, ![256]⟩ .f32} {a8 b8 : Vec Ideal ⟨4, ![256, 256, 3, 3]⟩ .f32}
    {a9 b9 : Vec Ideal ⟨1, ![256]⟩ .f32} {a10 b10 : Vec Ideal ⟨4, ![256, 256, 3, 3]⟩ .f32} {a11 b11 : Vec Ideal ⟨1, ![256]⟩ .f32}
    {a12 b12 : Vec Ideal ⟨4, ![256, 256, 1, 1]⟩ .f32} {a13 b13 : Vec Ideal ⟨1, ![256]⟩ .f32} {a14 b14 : Vec Ideal ⟨4, ![256, 256, 3, 3]⟩ .f32}
    {a15 b15 : Vec Ideal ⟨1, ![256]⟩ .f32} {a16 b16 : Vec Ideal ⟨4, ![256, 256, 1, 1]⟩ .f32} {a17 b17 : Vec Ideal ⟨1, ![256]⟩ .f32}
    {a18 b18 : Vec Ideal ⟨4, ![256, 256, 4, 4]⟩ .f32} {a19 b19 : Vec Ideal ⟨1, ![256]⟩ .f32} {a20 b20 : Vec Ideal ⟨4, ![256, 3, 4, 4]⟩ .f32}
    {a21 b21 : Vec Ideal ⟨1, ![3]⟩ .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) : Cert.Spec.parOf a0 a1 a2 a3 a4 a5 a6 a7 a8 a9 a10 a11 a12 a13 a14 a15 a16 a17 a18 a19 a20 a21 = Cert.Spec.parOf b0 b1 b2 b3 b4 b5 b6 b7 b8 b9 b10 b11 b12 b13 b14 b15 b16 b17 b18 b19 b20 b21 := by
  rw [h0, h1, h2, h3, h4, h5, h6, h7, h8, h9, h10, h11, h12, h13, h14, h15, h16, h17, h18, h19, h20, h21]

section

variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (hP : Cert.ReferenceIdeal.Val.par (launchContents m' c) = Cert.KernelIdeal.Vals.par m c)

include hP

theorem xhat_eq (ht : (Cert.KernelIdeal.Vals.par m c).Tame) :
    Cert.ReferenceIdeal.Val.r60 (launchContents m' c) = Cert.KernelIdeal.Gen.W37 m g c (Proc.devRef .tc Cert.KernelIdeal.main_v475) := by
  refine funext fun i => ?_
  obtain ⟨n, o, y, x, rfl⟩ : ∃ (n : Fin 16) (o : Fin 3) (y x : Fin 128), i = ix4 n o y x := ⟨i 0, i 1, i 2, i 3, eq_ix4 i⟩
  refine (Cert.ReferenceIdeal.Val.at60 _ (fun n y x c' e => ?_) n o y x).trans ?_
  · rw [hP]
    exact (ht.z n y x c').add_sub e
  · rw [hP]
    exact (Cert.KernelIdeal.Vals.end_xhat m g c n o y x).symm

theorem loss_eq : Cert.ReferenceIdeal.Val.r33 (launchContents m' c) = Cert.KernelIdeal.Gen.W37 m g c (Proc.devRef .tc Cert.KernelIdeal.main_v205) := by
  refine funext fun j => (Cert.ReferenceIdeal.Val.at33 _ j).trans ?_
  rw [hP]
  exact (Cert.KernelIdeal.Vals.end_loss m g c j).symm

theorem idx_eq : Cert.ReferenceIdeal.Val.r61 (launchContents m' c) = Cert.KernelIdeal.Gen.W37 m g c (Proc.devRef .tc Cert.KernelIdeal.main_v206) := by
  refine funext fun i => ?_
  obtain ⟨n, y, x, rfl⟩ : ∃ (n : Fin 16) (y x : Fin 32), i = ix3 n y x := ⟨i 0, i 1, i 2, eq_ix3 i⟩
  refine (Cert.ReferenceIdeal.Val.at61 _ n y x).trans ?_
  rw [hP]
  exact (Cert.KernelIdeal.Vals.end_idx m g c n y x).symm

end

theorem algebraic : Cert.algebraic_KernelIdeal_ReferenceIdeal_pre_finite := by
  intro m g m' g' hp ha
  have hP : ∀ c, Cert.ReferenceIdeal.Val.par (launchContents m' c) = Cert.KernelIdeal.Vals.par m c := by
    intro c
    exact parOf_congr (ha c).1 (ha c).2.1 (ha c).2.2.1 (ha c).2.2.2.1 (ha c).2.2.2.2.1 (ha c).2.2.2.2.2.1 (ha c).2.2.2.2.2.2.1 (ha c).2.2.2.2.2.2.2.1 (ha c).2.2.2.2.2.2.2.2.1 (ha c).2.2.2.2.2.2.2.2.2.1 (ha c).2.2.2.2.2.2.2.2.2.2.1 (ha c).2.2.2.2.2.2.2.2.2.2.2.1 (ha c).2.2.2.2.2.2.2.2.2.2.2.2.1 (ha c).2.2.2.2.2.2.2.2.2.2.2.2.2.1 (ha c).2.2.2.2.2.2.2.2.2.2.2.2.2.2.1 (ha c).2.2.2.2.2.2.2.2.2.2.2.2.2.2.2.1 (ha c).2.2.2.2.2.2.2.2.2.2.2.2.2.2.2.2.1 (ha c).2.2.2.2.2.2.2.2.2.2.2.2.2.2.2.2.2.1 (ha c).2.2.2.2.2.2.2.2.2.2.2.2.2.2.2.2.2.2.1 (ha c).2.2.2.2.2.2.2.2.2.2.2.2.2.2.2.2.2.2.2.1 (ha c).2.2.2.2.2.2.2.2.2.2.2.2.2.2.2.2.2.2.2.2.1 (ha c).2.2.2.2.2.2.2.2.2.2.2.2.2.2.2.2.2.2.2.2.2
  have ht : ∀ c, (Cert.KernelIdeal.Vals.par m c).Tame := fun c => Cert.Pre_finite.Val.tame _ _ _ _ _ _ _ _ _ _ _ _ _ _ _ _ _ _ _ _ _ _ (hp c)
  refine ⟨fun c => Cert.KernelIdeal.Gen.W37 m g c (Proc.devRef .tc Cert.KernelIdeal.main_v475),
    fun c => Cert.KernelIdeal.Gen.W37 m g c (Proc.devRef .tc Cert.KernelIdeal.main_v205),
    fun c => Cert.KernelIdeal.Gen.W37 m g c (Proc.devRef .tc Cert.KernelIdeal.main_v205),
    fun c => Cert.KernelIdeal.Gen.W37 m g c (Proc.devRef .tc Cert.KernelIdeal.main_v206), ?_, ?_⟩
  · refine (θ_run Cert.KernelIdeal.defs _ _).mono (fun r h c => ?_) (Cert.KernelIdeal.Vals.run m g)
    exact ⟨h c _ (Cert.KernelIdeal.Gen.mem_uc Cert.KernelIdeal.main_v475 (by decide)),
      h c _ (Cert.KernelIdeal.Gen.mem_uc Cert.KernelIdeal.main_v205 (by decide)),
      h c _ (Cert.KernelIdeal.Gen.mem_uc Cert.KernelIdeal.main_v205 (by decide)),
      h c _ (Cert.KernelIdeal.Gen.mem_uc Cert.KernelIdeal.main_v206 (by decide)),
      (h c _ (Cert.KernelIdeal.Gen.mem_uc Cert.KernelIdeal.main_arg0 (by decide))).trans (Cert.KernelIdeal.Gen.W37_main_arg0 m g c),
      (h c _ (Cert.KernelIdeal.Gen.mem_uc Cert.KernelIdeal.main_arg1 (by decide))).trans (Cert.KernelIdeal.Gen.W37_main_arg1 m g c),
      (h c _ (Cert.KernelIdeal.Gen.mem_uc Cert.KernelIdeal.main_arg2 (by decide))).trans (Cert.KernelIdeal.Gen.W37_main_arg2 m g c),
      (h c _ (Cert.KernelIdeal.Gen.mem_uc Cert.KernelIdeal.main_arg3 (by decide))).trans (Cert.KernelIdeal.Gen.W37_main_arg3 m g c),
      (h c _ (Cert.KernelIdeal.Gen.mem_uc Cert.KernelIdeal.main_arg4 (by decide))).trans (Cert.KernelIdeal.Gen.W37_main_arg4 m g c),
      (h c _ (Cert.KernelIdeal.Gen.mem_uc Cert.KernelIdeal.main_arg5 (by decide))).trans (Cert.KernelIdeal.Gen.W37_main_arg5 m g c),
      (h c _ (Cert.KernelIdeal.Gen.mem_uc Cert.KernelIdeal.main_arg6 (by decide))).trans (Cert.KernelIdeal.Gen.W37_main_arg6 m g c),
      (h c _ (Cert.KernelIdeal.Gen.mem_uc Cert.KernelIdeal.main_arg7 (by decide))).trans (Cert.KernelIdeal.Gen.W37_main_arg7 m g c),
      (h c _ (Cert.KernelIdeal.Gen.mem_uc Cert.KernelIdeal.main_arg8 (by decide))).trans (Cert.KernelIdeal.Gen.W37_main_arg8 m g c),
      (h c _ (Cert.KernelIdeal.Gen.mem_uc Cert.KernelIdeal.main_arg9 (by decide))).trans (Cert.KernelIdeal.Gen.W37_main_arg9 m g c),
      (h c _ (Cert.KernelIdeal.Gen.mem_uc Cert.KernelIdeal.main_arg10 (by decide))).trans (Cert.KernelIdeal.Gen.W37_main_arg10 m g c),
      (h c _ (Cert.KernelIdeal.Gen.mem_uc Cert.KernelIdeal.main_arg11 (by decide))).trans (Cert.KernelIdeal.Gen.W37_main_arg11 m g c),
      (h c _ (Cert.KernelIdeal.Gen.mem_uc Cert.KernelIdeal.main_arg12 (by decide))).trans (Cert.KernelIdeal.Gen.W37_main_arg12 m g c),
      (h c _ (Cert.KernelIdeal.Gen.mem_uc Cert.KernelIdeal.main_arg13 (by decide))).trans (Cert.KernelIdeal.Gen.W37_main_arg13 m g c),
      (h c _ (Cert.KernelIdeal.Gen.mem_uc Cert.KernelIdeal.main_arg14 (by decide))).trans (Cert.KernelIdeal.Gen.W37_main_arg14 m g c),
      (h c _ (Cert.KernelIdeal.Gen.mem_uc Cert.KernelIdeal.main_arg15 (by decide))).trans (Cert.KernelIdeal.Gen.W37_main_arg15 m g c),
      (h c _ (Cert.KernelIdeal.Gen.mem_uc Cert.KernelIdeal.main_arg16 (by decide))).trans (Cert.KernelIdeal.Gen.W37_main_arg16 m g c),
      (h c _ (Cert.KernelIdeal.Gen.mem_uc Cert.KernelIdeal.main_arg17 (by decide))).trans (Cert.KernelIdeal.Gen.W37_main_arg17 m g c),
      (h c _ (Cert.KernelIdeal.Gen.mem_uc Cert.KernelIdeal.main_arg18 (by decide))).trans (Cert.KernelIdeal.Gen.W37_main_arg18 m g c),
      (h c _ (Cert.KernelIdeal.Gen.mem_uc Cert.KernelIdeal.main_arg19 (by decide))).trans (Cert.KernelIdeal.Gen.W37_main_arg19 m g c),
      (h c _ (Cert.KernelIdeal.Gen.mem_uc Cert.KernelIdeal.main_arg20 (by decide))).trans (Cert.KernelIdeal.Gen.W37_main_arg20 m g c),
      (h c _ (Cert.KernelIdeal.Gen.mem_uc Cert.KernelIdeal.main_arg21 (by decide))).trans (Cert.KernelIdeal.Gen.W37_main_arg21 m g c)⟩
  · refine (θ_run Cert.ReferenceIdeal.defs _ _).mono (fun r h c => ?_) (Cert.ReferenceIdeal.Val.run m' g')
    exact ⟨(h c Cert.ReferenceIdeal.main_v60).trans ((Cert.ReferenceIdeal.Val.U27_v60 _).trans (xhat_eq m g m' c (hP c) (ht c))),
      (h c Cert.ReferenceIdeal.main_v33).trans ((Cert.ReferenceIdeal.Val.U27_v33 _).trans (loss_eq m g m' c (hP c))),
      (h c Cert.ReferenceIdeal.main_v33).trans ((Cert.ReferenceIdeal.Val.U27_v33 _).trans (loss_eq m g m' c (hP c))),
      (h c Cert.ReferenceIdeal.main_v61).trans ((Cert.ReferenceIdeal.Val.U27_v61 _).trans (idx_eq m g m' c (hP c))),
      Cert.ReferenceIdeal.Val.kept h c Cert.ReferenceIdeal.main_arg0 (by decide +kernel),
      Cert.ReferenceIdeal.Val.kept h c Cert.ReferenceIdeal.main_arg1 (by decide +kernel),
      Cert.ReferenceIdeal.Val.kept h c Cert.ReferenceIdeal.main_arg2 (by decide +kernel),
      Cert.ReferenceIdeal.Val.kept h c Cert.ReferenceIdeal.main_arg3 (by decide +kernel),
      Cert.ReferenceIdeal.Val.kept h c Cert.ReferenceIdeal.main_arg4 (by decide +kernel),
      Cert.ReferenceIdeal.Val.kept h c Cert.ReferenceIdeal.main_arg5 (by decide +kernel),
      Cert.ReferenceIdeal.Val.kept h c Cert.ReferenceIdeal.main_arg6 (by decide +kernel),
      Cert.ReferenceIdeal.Val.kept h c Cert.ReferenceIdeal.main_arg7 (by decide +kernel),
      Cert.ReferenceIdeal.Val.kept h c Cert.ReferenceIdeal.main_arg8 (by decide +kernel),
      Cert.ReferenceIdeal.Val.kept h c Cert.ReferenceIdeal.main_arg9 (by decide +kernel),
      Cert.ReferenceIdeal.Val.kept h c Cert.ReferenceIdeal.main_arg10 (by decide +kernel),
      Cert.ReferenceIdeal.Val.kept h c Cert.ReferenceIdeal.main_arg11 (by decide +kernel),
      Cert.ReferenceIdeal.Val.kept h c Cert.ReferenceIdeal.main_arg12 (by decide +kernel),
      Cert.ReferenceIdeal.Val.kept h c Cert.ReferenceIdeal.main_arg13 (by decide +kernel),
      Cert.ReferenceIdeal.Val.kept h c Cert.ReferenceIdeal.main_arg14 (by decide +kernel),
      Cert.ReferenceIdeal.Val.kept h c Cert.ReferenceIdeal.main_arg15 (by decide +kernel),
      Cert.ReferenceIdeal.Val.kept h c Cert.ReferenceIdeal.main_arg16 (by decide +kernel),
      Cert.ReferenceIdeal.Val.kept h c Cert.ReferenceIdeal.main_arg17 (by decide +kernel),
      Cert.ReferenceIdeal.Val.kept h c Cert.ReferenceIdeal.main_arg18 (by decide +kernel),
      Cert.ReferenceIdeal.Val.kept h c Cert.ReferenceIdeal.main_arg19 (by decide +kernel),
      Cert.ReferenceIdeal.Val.kept h c Cert.ReferenceIdeal.main_arg20 (by decide +kernel),
      Cert.ReferenceIdeal.Val.kept h c Cert.ReferenceIdeal.main_arg21 (by decide +kernel)⟩

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.RefFrame
public import proofs.«01_k».proof.Proof.Agree

@[expose] public section

noncomputable section

/-!
# The claim

The three programs keep their arguments, the idealized kernel is the kernel, and its results are the reference's.
-/

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Val.frame m ρ, fun m ρ _ => Cert.ReferenceIdeal.Val.frame m ρ, trivial, Cert.Proof.algebraic⟩

end Cert.Proof

end
